-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_RefFinalIdeal (m : (ℓ : Loc Cert.RefFinalIdeal.nD Cert.RefFinalIdeal.τ Cert.RefFinalIdeal.sig) → Buf (Elt Ideal) ℓ) : Prop :=
  True

def Pre_FinalS (m : (ℓ : Loc Cert.FinalS.nD Cert.FinalS.τ Cert.FinalS.sig) → Buf (Elt Bits) ℓ) : Prop :=
  True

def Pre_FinalSIdeal (m : (ℓ : Loc Cert.FinalSIdeal.nD Cert.FinalSIdeal.τ Cert.FinalSIdeal.sig) → Buf (Elt Ideal) ℓ) : Prop :=
  True

def Pre_RefFinalSIdeal (m : (ℓ : Loc Cert.RefFinalSIdeal.nD Cert.RefFinalSIdeal.τ Cert.RefFinalSIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_RefStepIdeal (m : (ℓ : Loc Cert.RefStepIdeal.nD Cert.RefStepIdeal.τ Cert.RefStepIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_RefOutprojIdeal (m : (ℓ : Loc Cert.RefOutprojIdeal.nD Cert.RefOutprojIdeal.τ Cert.RefOutprojIdeal.sig) → Buf (Elt Ideal) ℓ) : Prop :=
  True

def Pre_OutprojS (m : (ℓ : Loc Cert.OutprojS.nD Cert.OutprojS.τ Cert.OutprojS.sig) → Buf (Elt Bits) ℓ) : Prop :=
  True

def Pre_OutprojSIdeal (m : (ℓ : Loc Cert.OutprojSIdeal.nD Cert.OutprojSIdeal.τ Cert.OutprojSIdeal.sig) → Buf (Elt Ideal) ℓ) : Prop :=
  True

def Pre_RefOutprojSIdeal (m : (ℓ : Loc Cert.RefOutprojSIdeal.nD Cert.RefOutprojSIdeal.τ Cert.RefOutprojSIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_MergeS (m : (ℓ : Loc Cert.MergeS.nD Cert.MergeS.τ Cert.MergeS.sig) → Buf (Elt Bits) ℓ) : Prop :=
  True

def Pre_MergeSIdeal (m : (ℓ : Loc Cert.MergeSIdeal.nD Cert.MergeSIdeal.τ Cert.MergeSIdeal.sig) → Buf (Elt Ideal) ℓ) : Prop :=
  True

def Pre_RefMergeSIdeal (m : (ℓ : Loc Cert.RefMergeSIdeal.nD Cert.RefMergeSIdeal.τ Cert.RefMergeSIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_RefNormInIdeal (m : (ℓ : Loc Cert.RefNormInIdeal.nD Cert.RefNormInIdeal.τ Cert.RefNormInIdeal.sig) → Buf (Elt Ideal) ℓ) : Prop :=
  True

def Pre_NormInS (m : (ℓ : Loc Cert.NormInS.nD Cert.NormInS.τ Cert.NormInS.sig) → Buf (Elt Bits) ℓ) : Prop :=
  True

def Pre_NormInSIdeal (m : (ℓ : Loc Cert.NormInSIdeal.nD Cert.NormInSIdeal.τ Cert.NormInSIdeal.sig) → Buf (Elt Ideal) ℓ) : Prop :=
  True

def Pre_RefNormInSIdeal (m : (ℓ : Loc Cert.RefNormInSIdeal.nD Cert.RefNormInSIdeal.τ Cert.RefNormInSIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_RefFfnSIdeal (m : (ℓ : Loc Cert.RefFfnSIdeal.nD Cert.RefFfnSIdeal.τ Cert.RefFfnSIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_RefPrepIdeal (m : (ℓ : Loc Cert.RefPrepIdeal.nD Cert.RefPrepIdeal.τ Cert.RefPrepIdeal.sig) → Buf (Elt Ideal) ℓ) : Prop :=
  True

def Pre_PoolS (m : (ℓ : Loc Cert.PoolS.nD Cert.PoolS.τ Cert.PoolS.sig) → Buf (Elt Bits) ℓ) : Prop :=
  True

def Pre_PoolSIdeal (m : (ℓ : Loc Cert.PoolSIdeal.nD Cert.PoolSIdeal.τ Cert.PoolSIdeal.sig) → Buf (Elt Ideal) ℓ) : Prop :=
  True

def Pre_PoolSIdeal_pool_sample_finite [hPre_pool_sample_finite : Cert.Pre_pool_sample_finite.Facts] (m : (ℓ : Loc Cert.PoolSIdeal.nD Cert.PoolSIdeal.τ Cert.PoolSIdeal.sig) → Buf (Elt Ideal) ℓ) : Prop :=
  ∀ c : Dev Cert.PoolSIdeal.nD,
    (Cert.Pre_pool_sample_finite.fn (F := Ideal) (m ((c.tc : Thread Cert.PoolSIdeal.nD Cert.PoolSIdeal.τ).loc Cert.PoolSIdeal.main_arg0)) (m ((c.tc : Thread Cert.PoolSIdeal.nD Cert.PoolSIdeal.τ).loc Cert.PoolSIdeal.main_arg1)) (m ((c.tc : Thread Cert.PoolSIdeal.nD Cert.PoolSIdeal.τ).loc Cert.PoolSIdeal.main_arg2)) (m ((c.tc : Thread Cert.PoolSIdeal.nD Cert.PoolSIdeal.τ).loc Cert.PoolSIdeal.main_arg3))) = (fun _ => 1#1)

def Pre_RefPoolSIdeal (m : (ℓ : Loc Cert.RefPoolSIdeal.nD Cert.RefPoolSIdeal.τ Cert.RefPoolSIdeal.sig) → Buf (Elt Ideal) ℓ) : Prop :=
  True

def Pre_RefPoolSIdeal_pool_sample_finite [hPre_pool_sample_finite : Cert.Pre_pool_sample_finite.Facts] (m : (ℓ : Loc Cert.RefPoolSIdeal.nD Cert.RefPoolSIdeal.τ Cert.RefPoolSIdeal.sig) → Buf (Elt Ideal) ℓ) : Prop :=
  ∀ c : Dev Cert.RefPoolSIdeal.nD,
    (Cert.Pre_pool_sample_finite.fn (F := Ideal) (m ((c.tc : Thread Cert.RefPoolSIdeal.nD Cert.RefPoolSIdeal.τ).loc Cert.RefPoolSIdeal.main_arg0)) (m ((c.tc : Thread Cert.RefPoolSIdeal.nD Cert.RefPoolSIdeal.τ).loc Cert.RefPoolSIdeal.main_arg1)) (m ((c.tc : Thread Cert.RefPoolSIdeal.nD Cert.RefPoolSIdeal.τ).loc Cert.RefPoolSIdeal.main_arg2)) (m ((c.tc : Thread Cert.RefPoolSIdeal.nD Cert.RefPoolSIdeal.τ).loc Cert.RefPoolSIdeal.main_arg3))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))) = (fun _ => 1#1)

def Pre_RefPoolIdeal (m : (ℓ : Loc Cert.RefPoolIdeal.nD Cert.RefPoolIdeal.τ Cert.RefPoolIdeal.sig) → Buf (Elt Ideal) ℓ) : Prop :=
  True

def Pre_RefPoolIdeal_pool_finite [hPre_pool_finite : Cert.Pre_pool_finite.Facts] (m : (ℓ : Loc Cert.RefPoolIdeal.nD Cert.RefPoolIdeal.τ Cert.RefPoolIdeal.sig) → Buf (Elt Ideal) ℓ) : Prop :=
  ∀ c : Dev Cert.RefPoolIdeal.nD,
    (Cert.Pre_pool_finite.fn (F := Ideal) (m ((c.tc : Thread Cert.RefPoolIdeal.nD Cert.RefPoolIdeal.τ).loc Cert.RefPoolIdeal.main_arg0)) (m ((c.tc : Thread Cert.RefPoolIdeal.nD Cert.RefPoolIdeal.τ).loc Cert.RefPoolIdeal.main_arg1)) (m ((c.tc : Thread Cert.RefPoolIdeal.nD Cert.RefPoolIdeal.τ).loc Cert.RefPoolIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ r.2.sem = fun _ => 0)

def quiescent_RefFinalIdeal [hRefFinalIdeal : Cert.RefFinalIdeal.Facts] : Prop :=
  ∀ (m : (ℓ : Loc Cert.RefFinalIdeal.nD Cert.RefFinalIdeal.τ Cert.RefFinalIdeal.sig) → Buf (Elt Ideal) ℓ) (g : Dev Cert.RefFinalIdeal.nD → PrngReg), Pre_RefFinalIdeal m →
    θ_run (Cert.RefFinalIdeal.defs (F := Ideal)) (onTc (τ := Cert.RefFinalIdeal.τ) (Cert.RefFinalIdeal.main (F := Ideal))) ⟨m, fun _ => 0, g⟩ (fun r => (∀ c : Dev Cert.RefFinalIdeal.nD,
      r.2.mem ((c.tc : Thread Cert.RefFinalIdeal.nD Cert.RefFinalIdeal.τ).loc Cert.RefFinalIdeal.main_arg0) = m ((c.tc : Thread Cert.RefFinalIdeal.nD Cert.RefFinalIdeal.τ).loc Cert.RefFinalIdeal.main_arg0)
      ∧ r.2.mem ((c.tc : Thread Cert.RefFinalIdeal.nD Cert.RefFinalIdeal.τ).loc Cert.RefFinalIdeal.main_arg1) = m ((c.tc : Thread Cert.RefFinalIdeal.nD Cert.RefFinalIdeal.τ).loc Cert.RefFinalIdeal.main_arg1)
      ∧ r.2.mem ((c.tc : Thread Cert.RefFinalIdeal.nD Cert.RefFinalIdeal.τ).loc Cert.RefFinalIdeal.main_arg2) = m ((c.tc : Thread Cert.RefFinalIdeal.nD Cert.RefFinalIdeal.τ).loc Cert.RefFinalIdeal.main_arg2)
      ∧ r.2.mem ((c.tc : Thread Cert.RefFinalIdeal.nD Cert.RefFinalIdeal.τ).loc Cert.RefFinalIdeal.main_arg3) = m ((c.tc : Thread Cert.RefFinalIdeal.nD Cert.RefFinalIdeal.τ).loc Cert.RefFinalIdeal.main_arg3)
      ∧ r.2.mem ((c.tc : Thread Cert.RefFinalIdeal.nD Cert.RefFinalIdeal.τ).loc Cert.RefFinalIdeal.main_arg4) = m ((c.tc : Thread Cert.RefFinalIdeal.nD Cert.RefFinalIdeal.τ).loc Cert.RefFinalIdeal.main_arg4))
      ∧ r.2.sem = fun _ => 0)

def quiescent_FinalS [hFinalS : Cert.FinalS.Facts] : Prop :=
  ∀ (m : (ℓ : Loc Cert.FinalS.nD Cert.FinalS.τ Cert.FinalS.sig) → Buf (Elt Bits) ℓ) (g : Dev Cert.FinalS.nD → PrngReg), Pre_FinalS m →
    θ_run (Cert.FinalS.defs (F := Bits)) (onTc (τ := Cert.FinalS.τ) (Cert.FinalS.main (F := Bits))) ⟨m, fun _ => 0, g⟩ (fun r => (∀ c : Dev Cert.FinalS.nD,
      r.2.mem ((c.tc : Thread Cert.FinalS.nD Cert.FinalS.τ).loc Cert.FinalS.main_arg0) = m ((c.tc : Thread Cert.FinalS.nD Cert.FinalS.τ).loc Cert.FinalS.main_arg0)
      ∧ r.2.mem ((c.tc : Thread Cert.FinalS.nD Cert.FinalS.τ).loc Cert.FinalS.main_arg1) = m ((c.tc : Thread Cert.FinalS.nD Cert.FinalS.τ).loc Cert.FinalS.main_arg1)
      ∧ r.2.mem ((c.tc : Thread Cert.FinalS.nD Cert.FinalS.τ).loc Cert.FinalS.main_arg2) = m ((c.tc : Thread Cert.FinalS.nD Cert.FinalS.τ).loc Cert.FinalS.main_arg2)
      ∧ r.2.mem ((c.tc : Thread Cert.FinalS.nD Cert.FinalS.τ).loc Cert.FinalS.main_arg3) = m ((c.tc : Thread Cert.FinalS.nD Cert.FinalS.τ).loc Cert.FinalS.main_arg3)
      ∧ r.2.mem ((c.tc : Thread Cert.FinalS.nD Cert.FinalS.τ).loc Cert.FinalS.main_arg4) = m ((c.tc : Thread Cert.FinalS.nD Cert.FinalS.τ).loc Cert.FinalS.main_arg4))
      ∧ r.2.sem = fun _ => 0)

def quiescent_FinalSIdeal [hFinalSIdeal : Cert.FinalSIdeal.Facts] : Prop :=
  ∀ (m : (ℓ : Loc Cert.FinalSIdeal.nD Cert.FinalSIdeal.τ Cert.FinalSIdeal.sig) → Buf (Elt Ideal) ℓ) (g : Dev Cert.FinalSIdeal.nD → PrngReg), Pre_FinalSIdeal m →
    θ_run (Cert.FinalSIdeal.defs (F := Ideal)) (onTc (τ := Cert.FinalSIdeal.τ) (Cert.FinalSIdeal.main (F := Ideal))) ⟨m, fun _ => 0, g⟩ (fun r => (∀ c : Dev Cert.FinalSIdeal.nD,
      r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
      ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1)
      ∧ r.2.mem ((c.tc : Thread Cert.FinalSIdeal.nD Cert.FinalSIdeal.τ).loc Cert.FinalSIdeal.main_arg2) = m ((c.tc : Thread Cert.FinalSIdeal.nD Cert.FinalSIdeal.τ).loc Cert.FinalSIdeal.main_arg2)
      ∧ r.2.mem ((c.tc : Thread Cert.FinalSIdeal.nD Cert.FinalSIdeal.τ).loc Cert.FinalSIdeal.main_arg3) = m ((c.tc : Thread Cert.FinalSIdeal.nD Cert.FinalSIdeal.τ).loc Cert.FinalSIdeal.main_arg3)
      ∧ r.2.mem ((c.tc : Thread Cert.FinalSIdeal.nD Cert.FinalSIdeal.τ).loc Cert.FinalSIdeal.main_arg4) = m ((c.tc : Thread Cert.FinalSIdeal.nD Cert.FinalSIdeal.τ).loc Cert.FinalSIdeal.main_arg4))
      ∧ r.2.sem = fun _ => 0)

def quiescent_RefFinalSIdeal [hRefFinalSIdeal : Cert.RefFinalSIdeal.Facts] : Prop :=
  ∀ (m : (ℓ : Loc Cert.RefFinalSIdeal.nD Cert.RefFinalSIdeal.τ Cert.RefFinalSIdeal.sig) → Buf (Elt Ideal) ℓ) (g : Dev Cert.RefFinalSIdeal.nD → PrngReg), Pre_RefFinalSIdeal m →
    θ_run (Cert.RefFinalSIdeal.defs (F := Ideal)) (onTc (τ := Cert.RefFinalSIdeal.τ) (Cert.RefFinalSIdeal.main (F := Ideal))) ⟨m, fun _ => 0, g⟩ (fun r => (∀ c : Dev Cert.RefFinalSIdeal.nD,
      r.2.mem ((c.tc : Thread Cert.RefFinalSIdeal.nD Cert.RefFinalSIdeal.τ).loc Cert.RefFinalSIdeal.main_arg0) = m ((c.tc : Thread Cert.RefFinalSIdeal.nD Cert.RefFinalSIdeal.τ).loc Cert.RefFinalSIdeal.main_arg0)
      ∧ r.2.mem ((c.tc : Thread Cert.RefFinalSIdeal.nD Cert.RefFinalSIdeal.τ).loc Cert.RefFinalSIdeal.main_arg1) = m ((c.tc : Thread Cert.RefFinalSIdeal.nD Cert.RefFinalSIdeal.τ).loc Cert.RefFinalSIdeal.main_arg1)
      ∧ r.2.mem ((c.tc : Thread Cert.RefFinalSIdeal.nD Cert.RefFinalSIdeal.τ).loc Cert.RefFinalSIdeal.main_arg2) = m ((c.tc : Thread Cert.RefFinalSIdeal.nD Cert.RefFinalSIdeal.τ).loc Cert.RefFinalSIdeal.main_arg2)
      ∧ r.2.mem ((c.tc : Thread Cert.RefFinalSIdeal.nD Cert.RefFinalSIdeal.τ).loc Cert.RefFinalSIdeal.main_arg3) = m ((c.tc : Thread Cert.RefFinalSIdeal.nD Cert.RefFinalSIdeal.τ).loc Cert.RefFinalSIdeal.main_arg3)
      ∧ r.2.mem ((c.tc : Thread Cert.RefFinalSIdeal.nD Cert.RefFinalSIdeal.τ).loc Cert.RefFinalSIdeal.main_arg4) = m ((c.tc : Thread Cert.RefFinalSIdeal.nD Cert.RefFinalSIdeal.τ).loc Cert.RefFinalSIdeal.main_arg4))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7)
      ∧ r.2.mem ((c.tc : Thread Cert.Step.nD Cert.Step.τ).loc Cert.Step.main_arg8) = m ((c.tc : Thread Cert.Step.nD Cert.Step.τ).loc Cert.Step.main_arg8))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8))
      ∧ r.2.sem = fun _ => 0)

def quiescent_RefStepIdeal [hRefStepIdeal : Cert.RefStepIdeal.Facts] : Prop :=
  ∀ (m : (ℓ : Loc Cert.RefStepIdeal.nD Cert.RefStepIdeal.τ Cert.RefStepIdeal.sig) → Buf (Elt Ideal) ℓ) (g : Dev Cert.RefStepIdeal.nD → PrngReg), Pre_RefStepIdeal m →
    θ_run (Cert.RefStepIdeal.defs (F := Ideal)) (onTc (τ := Cert.RefStepIdeal.τ) (Cert.RefStepIdeal.main (F := Ideal))) ⟨m, fun _ => 0, g⟩ (fun r => (∀ c : Dev Cert.RefStepIdeal.nD,
      r.2.mem ((c.tc : Thread Cert.RefStepIdeal.nD Cert.RefStepIdeal.τ).loc Cert.RefStepIdeal.main_arg0) = m ((c.tc : Thread Cert.RefStepIdeal.nD Cert.RefStepIdeal.τ).loc Cert.RefStepIdeal.main_arg0)
      ∧ r.2.mem ((c.tc : Thread Cert.RefStepIdeal.nD Cert.RefStepIdeal.τ).loc Cert.RefStepIdeal.main_arg1) = m ((c.tc : Thread Cert.RefStepIdeal.nD Cert.RefStepIdeal.τ).loc Cert.RefStepIdeal.main_arg1)
      ∧ r.2.mem ((c.tc : Thread Cert.RefStepIdeal.nD Cert.RefStepIdeal.τ).loc Cert.RefStepIdeal.main_arg2) = m ((c.tc : Thread Cert.RefStepIdeal.nD Cert.RefStepIdeal.τ).loc Cert.RefStepIdeal.main_arg2)
      ∧ r.2.mem ((c.tc : Thread Cert.RefStepIdeal.nD Cert.RefStepIdeal.τ).loc Cert.RefStepIdeal.main_arg3) = m ((c.tc : Thread Cert.RefStepIdeal.nD Cert.RefStepIdeal.τ).loc Cert.RefStepIdeal.main_arg3)
      ∧ r.2.mem ((c.tc : Thread Cert.RefStepIdeal.nD Cert.RefStepIdeal.τ).loc Cert.RefStepIdeal.main_arg4) = m ((c.tc : Thread Cert.RefStepIdeal.nD Cert.RefStepIdeal.τ).loc Cert.RefStepIdeal.main_arg4)
      ∧ r.2.mem ((c.tc : Thread Cert.RefStepIdeal.nD Cert.RefStepIdeal.τ).loc Cert.RefStepIdeal.main_arg5) = m ((c.tc : Thread Cert.RefStepIdeal.nD Cert.RefStepIdeal.τ).loc Cert.RefStepIdeal.main_arg5)
      ∧ r.2.mem ((c.tc : Thread Cert.RefStepIdeal.nD Cert.RefStepIdeal.τ).loc Cert.RefStepIdeal.main_arg6) = m ((c.tc : Thread Cert.RefStepIdeal.nD Cert.RefStepIdeal.τ).loc Cert.RefStepIdeal.main_arg6)
      ∧ r.2.mem ((c.tc : Thread Cert.RefStepIdeal.nD Cert.RefStepIdeal.τ).loc Cert.RefStepIdeal.main_arg7) = m ((c.tc : Thread Cert.RefStepIdeal.nD Cert.RefStepIdeal.τ).loc Cert.RefStepIdeal.main_arg7)
      ∧ r.2.mem ((c.tc : Thread Cert.RefStepIdeal.nD Cert.RefStepIdeal.τ).loc Cert.RefStepIdeal.main_arg8) = m ((c.tc : Thread Cert.RefStepIdeal.nD Cert.RefStepIdeal.τ).loc Cert.RefStepIdeal.main_arg8))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2))
      ∧ r.2.sem = fun _ => 0)

def quiescent_RefOutprojIdeal [hRefOutprojIdeal : Cert.RefOutprojIdeal.Facts] : Prop :=
  ∀ (m : (ℓ : Loc Cert.RefOutprojIdeal.nD Cert.RefOutprojIdeal.τ Cert.RefOutprojIdeal.sig) → Buf (Elt Ideal) ℓ) (g : Dev Cert.RefOutprojIdeal.nD → PrngReg), Pre_RefOutprojIdeal m →
    θ_run (Cert.RefOutprojIdeal.defs (F := Ideal)) (onTc (τ := Cert.RefOutprojIdeal.τ) (Cert.RefOutprojIdeal.main (F := Ideal))) ⟨m, fun _ => 0, g⟩ (fun r => (∀ c : Dev Cert.RefOutprojIdeal.nD,
      r.2.mem ((c.tc : Thread Cert.RefOutprojIdeal.nD Cert.RefOutprojIdeal.τ).loc Cert.RefOutprojIdeal.main_arg0) = m ((c.tc : Thread Cert.RefOutprojIdeal.nD Cert.RefOutprojIdeal.τ).loc Cert.RefOutprojIdeal.main_arg0)
      ∧ r.2.mem ((c.tc : Thread Cert.RefOutprojIdeal.nD Cert.RefOutprojIdeal.τ).loc Cert.RefOutprojIdeal.main_arg1) = m ((c.tc : Thread Cert.RefOutprojIdeal.nD Cert.RefOutprojIdeal.τ).loc Cert.RefOutprojIdeal.main_arg1)
      ∧ r.2.mem ((c.tc : Thread Cert.RefOutprojIdeal.nD Cert.RefOutprojIdeal.τ).loc Cert.RefOutprojIdeal.main_arg2) = m ((c.tc : Thread Cert.RefOutprojIdeal.nD Cert.RefOutprojIdeal.τ).loc Cert.RefOutprojIdeal.main_arg2))
      ∧ r.2.sem = fun _ => 0)

def quiescent_OutprojS [hOutprojS : Cert.OutprojS.Facts] : Prop :=
  ∀ (m : (ℓ : Loc Cert.OutprojS.nD Cert.OutprojS.τ Cert.OutprojS.sig) → Buf (Elt Bits) ℓ) (g : Dev Cert.OutprojS.nD → PrngReg), Pre_OutprojS m →
    θ_run (Cert.OutprojS.defs (F := Bits)) (onTc (τ := Cert.OutprojS.τ) (Cert.OutprojS.main (F := Bits))) ⟨m, fun _ => 0, g⟩ (fun r => (∀ c : Dev Cert.OutprojS.nD,
      r.2.mem ((c.tc : Thread Cert.OutprojS.nD Cert.OutprojS.τ).loc Cert.OutprojS.main_arg0) = m ((c.tc : Thread Cert.OutprojS.nD Cert.OutprojS.τ).loc Cert.OutprojS.main_arg0)
      ∧ r.2.mem ((c.tc : Thread Cert.OutprojS.nD Cert.OutprojS.τ).loc Cert.OutprojS.main_arg1) = m ((c.tc : Thread Cert.OutprojS.nD Cert.OutprojS.τ).loc Cert.OutprojS.main_arg1)
      ∧ r.2.mem ((c.tc : Thread Cert.OutprojS.nD Cert.OutprojS.τ).loc Cert.OutprojS.main_arg2) = m ((c.tc : Thread Cert.OutprojS.nD Cert.OutprojS.τ).loc Cert.OutprojS.main_arg2))
      ∧ r.2.sem = fun _ => 0)

def quiescent_OutprojSIdeal [hOutprojSIdeal : Cert.OutprojSIdeal.Facts] : Prop :=
  ∀ (m : (ℓ : Loc Cert.OutprojSIdeal.nD Cert.OutprojSIdeal.τ Cert.OutprojSIdeal.sig) → Buf (Elt Ideal) ℓ) (g : Dev Cert.OutprojSIdeal.nD → PrngReg), Pre_OutprojSIdeal m →
    θ_run (Cert.OutprojSIdeal.defs (F := Ideal)) (onTc (τ := Cert.OutprojSIdeal.τ) (Cert.OutprojSIdeal.main (F := Ideal))) ⟨m, fun _ => 0, g⟩ (fun r => (∀ c : Dev Cert.OutprojSIdeal.nD,
      r.2.mem ((c.tc : Thread Cert.OutprojSIdeal.nD Cert.OutprojSIdeal.τ).loc Cert.OutprojSIdeal.main_arg0) = m ((c.tc : Thread Cert.OutprojSIdeal.nD Cert.OutprojSIdeal.τ).loc Cert.OutprojSIdeal.main_arg0)
      ∧ r.2.mem ((c.tc : Thread Cert.OutprojSIdeal.nD Cert.OutprojSIdeal.τ).loc Cert.OutprojSIdeal.main_arg1) = m ((c.tc : Thread Cert.OutprojSIdeal.nD Cert.OutprojSIdeal.τ).loc Cert.OutprojSIdeal.main_arg1)
      ∧ r.2.mem ((c.tc : Thread Cert.OutprojSIdeal.nD Cert.OutprojSIdeal.τ).loc Cert.OutprojSIdeal.main_arg2) = m ((c.tc : Thread Cert.OutprojSIdeal.nD Cert.OutprojSIdeal.τ).loc Cert.OutprojSIdeal.main_arg2))
      ∧ r.2.sem = fun _ => 0)

def quiescent_RefOutprojSIdeal [hRefOutprojSIdeal : Cert.RefOutprojSIdeal.Facts] : Prop :=
  ∀ (m : (ℓ : Loc Cert.RefOutprojSIdeal.nD Cert.RefOutprojSIdeal.τ Cert.RefOutprojSIdeal.sig) → Buf (Elt Ideal) ℓ) (g : Dev Cert.RefOutprojSIdeal.nD → PrngReg), Pre_RefOutprojSIdeal m →
    θ_run (Cert.RefOutprojSIdeal.defs (F := Ideal)) (onTc (τ := Cert.RefOutprojSIdeal.τ) (Cert.RefOutprojSIdeal.main (F := Ideal))) ⟨m, fun _ => 0, g⟩ (fun r => (∀ c : Dev Cert.RefOutprojSIdeal.nD,
      r.2.mem ((c.tc : Thread Cert.RefOutprojSIdeal.nD Cert.RefOutprojSIdeal.τ).loc Cert.RefOutprojSIdeal.main_arg0) = m ((c.tc : Thread Cert.RefOutprojSIdeal.nD Cert.RefOutprojSIdeal.τ).loc Cert.RefOutprojSIdeal.main_arg0)
      ∧ r.2.mem ((c.tc : Thread Cert.RefOutprojSIdeal.nD Cert.RefOutprojSIdeal.τ).loc Cert.RefOutprojSIdeal.main_arg1) = m ((c.tc : Thread Cert.RefOutprojSIdeal.nD Cert.RefOutprojSIdeal.τ).loc Cert.RefOutprojSIdeal.main_arg1)
      ∧ r.2.mem ((c.tc : Thread Cert.RefOutprojSIdeal.nD Cert.RefOutprojSIdeal.τ).loc Cert.RefOutprojSIdeal.main_arg2) = m ((c.tc : Thread Cert.RefOutprojSIdeal.nD Cert.RefOutprojSIdeal.τ).loc Cert.RefOutprojSIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4))
      ∧ r.2.sem = fun _ => 0)

def quiescent_MergeS [hMergeS : Cert.MergeS.Facts] : Prop :=
  ∀ (m : (ℓ : Loc Cert.MergeS.nD Cert.MergeS.τ Cert.MergeS.sig) → Buf (Elt Bits) ℓ) (g : Dev Cert.MergeS.nD → PrngReg), Pre_MergeS m →
    θ_run (Cert.MergeS.defs (F := Bits)) (onTc (τ := Cert.MergeS.τ) (Cert.MergeS.main (F := Bits))) ⟨m, fun _ => 0, g⟩ (fun r => (∀ c : Dev Cert.MergeS.nD,
      r.2.mem ((c.tc : Thread Cert.MergeS.nD Cert.MergeS.τ).loc Cert.MergeS.main_arg0) = m ((c.tc : Thread Cert.MergeS.nD Cert.MergeS.τ).loc Cert.MergeS.main_arg0)
      ∧ r.2.mem ((c.tc : Thread Cert.MergeS.nD Cert.MergeS.τ).loc Cert.MergeS.main_arg1) = m ((c.tc : Thread Cert.MergeS.nD Cert.MergeS.τ).loc Cert.MergeS.main_arg1)
      ∧ r.2.mem ((c.tc : Thread Cert.MergeS.nD Cert.MergeS.τ).loc Cert.MergeS.main_arg2) = m ((c.tc : Thread Cert.MergeS.nD Cert.MergeS.τ).loc Cert.MergeS.main_arg2)
      ∧ r.2.mem ((c.tc : Thread Cert.MergeS.nD Cert.MergeS.τ).loc Cert.MergeS.main_arg3) = m ((c.tc : Thread Cert.MergeS.nD Cert.MergeS.τ).loc Cert.MergeS.main_arg3)
      ∧ r.2.mem ((c.tc : Thread Cert.MergeS.nD Cert.MergeS.τ).loc Cert.MergeS.main_arg4) = m ((c.tc : Thread Cert.MergeS.nD Cert.MergeS.τ).loc Cert.MergeS.main_arg4))
      ∧ r.2.sem = fun _ => 0)

def quiescent_MergeSIdeal [hMergeSIdeal : Cert.MergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg), Pre_MergeSIdeal m →
    θ_run (Cert.MergeSIdeal.defs (F := Ideal)) (onTc (τ := Cert.MergeSIdeal.τ) (Cert.MergeSIdeal.main (F := Ideal))) ⟨m, fun _ => 0, g⟩ (fun r => (∀ c : Dev Cert.MergeSIdeal.nD,
      r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
      ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
      ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
      ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
      ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4))
      ∧ r.2.sem = fun _ => 0)

def quiescent_RefMergeSIdeal [hRefMergeSIdeal : Cert.RefMergeSIdeal.Facts] : Prop :=
  ∀ (m : (ℓ : Loc Cert.RefMergeSIdeal.nD Cert.RefMergeSIdeal.τ Cert.RefMergeSIdeal.sig) → Buf (Elt Ideal) ℓ) (g : Dev Cert.RefMergeSIdeal.nD → PrngReg), Pre_RefMergeSIdeal m →
    θ_run (Cert.RefMergeSIdeal.defs (F := Ideal)) (onTc (τ := Cert.RefMergeSIdeal.τ) (Cert.RefMergeSIdeal.main (F := Ideal))) ⟨m, fun _ => 0, g⟩ (fun r => (∀ c : Dev Cert.RefMergeSIdeal.nD,
      r.2.mem ((c.tc : Thread Cert.RefMergeSIdeal.nD Cert.RefMergeSIdeal.τ).loc Cert.RefMergeSIdeal.main_arg0) = m ((c.tc : Thread Cert.RefMergeSIdeal.nD Cert.RefMergeSIdeal.τ).loc Cert.RefMergeSIdeal.main_arg0)
      ∧ r.2.mem ((c.tc : Thread Cert.RefMergeSIdeal.nD Cert.RefMergeSIdeal.τ).loc Cert.RefMergeSIdeal.main_arg1) = m ((c.tc : Thread Cert.RefMergeSIdeal.nD Cert.RefMergeSIdeal.τ).loc Cert.RefMergeSIdeal.main_arg1)
      ∧ r.2.mem ((c.tc : Thread Cert.RefMergeSIdeal.nD Cert.RefMergeSIdeal.τ).loc Cert.RefMergeSIdeal.main_arg2) = m ((c.tc : Thread Cert.RefMergeSIdeal.nD Cert.RefMergeSIdeal.τ).loc Cert.RefMergeSIdeal.main_arg2)
      ∧ r.2.mem ((c.tc : Thread Cert.RefMergeSIdeal.nD Cert.RefMergeSIdeal.τ).loc Cert.RefMergeSIdeal.main_arg3) = m ((c.tc : Thread Cert.RefMergeSIdeal.nD Cert.RefMergeSIdeal.τ).loc Cert.RefMergeSIdeal.main_arg3)
      ∧ r.2.mem ((c.tc : Thread Cert.RefMergeSIdeal.nD Cert.RefMergeSIdeal.τ).loc Cert.RefMergeSIdeal.main_arg4) = m ((c.tc : Thread Cert.RefMergeSIdeal.nD Cert.RefMergeSIdeal.τ).loc Cert.RefMergeSIdeal.main_arg4))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2))
      ∧ r.2.sem = fun _ => 0)

def quiescent_RefNormInIdeal [hRefNormInIdeal : Cert.RefNormInIdeal.Facts] : Prop :=
  ∀ (m : (ℓ : Loc Cert.RefNormInIdeal.nD Cert.RefNormInIdeal.τ Cert.RefNormInIdeal.sig) → Buf (Elt Ideal) ℓ) (g : Dev Cert.RefNormInIdeal.nD → PrngReg), Pre_RefNormInIdeal m →
    θ_run (Cert.RefNormInIdeal.defs (F := Ideal)) (onTc (τ := Cert.RefNormInIdeal.τ) (Cert.RefNormInIdeal.main (F := Ideal))) ⟨m, fun _ => 0, g⟩ (fun r => (∀ c : Dev Cert.RefNormInIdeal.nD,
      r.2.mem ((c.tc : Thread Cert.RefNormInIdeal.nD Cert.RefNormInIdeal.τ).loc Cert.RefNormInIdeal.main_arg0) = m ((c.tc : Thread Cert.RefNormInIdeal.nD Cert.RefNormInIdeal.τ).loc Cert.RefNormInIdeal.main_arg0)
      ∧ r.2.mem ((c.tc : Thread Cert.RefNormInIdeal.nD Cert.RefNormInIdeal.τ).loc Cert.RefNormInIdeal.main_arg1) = m ((c.tc : Thread Cert.RefNormInIdeal.nD Cert.RefNormInIdeal.τ).loc Cert.RefNormInIdeal.main_arg1)
      ∧ r.2.mem ((c.tc : Thread Cert.RefNormInIdeal.nD Cert.RefNormInIdeal.τ).loc Cert.RefNormInIdeal.main_arg2) = m ((c.tc : Thread Cert.RefNormInIdeal.nD Cert.RefNormInIdeal.τ).loc Cert.RefNormInIdeal.main_arg2))
      ∧ r.2.sem = fun _ => 0)

def quiescent_NormInS [hNormInS : Cert.NormInS.Facts] : Prop :=
  ∀ (m : (ℓ : Loc Cert.NormInS.nD Cert.NormInS.τ Cert.NormInS.sig) → Buf (Elt Bits) ℓ) (g : Dev Cert.NormInS.nD → PrngReg), Pre_NormInS m →
    θ_run (Cert.NormInS.defs (F := Bits)) (onTc (τ := Cert.NormInS.τ) (Cert.NormInS.main (F := Bits))) ⟨m, fun _ => 0, g⟩ (fun r => (∀ c : Dev Cert.NormInS.nD,
      r.2.mem ((c.tc : Thread Cert.NormInS.nD Cert.NormInS.τ).loc Cert.NormInS.main_arg0) = m ((c.tc : Thread Cert.NormInS.nD Cert.NormInS.τ).loc Cert.NormInS.main_arg0)
      ∧ r.2.mem ((c.tc : Thread Cert.NormInS.nD Cert.NormInS.τ).loc Cert.NormInS.main_arg1) = m ((c.tc : Thread Cert.NormInS.nD Cert.NormInS.τ).loc Cert.NormInS.main_arg1)
      ∧ r.2.mem ((c.tc : Thread Cert.NormInS.nD Cert.NormInS.τ).loc Cert.NormInS.main_arg2) = m ((c.tc : Thread Cert.NormInS.nD Cert.NormInS.τ).loc Cert.NormInS.main_arg2))
      ∧ r.2.sem = fun _ => 0)

def quiescent_NormInSIdeal [hNormInSIdeal : Cert.NormInSIdeal.Facts] : Prop :=
  ∀ (m : (ℓ : Loc Cert.NormInSIdeal.nD Cert.NormInSIdeal.τ Cert.NormInSIdeal.sig) → Buf (Elt Ideal) ℓ) (g : Dev Cert.NormInSIdeal.nD → PrngReg), Pre_NormInSIdeal m →
    θ_run (Cert.NormInSIdeal.defs (F := Ideal)) (onTc (τ := Cert.NormInSIdeal.τ) (Cert.NormInSIdeal.main (F := Ideal))) ⟨m, fun _ => 0, g⟩ (fun r => (∀ c : Dev Cert.NormInSIdeal.nD,
      r.2.mem ((c.tc : Thread Cert.NormInSIdeal.nD Cert.NormInSIdeal.τ).loc Cert.NormInSIdeal.main_arg0) = m ((c.tc : Thread Cert.NormInSIdeal.nD Cert.NormInSIdeal.τ).loc Cert.NormInSIdeal.main_arg0)
      ∧ r.2.mem ((c.tc : Thread Cert.NormInSIdeal.nD Cert.NormInSIdeal.τ).loc Cert.NormInSIdeal.main_arg1) = m ((c.tc : Thread Cert.NormInSIdeal.nD Cert.NormInSIdeal.τ).loc Cert.NormInSIdeal.main_arg1)
      ∧ r.2.mem ((c.tc : Thread Cert.NormInSIdeal.nD Cert.NormInSIdeal.τ).loc Cert.NormInSIdeal.main_arg2) = m ((c.tc : Thread Cert.NormInSIdeal.nD Cert.NormInSIdeal.τ).loc Cert.NormInSIdeal.main_arg2))
      ∧ r.2.sem = fun _ => 0)

def quiescent_RefNormInSIdeal [hRefNormInSIdeal : Cert.RefNormInSIdeal.Facts] : Prop :=
  ∀ (m : (ℓ : Loc Cert.RefNormInSIdeal.nD Cert.RefNormInSIdeal.τ Cert.RefNormInSIdeal.sig) → Buf (Elt Ideal) ℓ) (g : Dev Cert.RefNormInSIdeal.nD → PrngReg), Pre_RefNormInSIdeal m →
    θ_run (Cert.RefNormInSIdeal.defs (F := Ideal)) (onTc (τ := Cert.RefNormInSIdeal.τ) (Cert.RefNormInSIdeal.main (F := Ideal))) ⟨m, fun _ => 0, g⟩ (fun r => (∀ c : Dev Cert.RefNormInSIdeal.nD,
      r.2.mem ((c.tc : Thread Cert.RefNormInSIdeal.nD Cert.RefNormInSIdeal.τ).loc Cert.RefNormInSIdeal.main_arg0) = m ((c.tc : Thread Cert.RefNormInSIdeal.nD Cert.RefNormInSIdeal.τ).loc Cert.RefNormInSIdeal.main_arg0)
      ∧ r.2.mem ((c.tc : Thread Cert.RefNormInSIdeal.nD Cert.RefNormInSIdeal.τ).loc Cert.RefNormInSIdeal.main_arg1) = m ((c.tc : Thread Cert.RefNormInSIdeal.nD Cert.RefNormInSIdeal.τ).loc Cert.RefNormInSIdeal.main_arg1)
      ∧ r.2.mem ((c.tc : Thread Cert.RefNormInSIdeal.nD Cert.RefNormInSIdeal.τ).loc Cert.RefNormInSIdeal.main_arg2) = m ((c.tc : Thread Cert.RefNormInSIdeal.nD Cert.RefNormInSIdeal.τ).loc Cert.RefNormInSIdeal.main_arg2))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3))
      ∧ r.2.sem = fun _ => 0)

def quiescent_RefFfnSIdeal [hRefFfnSIdeal : Cert.RefFfnSIdeal.Facts] : Prop :=
  ∀ (m : (ℓ : Loc Cert.RefFfnSIdeal.nD Cert.RefFfnSIdeal.τ Cert.RefFfnSIdeal.sig) → Buf (Elt Ideal) ℓ) (g : Dev Cert.RefFfnSIdeal.nD → PrngReg), Pre_RefFfnSIdeal m →
    θ_run (Cert.RefFfnSIdeal.defs (F := Ideal)) (onTc (τ := Cert.RefFfnSIdeal.τ) (Cert.RefFfnSIdeal.main (F := Ideal))) ⟨m, fun _ => 0, g⟩ (fun r => (∀ c : Dev Cert.RefFfnSIdeal.nD,
      r.2.mem ((c.tc : Thread Cert.RefFfnSIdeal.nD Cert.RefFfnSIdeal.τ).loc Cert.RefFfnSIdeal.main_arg0) = m ((c.tc : Thread Cert.RefFfnSIdeal.nD Cert.RefFfnSIdeal.τ).loc Cert.RefFfnSIdeal.main_arg0)
      ∧ r.2.mem ((c.tc : Thread Cert.RefFfnSIdeal.nD Cert.RefFfnSIdeal.τ).loc Cert.RefFfnSIdeal.main_arg1) = m ((c.tc : Thread Cert.RefFfnSIdeal.nD Cert.RefFfnSIdeal.τ).loc Cert.RefFfnSIdeal.main_arg1)
      ∧ r.2.mem ((c.tc : Thread Cert.RefFfnSIdeal.nD Cert.RefFfnSIdeal.τ).loc Cert.RefFfnSIdeal.main_arg2) = m ((c.tc : Thread Cert.RefFfnSIdeal.nD Cert.RefFfnSIdeal.τ).loc Cert.RefFfnSIdeal.main_arg2)
      ∧ r.2.mem ((c.tc : Thread Cert.RefFfnSIdeal.nD Cert.RefFfnSIdeal.τ).loc Cert.RefFfnSIdeal.main_arg3) = m ((c.tc : Thread Cert.RefFfnSIdeal.nD Cert.RefFfnSIdeal.τ).loc Cert.RefFfnSIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_RefPrepIdeal [hRefPrepIdeal : Cert.RefPrepIdeal.Facts] : Prop :=
  ∀ (m : (ℓ : Loc Cert.RefPrepIdeal.nD Cert.RefPrepIdeal.τ Cert.RefPrepIdeal.sig) → Buf (Elt Ideal) ℓ) (g : Dev Cert.RefPrepIdeal.nD → PrngReg), Pre_RefPrepIdeal m →
    θ_run (Cert.RefPrepIdeal.defs (F := Ideal)) (onTc (τ := Cert.RefPrepIdeal.τ) (Cert.RefPrepIdeal.main (F := Ideal))) ⟨m, fun _ => 0, g⟩ (fun r => (∀ c : Dev Cert.RefPrepIdeal.nD,
      r.2.mem ((c.tc : Thread Cert.RefPrepIdeal.nD Cert.RefPrepIdeal.τ).loc Cert.RefPrepIdeal.main_arg0) = m ((c.tc : Thread Cert.RefPrepIdeal.nD Cert.RefPrepIdeal.τ).loc Cert.RefPrepIdeal.main_arg0)
      ∧ r.2.mem ((c.tc : Thread Cert.RefPrepIdeal.nD Cert.RefPrepIdeal.τ).loc Cert.RefPrepIdeal.main_arg1) = m ((c.tc : Thread Cert.RefPrepIdeal.nD Cert.RefPrepIdeal.τ).loc Cert.RefPrepIdeal.main_arg1)
      ∧ r.2.mem ((c.tc : Thread Cert.RefPrepIdeal.nD Cert.RefPrepIdeal.τ).loc Cert.RefPrepIdeal.main_arg2) = m ((c.tc : Thread Cert.RefPrepIdeal.nD Cert.RefPrepIdeal.τ).loc Cert.RefPrepIdeal.main_arg2)
      ∧ r.2.mem ((c.tc : Thread Cert.RefPrepIdeal.nD Cert.RefPrepIdeal.τ).loc Cert.RefPrepIdeal.main_arg3) = m ((c.tc : Thread Cert.RefPrepIdeal.nD Cert.RefPrepIdeal.τ).loc Cert.RefPrepIdeal.main_arg3)
      ∧ r.2.mem ((c.tc : Thread Cert.RefPrepIdeal.nD Cert.RefPrepIdeal.τ).loc Cert.RefPrepIdeal.main_arg4) = m ((c.tc : Thread Cert.RefPrepIdeal.nD Cert.RefPrepIdeal.τ).loc Cert.RefPrepIdeal.main_arg4)
      ∧ r.2.mem ((c.tc : Thread Cert.RefPrepIdeal.nD Cert.RefPrepIdeal.τ).loc Cert.RefPrepIdeal.main_arg5) = m ((c.tc : Thread Cert.RefPrepIdeal.nD Cert.RefPrepIdeal.τ).loc Cert.RefPrepIdeal.main_arg5))
      ∧ r.2.sem = fun _ => 0)

def quiescent_PoolS [hPoolS : Cert.PoolS.Facts] : Prop :=
  ∀ (m : (ℓ : Loc Cert.PoolS.nD Cert.PoolS.τ Cert.PoolS.sig) → Buf (Elt Bits) ℓ) (g : Dev Cert.PoolS.nD → PrngReg), Pre_PoolS m →
    θ_run (Cert.PoolS.defs (F := Bits)) (onTc (τ := Cert.PoolS.τ) (Cert.PoolS.main (F := Bits))) ⟨m, fun _ => 0, g⟩ (fun r => (∀ c : Dev Cert.PoolS.nD,
      r.2.mem ((c.tc : Thread Cert.PoolS.nD Cert.PoolS.τ).loc Cert.PoolS.main_arg0) = m ((c.tc : Thread Cert.PoolS.nD Cert.PoolS.τ).loc Cert.PoolS.main_arg0)
      ∧ r.2.mem ((c.tc : Thread Cert.PoolS.nD Cert.PoolS.τ).loc Cert.PoolS.main_arg1) = m ((c.tc : Thread Cert.PoolS.nD Cert.PoolS.τ).loc Cert.PoolS.main_arg1)
      ∧ r.2.mem ((c.tc : Thread Cert.PoolS.nD Cert.PoolS.τ).loc Cert.PoolS.main_arg2) = m ((c.tc : Thread Cert.PoolS.nD Cert.PoolS.τ).loc Cert.PoolS.main_arg2)
      ∧ r.2.mem ((c.tc : Thread Cert.PoolS.nD Cert.PoolS.τ).loc Cert.PoolS.main_arg3) = m ((c.tc : Thread Cert.PoolS.nD Cert.PoolS.τ).loc Cert.PoolS.main_arg3))
      ∧ r.2.sem = fun _ => 0)

def quiescent_PoolSIdeal [hPoolSIdeal : Cert.PoolSIdeal.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
      ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
      ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3))
      ∧ r.2.sem = fun _ => 0)

def quiescent_PoolSIdeal_pre_pool_sample_finite [hPoolSIdeal : Cert.PoolSIdeal.Facts] [hPre_pool_sample_finite : Cert.Pre_pool_sample_finite.Facts] : Prop :=
  ∀ (m : (ℓ : Loc Cert.PoolSIdeal.nD Cert.PoolSIdeal.τ Cert.PoolSIdeal.sig) → Buf (Elt Ideal) ℓ) (g : Dev Cert.PoolSIdeal.nD → PrngReg), Pre_PoolSIdeal_pool_sample_finite m →
    θ_run (Cert.PoolSIdeal.defs (F := Ideal)) (onTc (τ := Cert.PoolSIdeal.τ) (Cert.PoolSIdeal.main (F := Ideal))) ⟨m, fun _ => 0, g⟩ (fun r => (∀ c : Dev Cert.PoolSIdeal.nD,
      r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
      ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
      ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
      ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3))
      ∧ r.2.sem = fun _ => 0)

def quiescent_RefPoolSIdeal [hRefPoolSIdeal : Cert.RefPoolSIdeal.Facts] : Prop :=
  ∀ (m : (ℓ : Loc Cert.RefPoolSIdeal.nD Cert.RefPoolSIdeal.τ Cert.RefPoolSIdeal.sig) → Buf (Elt Ideal) ℓ) (g : Dev Cert.RefPoolSIdeal.nD → PrngReg), Pre_RefPoolSIdeal m →
    θ_run (Cert.RefPoolSIdeal.defs (F := Ideal)) (onTc (τ := Cert.RefPoolSIdeal.τ) (Cert.RefPoolSIdeal.main (F := Ideal))) ⟨m, fun _ => 0, g⟩ (fun r => (∀ c : Dev Cert.RefPoolSIdeal.nD,
      r.2.mem ((c.tc : Thread Cert.RefPoolSIdeal.nD Cert.RefPoolSIdeal.τ).loc Cert.RefPoolSIdeal.main_arg0) = m ((c.tc : Thread Cert.RefPoolSIdeal.nD Cert.RefPoolSIdeal.τ).loc Cert.RefPoolSIdeal.main_arg0)
      ∧ r.2.mem ((c.tc : Thread Cert.RefPoolSIdeal.nD Cert.RefPoolSIdeal.τ).loc Cert.RefPoolSIdeal.main_arg1) = m ((c.tc : Thread Cert.RefPoolSIdeal.nD Cert.RefPoolSIdeal.τ).loc Cert.RefPoolSIdeal.main_arg1)
      ∧ r.2.mem ((c.tc : Thread Cert.RefPoolSIdeal.nD Cert.RefPoolSIdeal.τ).loc Cert.RefPoolSIdeal.main_arg2) = m ((c.tc : Thread Cert.RefPoolSIdeal.nD Cert.RefPoolSIdeal.τ).loc Cert.RefPoolSIdeal.main_arg2)
      ∧ r.2.mem ((c.tc : Thread Cert.RefPoolSIdeal.nD Cert.RefPoolSIdeal.τ).loc Cert.RefPoolSIdeal.main_arg3) = m ((c.tc : Thread Cert.RefPoolSIdeal.nD Cert.RefPoolSIdeal.τ).loc Cert.RefPoolSIdeal.main_arg3))
      ∧ r.2.sem = fun _ => 0)

def quiescent_RefPoolSIdeal_pre_pool_sample_finite [hRefPoolSIdeal : Cert.RefPoolSIdeal.Facts] [hPre_pool_sample_finite : Cert.Pre_pool_sample_finite.Facts] : Prop :=
  ∀ (m : (ℓ : Loc Cert.RefPoolSIdeal.nD Cert.RefPoolSIdeal.τ Cert.RefPoolSIdeal.sig) → Buf (Elt Ideal) ℓ) (g : Dev Cert.RefPoolSIdeal.nD → PrngReg), Pre_RefPoolSIdeal_pool_sample_finite m →
    θ_run (Cert.RefPoolSIdeal.defs (F := Ideal)) (onTc (τ := Cert.RefPoolSIdeal.τ) (Cert.RefPoolSIdeal.main (F := Ideal))) ⟨m, fun _ => 0, g⟩ (fun r => (∀ c : Dev Cert.RefPoolSIdeal.nD,
      r.2.mem ((c.tc : Thread Cert.RefPoolSIdeal.nD Cert.RefPoolSIdeal.τ).loc Cert.RefPoolSIdeal.main_arg0) = m ((c.tc : Thread Cert.RefPoolSIdeal.nD Cert.RefPoolSIdeal.τ).loc Cert.RefPoolSIdeal.main_arg0)
      ∧ r.2.mem ((c.tc : Thread Cert.RefPoolSIdeal.nD Cert.RefPoolSIdeal.τ).loc Cert.RefPoolSIdeal.main_arg1) = m ((c.tc : Thread Cert.RefPoolSIdeal.nD Cert.RefPoolSIdeal.τ).loc Cert.RefPoolSIdeal.main_arg1)
      ∧ r.2.mem ((c.tc : Thread Cert.RefPoolSIdeal.nD Cert.RefPoolSIdeal.τ).loc Cert.RefPoolSIdeal.main_arg2) = m ((c.tc : Thread Cert.RefPoolSIdeal.nD Cert.RefPoolSIdeal.τ).loc Cert.RefPoolSIdeal.main_arg2)
      ∧ r.2.mem ((c.tc : Thread Cert.RefPoolSIdeal.nD Cert.RefPoolSIdeal.τ).loc Cert.RefPoolSIdeal.main_arg3) = m ((c.tc : Thread Cert.RefPoolSIdeal.nD Cert.RefPoolSIdeal.τ).loc Cert.RefPoolSIdeal.main_arg3))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_RefPoolIdeal [hRefPoolIdeal : Cert.RefPoolIdeal.Facts] : Prop :=
  ∀ (m : (ℓ : Loc Cert.RefPoolIdeal.nD Cert.RefPoolIdeal.τ Cert.RefPoolIdeal.sig) → Buf (Elt Ideal) ℓ) (g : Dev Cert.RefPoolIdeal.nD → PrngReg), Pre_RefPoolIdeal m →
    θ_run (Cert.RefPoolIdeal.defs (F := Ideal)) (onTc (τ := Cert.RefPoolIdeal.τ) (Cert.RefPoolIdeal.main (F := Ideal))) ⟨m, fun _ => 0, g⟩ (fun r => (∀ c : Dev Cert.RefPoolIdeal.nD,
      r.2.mem ((c.tc : Thread Cert.RefPoolIdeal.nD Cert.RefPoolIdeal.τ).loc Cert.RefPoolIdeal.main_arg0) = m ((c.tc : Thread Cert.RefPoolIdeal.nD Cert.RefPoolIdeal.τ).loc Cert.RefPoolIdeal.main_arg0)
      ∧ r.2.mem ((c.tc : Thread Cert.RefPoolIdeal.nD Cert.RefPoolIdeal.τ).loc Cert.RefPoolIdeal.main_arg1) = m ((c.tc : Thread Cert.RefPoolIdeal.nD Cert.RefPoolIdeal.τ).loc Cert.RefPoolIdeal.main_arg1)
      ∧ r.2.mem ((c.tc : Thread Cert.RefPoolIdeal.nD Cert.RefPoolIdeal.τ).loc Cert.RefPoolIdeal.main_arg2) = m ((c.tc : Thread Cert.RefPoolIdeal.nD Cert.RefPoolIdeal.τ).loc Cert.RefPoolIdeal.main_arg2))
      ∧ r.2.sem = fun _ => 0)

def quiescent_RefPoolIdeal_pre_pool_finite [hRefPoolIdeal : Cert.RefPoolIdeal.Facts] [hPre_pool_finite : Cert.Pre_pool_finite.Facts] : Prop :=
  ∀ (m : (ℓ : Loc Cert.RefPoolIdeal.nD Cert.RefPoolIdeal.τ Cert.RefPoolIdeal.sig) → Buf (Elt Ideal) ℓ) (g : Dev Cert.RefPoolIdeal.nD → PrngReg), Pre_RefPoolIdeal_pool_finite m →
    θ_run (Cert.RefPoolIdeal.defs (F := Ideal)) (onTc (τ := Cert.RefPoolIdeal.τ) (Cert.RefPoolIdeal.main (F := Ideal))) ⟨m, fun _ => 0, g⟩ (fun r => (∀ c : Dev Cert.RefPoolIdeal.nD,
      r.2.mem ((c.tc : Thread Cert.RefPoolIdeal.nD Cert.RefPoolIdeal.τ).loc Cert.RefPoolIdeal.main_arg0) = m ((c.tc : Thread Cert.RefPoolIdeal.nD Cert.RefPoolIdeal.τ).loc Cert.RefPoolIdeal.main_arg0)
      ∧ r.2.mem ((c.tc : Thread Cert.RefPoolIdeal.nD Cert.RefPoolIdeal.τ).loc Cert.RefPoolIdeal.main_arg1) = m ((c.tc : Thread Cert.RefPoolIdeal.nD Cert.RefPoolIdeal.τ).loc Cert.RefPoolIdeal.main_arg1)
      ∧ r.2.mem ((c.tc : Thread Cert.RefPoolIdeal.nD Cert.RefPoolIdeal.τ).loc Cert.RefPoolIdeal.main_arg2) = m ((c.tc : Thread Cert.RefPoolIdeal.nD Cert.RefPoolIdeal.τ).loc Cert.RefPoolIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v13)) (v5 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_v19) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_v37) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v24) = v0 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3))

def preserves_Final_FinalIdeal : Prop :=
  True

def algebraic_FinalIdeal_RefFinalIdeal [hFinalIdeal : Cert.FinalIdeal.Facts] [hRefFinalIdeal : Cert.RefFinalIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.RefFinalIdeal.nD Cert.RefFinalIdeal.τ Cert.RefFinalIdeal.sig) → Buf (Elt Ideal) ℓ) (g' : Dev Cert.RefFinalIdeal.nD → PrngReg), Pre_FinalIdeal m →
    (∀ c : Dev Cert.FinalIdeal.nD,
      m' ((c.tc : Thread Cert.RefFinalIdeal.nD Cert.RefFinalIdeal.τ).loc Cert.RefFinalIdeal.main_arg0) = m ((c.tc : Thread Cert.FinalIdeal.nD Cert.FinalIdeal.τ).loc Cert.FinalIdeal.main_arg0)
      ∧ m' ((c.tc : Thread Cert.RefFinalIdeal.nD Cert.RefFinalIdeal.τ).loc Cert.RefFinalIdeal.main_arg1) = m ((c.tc : Thread Cert.FinalIdeal.nD Cert.FinalIdeal.τ).loc Cert.FinalIdeal.main_arg1)
      ∧ m' ((c.tc : Thread Cert.RefFinalIdeal.nD Cert.RefFinalIdeal.τ).loc Cert.RefFinalIdeal.main_arg2) = m ((c.tc : Thread Cert.FinalIdeal.nD Cert.FinalIdeal.τ).loc Cert.FinalIdeal.main_arg2)
      ∧ m' ((c.tc : Thread Cert.RefFinalIdeal.nD Cert.RefFinalIdeal.τ).loc Cert.RefFinalIdeal.main_arg3) = m ((c.tc : Thread Cert.FinalIdeal.nD Cert.FinalIdeal.τ).loc Cert.FinalIdeal.main_arg3)
      ∧ m' ((c.tc : Thread Cert.RefFinalIdeal.nD Cert.RefFinalIdeal.τ).loc Cert.RefFinalIdeal.main_arg4) = m ((c.tc : Thread Cert.FinalIdeal.nD Cert.FinalIdeal.τ).loc Cert.FinalIdeal.main_arg4)) →
    ∃ (v0 : (c : Dev Cert.FinalIdeal.nD) → Buf (Elt Ideal) ((c.tc : Thread Cert.FinalIdeal.nD Cert.FinalIdeal.τ).loc Cert.FinalIdeal.main_v7)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v7) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4))
      ∧ θ_run (Cert.RefFinalIdeal.defs (F := Ideal)) (onTc (τ := Cert.RefFinalIdeal.τ) (Cert.RefFinalIdeal.main (F := Ideal))) ⟨m', fun _ => 0, g'⟩ (fun r => ∀ c : Dev Cert.RefFinalIdeal.nD,
          r.2.mem ((c.tc : Thread Cert.RefFinalIdeal.nD Cert.RefFinalIdeal.τ).loc Cert.RefFinalIdeal.main_v27) = v0 c
          ∧ r.2.mem ((c.tc : Thread Cert.RefFinalIdeal.nD Cert.RefFinalIdeal.τ).loc Cert.RefFinalIdeal.main_arg0) = m' ((c.tc : Thread Cert.RefFinalIdeal.nD Cert.RefFinalIdeal.τ).loc Cert.RefFinalIdeal.main_arg0)
          ∧ r.2.mem ((c.tc : Thread Cert.RefFinalIdeal.nD Cert.RefFinalIdeal.τ).loc Cert.RefFinalIdeal.main_arg1) = m' ((c.tc : Thread Cert.RefFinalIdeal.nD Cert.RefFinalIdeal.τ).loc Cert.RefFinalIdeal.main_arg1)
          ∧ r.2.mem ((c.tc : Thread Cert.RefFinalIdeal.nD Cert.RefFinalIdeal.τ).loc Cert.RefFinalIdeal.main_arg2) = m' ((c.tc : Thread Cert.RefFinalIdeal.nD Cert.RefFinalIdeal.τ).loc Cert.RefFinalIdeal.main_arg2)
          ∧ r.2.mem ((c.tc : Thread Cert.RefFinalIdeal.nD Cert.RefFinalIdeal.τ).loc Cert.RefFinalIdeal.main_arg3) = m' ((c.tc : Thread Cert.RefFinalIdeal.nD Cert.RefFinalIdeal.τ).loc Cert.RefFinalIdeal.main_arg3)
          ∧ r.2.mem ((c.tc : Thread Cert.RefFinalIdeal.nD Cert.RefFinalIdeal.τ).loc Cert.RefFinalIdeal.main_arg4) = m' ((c.tc : Thread Cert.RefFinalIdeal.nD Cert.RefFinalIdeal.τ).loc Cert.RefFinalIdeal.main_arg4))

def preserves_FinalS_FinalSIdeal : Prop :=
  True

def algebraic_FinalSIdeal_RefFinalSIdeal [hFinalSIdeal : Cert.FinalSIdeal.Facts] [hRefFinalSIdeal : Cert.RefFinalSIdeal.Facts] : Prop :=
  ∀ (m : (ℓ : Loc Cert.FinalSIdeal.nD Cert.FinalSIdeal.τ Cert.FinalSIdeal.sig) → Buf (Elt Ideal) ℓ) (g : Dev Cert.FinalSIdeal.nD → PrngReg)
    (m' : (ℓ : Loc Cert.RefFinalSIdeal.nD Cert.RefFinalSIdeal.τ Cert.RefFinalSIdeal.sig) → Buf (Elt Ideal) ℓ) (g' : Dev Cert.RefFinalSIdeal.nD → PrngReg), Pre_FinalSIdeal m →
    (∀ c : Dev Cert.FinalSIdeal.nD,
      m' ((c.tc : Thread Cert.RefFinalSIdeal.nD Cert.RefFinalSIdeal.τ).loc Cert.RefFinalSIdeal.main_arg0) = m ((c.tc : Thread Cert.FinalSIdeal.nD Cert.FinalSIdeal.τ).loc Cert.FinalSIdeal.main_arg0)
      ∧ m' ((c.tc : Thread Cert.RefFinalSIdeal.nD Cert.RefFinalSIdeal.τ).loc Cert.RefFinalSIdeal.main_arg1) = m ((c.tc : Thread Cert.FinalSIdeal.nD Cert.FinalSIdeal.τ).loc Cert.FinalSIdeal.main_arg1)
      ∧ m' ((c.tc : Thread Cert.RefFinalSIdeal.nD Cert.RefFinalSIdeal.τ).loc Cert.RefFinalSIdeal.main_arg2) = m ((c.tc : Thread Cert.FinalSIdeal.nD Cert.FinalSIdeal.τ).loc Cert.FinalSIdeal.main_arg2)
      ∧ m' ((c.tc : Thread Cert.RefFinalSIdeal.nD Cert.RefFinalSIdeal.τ).loc Cert.RefFinalSIdeal.main_arg3) = m ((c.tc : Thread Cert.FinalSIdeal.nD Cert.FinalSIdeal.τ).loc Cert.FinalSIdeal.main_arg3)
      ∧ m' ((c.tc : Thread Cert.RefFinalSIdeal.nD Cert.RefFinalSIdeal.τ).loc Cert.RefFinalSIdeal.main_arg4) = m ((c.tc : Thread Cert.FinalSIdeal.nD Cert.FinalSIdeal.τ).loc Cert.FinalSIdeal.main_arg4)) →
    ∃ (v0 : (c : Dev Cert.FinalSIdeal.nD) → Buf (Elt Ideal) ((c.tc : Thread Cert.FinalSIdeal.nD Cert.FinalSIdeal.τ).loc Cert.FinalSIdeal.main_v7)),
      θ_run (Cert.FinalSIdeal.defs (F := Ideal)) (onTc (τ := Cert.FinalSIdeal.τ) (Cert.FinalSIdeal.main (F := Ideal))) ⟨m, fun _ => 0, g⟩ (fun r => ∀ c : Dev Cert.FinalSIdeal.nD,
          r.2.mem ((c.tc : Thread Cert.FinalSIdeal.nD Cert.FinalSIdeal.τ).loc Cert.FinalSIdeal.main_v7) = v0 c
          ∧ r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
          ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1)
          ∧ r.2.mem ((c.tc : Thread Cert.FinalSIdeal.nD Cert.FinalSIdeal.τ).loc Cert.FinalSIdeal.main_arg2) = m ((c.tc : Thread Cert.FinalSIdeal.nD Cert.FinalSIdeal.τ).loc Cert.FinalSIdeal.main_arg2)
          ∧ r.2.mem ((c.tc : Thread Cert.FinalSIdeal.nD Cert.FinalSIdeal.τ).loc Cert.FinalSIdeal.main_arg3) = m ((c.tc : Thread Cert.FinalSIdeal.nD Cert.FinalSIdeal.τ).loc Cert.FinalSIdeal.main_arg3)
          ∧ r.2.mem ((c.tc : Thread Cert.FinalSIdeal.nD Cert.FinalSIdeal.τ).loc Cert.FinalSIdeal.main_arg4) = m ((c.tc : Thread Cert.FinalSIdeal.nD Cert.FinalSIdeal.τ).loc Cert.FinalSIdeal.main_arg4))
      ∧ θ_run (Cert.RefFinalSIdeal.defs (F := Ideal)) (onTc (τ := Cert.RefFinalSIdeal.τ) (Cert.RefFinalSIdeal.main (F := Ideal))) ⟨m', fun _ => 0, g'⟩ (fun r => ∀ c : Dev Cert.RefFinalSIdeal.nD,
          r.2.mem ((c.tc : Thread Cert.RefFinalSIdeal.nD Cert.RefFinalSIdeal.τ).loc Cert.RefFinalSIdeal.main_v27) = v0 c
          ∧ r.2.mem ((c.tc : Thread Cert.RefFinalSIdeal.nD Cert.RefFinalSIdeal.τ).loc Cert.RefFinalSIdeal.main_arg0) = m' ((c.tc : Thread Cert.RefFinalSIdeal.nD Cert.RefFinalSIdeal.τ).loc Cert.RefFinalSIdeal.main_arg0)
          ∧ r.2.mem ((c.tc : Thread Cert.RefFinalSIdeal.nD Cert.RefFinalSIdeal.τ).loc Cert.RefFinalSIdeal.main_arg1) = m' ((c.tc : Thread Cert.RefFinalSIdeal.nD Cert.RefFinalSIdeal.τ).loc Cert.RefFinalSIdeal.main_arg1)
          ∧ r.2.mem ((c.tc : Thread Cert.RefFinalSIdeal.nD Cert.RefFinalSIdeal.τ).loc Cert.RefFinalSIdeal.main_arg2) = m' ((c.tc : Thread Cert.RefFinalSIdeal.nD Cert.RefFinalSIdeal.τ).loc Cert.RefFinalSIdeal.main_arg2)
          ∧ r.2.mem ((c.tc : Thread Cert.RefFinalSIdeal.nD Cert.RefFinalSIdeal.τ).loc Cert.RefFinalSIdeal.main_arg3) = m' ((c.tc : Thread Cert.RefFinalSIdeal.nD Cert.RefFinalSIdeal.τ).loc Cert.RefFinalSIdeal.main_arg3)
          ∧ r.2.mem ((c.tc : Thread Cert.RefFinalSIdeal.nD Cert.RefFinalSIdeal.τ).loc Cert.RefFinalSIdeal.main_arg4) = m' ((c.tc : Thread Cert.RefFinalSIdeal.nD Cert.RefFinalSIdeal.τ).loc Cert.RefFinalSIdeal.main_arg4))

def preserves_Step_StepIdeal : Prop :=
  True

def algebraic_StepIdeal_RefStepIdeal [hStepIdeal : Cert.StepIdeal.Facts] [hRefStepIdeal : Cert.RefStepIdeal.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.RefStepIdeal.nD Cert.RefStepIdeal.τ Cert.RefStepIdeal.sig) → Buf (Elt Ideal) ℓ) (g' : Dev Cert.RefStepIdeal.nD → PrngReg), Pre_StepIdeal m →
    (∀ c : Dev Cert.StepIdeal.nD,
      m' ((c.tc : Thread Cert.RefStepIdeal.nD Cert.RefStepIdeal.τ).loc Cert.RefStepIdeal.main_arg0) = m ((c.tc : Thread Cert.StepIdeal.nD Cert.StepIdeal.τ).loc Cert.StepIdeal.main_arg0)
      ∧ m' ((c.tc : Thread Cert.RefStepIdeal.nD Cert.RefStepIdeal.τ).loc Cert.RefStepIdeal.main_arg1) = m ((c.tc : Thread Cert.StepIdeal.nD Cert.StepIdeal.τ).loc Cert.StepIdeal.main_arg1)
      ∧ m' ((c.tc : Thread Cert.RefStepIdeal.nD Cert.RefStepIdeal.τ).loc Cert.RefStepIdeal.main_arg2) = m ((c.tc : Thread Cert.StepIdeal.nD Cert.StepIdeal.τ).loc Cert.StepIdeal.main_arg2)
      ∧ m' ((c.tc : Thread Cert.RefStepIdeal.nD Cert.RefStepIdeal.τ).loc Cert.RefStepIdeal.main_arg3) = m ((c.tc : Thread Cert.StepIdeal.nD Cert.StepIdeal.τ).loc Cert.StepIdeal.main_arg3)
      ∧ m' ((c.tc : Thread Cert.RefStepIdeal.nD Cert.RefStepIdeal.τ).loc Cert.RefStepIdeal.main_arg4) = m ((c.tc : Thread Cert.StepIdeal.nD Cert.StepIdeal.τ).loc Cert.StepIdeal.main_arg4)
      ∧ m' ((c.tc : Thread Cert.RefStepIdeal.nD Cert.RefStepIdeal.τ).loc Cert.RefStepIdeal.main_arg5) = m ((c.tc : Thread Cert.StepIdeal.nD Cert.StepIdeal.τ).loc Cert.StepIdeal.main_arg5)
      ∧ m' ((c.tc : Thread Cert.RefStepIdeal.nD Cert.RefStepIdeal.τ).loc Cert.RefStepIdeal.main_arg6) = m ((c.tc : Thread Cert.StepIdeal.nD Cert.StepIdeal.τ).loc Cert.StepIdeal.main_arg6)
      ∧ m' ((c.tc : Thread Cert.RefStepIdeal.nD Cert.RefStepIdeal.τ).loc Cert.RefStepIdeal.main_arg7) = m ((c.tc : Thread Cert.StepIdeal.nD Cert.StepIdeal.τ).loc Cert.StepIdeal.main_arg7)
      ∧ m' ((c.tc : Thread Cert.RefStepIdeal.nD Cert.RefStepIdeal.τ).loc Cert.RefStepIdeal.main_arg8) = m ((c.tc : Thread Cert.StepIdeal.nD Cert.StepIdeal.τ).loc Cert.StepIdeal.main_arg8)) →
    ∃ (v0 : (c : Dev Cert.StepIdeal.nD) → Buf (Elt Ideal) ((c.tc : Thread Cert.StepIdeal.nD Cert.StepIdeal.τ).loc Cert.StepIdeal.main_v8_0)) (v1 : (c : Dev Cert.StepIdeal.nD) → Buf (Elt Ideal) ((c.tc : Thread Cert.StepIdeal.nD Cert.StepIdeal.τ).loc Cert.StepIdeal.main_v8_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v8_0) = v0 c
          ∧ r.2.mem ((c.tc : Thread Cert.StepIdeal.nD Cert.StepIdeal.τ).loc Cert.StepIdeal.main_v8_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
          ∧ r.2.mem ((c.tc : Thread Cert.StepIdeal.nD Cert.StepIdeal.τ).loc Cert.StepIdeal.main_arg8) = m ((c.tc : Thread Cert.StepIdeal.nD Cert.StepIdeal.τ).loc Cert.StepIdeal.main_arg8))
      ∧ θ_run (Cert.RefStepIdeal.defs (F := Ideal)) (onTc (τ := Cert.RefStepIdeal.τ) (Cert.RefStepIdeal.main (F := Ideal))) ⟨m', fun _ => 0, g'⟩ (fun r => ∀ c : Dev Cert.RefStepIdeal.nD,
          r.2.mem ((c.tc : Thread Cert.RefStepIdeal.nD Cert.RefStepIdeal.τ).loc Cert.RefStepIdeal.main_v40) = v0 c
          ∧ r.2.mem ((c.tc : Thread Cert.RefStepIdeal.nD Cert.RefStepIdeal.τ).loc Cert.RefStepIdeal.main_v41) = v1 c
          ∧ r.2.mem ((c.tc : Thread Cert.RefStepIdeal.nD Cert.RefStepIdeal.τ).loc Cert.RefStepIdeal.main_arg0) = m' ((c.tc : Thread Cert.RefStepIdeal.nD Cert.RefStepIdeal.τ).loc Cert.RefStepIdeal.main_arg0)
          ∧ r.2.mem ((c.tc : Thread Cert.RefStepIdeal.nD Cert.RefStepIdeal.τ).loc Cert.RefStepIdeal.main_arg1) = m' ((c.tc : Thread Cert.RefStepIdeal.nD Cert.RefStepIdeal.τ).loc Cert.RefStepIdeal.main_arg1)
          ∧ r.2.mem ((c.tc : Thread Cert.RefStepIdeal.nD Cert.RefStepIdeal.τ).loc Cert.RefStepIdeal.main_arg2) = m' ((c.tc : Thread Cert.RefStepIdeal.nD Cert.RefStepIdeal.τ).loc Cert.RefStepIdeal.main_arg2)
          ∧ r.2.mem ((c.tc : Thread Cert.RefStepIdeal.nD Cert.RefStepIdeal.τ).loc Cert.RefStepIdeal.main_arg3) = m' ((c.tc : Thread Cert.RefStepIdeal.nD Cert.RefStepIdeal.τ).loc Cert.RefStepIdeal.main_arg3)
          ∧ r.2.mem ((c.tc : Thread Cert.RefStepIdeal.nD Cert.RefStepIdeal.τ).loc Cert.RefStepIdeal.main_arg4) = m' ((c.tc : Thread Cert.RefStepIdeal.nD Cert.RefStepIdeal.τ).loc Cert.RefStepIdeal.main_arg4)
          ∧ r.2.mem ((c.tc : Thread Cert.RefStepIdeal.nD Cert.RefStepIdeal.τ).loc Cert.RefStepIdeal.main_arg5) = m' ((c.tc : Thread Cert.RefStepIdeal.nD Cert.RefStepIdeal.τ).loc Cert.RefStepIdeal.main_arg5)
          ∧ r.2.mem ((c.tc : Thread Cert.RefStepIdeal.nD Cert.RefStepIdeal.τ).loc Cert.RefStepIdeal.main_arg6) = m' ((c.tc : Thread Cert.RefStepIdeal.nD Cert.RefStepIdeal.τ).loc Cert.RefStepIdeal.main_arg6)
          ∧ r.2.mem ((c.tc : Thread Cert.RefStepIdeal.nD Cert.RefStepIdeal.τ).loc Cert.RefStepIdeal.main_arg7) = m' ((c.tc : Thread Cert.RefStepIdeal.nD Cert.RefStepIdeal.τ).loc Cert.RefStepIdeal.main_arg7)
          ∧ r.2.mem ((c.tc : Thread Cert.RefStepIdeal.nD Cert.RefStepIdeal.τ).loc Cert.RefStepIdeal.main_arg8) = m' ((c.tc : Thread Cert.RefStepIdeal.nD Cert.RefStepIdeal.τ).loc Cert.RefStepIdeal.main_arg8))

def preserves_Outproj_OutprojIdeal : Prop :=
  True

def algebraic_OutprojIdeal_RefOutprojIdeal [hOutprojIdeal : Cert.OutprojIdeal.Facts] [hRefOutprojIdeal : Cert.RefOutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.RefOutprojIdeal.nD Cert.RefOutprojIdeal.τ Cert.RefOutprojIdeal.sig) → Buf (Elt Ideal) ℓ) (g' : Dev Cert.RefOutprojIdeal.nD → PrngReg), Pre_OutprojIdeal m →
    (∀ c : Dev Cert.OutprojIdeal.nD,
      m' ((c.tc : Thread Cert.RefOutprojIdeal.nD Cert.RefOutprojIdeal.τ).loc Cert.RefOutprojIdeal.main_arg0) = m ((c.tc : Thread Cert.OutprojIdeal.nD Cert.OutprojIdeal.τ).loc Cert.OutprojIdeal.main_arg0)
      ∧ m' ((c.tc : Thread Cert.RefOutprojIdeal.nD Cert.RefOutprojIdeal.τ).loc Cert.RefOutprojIdeal.main_arg1) = m ((c.tc : Thread Cert.OutprojIdeal.nD Cert.OutprojIdeal.τ).loc Cert.OutprojIdeal.main_arg1)
      ∧ m' ((c.tc : Thread Cert.RefOutprojIdeal.nD Cert.RefOutprojIdeal.τ).loc Cert.RefOutprojIdeal.main_arg2) = m ((c.tc : Thread Cert.OutprojIdeal.nD Cert.OutprojIdeal.τ).loc Cert.OutprojIdeal.main_arg2)) →
    ∃ (v0 : (c : Dev Cert.OutprojIdeal.nD) → Buf (Elt Ideal) ((c.tc : Thread Cert.OutprojIdeal.nD Cert.OutprojIdeal.τ).loc Cert.OutprojIdeal.main_v2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v2) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2))
      ∧ θ_run (Cert.RefOutprojIdeal.defs (F := Ideal)) (onTc (τ := Cert.RefOutprojIdeal.τ) (Cert.RefOutprojIdeal.main (F := Ideal))) ⟨m', fun _ => 0, g'⟩ (fun r => ∀ c : Dev Cert.RefOutprojIdeal.nD,
          r.2.mem ((c.tc : Thread Cert.RefOutprojIdeal.nD Cert.RefOutprojIdeal.τ).loc Cert.RefOutprojIdeal.main_v6) = v0 c
          ∧ r.2.mem ((c.tc : Thread Cert.RefOutprojIdeal.nD Cert.RefOutprojIdeal.τ).loc Cert.RefOutprojIdeal.main_arg0) = m' ((c.tc : Thread Cert.RefOutprojIdeal.nD Cert.RefOutprojIdeal.τ).loc Cert.RefOutprojIdeal.main_arg0)
          ∧ r.2.mem ((c.tc : Thread Cert.RefOutprojIdeal.nD Cert.RefOutprojIdeal.τ).loc Cert.RefOutprojIdeal.main_arg1) = m' ((c.tc : Thread Cert.RefOutprojIdeal.nD Cert.RefOutprojIdeal.τ).loc Cert.RefOutprojIdeal.main_arg1)
          ∧ r.2.mem ((c.tc : Thread Cert.RefOutprojIdeal.nD Cert.RefOutprojIdeal.τ).loc Cert.RefOutprojIdeal.main_arg2) = m' ((c.tc : Thread Cert.RefOutprojIdeal.nD Cert.RefOutprojIdeal.τ).loc Cert.RefOutprojIdeal.main_arg2))

def preserves_OutprojS_OutprojSIdeal : Prop :=
  True

def algebraic_OutprojSIdeal_RefOutprojSIdeal [hOutprojSIdeal : Cert.OutprojSIdeal.Facts] [hRefOutprojSIdeal : Cert.RefOutprojSIdeal.Facts] : Prop :=
  ∀ (m : (ℓ : Loc Cert.OutprojSIdeal.nD Cert.OutprojSIdeal.τ Cert.OutprojSIdeal.sig) → Buf (Elt Ideal) ℓ) (g : Dev Cert.OutprojSIdeal.nD → PrngReg)
    (m' : (ℓ : Loc Cert.RefOutprojSIdeal.nD Cert.RefOutprojSIdeal.τ Cert.RefOutprojSIdeal.sig) → Buf (Elt Ideal) ℓ) (g' : Dev Cert.RefOutprojSIdeal.nD → PrngReg), Pre_OutprojSIdeal m →
    (∀ c : Dev Cert.OutprojSIdeal.nD,
      m' ((c.tc : Thread Cert.RefOutprojSIdeal.nD Cert.RefOutprojSIdeal.τ).loc Cert.RefOutprojSIdeal.main_arg0) = m ((c.tc : Thread Cert.OutprojSIdeal.nD Cert.OutprojSIdeal.τ).loc Cert.OutprojSIdeal.main_arg0)
      ∧ m' ((c.tc : Thread Cert.RefOutprojSIdeal.nD Cert.RefOutprojSIdeal.τ).loc Cert.RefOutprojSIdeal.main_arg1) = m ((c.tc : Thread Cert.OutprojSIdeal.nD Cert.OutprojSIdeal.τ).loc Cert.OutprojSIdeal.main_arg1)
      ∧ m' ((c.tc : Thread Cert.RefOutprojSIdeal.nD Cert.RefOutprojSIdeal.τ).loc Cert.RefOutprojSIdeal.main_arg2) = m ((c.tc : Thread Cert.OutprojSIdeal.nD Cert.OutprojSIdeal.τ).loc Cert.OutprojSIdeal.main_arg2)) →
    ∃ (v0 : (c : Dev Cert.OutprojSIdeal.nD) → Buf (Elt Ideal) ((c.tc : Thread Cert.OutprojSIdeal.nD Cert.OutprojSIdeal.τ).loc Cert.OutprojSIdeal.main_v2)),
      θ_run (Cert.OutprojSIdeal.defs (F := Ideal)) (onTc (τ := Cert.OutprojSIdeal.τ) (Cert.OutprojSIdeal.main (F := Ideal))) ⟨m, fun _ => 0, g⟩ (fun r => ∀ c : Dev Cert.OutprojSIdeal.nD,
          r.2.mem ((c.tc : Thread Cert.OutprojSIdeal.nD Cert.OutprojSIdeal.τ).loc Cert.OutprojSIdeal.main_v2) = v0 c
          ∧ r.2.mem ((c.tc : Thread Cert.OutprojSIdeal.nD Cert.OutprojSIdeal.τ).loc Cert.OutprojSIdeal.main_arg0) = m ((c.tc : Thread Cert.OutprojSIdeal.nD Cert.OutprojSIdeal.τ).loc Cert.OutprojSIdeal.main_arg0)
          ∧ r.2.mem ((c.tc : Thread Cert.OutprojSIdeal.nD Cert.OutprojSIdeal.τ).loc Cert.OutprojSIdeal.main_arg1) = m ((c.tc : Thread Cert.OutprojSIdeal.nD Cert.OutprojSIdeal.τ).loc Cert.OutprojSIdeal.main_arg1)
          ∧ r.2.mem ((c.tc : Thread Cert.OutprojSIdeal.nD Cert.OutprojSIdeal.τ).loc Cert.OutprojSIdeal.main_arg2) = m ((c.tc : Thread Cert.OutprojSIdeal.nD Cert.OutprojSIdeal.τ).loc Cert.OutprojSIdeal.main_arg2))
      ∧ θ_run (Cert.RefOutprojSIdeal.defs (F := Ideal)) (onTc (τ := Cert.RefOutprojSIdeal.τ) (Cert.RefOutprojSIdeal.main (F := Ideal))) ⟨m', fun _ => 0, g'⟩ (fun r => ∀ c : Dev Cert.RefOutprojSIdeal.nD,
          r.2.mem ((c.tc : Thread Cert.RefOutprojSIdeal.nD Cert.RefOutprojSIdeal.τ).loc Cert.RefOutprojSIdeal.main_v6) = v0 c
          ∧ r.2.mem ((c.tc : Thread Cert.RefOutprojSIdeal.nD Cert.RefOutprojSIdeal.τ).loc Cert.RefOutprojSIdeal.main_arg0) = m' ((c.tc : Thread Cert.RefOutprojSIdeal.nD Cert.RefOutprojSIdeal.τ).loc Cert.RefOutprojSIdeal.main_arg0)
          ∧ r.2.mem ((c.tc : Thread Cert.RefOutprojSIdeal.nD Cert.RefOutprojSIdeal.τ).loc Cert.RefOutprojSIdeal.main_arg1) = m' ((c.tc : Thread Cert.RefOutprojSIdeal.nD Cert.RefOutprojSIdeal.τ).loc Cert.RefOutprojSIdeal.main_arg1)
          ∧ r.2.mem ((c.tc : Thread Cert.RefOutprojSIdeal.nD Cert.RefOutprojSIdeal.τ).loc Cert.RefOutprojSIdeal.main_arg2) = m' ((c.tc : Thread Cert.RefOutprojSIdeal.nD Cert.RefOutprojSIdeal.τ).loc Cert.RefOutprojSIdeal.main_arg2))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v27) = v0 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4))

def preserves_MergeS_MergeSIdeal : Prop :=
  True

def algebraic_MergeSIdeal_RefMergeSIdeal [hMergeSIdeal : Cert.MergeSIdeal.Facts] [hRefMergeSIdeal : Cert.RefMergeSIdeal.Facts] : Prop :=
  ∀ (m : (ℓ : Loc Cert.MergeSIdeal.nD Cert.MergeSIdeal.τ Cert.MergeSIdeal.sig) → Buf (Elt Ideal) ℓ) (g : Dev Cert.MergeSIdeal.nD → PrngReg)
    (m' : (ℓ : Loc Cert.RefMergeSIdeal.nD Cert.RefMergeSIdeal.τ Cert.RefMergeSIdeal.sig) → Buf (Elt Ideal) ℓ) (g' : Dev Cert.RefMergeSIdeal.nD → PrngReg), Pre_MergeSIdeal m →
    (∀ c : Dev Cert.MergeSIdeal.nD,
      m' ((c.tc : Thread Cert.RefMergeSIdeal.nD Cert.RefMergeSIdeal.τ).loc Cert.RefMergeSIdeal.main_arg0) = m ((c.tc : Thread Cert.MergeSIdeal.nD Cert.MergeSIdeal.τ).loc Cert.MergeSIdeal.main_arg0)
      ∧ m' ((c.tc : Thread Cert.RefMergeSIdeal.nD Cert.RefMergeSIdeal.τ).loc Cert.RefMergeSIdeal.main_arg1) = m ((c.tc : Thread Cert.MergeSIdeal.nD Cert.MergeSIdeal.τ).loc Cert.MergeSIdeal.main_arg1)
      ∧ m' ((c.tc : Thread Cert.RefMergeSIdeal.nD Cert.RefMergeSIdeal.τ).loc Cert.RefMergeSIdeal.main_arg2) = m ((c.tc : Thread Cert.MergeSIdeal.nD Cert.MergeSIdeal.τ).loc Cert.MergeSIdeal.main_arg2)
      ∧ m' ((c.tc : Thread Cert.RefMergeSIdeal.nD Cert.RefMergeSIdeal.τ).loc Cert.RefMergeSIdeal.main_arg3) = m ((c.tc : Thread Cert.MergeSIdeal.nD Cert.MergeSIdeal.τ).loc Cert.MergeSIdeal.main_arg3)
      ∧ m' ((c.tc : Thread Cert.RefMergeSIdeal.nD Cert.RefMergeSIdeal.τ).loc Cert.RefMergeSIdeal.main_arg4) = m ((c.tc : Thread Cert.MergeSIdeal.nD Cert.MergeSIdeal.τ).loc Cert.MergeSIdeal.main_arg4)) →
    ∃ (v0 : (c : Dev Cert.MergeSIdeal.nD) → Buf (Elt Ideal) ((c.tc : Thread Cert.MergeSIdeal.nD Cert.MergeSIdeal.τ).loc Cert.MergeSIdeal.main_v4)),
      θ_run (Cert.MergeSIdeal.defs (F := Ideal)) (onTc (τ := Cert.MergeSIdeal.τ) (Cert.MergeSIdeal.main (F := Ideal))) ⟨m, fun _ => 0, g⟩ (fun r => ∀ c : Dev Cert.MergeSIdeal.nD,
          r.2.mem ((c.tc : Thread Cert.MergeSIdeal.nD Cert.MergeSIdeal.τ).loc Cert.MergeSIdeal.main_v4) = v0 c
          ∧ r.2.mem ((c.tc : Thread Cert.MergeSIdeal.nD Cert.MergeSIdeal.τ).loc Cert.MergeSIdeal.main_arg0) = m ((c.tc : Thread Cert.MergeSIdeal.nD Cert.MergeSIdeal.τ).loc Cert.MergeSIdeal.main_arg0)
          ∧ r.2.mem ((c.tc : Thread Cert.MergeSIdeal.nD Cert.MergeSIdeal.τ).loc Cert.MergeSIdeal.main_arg1) = m ((c.tc : Thread Cert.MergeSIdeal.nD Cert.MergeSIdeal.τ).loc Cert.MergeSIdeal.main_arg1)
          ∧ r.2.mem ((c.tc : Thread Cert.MergeSIdeal.nD Cert.MergeSIdeal.τ).loc Cert.MergeSIdeal.main_arg2) = m ((c.tc : Thread Cert.MergeSIdeal.nD Cert.MergeSIdeal.τ).loc Cert.MergeSIdeal.main_arg2)
          ∧ r.2.mem ((c.tc : Thread Cert.MergeSIdeal.nD Cert.MergeSIdeal.τ).loc Cert.MergeSIdeal.main_arg3) = m ((c.tc : Thread Cert.MergeSIdeal.nD Cert.MergeSIdeal.τ).loc Cert.MergeSIdeal.main_arg3)
          ∧ r.2.mem ((c.tc : Thread Cert.MergeSIdeal.nD Cert.MergeSIdeal.τ).loc Cert.MergeSIdeal.main_arg4) = m ((c.tc : Thread Cert.MergeSIdeal.nD Cert.MergeSIdeal.τ).loc Cert.MergeSIdeal.main_arg4))
      ∧ θ_run (Cert.RefMergeSIdeal.defs (F := Ideal)) (onTc (τ := Cert.RefMergeSIdeal.τ) (Cert.RefMergeSIdeal.main (F := Ideal))) ⟨m', fun _ => 0, g'⟩ (fun r => ∀ c : Dev Cert.RefMergeSIdeal.nD,
          r.2.mem ((c.tc : Thread Cert.RefMergeSIdeal.nD Cert.RefMergeSIdeal.τ).loc Cert.RefMergeSIdeal.main_v27) = v0 c
          ∧ r.2.mem ((c.tc : Thread Cert.RefMergeSIdeal.nD Cert.RefMergeSIdeal.τ).loc Cert.RefMergeSIdeal.main_arg0) = m' ((c.tc : Thread Cert.RefMergeSIdeal.nD Cert.RefMergeSIdeal.τ).loc Cert.RefMergeSIdeal.main_arg0)
          ∧ r.2.mem ((c.tc : Thread Cert.RefMergeSIdeal.nD Cert.RefMergeSIdeal.τ).loc Cert.RefMergeSIdeal.main_arg1) = m' ((c.tc : Thread Cert.RefMergeSIdeal.nD Cert.RefMergeSIdeal.τ).loc Cert.RefMergeSIdeal.main_arg1)
          ∧ r.2.mem ((c.tc : Thread Cert.RefMergeSIdeal.nD Cert.RefMergeSIdeal.τ).loc Cert.RefMergeSIdeal.main_arg2) = m' ((c.tc : Thread Cert.RefMergeSIdeal.nD Cert.RefMergeSIdeal.τ).loc Cert.RefMergeSIdeal.main_arg2)
          ∧ r.2.mem ((c.tc : Thread Cert.RefMergeSIdeal.nD Cert.RefMergeSIdeal.τ).loc Cert.RefMergeSIdeal.main_arg3) = m' ((c.tc : Thread Cert.RefMergeSIdeal.nD Cert.RefMergeSIdeal.τ).loc Cert.RefMergeSIdeal.main_arg3)
          ∧ r.2.mem ((c.tc : Thread Cert.RefMergeSIdeal.nD Cert.RefMergeSIdeal.τ).loc Cert.RefMergeSIdeal.main_arg4) = m' ((c.tc : Thread Cert.RefMergeSIdeal.nD Cert.RefMergeSIdeal.τ).loc Cert.RefMergeSIdeal.main_arg4))

def preserves_NormIn_NormInIdeal : Prop :=
  True

def algebraic_NormInIdeal_RefNormInIdeal [hNormInIdeal : Cert.NormInIdeal.Facts] [hRefNormInIdeal : Cert.RefNormInIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.RefNormInIdeal.nD Cert.RefNormInIdeal.τ Cert.RefNormInIdeal.sig) → Buf (Elt Ideal) ℓ) (g' : Dev Cert.RefNormInIdeal.nD → PrngReg), Pre_NormInIdeal m →
    (∀ c : Dev Cert.NormInIdeal.nD,
      m' ((c.tc : Thread Cert.RefNormInIdeal.nD Cert.RefNormInIdeal.τ).loc Cert.RefNormInIdeal.main_arg0) = m ((c.tc : Thread Cert.NormInIdeal.nD Cert.NormInIdeal.τ).loc Cert.NormInIdeal.main_arg0)
      ∧ m' ((c.tc : Thread Cert.RefNormInIdeal.nD Cert.RefNormInIdeal.τ).loc Cert.RefNormInIdeal.main_arg1) = m ((c.tc : Thread Cert.NormInIdeal.nD Cert.NormInIdeal.τ).loc Cert.NormInIdeal.main_arg1)
      ∧ m' ((c.tc : Thread Cert.RefNormInIdeal.nD Cert.RefNormInIdeal.τ).loc Cert.RefNormInIdeal.main_arg2) = m ((c.tc : Thread Cert.NormInIdeal.nD Cert.NormInIdeal.τ).loc Cert.NormInIdeal.main_arg2)) →
    ∃ (v0 : (c : Dev Cert.NormInIdeal.nD) → Buf (Elt Ideal) ((c.tc : Thread Cert.NormInIdeal.nD Cert.NormInIdeal.τ).loc Cert.NormInIdeal.main_v2_0)) (v1 : (c : Dev Cert.NormInIdeal.nD) → Buf (Elt Ideal) ((c.tc : Thread Cert.NormInIdeal.nD Cert.NormInIdeal.τ).loc Cert.NormInIdeal.main_v2_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v2_0) = v0 c
          ∧ r.2.mem ((c.tc : Thread Cert.NormInIdeal.nD Cert.NormInIdeal.τ).loc Cert.NormInIdeal.main_v2_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2))
      ∧ θ_run (Cert.RefNormInIdeal.defs (F := Ideal)) (onTc (τ := Cert.RefNormInIdeal.τ) (Cert.RefNormInIdeal.main (F := Ideal))) ⟨m', fun _ => 0, g'⟩ (fun r => ∀ c : Dev Cert.RefNormInIdeal.nD,
          r.2.mem ((c.tc : Thread Cert.RefNormInIdeal.nD Cert.RefNormInIdeal.τ).loc Cert.RefNormInIdeal.main_v19) = v0 c
          ∧ r.2.mem ((c.tc : Thread Cert.RefNormInIdeal.nD Cert.RefNormInIdeal.τ).loc Cert.RefNormInIdeal.main_v20) = v1 c
          ∧ r.2.mem ((c.tc : Thread Cert.RefNormInIdeal.nD Cert.RefNormInIdeal.τ).loc Cert.RefNormInIdeal.main_arg0) = m' ((c.tc : Thread Cert.RefNormInIdeal.nD Cert.RefNormInIdeal.τ).loc Cert.RefNormInIdeal.main_arg0)
          ∧ r.2.mem ((c.tc : Thread Cert.RefNormInIdeal.nD Cert.RefNormInIdeal.τ).loc Cert.RefNormInIdeal.main_arg1) = m' ((c.tc : Thread Cert.RefNormInIdeal.nD Cert.RefNormInIdeal.τ).loc Cert.RefNormInIdeal.main_arg1)
          ∧ r.2.mem ((c.tc : Thread Cert.RefNormInIdeal.nD Cert.RefNormInIdeal.τ).loc Cert.RefNormInIdeal.main_arg2) = m' ((c.tc : Thread Cert.RefNormInIdeal.nD Cert.RefNormInIdeal.τ).loc Cert.RefNormInIdeal.main_arg2))

def preserves_NormInS_NormInSIdeal : Prop :=
  True

def algebraic_NormInSIdeal_RefNormInSIdeal [hNormInSIdeal : Cert.NormInSIdeal.Facts] [hRefNormInSIdeal : Cert.RefNormInSIdeal.Facts] : Prop :=
  ∀ (m : (ℓ : Loc Cert.NormInSIdeal.nD Cert.NormInSIdeal.τ Cert.NormInSIdeal.sig) → Buf (Elt Ideal) ℓ) (g : Dev Cert.NormInSIdeal.nD → PrngReg)
    (m' : (ℓ : Loc Cert.RefNormInSIdeal.nD Cert.RefNormInSIdeal.τ Cert.RefNormInSIdeal.sig) → Buf (Elt Ideal) ℓ) (g' : Dev Cert.RefNormInSIdeal.nD → PrngReg), Pre_NormInSIdeal m →
    (∀ c : Dev Cert.NormInSIdeal.nD,
      m' ((c.tc : Thread Cert.RefNormInSIdeal.nD Cert.RefNormInSIdeal.τ).loc Cert.RefNormInSIdeal.main_arg0) = m ((c.tc : Thread Cert.NormInSIdeal.nD Cert.NormInSIdeal.τ).loc Cert.NormInSIdeal.main_arg0)
      ∧ m' ((c.tc : Thread Cert.RefNormInSIdeal.nD Cert.RefNormInSIdeal.τ).loc Cert.RefNormInSIdeal.main_arg1) = m ((c.tc : Thread Cert.NormInSIdeal.nD Cert.NormInSIdeal.τ).loc Cert.NormInSIdeal.main_arg1)
      ∧ m' ((c.tc : Thread Cert.RefNormInSIdeal.nD Cert.RefNormInSIdeal.τ).loc Cert.RefNormInSIdeal.main_arg2) = m ((c.tc : Thread Cert.NormInSIdeal.nD Cert.NormInSIdeal.τ).loc Cert.NormInSIdeal.main_arg2)) →
    ∃ (v0 : (c : Dev Cert.NormInSIdeal.nD) → Buf (Elt Ideal) ((c.tc : Thread Cert.NormInSIdeal.nD Cert.NormInSIdeal.τ).loc Cert.NormInSIdeal.main_v2_0)) (v1 : (c : Dev Cert.NormInSIdeal.nD) → Buf (Elt Ideal) ((c.tc : Thread Cert.NormInSIdeal.nD Cert.NormInSIdeal.τ).loc Cert.NormInSIdeal.main_v2_1)),
      θ_run (Cert.NormInSIdeal.defs (F := Ideal)) (onTc (τ := Cert.NormInSIdeal.τ) (Cert.NormInSIdeal.main (F := Ideal))) ⟨m, fun _ => 0, g⟩ (fun r => ∀ c : Dev Cert.NormInSIdeal.nD,
          r.2.mem ((c.tc : Thread Cert.NormInSIdeal.nD Cert.NormInSIdeal.τ).loc Cert.NormInSIdeal.main_v2_0) = v0 c
          ∧ r.2.mem ((c.tc : Thread Cert.NormInSIdeal.nD Cert.NormInSIdeal.τ).loc Cert.NormInSIdeal.main_v2_1) = v1 c
          ∧ r.2.mem ((c.tc : Thread Cert.NormInSIdeal.nD Cert.NormInSIdeal.τ).loc Cert.NormInSIdeal.main_arg0) = m ((c.tc : Thread Cert.NormInSIdeal.nD Cert.NormInSIdeal.τ).loc Cert.NormInSIdeal.main_arg0)
          ∧ r.2.mem ((c.tc : Thread Cert.NormInSIdeal.nD Cert.NormInSIdeal.τ).loc Cert.NormInSIdeal.main_arg1) = m ((c.tc : Thread Cert.NormInSIdeal.nD Cert.NormInSIdeal.τ).loc Cert.NormInSIdeal.main_arg1)
          ∧ r.2.mem ((c.tc : Thread Cert.NormInSIdeal.nD Cert.NormInSIdeal.τ).loc Cert.NormInSIdeal.main_arg2) = m ((c.tc : Thread Cert.NormInSIdeal.nD Cert.NormInSIdeal.τ).loc Cert.NormInSIdeal.main_arg2))
      ∧ θ_run (Cert.RefNormInSIdeal.defs (F := Ideal)) (onTc (τ := Cert.RefNormInSIdeal.τ) (Cert.RefNormInSIdeal.main (F := Ideal))) ⟨m', fun _ => 0, g'⟩ (fun r => ∀ c : Dev Cert.RefNormInSIdeal.nD,
          r.2.mem ((c.tc : Thread Cert.RefNormInSIdeal.nD Cert.RefNormInSIdeal.τ).loc Cert.RefNormInSIdeal.main_v19) = v0 c
          ∧ r.2.mem ((c.tc : Thread Cert.RefNormInSIdeal.nD Cert.RefNormInSIdeal.τ).loc Cert.RefNormInSIdeal.main_v20) = v1 c
          ∧ r.2.mem ((c.tc : Thread Cert.RefNormInSIdeal.nD Cert.RefNormInSIdeal.τ).loc Cert.RefNormInSIdeal.main_arg0) = m' ((c.tc : Thread Cert.RefNormInSIdeal.nD Cert.RefNormInSIdeal.τ).loc Cert.RefNormInSIdeal.main_arg0)
          ∧ r.2.mem ((c.tc : Thread Cert.RefNormInSIdeal.nD Cert.RefNormInSIdeal.τ).loc Cert.RefNormInSIdeal.main_arg1) = m' ((c.tc : Thread Cert.RefNormInSIdeal.nD Cert.RefNormInSIdeal.τ).loc Cert.RefNormInSIdeal.main_arg1)
          ∧ r.2.mem ((c.tc : Thread Cert.RefNormInSIdeal.nD Cert.RefNormInSIdeal.τ).loc Cert.RefNormInSIdeal.main_arg2) = m' ((c.tc : Thread Cert.RefNormInSIdeal.nD Cert.RefNormInSIdeal.τ).loc Cert.RefNormInSIdeal.main_arg2))

def preserves_FfnS_FfnSIdeal : Prop :=
  True

def algebraic_FfnSIdeal_RefFfnSIdeal [hFfnSIdeal : Cert.FfnSIdeal.Facts] [hRefFfnSIdeal : Cert.RefFfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.RefFfnSIdeal.nD Cert.RefFfnSIdeal.τ Cert.RefFfnSIdeal.sig) → Buf (Elt Ideal) ℓ) (g' : Dev Cert.RefFfnSIdeal.nD → PrngReg), Pre_FfnSIdeal m →
    (∀ c : Dev Cert.FfnSIdeal.nD,
      m' ((c.tc : Thread Cert.RefFfnSIdeal.nD Cert.RefFfnSIdeal.τ).loc Cert.RefFfnSIdeal.main_arg0) = m ((c.tc : Thread Cert.FfnSIdeal.nD Cert.FfnSIdeal.τ).loc Cert.FfnSIdeal.main_arg0)
      ∧ m' ((c.tc : Thread Cert.RefFfnSIdeal.nD Cert.RefFfnSIdeal.τ).loc Cert.RefFfnSIdeal.main_arg1) = m ((c.tc : Thread Cert.FfnSIdeal.nD Cert.FfnSIdeal.τ).loc Cert.FfnSIdeal.main_arg1)
      ∧ m' ((c.tc : Thread Cert.RefFfnSIdeal.nD Cert.RefFfnSIdeal.τ).loc Cert.RefFfnSIdeal.main_arg2) = m ((c.tc : Thread Cert.FfnSIdeal.nD Cert.FfnSIdeal.τ).loc Cert.FfnSIdeal.main_arg2)
      ∧ m' ((c.tc : Thread Cert.RefFfnSIdeal.nD Cert.RefFfnSIdeal.τ).loc Cert.RefFfnSIdeal.main_arg3) = m ((c.tc : Thread Cert.FfnSIdeal.nD Cert.FfnSIdeal.τ).loc Cert.FfnSIdeal.main_arg3)) →
    ∃ (v0 : (c : Dev Cert.FfnSIdeal.nD) → Buf (Elt Ideal) ((c.tc : Thread Cert.FfnSIdeal.nD Cert.FfnSIdeal.τ).loc Cert.FfnSIdeal.main_v2)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v2) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3))
      ∧ θ_run (Cert.RefFfnSIdeal.defs (F := Ideal)) (onTc (τ := Cert.RefFfnSIdeal.τ) (Cert.RefFfnSIdeal.main (F := Ideal))) ⟨m', fun _ => 0, g'⟩ (fun r => ∀ c : Dev Cert.RefFfnSIdeal.nD,
          r.2.mem ((c.tc : Thread Cert.RefFfnSIdeal.nD Cert.RefFfnSIdeal.τ).loc Cert.RefFfnSIdeal.main_v24) = v0 c
          ∧ r.2.mem ((c.tc : Thread Cert.RefFfnSIdeal.nD Cert.RefFfnSIdeal.τ).loc Cert.RefFfnSIdeal.main_arg0) = m' ((c.tc : Thread Cert.RefFfnSIdeal.nD Cert.RefFfnSIdeal.τ).loc Cert.RefFfnSIdeal.main_arg0)
          ∧ r.2.mem ((c.tc : Thread Cert.RefFfnSIdeal.nD Cert.RefFfnSIdeal.τ).loc Cert.RefFfnSIdeal.main_arg1) = m' ((c.tc : Thread Cert.RefFfnSIdeal.nD Cert.RefFfnSIdeal.τ).loc Cert.RefFfnSIdeal.main_arg1)
          ∧ r.2.mem ((c.tc : Thread Cert.RefFfnSIdeal.nD Cert.RefFfnSIdeal.τ).loc Cert.RefFfnSIdeal.main_arg2) = m' ((c.tc : Thread Cert.RefFfnSIdeal.nD Cert.RefFfnSIdeal.τ).loc Cert.RefFfnSIdeal.main_arg2)
          ∧ r.2.mem ((c.tc : Thread Cert.RefFfnSIdeal.nD Cert.RefFfnSIdeal.τ).loc Cert.RefFfnSIdeal.main_arg3) = m' ((c.tc : Thread Cert.RefFfnSIdeal.nD Cert.RefFfnSIdeal.τ).loc Cert.RefFfnSIdeal.main_arg3))

def preserves_Prep_PrepIdeal : Prop :=
  True

def algebraic_PrepIdeal_RefPrepIdeal [hPrepIdeal : Cert.PrepIdeal.Facts] [hRefPrepIdeal : Cert.RefPrepIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.RefPrepIdeal.nD Cert.RefPrepIdeal.τ Cert.RefPrepIdeal.sig) → Buf (Elt Ideal) ℓ) (g' : Dev Cert.RefPrepIdeal.nD → PrngReg), Pre_PrepIdeal m →
    (∀ c : Dev Cert.PrepIdeal.nD,
      m' ((c.tc : Thread Cert.RefPrepIdeal.nD Cert.RefPrepIdeal.τ).loc Cert.RefPrepIdeal.main_arg0) = m ((c.tc : Thread Cert.PrepIdeal.nD Cert.PrepIdeal.τ).loc Cert.PrepIdeal.main_arg0)
      ∧ m' ((c.tc : Thread Cert.RefPrepIdeal.nD Cert.RefPrepIdeal.τ).loc Cert.RefPrepIdeal.main_arg1) = m ((c.tc : Thread Cert.PrepIdeal.nD Cert.PrepIdeal.τ).loc Cert.PrepIdeal.main_arg1)
      ∧ m' ((c.tc : Thread Cert.RefPrepIdeal.nD Cert.RefPrepIdeal.τ).loc Cert.RefPrepIdeal.main_arg2) = m ((c.tc : Thread Cert.PrepIdeal.nD Cert.PrepIdeal.τ).loc Cert.PrepIdeal.main_arg2)
      ∧ m' ((c.tc : Thread Cert.RefPrepIdeal.nD Cert.RefPrepIdeal.τ).loc Cert.RefPrepIdeal.main_arg3) = m ((c.tc : Thread Cert.PrepIdeal.nD Cert.PrepIdeal.τ).loc Cert.PrepIdeal.main_arg3)
      ∧ m' ((c.tc : Thread Cert.RefPrepIdeal.nD Cert.RefPrepIdeal.τ).loc Cert.RefPrepIdeal.main_arg4) = m ((c.tc : Thread Cert.PrepIdeal.nD Cert.PrepIdeal.τ).loc Cert.PrepIdeal.main_arg4)
      ∧ m' ((c.tc : Thread Cert.RefPrepIdeal.nD Cert.RefPrepIdeal.τ).loc Cert.RefPrepIdeal.main_arg5) = m ((c.tc : Thread Cert.PrepIdeal.nD Cert.PrepIdeal.τ).loc Cert.PrepIdeal.main_arg5)) →
    ∃ (v0 : (c : Dev Cert.PrepIdeal.nD) → Buf (Elt Ideal) ((c.tc : Thread Cert.PrepIdeal.nD Cert.PrepIdeal.τ).loc Cert.PrepIdeal.main_v5_0)) (v1 : (c : Dev Cert.PrepIdeal.nD) → Buf (Elt Ideal) ((c.tc : Thread Cert.PrepIdeal.nD Cert.PrepIdeal.τ).loc Cert.PrepIdeal.main_v5_1)) (v2 : (c : Dev Cert.PrepIdeal.nD) → Buf (Elt Ideal) ((c.tc : Thread Cert.PrepIdeal.nD Cert.PrepIdeal.τ).loc Cert.PrepIdeal.main_v5_2)) (v3 : (c : Dev Cert.PrepIdeal.nD) → Buf (Elt Ideal) ((c.tc : Thread Cert.PrepIdeal.nD Cert.PrepIdeal.τ).loc Cert.PrepIdeal.main_v5_3)) (v4 : (c : Dev Cert.PrepIdeal.nD) → Buf (Elt Ideal) ((c.tc : Thread Cert.PrepIdeal.nD Cert.PrepIdeal.τ).loc Cert.PrepIdeal.main_v5_4)) (v5 : (c : Dev Cert.PrepIdeal.nD) → Buf (Elt Ideal) ((c.tc : Thread Cert.PrepIdeal.nD Cert.PrepIdeal.τ).loc Cert.PrepIdeal.main_v5_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v5_0) = v0 c
          ∧ r.2.mem ((c.tc : Thread Cert.PrepIdeal.nD Cert.PrepIdeal.τ).loc Cert.PrepIdeal.main_v5_1) = v1 c
          ∧ r.2.mem ((c.tc : Thread Cert.PrepIdeal.nD Cert.PrepIdeal.τ).loc Cert.PrepIdeal.main_v5_2) = v2 c
          ∧ r.2.mem ((c.tc : Thread Cert.PrepIdeal.nD Cert.PrepIdeal.τ).loc Cert.PrepIdeal.main_v5_3) = v3 c
          ∧ r.2.mem ((c.tc : Thread Cert.PrepIdeal.nD Cert.PrepIdeal.τ).loc Cert.PrepIdeal.main_v5_4) = v4 c
          ∧ r.2.mem ((c.tc : Thread Cert.PrepIdeal.nD Cert.PrepIdeal.τ).loc Cert.PrepIdeal.main_v5_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ θ_run (Cert.RefPrepIdeal.defs (F := Ideal)) (onTc (τ := Cert.RefPrepIdeal.τ) (Cert.RefPrepIdeal.main (F := Ideal))) ⟨m', fun _ => 0, g'⟩ (fun r => ∀ c : Dev Cert.RefPrepIdeal.nD,
          r.2.mem ((c.tc : Thread Cert.RefPrepIdeal.nD Cert.RefPrepIdeal.τ).loc Cert.RefPrepIdeal.main_v78) = v0 c
          ∧ r.2.mem ((c.tc : Thread Cert.RefPrepIdeal.nD Cert.RefPrepIdeal.τ).loc Cert.RefPrepIdeal.main_v79) = v1 c
          ∧ r.2.mem ((c.tc : Thread Cert.RefPrepIdeal.nD Cert.RefPrepIdeal.τ).loc Cert.RefPrepIdeal.main_v80) = v2 c
          ∧ r.2.mem ((c.tc : Thread Cert.RefPrepIdeal.nD Cert.RefPrepIdeal.τ).loc Cert.RefPrepIdeal.main_v84) = v3 c
          ∧ r.2.mem ((c.tc : Thread Cert.RefPrepIdeal.nD Cert.RefPrepIdeal.τ).loc Cert.RefPrepIdeal.main_v87) = v4 c
          ∧ r.2.mem ((c.tc : Thread Cert.RefPrepIdeal.nD Cert.RefPrepIdeal.τ).loc Cert.RefPrepIdeal.main_v90) = v5 c
          ∧ r.2.mem ((c.tc : Thread Cert.RefPrepIdeal.nD Cert.RefPrepIdeal.τ).loc Cert.RefPrepIdeal.main_arg0) = m' ((c.tc : Thread Cert.RefPrepIdeal.nD Cert.RefPrepIdeal.τ).loc Cert.RefPrepIdeal.main_arg0)
          ∧ r.2.mem ((c.tc : Thread Cert.RefPrepIdeal.nD Cert.RefPrepIdeal.τ).loc Cert.RefPrepIdeal.main_arg1) = m' ((c.tc : Thread Cert.RefPrepIdeal.nD Cert.RefPrepIdeal.τ).loc Cert.RefPrepIdeal.main_arg1)
          ∧ r.2.mem ((c.tc : Thread Cert.RefPrepIdeal.nD Cert.RefPrepIdeal.τ).loc Cert.RefPrepIdeal.main_arg2) = m' ((c.tc : Thread Cert.RefPrepIdeal.nD Cert.RefPrepIdeal.τ).loc Cert.RefPrepIdeal.main_arg2)
          ∧ r.2.mem ((c.tc : Thread Cert.RefPrepIdeal.nD Cert.RefPrepIdeal.τ).loc Cert.RefPrepIdeal.main_arg3) = m' ((c.tc : Thread Cert.RefPrepIdeal.nD Cert.RefPrepIdeal.τ).loc Cert.RefPrepIdeal.main_arg3)
          ∧ r.2.mem ((c.tc : Thread Cert.RefPrepIdeal.nD Cert.RefPrepIdeal.τ).loc Cert.RefPrepIdeal.main_arg4) = m' ((c.tc : Thread Cert.RefPrepIdeal.nD Cert.RefPrepIdeal.τ).loc Cert.RefPrepIdeal.main_arg4)
          ∧ r.2.mem ((c.tc : Thread Cert.RefPrepIdeal.nD Cert.RefPrepIdeal.τ).loc Cert.RefPrepIdeal.main_arg5) = m' ((c.tc : Thread Cert.RefPrepIdeal.nD Cert.RefPrepIdeal.τ).loc Cert.RefPrepIdeal.main_arg5))

def preserves_PoolS_PoolSIdeal : Prop :=
  True

def algebraic_PoolSIdeal_RefPoolSIdeal_pre_pool_sample_finite [hPoolSIdeal : Cert.PoolSIdeal.Facts] [hRefPoolSIdeal : Cert.RefPoolSIdeal.Facts] [hPre_pool_sample_finite : Cert.Pre_pool_sample_finite.Facts] : Prop :=
  ∀ (m : (ℓ : Loc Cert.PoolSIdeal.nD Cert.PoolSIdeal.τ Cert.PoolSIdeal.sig) → Buf (Elt Ideal) ℓ) (g : Dev Cert.PoolSIdeal.nD → PrngReg)
    (m' : (ℓ : Loc Cert.RefPoolSIdeal.nD Cert.RefPoolSIdeal.τ Cert.RefPoolSIdeal.sig) → Buf (Elt Ideal) ℓ) (g' : Dev Cert.RefPoolSIdeal.nD → PrngReg), Pre_PoolSIdeal_pool_sample_finite m →
    (∀ c : Dev Cert.PoolSIdeal.nD,
      m' ((c.tc : Thread Cert.RefPoolSIdeal.nD Cert.RefPoolSIdeal.τ).loc Cert.RefPoolSIdeal.main_arg0) = m ((c.tc : Thread Cert.PoolSIdeal.nD Cert.PoolSIdeal.τ).loc Cert.PoolSIdeal.main_arg0)
      ∧ m' ((c.tc : Thread Cert.RefPoolSIdeal.nD Cert.RefPoolSIdeal.τ).loc Cert.RefPoolSIdeal.main_arg1) = m ((c.tc : Thread Cert.PoolSIdeal.nD Cert.PoolSIdeal.τ).loc Cert.PoolSIdeal.main_arg1)
      ∧ m' ((c.tc : Thread Cert.RefPoolSIdeal.nD Cert.RefPoolSIdeal.τ).loc Cert.RefPoolSIdeal.main_arg2) = m ((c.tc : Thread Cert.PoolSIdeal.nD Cert.PoolSIdeal.τ).loc Cert.PoolSIdeal.main_arg2)
      ∧ m' ((c.tc : Thread Cert.RefPoolSIdeal.nD Cert.RefPoolSIdeal.τ).loc Cert.RefPoolSIdeal.main_arg3) = m ((c.tc : Thread Cert.PoolSIdeal.nD Cert.PoolSIdeal.τ).loc Cert.PoolSIdeal.main_arg3)) →
    ∃ (v0 : (c : Dev Cert.PoolSIdeal.nD) → Buf (Elt Ideal) ((c.tc : Thread Cert.PoolSIdeal.nD Cert.PoolSIdeal.τ).loc Cert.PoolSIdeal.main_v4)),
      θ_run (Cert.PoolSIdeal.defs (F := Ideal)) (onTc (τ := Cert.PoolSIdeal.τ) (Cert.PoolSIdeal.main (F := Ideal))) ⟨m, fun _ => 0, g⟩ (fun r => ∀ c : Dev Cert.PoolSIdeal.nD,
          r.2.mem ((c.tc : Thread Cert.PoolSIdeal.nD Cert.PoolSIdeal.τ).loc Cert.PoolSIdeal.main_v4) = v0 c
          ∧ r.2.mem ((c.tc : Thread Cert.PoolSIdeal.nD Cert.PoolSIdeal.τ).loc Cert.PoolSIdeal.main_arg0) = m ((c.tc : Thread Cert.PoolSIdeal.nD Cert.PoolSIdeal.τ).loc Cert.PoolSIdeal.main_arg0)
          ∧ r.2.mem ((c.tc : Thread Cert.PoolSIdeal.nD Cert.PoolSIdeal.τ).loc Cert.PoolSIdeal.main_arg1) = m ((c.tc : Thread Cert.PoolSIdeal.nD Cert.PoolSIdeal.τ).loc Cert.PoolSIdeal.main_arg1)
          ∧ r.2.mem ((c.tc : Thread Cert.PoolSIdeal.nD Cert.PoolSIdeal.τ).loc Cert.PoolSIdeal.main_arg2) = m ((c.tc : Thread Cert.PoolSIdeal.nD Cert.PoolSIdeal.τ).loc Cert.PoolSIdeal.main_arg2)
          ∧ r.2.mem ((c.tc : Thread Cert.PoolSIdeal.nD Cert.PoolSIdeal.τ).loc Cert.PoolSIdeal.main_arg3) = m ((c.tc : Thread Cert.PoolSIdeal.nD Cert.PoolSIdeal.τ).loc Cert.PoolSIdeal.main_arg3))
      ∧ θ_run (Cert.RefPoolSIdeal.defs (F := Ideal)) (onTc (τ := Cert.RefPoolSIdeal.τ) (Cert.RefPoolSIdeal.main (F := Ideal))) ⟨m', fun _ => 0, g'⟩ (fun r => ∀ c : Dev Cert.RefPoolSIdeal.nD,
          r.2.mem ((c.tc : Thread Cert.RefPoolSIdeal.nD Cert.RefPoolSIdeal.τ).loc Cert.RefPoolSIdeal.main_v69) = v0 c
          ∧ r.2.mem ((c.tc : Thread Cert.RefPoolSIdeal.nD Cert.RefPoolSIdeal.τ).loc Cert.RefPoolSIdeal.main_arg0) = m' ((c.tc : Thread Cert.RefPoolSIdeal.nD Cert.RefPoolSIdeal.τ).loc Cert.RefPoolSIdeal.main_arg0)
          ∧ r.2.mem ((c.tc : Thread Cert.RefPoolSIdeal.nD Cert.RefPoolSIdeal.τ).loc Cert.RefPoolSIdeal.main_arg1) = m' ((c.tc : Thread Cert.RefPoolSIdeal.nD Cert.RefPoolSIdeal.τ).loc Cert.RefPoolSIdeal.main_arg1)
          ∧ r.2.mem ((c.tc : Thread Cert.RefPoolSIdeal.nD Cert.RefPoolSIdeal.τ).loc Cert.RefPoolSIdeal.main_arg2) = m' ((c.tc : Thread Cert.RefPoolSIdeal.nD Cert.RefPoolSIdeal.τ).loc Cert.RefPoolSIdeal.main_arg2)
          ∧ r.2.mem ((c.tc : Thread Cert.RefPoolSIdeal.nD Cert.RefPoolSIdeal.τ).loc Cert.RefPoolSIdeal.main_arg3) = m' ((c.tc : Thread Cert.RefPoolSIdeal.nD Cert.RefPoolSIdeal.τ).loc Cert.RefPoolSIdeal.main_arg3))

def preserves_Pool_PoolIdeal : Prop :=
  True

def algebraic_PoolIdeal_RefPoolIdeal_pre_pool_finite [hPoolIdeal : Cert.PoolIdeal.Facts] [hRefPoolIdeal : Cert.RefPoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.RefPoolIdeal.nD Cert.RefPoolIdeal.τ Cert.RefPoolIdeal.sig) → Buf (Elt Ideal) ℓ) (g' : Dev Cert.RefPoolIdeal.nD → PrngReg), Pre_PoolIdeal_pool_finite m →
    (∀ c : Dev Cert.PoolIdeal.nD,
      m' ((c.tc : Thread Cert.RefPoolIdeal.nD Cert.RefPoolIdeal.τ).loc Cert.RefPoolIdeal.main_arg0) = m ((c.tc : Thread Cert.PoolIdeal.nD Cert.PoolIdeal.τ).loc Cert.PoolIdeal.main_arg0)
      ∧ m' ((c.tc : Thread Cert.RefPoolIdeal.nD Cert.RefPoolIdeal.τ).loc Cert.RefPoolIdeal.main_arg1) = m ((c.tc : Thread Cert.PoolIdeal.nD Cert.PoolIdeal.τ).loc Cert.PoolIdeal.main_arg1)
      ∧ m' ((c.tc : Thread Cert.RefPoolIdeal.nD Cert.RefPoolIdeal.τ).loc Cert.RefPoolIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.RefPoolIdeal.defs (F := Ideal)) (onTc (τ := Cert.RefPoolIdeal.τ) (Cert.RefPoolIdeal.main (F := Ideal))) ⟨m', fun _ => 0, g'⟩ (fun r => ∀ c : Dev Cert.RefPoolIdeal.nD,
          r.2.mem ((c.tc : Thread Cert.RefPoolIdeal.nD Cert.RefPoolIdeal.τ).loc Cert.RefPoolIdeal.main_v69) = v0 c
          ∧ r.2.mem ((c.tc : Thread Cert.RefPoolIdeal.nD Cert.RefPoolIdeal.τ).loc Cert.RefPoolIdeal.main_arg0) = m' ((c.tc : Thread Cert.RefPoolIdeal.nD Cert.RefPoolIdeal.τ).loc Cert.RefPoolIdeal.main_arg0)
          ∧ r.2.mem ((c.tc : Thread Cert.RefPoolIdeal.nD Cert.RefPoolIdeal.τ).loc Cert.RefPoolIdeal.main_arg1) = m' ((c.tc : Thread Cert.RefPoolIdeal.nD Cert.RefPoolIdeal.τ).loc Cert.RefPoolIdeal.main_arg1)
          ∧ r.2.mem ((c.tc : Thread Cert.RefPoolIdeal.nD Cert.RefPoolIdeal.τ).loc Cert.RefPoolIdeal.main_arg2) = m' ((c.tc : Thread Cert.RefPoolIdeal.nD Cert.RefPoolIdeal.τ).loc Cert.RefPoolIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hRefFfnIdeal : Cert.RefFfnIdeal.Facts) (hFinal : Cert.Final.Facts) (hFinalIdeal : Cert.FinalIdeal.Facts) (hRefFinalIdeal : Cert.RefFinalIdeal.Facts) (hFinalS : Cert.FinalS.Facts) (hFinalSIdeal : Cert.FinalSIdeal.Facts) (hRefFinalSIdeal : Cert.RefFinalSIdeal.Facts) (hStep : Cert.Step.Facts) (hStepIdeal : Cert.StepIdeal.Facts) (hRefStepIdeal : Cert.RefStepIdeal.Facts) (hOutproj : Cert.Outproj.Facts) (hOutprojIdeal : Cert.OutprojIdeal.Facts) (hRefOutprojIdeal : Cert.RefOutprojIdeal.Facts) (hOutprojS : Cert.OutprojS.Facts) (hOutprojSIdeal : Cert.OutprojSIdeal.Facts) (hRefOutprojSIdeal : Cert.RefOutprojSIdeal.Facts) (hMerge : Cert.Merge.Facts) (hMergeIdeal : Cert.MergeIdeal.Facts) (hRefMergeIdeal : Cert.RefMergeIdeal.Facts) (hMergeS : Cert.MergeS.Facts) (hMergeSIdeal : Cert.MergeSIdeal.Facts) (hRefMergeSIdeal : Cert.RefMergeSIdeal.Facts) (hNormIn : Cert.NormIn.Facts) (hNormInIdeal : Cert.NormInIdeal.Facts) (hRefNormInIdeal : Cert.RefNormInIdeal.Facts) (hNormInS : Cert.NormInS.Facts) (hNormInSIdeal : Cert.NormInSIdeal.Facts) (hRefNormInSIdeal : Cert.RefNormInSIdeal.Facts) (hFfnS : Cert.FfnS.Facts) (hFfnSIdeal : Cert.FfnSIdeal.Facts) (hRefFfnSIdeal : Cert.RefFfnSIdeal.Facts) (hPrep : Cert.Prep.Facts) (hPrepIdeal : Cert.PrepIdeal.Facts) (hRefPrepIdeal : Cert.RefPrepIdeal.Facts) (hPoolS : Cert.PoolS.Facts) (hPoolSIdeal : Cert.PoolSIdeal.Facts) (hRefPoolSIdeal : Cert.RefPoolSIdeal.Facts) (hPool : Cert.Pool.Facts) (hPoolIdeal : Cert.PoolIdeal.Facts) (hRefPoolIdeal : Cert.RefPoolIdeal.Facts) (hPre_pool_sample_finite : Cert.Pre_pool_sample_finite.Facts) (hPre_pool_finite : Cert.Pre_pool_finite.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_RefFfnIdeal (hRefFfnIdeal := hRefFfnIdeal)
    ∧ quiescent_Final (hFinal := hFinal)
    ∧ quiescent_FinalIdeal (hFinalIdeal := hFinalIdeal)
    ∧ quiescent_RefFinalIdeal (hRefFinalIdeal := hRefFinalIdeal)
    ∧ quiescent_FinalS (hFinalS := hFinalS)
    ∧ quiescent_FinalSIdeal (hFinalSIdeal := hFinalSIdeal)
    ∧ quiescent_RefFinalSIdeal (hRefFinalSIdeal := hRefFinalSIdeal)
    ∧ quiescent_Step (hStep := hStep)
    ∧ quiescent_StepIdeal (hStepIdeal := hStepIdeal)
    ∧ quiescent_RefStepIdeal (hRefStepIdeal := hRefStepIdeal)
    ∧ quiescent_Outproj (hOutproj := hOutproj)
    ∧ quiescent_OutprojIdeal (hOutprojIdeal := hOutprojIdeal)
    ∧ quiescent_RefOutprojIdeal (hRefOutprojIdeal := hRefOutprojIdeal)
    ∧ quiescent_OutprojS (hOutprojS := hOutprojS)
    ∧ quiescent_OutprojSIdeal (hOutprojSIdeal := hOutprojSIdeal)
    ∧ quiescent_RefOutprojSIdeal (hRefOutprojSIdeal := hRefOutprojSIdeal)
    ∧ quiescent_Merge (hMerge := hMerge)
    ∧ quiescent_MergeIdeal (hMergeIdeal := hMergeIdeal)
    ∧ quiescent_RefMergeIdeal (hRefMergeIdeal := hRefMergeIdeal)
    ∧ quiescent_MergeS (hMergeS := hMergeS)
    ∧ quiescent_MergeSIdeal (hMergeSIdeal := hMergeSIdeal)
    ∧ quiescent_RefMergeSIdeal (hRefMergeSIdeal := hRefMergeSIdeal)
    ∧ quiescent_NormIn (hNormIn := hNormIn)
    ∧ quiescent_NormInIdeal (hNormInIdeal := hNormInIdeal)
    ∧ quiescent_RefNormInIdeal (hRefNormInIdeal := hRefNormInIdeal)
    ∧ quiescent_NormInS (hNormInS := hNormInS)
    ∧ quiescent_NormInSIdeal (hNormInSIdeal := hNormInSIdeal)
    ∧ quiescent_RefNormInSIdeal (hRefNormInSIdeal := hRefNormInSIdeal)
    ∧ quiescent_FfnS (hFfnS := hFfnS)
    ∧ quiescent_FfnSIdeal (hFfnSIdeal := hFfnSIdeal)
    ∧ quiescent_RefFfnSIdeal (hRefFfnSIdeal := hRefFfnSIdeal)
    ∧ quiescent_Prep (hPrep := hPrep)
    ∧ quiescent_PrepIdeal (hPrepIdeal := hPrepIdeal)
    ∧ quiescent_RefPrepIdeal (hRefPrepIdeal := hRefPrepIdeal)
    ∧ quiescent_PoolS (hPoolS := hPoolS)
    ∧ quiescent_PoolSIdeal (hPoolSIdeal := hPoolSIdeal)
    ∧ quiescent_PoolSIdeal_pre_pool_sample_finite (hPoolSIdeal := hPoolSIdeal) (hPre_pool_sample_finite := hPre_pool_sample_finite)
    ∧ quiescent_RefPoolSIdeal (hRefPoolSIdeal := hRefPoolSIdeal)
    ∧ quiescent_RefPoolSIdeal_pre_pool_sample_finite (hRefPoolSIdeal := hRefPoolSIdeal) (hPre_pool_sample_finite := hPre_pool_sample_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_RefPoolIdeal (hRefPoolIdeal := hRefPoolIdeal)
    ∧ quiescent_RefPoolIdeal_pre_pool_finite (hRefPoolIdeal := hRefPoolIdeal) (hPre_pool_finite := hPre_pool_finite)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_RefFfnIdeal (hFfnIdeal := hFfnIdeal) (hRefFfnIdeal := hRefFfnIdeal)
    ∧ preserves_Final_FinalIdeal
    ∧ algebraic_FinalIdeal_RefFinalIdeal (hFinalIdeal := hFinalIdeal) (hRefFinalIdeal := hRefFinalIdeal)
    ∧ preserves_FinalS_FinalSIdeal
    ∧ algebraic_FinalSIdeal_RefFinalSIdeal (hFinalSIdeal := hFinalSIdeal) (hRefFinalSIdeal := hRefFinalSIdeal)
    ∧ preserves_Step_StepIdeal
    ∧ algebraic_StepIdeal_RefStepIdeal (hStepIdeal := hStepIdeal) (hRefStepIdeal := hRefStepIdeal)
    ∧ preserves_Outproj_OutprojIdeal
    ∧ algebraic_OutprojIdeal_RefOutprojIdeal (hOutprojIdeal := hOutprojIdeal) (hRefOutprojIdeal := hRefOutprojIdeal)
    ∧ preserves_OutprojS_OutprojSIdeal
    ∧ algebraic_OutprojSIdeal_RefOutprojSIdeal (hOutprojSIdeal := hOutprojSIdeal) (hRefOutprojSIdeal := hRefOutprojSIdeal)
    ∧ preserves_Merge_MergeIdeal
    ∧ algebraic_MergeIdeal_RefMergeIdeal (hMergeIdeal := hMergeIdeal) (hRefMergeIdeal := hRefMergeIdeal)
    ∧ preserves_MergeS_MergeSIdeal
    ∧ algebraic_MergeSIdeal_RefMergeSIdeal (hMergeSIdeal := hMergeSIdeal) (hRefMergeSIdeal := hRefMergeSIdeal)
    ∧ preserves_NormIn_NormInIdeal
    ∧ algebraic_NormInIdeal_RefNormInIdeal (hNormInIdeal := hNormInIdeal) (hRefNormInIdeal := hRefNormInIdeal)
    ∧ preserves_NormInS_NormInSIdeal
    ∧ algebraic_NormInSIdeal_RefNormInSIdeal (hNormInSIdeal := hNormInSIdeal) (hRefNormInSIdeal := hRefNormInSIdeal)
    ∧ preserves_FfnS_FfnSIdeal
    ∧ algebraic_FfnSIdeal_RefFfnSIdeal (hFfnSIdeal := hFfnSIdeal) (hRefFfnSIdeal := hRefFfnSIdeal)
    ∧ preserves_Prep_PrepIdeal
    ∧ algebraic_PrepIdeal_RefPrepIdeal (hPrepIdeal := hPrepIdeal) (hRefPrepIdeal := hRefPrepIdeal)
    ∧ preserves_PoolS_PoolSIdeal
    ∧ algebraic_PoolSIdeal_RefPoolSIdeal_pre_pool_sample_finite (hPoolSIdeal := hPoolSIdeal) (hRefPoolSIdeal := hRefPoolSIdeal) (hPre_pool_sample_finite := hPre_pool_sample_finite)
    ∧ preserves_Pool_PoolIdeal
    ∧ algebraic_PoolIdeal_RefPoolIdeal_pre_pool_finite (hPoolIdeal := hPoolIdeal) (hRefPoolIdeal := hRefPoolIdeal) (hPre_pool_finite := hPre_pool_finite)
-- ==== Pre_pool_finite.lean ====
abbrev S8192x13312 : Shape := ⟨2, ![8192, 13312]⟩
abbrev S1x4x256x256 : Shape := ⟨4, ![1, 4, 256, 256]⟩
abbrev S1x1024 : Shape := ⟨2, ![1, 1024]⟩
abbrev S8192x1024 : Shape := ⟨2, ![8192, 1024]⟩
abbrev S_ : Shape := ⟨0, ![]⟩

class Facts : Prop where
  slices_S8192x13312_S8192x1024_0_8192 : S8192x13312.Slices ![0, 8192] S8192x1024
  bcast_S_S8192x1024 : S_.BroadcastsInDim S8192x1024 (![] : Fin 0 → Fin S8192x1024.rank)

variable [Facts]

def fn {F : FTy → Type} [FloatOps F] (main_arg0 : FVec F S8192x13312 .f32) (main_arg1 : FVec F S1x4x256x256 .f32) (main_arg2 : FVec F S1x1024 .f32) : IVec S8192x1024 1 :=
  let main_v0 : FVec F S8192x1024 .f32 := (extractStridedSlice S8192x1024 ![0, 8192] · slices_S8192x13312_S8192x1024_0_8192) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  main_v3
-- ==== Pre_pool_sample_finite.lean ====
abbrev S128x13312 : Shape := ⟨2, ![128, 13312]⟩
abbrev S1x128x15x1024 : Shape := ⟨4, ![1, 128, 15, 1024]⟩
abbrev S1x4x256x256 : Shape := ⟨4, ![1, 4, 256, 256]⟩
abbrev S1x1024 : Shape := ⟨2, ![1, 1024]⟩
abbrev S128x15x1024 : Shape := ⟨3, ![128, 15, 1024]⟩
abbrev S128x1024 : Shape := ⟨2, ![128, 1024]⟩
abbrev S128x1x1024 : Shape := ⟨3, ![128, 1, 1024]⟩
abbrev S128x16x1024 : Shape := ⟨3, ![128, 16, 1024]⟩
abbrev S_ : Shape := ⟨0, ![]⟩

class Facts : Prop where
  shapeCasts_S1x128x15x1024_S128x15x1024 : S1x128x15x1024.ShapeCasts S128x15x1024
  slices_S128x13312_S128x1024_0_8192 : S128x13312.Slices ![0, 8192] S128x1024
  bcast_S128x1024_S128x1x1024_0_2 : S128x1024.BroadcastsInDim S128x1x1024 (![0, 2] : Fin 2 → Fin S128x1x1024.rank)
  concatenates_S128x15x1024_S128x1x1024_S128x16x1024_d1 : Shape.Concatenates [S128x15x1024, S128x1x1024] S128x16x1024 1
  bcast_S_S128x16x1024 : S_.BroadcastsInDim S128x16x1024 (![] : Fin 0 → Fin S128x16x1024.rank)

variable [Facts]

def fn {F : FTy → Type} [FloatOps F] (main_arg0 : FVec F S128x13312 .f32) (main_arg1 : FVec F S1x128x15x1024 .f32) (main_arg2 : FVec F S1x4x256x256 .f32) (main_arg3 : FVec F S1x1024 .f32) : IVec S128x16x1024 1 :=
  let main_v0 : FVec F S128x15x1024 .f32 := shapeCast S128x15x1024 main_arg1 shapeCasts_S1x128x15x1024_S128x15x1024
  let main_v1 : FVec F S128x1024 .f32 := (extractStridedSlice S128x1024 ![0, 8192] · slices_S128x13312_S128x1024_0_8192) main_arg0
  let main_v2 : FVec F S128x1x1024 .f32 := broadcastInDim S128x1x1024 ![0, 2] bcast_S128x1024_S128x1x1024_0_2 main_v1
  let main_v3 : FVec F S128x16x1024 .f32 := (fun a b => concatenate S128x16x1024 1 [⟨S128x15x1024, a⟩, ⟨S128x1x1024, b⟩] concatenates_S128x15x1024_S128x1x1024_S128x16x1024_d1) main_v0 main_v2
  let main_v4 : FVec F S128x16x1024 .f32 := Host.absf main_v3
  let main_cst : FVec F S_ .f32 := constant S_ .f32 0x7F800000#32
  let main_v5 : FVec F S128x16x1024 .f32 := broadcastInDim S128x16x1024 ![] bcast_S_S128x16x1024 main_cst
  let main_v6 : IVec S128x16x1024 1 := cmpf .olt main_v4 main_v5
  main_v6
-- ==== Kernel.lean ====
abbrev S8192x2048 : Shape := ⟨2, ![8192, 2048]⟩
abbrev S128x2048 : Shape := ⟨2, ![128, 2048]⟩
abbrev S1x2048x13344 : Shape := ⟨3, ![1, 2048, 13344]⟩
abbrev S1x128x15x1024 : Shape := ⟨4, ![1, 128, 15, 1024]⟩
abbrev S1x128x3x6144 : Shape := ⟨4, ![1, 128, 3, 6144]⟩
abbrev S2048x13344 : Shape := ⟨2, ![2048, 13344]⟩
abbrev S13344x2048 : Shape := ⟨2, ![13344, 2048]⟩
abbrev S8192x13312 : Shape := ⟨2, ![8192, 13312]⟩
abbrev S128x13312 : Shape := ⟨2, ![128, 13312]⟩
abbrev S1024x2048 : Shape := ⟨2, ![1024, 2048]⟩
abbrev S1024x1024 : Shape := ⟨2, ![1024, 1024]⟩
abbrev S128x1024 : Shape := ⟨2, ![128, 1024]⟩
abbrev S4x2048x13312 : Shape := ⟨3, ![4, 2048, 13312]⟩
abbrev S4x15x1024 : Shape := ⟨3, ![4, 15, 1024]⟩
abbrev S1x4x15x1024 : Shape := ⟨4, ![1, 4, 15, 1024]⟩
abbrev S4x3x6144 : Shape := ⟨3, ![4, 3, 6144]⟩
abbrev S1x4x3x6144 : Shape := ⟨4, ![1, 4, 3, 6144]⟩
abbrev S128x15x1024 : Shape := ⟨3, ![128, 15, 1024]⟩
abbrev S128x14x1024 : Shape := ⟨3, ![128, 14, 1024]⟩
abbrev S128x1x1024 : Shape := ⟨3, ![128, 1, 1024]⟩
abbrev S128x3x6144 : Shape := ⟨3, ![128, 3, 6144]⟩
abbrev S128x2x6144 : Shape := ⟨3, ![128, 2, 6144]⟩
abbrev S128x6144 : Shape := ⟨2, ![128, 6144]⟩
abbrev S128x1x6144 : Shape := ⟨3, ![128, 1, 6144]⟩

abbrev nBuf : Space → Nat
  | .hbm => 26
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S1x2048x13344, .f32⟩
  | .hbm, ⟨3, _⟩ => ⟨S1x128x15x1024, .f32⟩
  | .hbm, ⟨4, _⟩ => ⟨S1x128x3x6144, .f32⟩
  | .hbm, ⟨5, _⟩ => ⟨S2048x13344, .f32⟩
  | .hbm, ⟨6, _⟩ => ⟨S13344x2048, .f32⟩
  | .hbm, ⟨7, _⟩ => ⟨S8192x13312, .f32⟩
  | .hbm, ⟨8, _⟩ => ⟨S128x13312, .f32⟩
  | .hbm, ⟨9, _⟩ => ⟨S4x2048x13312, .f32⟩
  | .hbm, ⟨10, _⟩ => ⟨S4x15x1024, .f32⟩
  | .hbm, ⟨11, _⟩ => ⟨S1x4x15x1024, .f32⟩
  | .hbm, ⟨12, _⟩ => ⟨S4x3x6144, .f32⟩
  | .hbm, ⟨13, _⟩ => ⟨S1x4x3x6144, .f32⟩
  | .hbm, ⟨14, _⟩ => ⟨S128x15x1024, .f32⟩
  | .hbm, ⟨15, _⟩ => ⟨S128x14x1024, .f32⟩
  | .hbm, ⟨16, _⟩ => ⟨S128x1024, .f32⟩
  | .hbm, ⟨17, _⟩ => ⟨S128x1x1024, .f32⟩
  | .hbm, ⟨18, _⟩ => ⟨S128x15x1024, .f32⟩
  | .hbm, ⟨19, _⟩ => ⟨S1x128x15x1024, .f32⟩
  | .hbm, ⟨20, _⟩ => ⟨S128x3x6144, .f32⟩
  | .hbm, ⟨21, _⟩ => ⟨S128x2x6144, .f32⟩
  | .hbm, ⟨22, _⟩ => ⟨S128x6144, .f32⟩
  | .hbm, ⟨23, _⟩ => ⟨S128x1x6144, .f32⟩
  | .hbm, ⟨24, _⟩ => ⟨S128x3x6144, .f32⟩
  | .hbm, ⟨25, _⟩ => ⟨S1x128x3x6144, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x2048, .f32⟩
  | .local _ .vmem, ⟨4, _⟩ => ⟨S1024x2048, .f32⟩
  | .local _ .vmem, ⟨5, _⟩ => ⟨S1024x1024, .f32⟩
  | .local _ .vmem, ⟨6, _⟩ => ⟨S1024x1024, .f32⟩
  | .local _ .vmem, ⟨7, _⟩ => ⟨S128x1024, .f32⟩
  | .local _ .vmem, ⟨8, _⟩ => ⟨S128x1024, .f32⟩
  | .local _ .vmem, ⟨9, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![13, 9], ![false, false]⟩

def k0_mult1 (i : grid0.Coords) : BitVec 32 :=
  let arg0 : BitVec 32 := BitVec.ofNat 32 (i 0).val
  let c8_i32 : BitVec 32 := 8#32
  let v0 : BitVec 1 := Scalar.cmpi .slt arg0 c8_i32
  let c1024_i32_0 : BitVec 32 := 1024#32
  let c1024_i32 : BitVec 32 := 1024#32
  let v1 : BitVec 32 := Scalar.muli arg0 c1024_i32
  let v2 : BitVec 32 := Scalar.addi c1024_i32_0 v1
  let c9_i32 : BitVec 32 := 9#32
  let v3 : BitVec 1 := Scalar.cmpi .slt arg0 c9_i32
  let c8_i32_1 : BitVec 32 := 8#32
  let v4 : BitVec 32 := Scalar.subi arg0 c8_i32_1
  let c1024_i32_2 : BitVec 32 := 1024#32
  let v5 : BitVec 32 := Scalar.muli v4 c1024_i32_2
  let c9248_i32 : BitVec 32 := 9248#32
  let c8_i32_3 : BitVec 32 := 8#32
  let v6 : BitVec 32 := Scalar.subi arg0 c8_i32_3
  let c1_i32 : BitVec 32 := 1#32
  let v7 : BitVec 32 := Scalar.subi v6 c1_i32
  let c1024_i32_4 : BitVec 32 := 1024#32
  let v8 : BitVec 32 := Scalar.muli v7 c1024_i32_4
  let v9 : BitVec 32 := Scalar.addi c9248_i32 v8
  let v10 : BitVec 32 := Scalar.select v3 v5 v9
  let v11 : BitVec 32 := Scalar.select v0 v2 v10
  v11
def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c1024_i32 : BitVec 32 := 1024#32
  let v1 : BitVec 32 := Scalar.muli arg0 c1024_i32
  let c1024_i32_0 : BitVec 32 := 1024#32
  let v2 : BitVec 32 := Scalar.addi c1024_i32_0 v1
  let c9_i32 : BitVec 32 := 9#32
  let v3 : BitVec 1 := Scalar.cmpi .slt arg0 c9_i32
  let c8_i32_1 : BitVec 32 := 8#32
  let v4 : BitVec 32 := Scalar.subi arg0 c8_i32_1
  let c1024_i32_2 : BitVec 32 := 1024#32
  let v5 : BitVec 32 := Scalar.muli v4 c1024_i32_2
  let c8_i32_3 : BitVec 32 := 8#32
  let v6 : BitVec 32 := Scalar.subi arg0 c8_i32_3
  let c1_i32 : BitVec 32 := 1#32
  let v7 : BitVec 32 := Scalar.subi v6 c1_i32
  let c1024_i32_4 : BitVec 32 := 1024#32
  let v8 : BitVec 32 := Scalar.muli v7 c1024_i32_4
  let c9248_i32 : BitVec 32 := 9248#32
  let v9 : BitVec 32 := Scalar.addi c9248_i32 v8
  let v10 : BitVec 32 := Scalar.select v3 v5 v9
  let v11 : BitVec 32 := Scalar.select v0 v2 v10
  let v12 : BitVec 32 := v11
  let c0_i32 : BitVec 32 := 0#32
  let c0_i32_5 : BitVec 32 := 0#32
  ![v12.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S8192x2048 : Shape := ⟨2, ![8192, 2048]⟩
abbrev S128x2048 : Shape := ⟨2, ![128, 2048]⟩
abbrev S1x2048x13344 : Shape := ⟨3, ![1, 2048, 13344]⟩
abbrev S1x128x15x1024 : Shape := ⟨4, ![1, 128, 15, 1024]⟩
abbrev S1x128x3x6144 : Shape := ⟨4, ![1, 128, 3, 6144]⟩
abbrev S4x2048x2048 : Shape := ⟨3, ![4, 2048, 2048]⟩
abbrev S_ : Shape := ⟨0, ![]⟩
abbrev S4x15x1024 : Shape := ⟨3, ![4, 15, 1024]⟩
abbrev S4x3x6144 : Shape := ⟨3, ![4, 3, 6144]⟩
abbrev S2048x13344 : Shape := ⟨2, ![2048, 13344]⟩
abbrev S4x2048x13344 : Shape := ⟨3, ![4, 2048, 13344]⟩
abbrev S4x2048x1024 : Shape := ⟨3, ![4, 2048, 1024]⟩
abbrev S4x2048x6144 : Shape := ⟨3, ![4, 2048, 6144]⟩
abbrev S4x2063x1024 : Shape := ⟨3, ![4, 2063, 1024]⟩
abbrev S4x2051x6144 : Shape := ⟨3, ![4, 2051, 6144]⟩
abbrev S4x2048x13312 : Shape := ⟨3, ![4, 2048, 13312]⟩
abbrev S8192x13312 : Shape := ⟨2, ![8192, 13312]⟩
abbrev S1x4x15x1024 : Shape := ⟨4, ![1, 4, 15, 1024]⟩
abbrev S1x4x3x6144 : Shape := ⟨4, ![1, 4, 3, 6144]⟩
abbrev S128x1x2048 : Shape := ⟨3, ![128, 1, 2048]⟩
abbrev S128x15x1024 : Shape := ⟨3, ![128, 15, 1024]⟩
abbrev S128x3x6144 : Shape := ⟨3, ![128, 3, 6144]⟩
abbrev S128x1x13344 : Shape := ⟨3, ![128, 1, 13344]⟩
abbrev S128x1x1024 : Shape := ⟨3, ![128, 1, 1024]⟩
abbrev S128x1x6144 : Shape := ⟨3, ![128, 1, 6144]⟩
abbrev S128x16x1024 : Shape := ⟨3, ![128, 16, 1024]⟩
abbrev S128x4x6144 : Shape := ⟨3, ![128, 4, 6144]⟩
abbrev S128x1x13312 : Shape := ⟨3, ![128, 1, 13312]⟩
abbrev S128x13312 : Shape := ⟨2, ![128, 13312]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S1x2048x13344, .f32⟩
  | .hbm, ⟨3, _⟩ => ⟨S1x128x15x1024, .f32⟩
  | .hbm, ⟨4, _⟩ => ⟨S1x128x3x6144, .f32⟩
  | .hbm, ⟨5, _⟩ => ⟨S4x2048x2048, .bf16⟩
  | .hbm, ⟨6, _⟩ => ⟨S_, .f32⟩
  | .hbm, ⟨7, _⟩ => ⟨S4x15x1024, .f32⟩
  | .hbm, ⟨8, _⟩ => ⟨S_, .f32⟩
  | .hbm, ⟨9, _⟩ => ⟨S4x3x6144, .f32⟩
  | .hbm, ⟨10, _⟩ => ⟨S4x2048x2048, .f32⟩
  | .hbm, ⟨11, _⟩ => ⟨S2048x13344, .f32⟩
  | .hbm, ⟨12, _⟩ => ⟨S4x2048x13344, .f32⟩
  | .hbm, ⟨13, _⟩ => ⟨S4x2048x1024, .f32⟩
  | .hbm, ⟨14, _⟩ => ⟨S4x2048x6144, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .hbm, ⟨18, _⟩ => ⟨S4x2063x1024, .f32⟩
  | .hbm, ⟨19, _⟩ => ⟨S4x15x1024, .f32⟩
  | .hbm, ⟨20, _⟩ => ⟨S4x2051x6144, .f32⟩
  | .hbm, ⟨21, _⟩ => ⟨S4x3x6144, .f32⟩
  | .hbm, ⟨22, _⟩ => ⟨S4x2048x13312, .f32⟩
  | .hbm, ⟨23, _⟩ => ⟨S8192x13312, .f32⟩
  | .hbm, ⟨24, _⟩ => ⟨S1x4x15x1024, .f32⟩
  | .hbm, ⟨25, _⟩ => ⟨S1x4x3x6144, .f32⟩
  | .hbm, ⟨26, _⟩ => ⟨S128x1x2048, .bf16⟩
  | .hbm, ⟨27, _⟩ => ⟨S128x15x1024, .f32⟩
  | .hbm, ⟨28, _⟩ => ⟨S128x3x6144, .f32⟩
  | .hbm, ⟨29, _⟩ => ⟨S128x1x2048, .f32⟩
  | .hbm, ⟨30, _⟩ => ⟨S2048x13344, .f32⟩
  | .hbm, ⟨31, _⟩ => ⟨S128x1x13344, .f32⟩
  | .hbm, ⟨32, _⟩ => ⟨S128x1x1024, .f32⟩
  | .hbm, ⟨33, _⟩ => ⟨S128x1x6144, .f32⟩
  | .hbm, ⟨34, _⟩ => ⟨S128x1x2048, .f32⟩
  | .hbm, ⟨35, _⟩ => ⟨S128x1x2048, .f32⟩
  | .hbm, ⟨36, _⟩ => ⟨S128x1x2048, .f32⟩
  | .hbm, ⟨37, _⟩ => ⟨S128x16x1024, .f32⟩
  | .hbm, ⟨38, _⟩ => ⟨S128x15x1024, .f32⟩
  | .hbm, ⟨39, _⟩ => ⟨S128x4x6144, .f32⟩
  | .hbm, ⟨40, _⟩ => ⟨S128x3x6144, .f32⟩
  | .hbm, ⟨41, _⟩ => ⟨S128x1x13312, .f32⟩
  | .hbm, ⟨42, _⟩ => ⟨S128x13312, .f32⟩
  | .hbm, ⟨43, _⟩ => ⟨S1x128x15x1024, .f32⟩
  | .hbm, ⟨44, _⟩ => ⟨S1x128x3x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]
-- ==== Ffn.lean ====
abbrev S8192x2048 : Shape := ⟨2, ![8192, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048x11264 : Shape := ⟨2, ![2048, 11264]⟩
abbrev S5632x2048 : Shape := ⟨2, ![5632, 2048]⟩
abbrev S1024x2048 : Shape := ⟨2, ![1024, 2048]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048x11264, .f32⟩
  | .hbm, ⟨5, _⟩ => ⟨S5632x2048, .f32⟩
  | .hbm, ⟨6, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S256x2048, .f32⟩
  | .local _ .vmem, ⟨8, _⟩ => ⟨S256x2048, .f32⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RefFfnIdeal.lean ====
abbrev S8192x2048 : Shape := ⟨2, ![8192, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S4x2048x2048 : Shape := ⟨3, ![4, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x11264 : Shape := ⟨2, ![2048, 11264]⟩
abbrev S4x2048x11264 : Shape := ⟨3, ![4, 2048, 11264]⟩
abbrev S4x2048x5632 : Shape := ⟨3, ![4, 2048, 5632]⟩
abbrev S5632x2048 : Shape := ⟨2, ![5632, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S4x2048x2048, .f32⟩
  | .hbm, ⟨5, _⟩ => ⟨S2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S2048x11264, .f32⟩
  | .hbm, ⟨23, _⟩ => ⟨S4x2048x11264, .f32⟩
  | .hbm, ⟨24, _⟩ => ⟨S4x2048x5632, .f32⟩
  | .hbm, ⟨25, _⟩ => ⟨S4x2048x5632, .f32⟩
  | .hbm, ⟨26, _⟩ => ⟨S4x2048x5632, .f32⟩
  | .hbm, ⟨27, _⟩ => ⟨S_, .f32⟩
  | .hbm, ⟨28, _⟩ => ⟨S4x2048x5632, .f32⟩
  | .hbm, ⟨29, _⟩ => ⟨S4x2048x5632, .f32⟩
  | .hbm, ⟨30, _⟩ => ⟨S_, .f32⟩
  | .hbm, ⟨31, _⟩ => ⟨S4x2048x5632, .f32⟩
  | .hbm, ⟨32, _⟩ => ⟨S4x2048x5632, .f32⟩
  | .hbm, ⟨33, _⟩ => ⟨S4x2048x5632, .f32⟩
  | .hbm, ⟨34, _⟩ => ⟨S4x2048x5632, .f32⟩
  | .hbm, ⟨35, _⟩ => ⟨S4x2048x5632, .f32⟩
  | .hbm, ⟨36, _⟩ => ⟨S5632x2048, .f32⟩
  | .hbm, ⟨37, _⟩ => ⟨S4x2048x2048, .f32⟩
  | .hbm, ⟨38, _⟩ => ⟨S4x2048x2048, .f32⟩
  | .hbm, ⟨39, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Final.lean ====
abbrev S8192x2048 : Shape := ⟨2, ![8192, 2048]⟩
abbrev S1x4x2048x256 : Shape := ⟨4, ![1, 4, 2048, 256]⟩
abbrev S1x256x2048 : Shape := ⟨3, ![1, 256, 2048]⟩
abbrev S1x2048x2048 : Shape := ⟨3, ![1, 2048, 2048]⟩
abbrev S2048 : Shape := ⟨1, ![2048]⟩
abbrev S4x2048x256 : Shape := ⟨3, ![4, 2048, 256]⟩
abbrev S8192x256 : Shape := ⟨2, ![8192, 256]⟩
abbrev S256x2048 : Shape := ⟨2, ![256, 2048]⟩
abbrev S2048x2048 : Shape := ⟨2, ![2048, 2048]⟩
abbrev S1x2048 : Shape := ⟨2, ![1, 2048]⟩
abbrev S1024x2048 : Shape := ⟨2, ![1024, 2048]⟩
abbrev S1024x256 : Shape := ⟨2, ![1024, 256]⟩
abbrev S1024 : Shape := ⟨1, ![1024]⟩
abbrev S1024x1 : Shape := ⟨2, ![1024, 1]⟩

abbrev nBuf : Space → Nat
  | .hbm => 13
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S1x4x2048x256, .f32⟩
  | .hbm, ⟨2, _⟩ => ⟨S1x256x2048, .f32⟩
  | .hbm, ⟨3, _⟩ => ⟨S1x2048x2048, .f32⟩
  | .hbm, ⟨4, _⟩ => ⟨S2048, .f32⟩
  | .hbm, ⟨5, _⟩ => ⟨S4x2048x256, .f32⟩
  | .hbm, ⟨6, _⟩ => ⟨S8192x256, .f32⟩
  | .hbm, ⟨7, _⟩ => ⟨S256x2048, .f32⟩
  | .hbm, ⟨8, _⟩ => ⟨S256x2048, .bf16⟩
  | .hbm, ⟨9, _⟩ => ⟨S2048x2048, .f32⟩
  | .hbm, ⟨10, _⟩ => ⟨S2048x2048, .bf16⟩
  | .hbm, ⟨11, _⟩ => ⟨S1x2048, .f32⟩
  | .hbm, ⟨12, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x256, .f32⟩
  | .local _ .vmem, ⟨3, _⟩ => ⟨S1024x256, .f32⟩
  | .local _ .vmem, ⟨4, _⟩ => ⟨S256x2048, .bf16⟩
  | .local _ .vmem, ⟨5, _⟩ => ⟨S2048x2048, .bf16⟩
  | .local _ .vmem, ⟨6, _⟩ => ⟨S1x2048, .f32⟩
  | .local _ .vmem, ⟨7, _⟩ => ⟨S1024x2048, .f32⟩
  | .local _ .vmem, ⟨8, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefFinalIdeal.lean ====
abbrev S8192x2048 : Shape := ⟨2, ![8192, 2048]⟩
abbrev S1x4x2048x256 : Shape := ⟨4, ![1, 4, 2048, 256]⟩
abbrev S1x256x2048 : Shape := ⟨3, ![1, 256, 2048]⟩
abbrev S1x2048x2048 : Shape := ⟨3, ![1, 2048, 2048]⟩
abbrev S2048 : Shape := ⟨1, ![2048]⟩
abbrev S4x2048x2048 : Shape := ⟨3, ![4, 2048, 2048]⟩
abbrev S4x2048x256 : Shape := ⟨3, ![4, 2048, 256]⟩
abbrev S256x2048 : Shape := ⟨2, ![256, 2048]⟩
abbrev S2048x2048 : Shape := ⟨2, ![2048, 2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x4x2048x256, .f32⟩
  | .hbm, ⟨2, _⟩ => ⟨S1x256x2048, .f32⟩
  | .hbm, ⟨3, _⟩ => ⟨S1x2048x2048, .f32⟩
  | .hbm, ⟨4, _⟩ => ⟨S2048, .f32⟩
  | .hbm, ⟨5, _⟩ => ⟨S4x2048x2048, .f32⟩
  | .hbm, ⟨6, _⟩ => ⟨S4x2048x256, .f32⟩
  | .hbm, ⟨7, _⟩ => ⟨S256x2048, .f32⟩
  | .hbm, ⟨8, _⟩ => ⟨S4x2048x2048, .f32⟩
  | .hbm, ⟨9, _⟩ => ⟨S2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S1x1x2048, .f32⟩
  | .hbm, ⟨35, _⟩ => ⟨S4x2048x2048, .f32⟩
  | .hbm, ⟨36, _⟩ => ⟨S4x2048x2048, .f32⟩
  | .hbm, ⟨37, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== FinalS.lean ====
abbrev S128x2048 : Shape := ⟨2, ![128, 2048]⟩
abbrev S1x128x1x256 : Shape := ⟨4, ![1, 128, 1, 256]⟩
abbrev S1x256x2048 : Shape := ⟨3, ![1, 256, 2048]⟩
abbrev S1x2048x2048 : Shape := ⟨3, ![1, 2048, 2048]⟩
abbrev S2048 : Shape := ⟨1, ![2048]⟩
abbrev S128x1x256 : Shape := ⟨3, ![128, 1, 256]⟩
abbrev S128x256 : Shape := ⟨2, ![128, 256]⟩
abbrev S256x2048 : Shape := ⟨2, ![256, 2048]⟩
abbrev S2048x2048 : Shape := ⟨2, ![2048, 2048]⟩
abbrev S1x2048 : Shape := ⟨2, ![1, 2048]⟩
abbrev S128 : Shape := ⟨1, ![128]⟩
abbrev S128x1 : Shape := ⟨2, ![128, 1]⟩

abbrev nBuf : Space → Nat
  | .hbm => 13
  | .vmem => 6
  | .smem => 0
  | _ => 0

abbrev bufTy : (tb : Table) → Fin (tcTables nBuf tb) → BufTy
  | .hbm, ⟨0, _⟩ => ⟨S128x2048, .f32⟩
  | .hbm, ⟨1, _⟩ => ⟨S1x128x1x256, .f32⟩
  | .hbm, ⟨2, _⟩ => ⟨S1x256x2048, .f32⟩
  | .hbm, ⟨3, _⟩ => ⟨S1x2048x2048, .f32⟩
  | .hbm, ⟨4, _⟩ => ⟨S2048, .f32⟩
  | .hbm, ⟨5, _⟩ => ⟨S128x1x256, .f32⟩
  | .hbm, ⟨6, _⟩ => ⟨S128x256, .f32⟩
  | .hbm, ⟨7, _⟩ => ⟨S256x2048, .f32⟩
  | .hbm, ⟨8, _⟩ => ⟨S256x2048, .bf16⟩
  | .hbm, ⟨9, _⟩ => ⟨S2048x2048, .f32⟩
  | .hbm, ⟨10, _⟩ => ⟨S2048x2048, .bf16⟩
  | .hbm, ⟨11, _⟩ => ⟨S1x2048, .f32⟩
  | .hbm, ⟨12, _⟩ => ⟨S128x2048, .f32⟩
  | .local _ .vmem, ⟨0, _⟩ => ⟨S128x2048, .f32⟩
  | .local _ .vmem, ⟨1, _⟩ => ⟨S128x256, .f32⟩
  | .local _ .vmem, ⟨2, _⟩ => ⟨S256x2048, .bf16⟩
  | .local _ .vmem, ⟨3, _⟩ => ⟨S2048x2048, .bf16⟩
  | .local _ .vmem, ⟨4, _⟩ => ⟨S1x2048, .f32⟩
  | .local _ .vmem, ⟨5, _⟩ => ⟨S128x2048, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== RefFinalSIdeal.lean ====
abbrev S128x2048 : Shape := ⟨2, ![128, 2048]⟩
abbrev S1x128x1x256 : Shape := ⟨4, ![1, 128, 1, 256]⟩
abbrev S1x256x2048 : Shape := ⟨3, ![1, 256, 2048]⟩
abbrev S1x2048x2048 : Shape := ⟨3, ![1, 2048, 2048]⟩
abbrev S2048 : Shape := ⟨1, ![2048]⟩
abbrev S128x1x2048 : Shape := ⟨3, ![128, 1, 2048]⟩
abbrev S128x1x256 : Shape := ⟨3, ![128, 1, 256]⟩
abbrev S256x2048 : Shape := ⟨2, ![256, 2048]⟩
abbrev S2048x2048 : Shape := ⟨2, ![2048, 2048]⟩
abbrev S_ : Shape := ⟨0, ![]⟩
abbrev S128x1 : Shape := ⟨2, ![128, 1]⟩
abbrev S128x1x1 : Shape := ⟨3, ![128, 1, 1]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S1x128x1x256, .f32⟩
  | .hbm, ⟨2, _⟩ => ⟨S1x256x2048, .f32⟩
  | .hbm, ⟨3, _⟩ => ⟨S1x2048x2048, .f32⟩
  | .hbm, ⟨4, _⟩ => ⟨S2048, .f32⟩
  | .hbm, ⟨5, _⟩ => ⟨S128x1x2048, .f32⟩
  | .hbm, ⟨6, _⟩ => ⟨S128x1x256, .f32⟩
  | .hbm, ⟨7, _⟩ => ⟨S256x2048, .f32⟩
  | .hbm, ⟨8, _⟩ => ⟨S128x1x2048, .f32⟩
  | .hbm, ⟨9, _⟩ => ⟨S2048x2048, .f32⟩
  | .hbm, ⟨10, _⟩ => ⟨S128x1x2048, .f32⟩
  | .hbm, ⟨11, _⟩ => ⟨S128x1x2048, .f32⟩
  | .hbm, ⟨12, _⟩ => ⟨S128x1x2048, .f32⟩
  | .hbm, ⟨13, _⟩ => ⟨S_, .f32⟩
  | .hbm, ⟨14, _⟩ => ⟨S128x1x2048, .f32⟩
  | .hbm, ⟨15, _⟩ => ⟨S128x1x2048, .f32⟩
  | .hbm, ⟨16, _⟩ => ⟨S_, .f32⟩
  | .hbm, ⟨17, _⟩ => ⟨S128x1x2048, .f32⟩
  | .hbm, ⟨18, _⟩ => ⟨S128x1x2048, .f32⟩
  | .hbm, ⟨19, _⟩ => ⟨S128x1x2048, .f32⟩
  | .hbm, ⟨20, _⟩ => ⟨S128x1x2048, .f32⟩
  | .hbm, ⟨21, _⟩ => ⟨S128x1x2048, .f32⟩
  | .hbm, ⟨22, _⟩ => ⟨S_, .f32⟩
  | .hbm, ⟨23, _⟩ => ⟨S128x1, .f32⟩
  | .hbm, ⟨24, _⟩ => ⟨S128x1x1, .f32⟩
  | .hbm, ⟨25, _⟩ => ⟨S_, .f32⟩
  | .hbm, ⟨26, _⟩ => ⟨S128x1x1, .f32⟩
  | .hbm, ⟨27, _⟩ => ⟨S128x1x1, .f32⟩
  | .hbm, ⟨28, _⟩ => ⟨S_, .f32⟩
  | .hbm, ⟨29, _⟩ => ⟨S128x1x1, .f32⟩
  | .hbm, ⟨30, _⟩ => ⟨S128x1x1, .f32⟩
  | .hbm, ⟨31, _⟩ => ⟨S128x1x1, .f32⟩
  | .hbm, ⟨32, _⟩ => ⟨S128x1x2048, .f32⟩
  | .hbm, ⟨33, _⟩ => ⟨S128x1x2048, .f32⟩
  | .hbm, ⟨34, _⟩ => ⟨S1x1x2048, .f32⟩
  | .hbm, ⟨35, _⟩ => ⟨S128x1x2048, .f32⟩
  | .hbm, ⟨36, _⟩ => ⟨S128x1x2048, .f32⟩
  | .hbm, ⟨37, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Step.lean ====
abbrev S128x2048 : Shape := ⟨2, ![128, 2048]⟩
abbrev S128x13312 : Shape := ⟨2, ![128, 13312]⟩
abbrev S1x128 : Shape := ⟨2, ![1, 128]⟩
abbrev S1x128x16x128x128 : Shape := ⟨5, ![1, 128, 16, 128, 128]⟩
abbrev S128x16x128 : Shape := ⟨3, ![128, 16, 128]⟩
abbrev S8x16x128 : Shape := ⟨3, ![8, 16, 128]⟩
abbrev S1x8x16x128x128 : Shape := ⟨5, ![1, 8, 16, 128, 128]⟩
abbrev S112x128 : Shape := ⟨2, ![112, 128]⟩
abbrev S1x16x128 : Shape := ⟨3, ![1, 16, 128]⟩
abbrev S16x128 : Shape := ⟨2, ![16, 128]⟩
abbrev S128x128 : Shape := ⟨2, ![128, 128]⟩
abbrev S32x128 : Shape := ⟨2, ![32, 128]⟩
abbrev S128x1 : Shape := ⟨2, ![128, 1]⟩
abbrev S1x1x1x128x128 : Shape := ⟨5, ![1, 1, 1, 128, 128]⟩
abbrev S1x1x128 : Shape := ⟨3, ![1, 1, 128]⟩
abbrev S16 : Shape := ⟨1, ![16]⟩
abbrev S16x1 : Shape := ⟨2, ![16, 1]⟩

abbrev nBuf : Space → Nat
  | .hbm => 19
  | .vmem => 21
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S128x2048, .f32⟩
  | .hbm, ⟨3, _⟩ => ⟨S128x2048, .f32⟩
  | .hbm, ⟨4, _⟩ => ⟨S128x2048, .f32⟩
  | .hbm, ⟨5, _⟩ => ⟨S128x2048, .f32⟩
  | .hbm, ⟨6, _⟩ => ⟨S128x13312, .f32⟩
  | .hbm, ⟨7, _⟩ => ⟨S1x128, .f32⟩
  | .hbm, ⟨8, _⟩ => ⟨S1x128x16x128x128, .f32⟩
  | .hbm, ⟨9, _⟩ => ⟨S128x16x128, .f32⟩
  | .hbm, ⟨10, _⟩ => ⟨S128x16x128, .f32⟩
  | .hbm, ⟨11, _⟩ => ⟨S128x16x128, .f32⟩
  | .hbm, ⟨12, _⟩ => ⟨S128x16x128, .f32⟩
  | .hbm, ⟨13, _⟩ => ⟨S128x16x128, .f32⟩
  | .hbm, ⟨14, _⟩ => ⟨S128x16x128, .f32⟩
  | .hbm, ⟨15, _⟩ => ⟨S128x2048, .f32⟩
  | .hbm, ⟨16, _⟩ => ⟨S128x16x128, .f32⟩
  | .hbm, ⟨17, _⟩ => ⟨S128x16x128, .bf16⟩
  | .hbm, ⟨18, _⟩ => ⟨S1x128x16x128x128, .f32⟩
  | .local _ .vmem, ⟨0, _⟩ => ⟨S8x16x128, .f32⟩
  | .local _ .vmem, ⟨1, _⟩ => ⟨S8x16x128, .f32⟩
  | .local _ .vmem, ⟨2, _⟩ => ⟨S8x16x128, .f32⟩
  | .local _ .vmem, ⟨3, _⟩ => ⟨S8x16x128, .f32⟩
  | .local _ .vmem, ⟨4, _⟩ => ⟨S8x16x128, .f32⟩
  | .local _ .vmem, ⟨5, _⟩ => ⟨S8x16x128, .f32⟩
  | .local _ .vmem, ⟨6, _⟩ => ⟨S8x16x128, .f32⟩
  | .local _ .vmem, ⟨7, _⟩ => ⟨S8x16x128, .f32⟩
  | .local _ .vmem, ⟨8, _⟩ => ⟨S8x16x128, .f32⟩
  | .local _ .vmem, ⟨9, _⟩ => ⟨S8x16x128, .f32⟩
  | .local _ .vmem, ⟨10, _⟩ => ⟨S8x16x128, .f32⟩
  | .local _ .vmem, ⟨11, _⟩ => ⟨S8x16x128, .f32⟩
  | .local _ .vmem, ⟨12, _⟩ => ⟨S8x16x128, .f32⟩
  | .local _ .vmem, ⟨13, _⟩ => ⟨S8x16x128, .f32⟩
  | .local _ .vmem, ⟨14, _⟩ => ⟨S1x128, .f32⟩
  | .local _ .vmem, ⟨15, _⟩ => ⟨S1x8x16x128x128, .f32⟩
  | .local _ .vmem, ⟨16, _⟩ => ⟨S1x8x16x128x128, .f32⟩
  | .local _ .vmem, ⟨17, _⟩ => ⟨S8x16x128, .bf16⟩
  | .local _ .vmem, ⟨18, _⟩ => ⟨S8x16x128, .bf16⟩
  | .local _ .vmem, ⟨19, _⟩ => ⟨S1x8x16x128x128, .f32⟩
  | .local _ .vmem, ⟨20, _⟩ => ⟨S1x8x16x128x128, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S8x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x16x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x16x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RefStepIdeal.lean ====
abbrev S128x2048 : Shape := ⟨2, ![128, 2048]⟩
abbrev S128x13312 : Shape := ⟨2, ![128, 13312]⟩
abbrev S1x128 : Shape := ⟨2, ![1, 128]⟩
abbrev S1x128x16x128x128 : Shape := ⟨5, ![1, 128, 16, 128, 128]⟩
abbrev S128x16x128 : Shape := ⟨3, ![128, 16, 128]⟩
abbrev S128x16x128x128 : Shape := ⟨4, ![128, 16, 128, 128]⟩
abbrev S128x16x1x128 : Shape := ⟨4, ![128, 16, 1, 128]⟩
abbrev S128 : Shape := ⟨1, ![128]⟩
abbrev S_ : Shape := ⟨0, ![]⟩
abbrev S128x16 : Shape := ⟨2, ![128, 16]⟩
abbrev S128x16x1 : Shape := ⟨3, ![128, 16, 1]⟩
abbrev S1x1x128 : Shape := ⟨3, ![1, 1, 128]⟩

abbrev nBuf : Space → Nat
  | .hbm => 62
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S128x2048, .f32⟩
  | .hbm, ⟨2, _⟩ => ⟨S128x2048, .f32⟩
  | .hbm, ⟨3, _⟩ => ⟨S128x2048, .f32⟩
  | .hbm, ⟨4, _⟩ => ⟨S128x2048, .f32⟩
  | .hbm, ⟨5, _⟩ => ⟨S128x2048, .f32⟩
  | .hbm, ⟨6, _⟩ => ⟨S128x13312, .f32⟩
  | .hbm, ⟨7, _⟩ => ⟨S1x128, .f32⟩
  | .hbm, ⟨8, _⟩ => ⟨S1x128x16x128x128, .f32⟩
  | .hbm, ⟨9, _⟩ => ⟨S128x16x128, .f32⟩
  | .hbm, ⟨10, _⟩ => ⟨S128x16x128, .f32⟩
  | .hbm, ⟨11, _⟩ => ⟨S128x16x128, .f32⟩
  | .hbm, ⟨12, _⟩ => ⟨S128x16x128, .f32⟩
  | .hbm, ⟨13, _⟩ => ⟨S128x16x128, .f32⟩
  | .hbm, ⟨14, _⟩ => ⟨S128x16x128, .f32⟩
  | .hbm, ⟨15, _⟩ => ⟨S128x16x128x128, .f32⟩
  | .hbm, ⟨16, _⟩ => ⟨S128x16x128, .f32⟩
  | .hbm, ⟨17, _⟩ => ⟨S128x16x128, .f32⟩
  | .hbm, ⟨18, _⟩ => ⟨S128x16x128, .f32⟩
  | .hbm, ⟨19, _⟩ => ⟨S128x16x128, .f32⟩
  | .hbm, ⟨20, _⟩ => ⟨S128x16x128, .f32⟩
  | .hbm, ⟨21, _⟩ => ⟨S128x16x128, .f32⟩
  | .hbm, ⟨22, _⟩ => ⟨S128x16x128, .f32⟩
  | .hbm, ⟨23, _⟩ => ⟨S128x16x128, .f32⟩
  | .hbm, ⟨24, _⟩ => ⟨S128x16x1x128, .f32⟩
  | .hbm, ⟨25, _⟩ => ⟨S128x16x128x128, .f32⟩
  | .hbm, ⟨26, _⟩ => ⟨S128x16x128x128, .f32⟩
  | .hbm, ⟨27, _⟩ => ⟨S128x16x1x128, .f32⟩
  | .hbm, ⟨28, _⟩ => ⟨S128x16x1x128, .f32⟩
  | .hbm, ⟨29, _⟩ => ⟨S128x16x128x128, .f32⟩
  | .hbm, ⟨30, _⟩ => ⟨S128x16x128x128, .f32⟩
  | .hbm, ⟨31, _⟩ => ⟨S128x2048, .f32⟩
  | .hbm, ⟨32, _⟩ => ⟨S128x16x128, .f32⟩
  | .hbm, ⟨33, _⟩ => ⟨S128, .f32⟩
  | .hbm, ⟨34, _⟩ => ⟨S128x16x128, .f32⟩
  | .hbm, ⟨35, _⟩ => ⟨S_, .f32⟩
  | .hbm, ⟨36, _⟩ => ⟨S128x16, .f32⟩
  | .hbm, ⟨37, _⟩ => ⟨S128x16x1, .f32⟩
  | .hbm, ⟨38, _⟩ => ⟨S_, .f32⟩
  | .hbm, ⟨39, _⟩ => ⟨S128x16x1, .f32⟩
  | .hbm, ⟨40, _⟩ => ⟨S128x16x1, .f32⟩
  | .hbm, ⟨41, _⟩ => ⟨S_, .f32⟩
  | .hbm, ⟨42, _⟩ => ⟨S128x16x1, .f32⟩
  | .hbm, ⟨43, _⟩ => ⟨S128x16x1, .f32⟩
  | .hbm, ⟨44, _⟩ => ⟨S128x16x1, .f32⟩
  | .hbm, ⟨45, _⟩ => ⟨S128x16x128, .f32⟩
  | .hbm, ⟨46, _⟩ => ⟨S128x16x128, .f32⟩
  | .hbm, ⟨47, _⟩ => ⟨S1x1x128, .f32⟩
  | .hbm, ⟨48, _⟩ => ⟨S128x16x128, .f32⟩
  | .hbm, ⟨49, _⟩ => ⟨S128x16x128, .f32⟩
  | .hbm, ⟨50, _⟩ => ⟨S128x16x128, .f32⟩
  | .hbm, ⟨51, _⟩ => ⟨S128x16x128, .f32⟩
  | .hbm, ⟨52, _⟩ => ⟨S_, .f32⟩
  | .hbm, ⟨53, _⟩ => ⟨S128x16x128, .f32⟩
  | .hbm, ⟨54, _⟩ => ⟨S128x16x128, .f32⟩
  | .hbm, ⟨55, _⟩ => ⟨S_, .f32⟩
  | .hbm, ⟨56, _⟩ => ⟨S128x16x128, .f32⟩
  | .hbm, ⟨57, _⟩ => ⟨S128x16x128, .f32⟩
  | .hbm, ⟨58, _⟩ => ⟨S128x16x128, .f32⟩
  | .hbm, ⟨59, _⟩ => ⟨S128x16x128, .f32⟩
  | .hbm, ⟨60, _⟩ => ⟨S128x16x128, .bf16⟩
  | .hbm, ⟨61, _⟩ => ⟨S1x128x16x128x128, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Outproj.lean ====
abbrev S8192x2048 : Shape := ⟨2, ![8192, 2048]⟩
abbrev S1x2048x2048 : Shape := ⟨3, ![1, 2048, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x2048, .f32⟩
  | .hbm, ⟨3, _⟩ => ⟨S2048x2048, .f32⟩
  | .hbm, ⟨4, _⟩ => ⟨S2048x2048, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefOutprojIdeal.lean ====
abbrev S8192x2048 : Shape := ⟨2, ![8192, 2048]⟩
abbrev S1x2048x2048 : Shape := ⟨3, ![1, 2048, 2048]⟩
abbrev S4x2048x2048 : Shape := ⟨3, ![4, 2048, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048x2048, .f32⟩
  | .hbm, ⟨3, _⟩ => ⟨S4x2048x2048, .f32⟩
  | .hbm, ⟨4, _⟩ => ⟨S4x2048x2048, .bf16⟩
  | .hbm, ⟨5, _⟩ => ⟨S4x2048x2048, .f32⟩
  | .hbm, ⟨6, _⟩ => ⟨S2048x2048, .f32⟩
  | .hbm, ⟨7, _⟩ => ⟨S4x2048x2048, .f32⟩
  | .hbm, ⟨8, _⟩ => ⟨S4x2048x2048, .f32⟩
  | .hbm, ⟨9, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutprojS.lean ====
abbrev S128x2048 : Shape := ⟨2, ![128, 2048]⟩
abbrev S1x2048x2048 : Shape := ⟨3, ![1, 2048, 2048]⟩
abbrev S2048x2048 : Shape := ⟨2, ![2048, 2048]⟩
abbrev S2048x1024 : Shape := ⟨2, ![2048, 1024]⟩
abbrev S128x1024 : Shape := ⟨2, ![128, 1024]⟩

abbrev nBuf : Space → Nat
  | .hbm => 6
  | .vmem => 7
  | .smem => 0
  | _ => 0

abbrev bufTy : (tb : Table) → Fin (tcTables nBuf tb) → BufTy
  | .hbm, ⟨0, _⟩ => ⟨S128x2048, .bf16⟩
  | .hbm, ⟨1, _⟩ => ⟨S128x2048, .f32⟩
  | .hbm, ⟨2, _⟩ => ⟨S1x2048x2048, .f32⟩
  | .hbm, ⟨3, _⟩ => ⟨S2048x2048, .f32⟩
  | .hbm, ⟨4, _⟩ => ⟨S2048x2048, .bf16⟩
  | .hbm, ⟨5, _⟩ => ⟨S128x2048, .f32⟩
  | .local _ .vmem, ⟨0, _⟩ => ⟨S128x2048, .bf16⟩
  | .local _ .vmem, ⟨1, _⟩ => ⟨S2048x1024, .bf16⟩
  | .local _ .vmem, ⟨2, _⟩ => ⟨S2048x1024, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefOutprojSIdeal.lean ====
abbrev S128x2048 : Shape := ⟨2, ![128, 2048]⟩
abbrev S1x2048x2048 : Shape := ⟨3, ![1, 2048, 2048]⟩
abbrev S128x1x2048 : Shape := ⟨3, ![128, 1, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S128x2048, .f32⟩
  | .hbm, ⟨2, _⟩ => ⟨S1x2048x2048, .f32⟩
  | .hbm, ⟨3, _⟩ => ⟨S128x1x2048, .f32⟩
  | .hbm, ⟨4, _⟩ => ⟨S128x1x2048, .bf16⟩
  | .hbm, ⟨5, _⟩ => ⟨S128x1x2048, .f32⟩
  | .hbm, ⟨6, _⟩ => ⟨S2048x2048, .f32⟩
  | .hbm, ⟨7, _⟩ => ⟨S128x1x2048, .f32⟩
  | .hbm, ⟨8, _⟩ => ⟨S128x1x2048, .f32⟩
  | .hbm, ⟨9, _⟩ => ⟨S128x2048, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Merge.lean ====
abbrev S8192x13312 : Shape := ⟨2, ![8192, 13312]⟩
abbrev S8192x1024 : Shape := ⟨2, ![8192, 1024]⟩
abbrev S8192x2048 : Shape := ⟨2, ![8192, 2048]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S1024x1024 : Shape := ⟨2, ![1024, 1024]⟩
abbrev S2048x1024 : Shape := ⟨2, ![2048, 1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x13312, .f32⟩
  | .hbm, ⟨1, _⟩ => ⟨S8192x1024, .bf16⟩
  | .hbm, ⟨2, _⟩ => ⟨S8192x2048, .bf16⟩
  | .hbm, ⟨3, _⟩ => ⟨S1x1024x2048, .f32⟩
  | .hbm, ⟨4, _⟩ => ⟨S1x2048x2048, .f32⟩
  | .hbm, ⟨5, _⟩ => ⟨S1024x2048, .f32⟩
  | .hbm, ⟨6, _⟩ => ⟨S1024x2048, .bf16⟩
  | .hbm, ⟨7, _⟩ => ⟨S2048x2048, .f32⟩
  | .hbm, ⟨8, _⟩ => ⟨S2048x2048, .bf16⟩
  | .hbm, ⟨9, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S8192x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefMergeIdeal.lean ====
abbrev S8192x13312 : Shape := ⟨2, ![8192, 13312]⟩
abbrev S8192x1024 : Shape := ⟨2, ![8192, 1024]⟩
abbrev S8192x2048 : Shape := ⟨2, ![8192, 2048]⟩
abbrev S1x1024x2048 : Shape := ⟨3, ![1, 1024, 2048]⟩
abbrev S1x2048x2048 : Shape := ⟨3, ![1, 2048, 2048]⟩
abbrev S4x2048x13312 : Shape := ⟨3, ![4, 2048, 13312]⟩
abbrev S4x2048x1024 : Shape := ⟨3, ![4, 2048, 1024]⟩
abbrev S4x2048x2048 : Shape := ⟨3, ![4, 2048, 2048]⟩
abbrev S_ : Shape := ⟨0, ![]⟩
abbrev S1024x2048 : Shape := ⟨2, ![1024, 2048]⟩
abbrev S2048x2048 : Shape := ⟨2, ![2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x13312, .f32⟩
  | .hbm, ⟨1, _⟩ => ⟨S8192x1024, .bf16⟩
  | .hbm, ⟨2, _⟩ => ⟨S8192x2048, .bf16⟩
  | .hbm, ⟨3, _⟩ => ⟨S1x1024x2048, .f32⟩
  | .hbm, ⟨4, _⟩ => ⟨S1x2048x2048, .f32⟩
  | .hbm, ⟨5, _⟩ => ⟨S4x2048x13312, .f32⟩
  | .hbm, ⟨6, _⟩ => ⟨S4x2048x1024, .bf16⟩
  | .hbm, ⟨7, _⟩ => ⟨S4x2048x1024, .f32⟩
  | .hbm, ⟨8, _⟩ => ⟨S4x2048x2048, .bf16⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S_, .f32⟩
  | .hbm, ⟨14, _⟩ => ⟨S4x2048x2048, .f32⟩
  | .hbm, ⟨15, _⟩ => ⟨S4x2048x2048, .f32⟩
  | .hbm, ⟨16, _⟩ => ⟨S_, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048x2048, .f32⟩
  | .hbm, ⟨27, _⟩ => ⟨S4x2048x2048, .f32⟩
  | .hbm, ⟨28, _⟩ => ⟨S1024x2048, .f32⟩
  | .hbm, ⟨29, _⟩ => ⟨S4x2048x2048, .f32⟩
  | .hbm, ⟨30, _⟩ => ⟨S4x2048x2048, .f32⟩
  | .hbm, ⟨31, _⟩ => ⟨S2048x2048, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S8192x2048, .f32⟩
  | .hbm, ⟨36, _⟩ => ⟨S8192x2048, .bf16⟩
  | _, _ => ⟨S8192x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== MergeS.lean ====
abbrev S128x13312 : Shape := ⟨2, ![128, 13312]⟩
abbrev S128x1024 : Shape := ⟨2, ![128, 1024]⟩
abbrev S128x2048 : Shape := ⟨2, ![128, 2048]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S1024x1024 : Shape := ⟨2, ![1024, 1024]⟩
abbrev S2048x1024 : Shape := ⟨2, ![2048, 1024]⟩

abbrev nBuf : Space → Nat
  | .hbm => 10
  | .vmem => 12
  | .smem => 0
  | _ => 0

abbrev bufTy : (tb : Table) → Fin (tcTables nBuf tb) → BufTy
  | .hbm, ⟨0, _⟩ => ⟨S128x13312, .f32⟩
  | .hbm, ⟨1, _⟩ => ⟨S128x1024, .bf16⟩
  | .hbm, ⟨2, _⟩ => ⟨S128x2048, .bf16⟩
  | .hbm, ⟨3, _⟩ => ⟨S1x1024x2048, .f32⟩
  | .hbm, ⟨4, _⟩ => ⟨S1x2048x2048, .f32⟩
  | .hbm, ⟨5, _⟩ => ⟨S1024x2048, .f32⟩
  | .hbm, ⟨6, _⟩ => ⟨S1024x2048, .bf16⟩
  | .hbm, ⟨7, _⟩ => ⟨S2048x2048, .f32⟩
  | .hbm, ⟨8, _⟩ => ⟨S2048x2048, .bf16⟩
  | .hbm, ⟨9, _⟩ => ⟨S128x2048, .bf16⟩
  | .local _ .vmem, ⟨0, _⟩ => ⟨S128x1024, .bf16⟩
  | .local _ .vmem, ⟨1, _⟩ => ⟨S128x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .bf16⟩
  | .local _ .vmem, ⟨11, _⟩ => ⟨S128x1024, .bf16⟩
  | _, _ => ⟨S128x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefMergeSIdeal.lean ====
abbrev S128x13312 : Shape := ⟨2, ![128, 13312]⟩
abbrev S128x1024 : Shape := ⟨2, ![128, 1024]⟩
abbrev S128x2048 : Shape := ⟨2, ![128, 2048]⟩
abbrev S1x1024x2048 : Shape := ⟨3, ![1, 1024, 2048]⟩
abbrev S1x2048x2048 : Shape := ⟨3, ![1, 2048, 2048]⟩
abbrev S128x1x13312 : Shape := ⟨3, ![128, 1, 13312]⟩
abbrev S128x1x1024 : Shape := ⟨3, ![128, 1, 1024]⟩
abbrev S128x1x2048 : Shape := ⟨3, ![128, 1, 2048]⟩
abbrev S_ : Shape := ⟨0, ![]⟩
abbrev S1024x2048 : Shape := ⟨2, ![1024, 2048]⟩
abbrev S2048x2048 : Shape := ⟨2, ![2048, 2048]⟩

abbrev nBuf : Space → Nat
  | .hbm => 37
  | .vmem => 0
  | .smem => 0
  | _ => 0

abbrev bufTy : (tb : Table) → Fin (tcTables nBuf tb) → BufTy
  | .hbm, ⟨0, _⟩ => ⟨S128x13312, .f32⟩
  | .hbm, ⟨1, _⟩ => ⟨S128x1024, .bf16⟩
  | .hbm, ⟨2, _⟩ => ⟨S128x2048, .bf16⟩
  | .hbm, ⟨3, _⟩ => ⟨S1x1024x2048, .f32⟩
  | .hbm, ⟨4, _⟩ => ⟨S1x2048x2048, .f32⟩
  | .hbm, ⟨5, _⟩ => ⟨S128x1x13312, .f32⟩
  | .hbm, ⟨6, _⟩ => ⟨S128x1x1024, .bf16⟩
  | .hbm, ⟨7, _⟩ => ⟨S128x1x1024, .f32⟩
  | .hbm, ⟨8, _⟩ => ⟨S128x1x2048, .bf16⟩
  | .hbm, ⟨9, _⟩ => ⟨S128x1x2048, .f32⟩
  | .hbm, ⟨10, _⟩ => ⟨S128x1x2048, .f32⟩
  | .hbm, ⟨11, _⟩ => ⟨S128x1x2048, .f32⟩
  | .hbm, ⟨12, _⟩ => ⟨S128x1x2048, .f32⟩
  | .hbm, ⟨13, _⟩ => ⟨S_, .f32⟩
  | .hbm, ⟨14, _⟩ => ⟨S128x1x2048, .f32⟩
  | .hbm, ⟨15, _⟩ => ⟨S128x1x2048, .f32⟩
  | .hbm, ⟨16, _⟩ => ⟨S_, .f32⟩
  | .hbm, ⟨17, _⟩ => ⟨S128x1x2048, .f32⟩
  | .hbm, ⟨18, _⟩ => ⟨S128x1x2048, .f32⟩
  | .hbm, ⟨19, _⟩ => ⟨S128x1x2048, .f32⟩
  | .hbm, ⟨20, _⟩ => ⟨S128x1x2048, .f32⟩
  | .hbm, ⟨21, _⟩ => ⟨S128x1x2048, .f32⟩
  | .hbm, ⟨22, _⟩ => ⟨S_, .f32⟩
  | .hbm, ⟨23, _⟩ => ⟨S128x1x2048, .f32⟩
  | .hbm, ⟨24, _⟩ => ⟨S128x1x2048, .f32⟩
  | .hbm, ⟨25, _⟩ => ⟨S_, .f32⟩
  | .hbm, ⟨26, _⟩ => ⟨S128x1x2048, .f32⟩
  | .hbm, ⟨27, _⟩ => ⟨S128x1x2048, .f32⟩
  | .hbm, ⟨28, _⟩ => ⟨S1024x2048, .f32⟩
  | .hbm, ⟨29, _⟩ => ⟨S128x1x2048, .f32⟩
  | .hbm, ⟨30, _⟩ => ⟨S128x1x2048, .f32⟩
  | .hbm, ⟨31, _⟩ => ⟨S2048x2048, .f32⟩
  | .hbm, ⟨32, _⟩ => ⟨S128x1x2048, .f32⟩
  | .hbm, ⟨33, _⟩ => ⟨S128x1x2048, .f32⟩
  | .hbm, ⟨34, _⟩ => ⟨S128x1x2048, .f32⟩
  | .hbm, ⟨35, _⟩ => ⟨S128x2048, .f32⟩
  | .hbm, ⟨36, _⟩ => ⟨S128x2048, .bf16⟩
  | _, _ => ⟨S128x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== NormIn.lean ====
abbrev S8192x2048 : Shape := ⟨2, ![8192, 2048]⟩
abbrev S1x2048 : Shape := ⟨2, ![1, 2048]⟩
abbrev S1x2048x13344 : Shape := ⟨3, ![1, 2048, 13344]⟩
abbrev S2048x13344 : Shape := ⟨2, ![2048, 13344]⟩
abbrev S13344x2048 : Shape := ⟨2, ![13344, 2048]⟩
abbrev S8192x128 : Shape := ⟨2, ![8192, 128]⟩
abbrev S1024x2048 : Shape := ⟨2, ![1024, 2048]⟩
abbrev S128x2048 : Shape := ⟨2, ![128, 2048]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x13344, .f32⟩
  | .hbm, ⟨3, _⟩ => ⟨S2048x13344, .f32⟩
  | .hbm, ⟨4, _⟩ => ⟨S13344x2048, .f32⟩
  | .hbm, ⟨5, _⟩ => ⟨S8192x2048, .bf16⟩
  | .hbm, ⟨6, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S128x2048, .f32⟩
  | .local _ .vmem, ⟨4, _⟩ => ⟨S1024x2048, .bf16⟩
  | .local _ .vmem, ⟨5, _⟩ => ⟨S1024x2048, .bf16⟩
  | .local _ .vmem, ⟨6, _⟩ => ⟨S1024x128, .f32⟩
  | .local _ .vmem, ⟨7, _⟩ => ⟨S1024x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c72_i32 : BitVec 32 := 72#32
  let c0_i32 : BitVec 32 := 0#32
  let c0_i32_0 : BitVec 32 := 0#32
  ![c72_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefNormInIdeal.lean ====
abbrev S8192x2048 : Shape := ⟨2, ![8192, 2048]⟩
abbrev S1x2048 : Shape := ⟨2, ![1, 2048]⟩
abbrev S1x2048x13344 : Shape := ⟨3, ![1, 2048, 13344]⟩
abbrev S4x2048x2048 : Shape := ⟨3, ![4, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x13344 : Shape := ⟨2, ![2048, 13344]⟩
abbrev S2048x128 : Shape := ⟨2, ![2048, 128]⟩
abbrev S4x2048x128 : Shape := ⟨3, ![4, 2048, 128]⟩
abbrev S8192x128 : Shape := ⟨2, ![8192, 128]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048x13344, .f32⟩
  | .hbm, ⟨3, _⟩ => ⟨S4x2048x2048, .f32⟩
  | .hbm, ⟨4, _⟩ => ⟨S2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S2048x13344, .f32⟩
  | .hbm, ⟨22, _⟩ => ⟨S2048x128, .f32⟩
  | .hbm, ⟨23, _⟩ => ⟨S4x2048x128, .f32⟩
  | .hbm, ⟨24, _⟩ => ⟨S8192x2048, .f32⟩
  | .hbm, ⟨25, _⟩ => ⟨S8192x2048, .bf16⟩
  | .hbm, ⟨26, _⟩ => ⟨S8192x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== NormInS.lean ====
abbrev S128x2048 : Shape := ⟨2, ![128, 2048]⟩
abbrev S1x2048 : Shape := ⟨2, ![1, 2048]⟩
abbrev S1x2048x13344 : Shape := ⟨3, ![1, 2048, 13344]⟩
abbrev S2048x13344 : Shape := ⟨2, ![2048, 13344]⟩
abbrev S13344x2048 : Shape := ⟨2, ![13344, 2048]⟩
abbrev S128x128 : Shape := ⟨2, ![128, 128]⟩
abbrev S128 : Shape := ⟨1, ![128]⟩
abbrev S128x1 : Shape := ⟨2, ![128, 1]⟩

abbrev nBuf : Space → Nat
  | .hbm => 7
  | .vmem => 5
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S1x2048x13344, .f32⟩
  | .hbm, ⟨3, _⟩ => ⟨S2048x13344, .f32⟩
  | .hbm, ⟨4, _⟩ => ⟨S13344x2048, .f32⟩
  | .hbm, ⟨5, _⟩ => ⟨S128x2048, .bf16⟩
  | .hbm, ⟨6, _⟩ => ⟨S128x128, .f32⟩
  | .local _ .vmem, ⟨0, _⟩ => ⟨S128x2048, .f32⟩
  | .local _ .vmem, ⟨1, _⟩ => ⟨S1x2048, .f32⟩
  | .local _ .vmem, ⟨2, _⟩ => ⟨S128x2048, .f32⟩
  | .local _ .vmem, ⟨3, _⟩ => ⟨S128x2048, .bf16⟩
  | .local _ .vmem, ⟨4, _⟩ => ⟨S128x128, .f32⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c72_i32 : BitVec 32 := 72#32
  let c0_i32 : BitVec 32 := 0#32
  let c0_i32_0 : BitVec 32 := 0#32
  ![c72_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== RefNormInSIdeal.lean ====
abbrev S128x2048 : Shape := ⟨2, ![128, 2048]⟩
abbrev S1x2048 : Shape := ⟨2, ![1, 2048]⟩
abbrev S1x2048x13344 : Shape := ⟨3, ![1, 2048, 13344]⟩
abbrev S128x1x2048 : Shape := ⟨3, ![128, 1, 2048]⟩
abbrev S2048 : Shape := ⟨1, ![2048]⟩
abbrev S_ : Shape := ⟨0, ![]⟩
abbrev S128x1 : Shape := ⟨2, ![128, 1]⟩
abbrev S128x1x1 : Shape := ⟨3, ![128, 1, 1]⟩
abbrev S1x1x2048 : Shape := ⟨3, ![1, 1, 2048]⟩
abbrev S2048x13344 : Shape := ⟨2, ![2048, 13344]⟩
abbrev S2048x128 : Shape := ⟨2, ![2048, 128]⟩
abbrev S128x1x128 : Shape := ⟨3, ![128, 1, 128]⟩
abbrev S128x128 : Shape := ⟨2, ![128, 128]⟩

abbrev nBuf : Space → Nat
  | .hbm => 27
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S1x2048x13344, .f32⟩
  | .hbm, ⟨3, _⟩ => ⟨S128x1x2048, .f32⟩
  | .hbm, ⟨4, _⟩ => ⟨S2048, .f32⟩
  | .hbm, ⟨5, _⟩ => ⟨S128x1x2048, .f32⟩
  | .hbm, ⟨6, _⟩ => ⟨S_, .f32⟩
  | .hbm, ⟨7, _⟩ => ⟨S128x1, .f32⟩
  | .hbm, ⟨8, _⟩ => ⟨S128x1x1, .f32⟩
  | .hbm, ⟨9, _⟩ => ⟨S_, .f32⟩
  | .hbm, ⟨10, _⟩ => ⟨S128x1x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S128x1x1, .f32⟩
  | .hbm, ⟨16, _⟩ => ⟨S128x1x2048, .f32⟩
  | .hbm, ⟨17, _⟩ => ⟨S128x1x2048, .f32⟩
  | .hbm, ⟨18, _⟩ => ⟨S1x1x2048, .f32⟩
  | .hbm, ⟨19, _⟩ => ⟨S128x1x2048, .f32⟩
  | .hbm, ⟨20, _⟩ => ⟨S128x1x2048, .f32⟩
  | .hbm, ⟨21, _⟩ => ⟨S2048x13344, .f32⟩
  | .hbm, ⟨22, _⟩ => ⟨S2048x128, .f32⟩
  | .hbm, ⟨23, _⟩ => ⟨S128x1x128, .f32⟩
  | .hbm, ⟨24, _⟩ => ⟨S128x2048, .f32⟩
  | .hbm, ⟨25, _⟩ => ⟨S128x2048, .bf16⟩
  | .hbm, ⟨26, _⟩ => ⟨S128x128, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== FfnS.lean ====
abbrev S128x2048 : Shape := ⟨2, ![128, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S2048x11264 : Shape := ⟨2, ![2048, 11264]⟩
abbrev S5632x2048 : Shape := ⟨2, ![5632, 2048]⟩
abbrev S2048x512 : Shape := ⟨2, ![2048, 512]⟩
abbrev S512x2048 : Shape := ⟨2, ![512, 2048]⟩
abbrev S128 : Shape := ⟨1, ![128]⟩
abbrev S128x1 : Shape := ⟨2, ![128, 1]⟩
abbrev S128x512 : Shape := ⟨2, ![128, 512]⟩

abbrev nBuf : Space → Nat
  | .hbm => 7
  | .vmem => 10
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S2048x11264, .f32⟩
  | .hbm, ⟨5, _⟩ => ⟨S5632x2048, .f32⟩
  | .hbm, ⟨6, _⟩ => ⟨S128x2048, .f32⟩
  | .local _ .vmem, ⟨0, _⟩ => ⟨S128x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S512x2048, .f32⟩
  | .local _ .vmem, ⟨7, _⟩ => ⟨S512x2048, .f32⟩
  | .local _ .vmem, ⟨8, _⟩ => ⟨S128x2048, .f32⟩
  | .local _ .vmem, ⟨9, _⟩ => ⟨S128x2048, .bf16⟩
  | _, _ => ⟨S128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== RefFfnSIdeal.lean ====
abbrev S128x2048 : Shape := ⟨2, ![128, 2048]⟩
abbrev S1x2048 : Shape := ⟨2, ![1, 2048]⟩
abbrev S1x2048x11264 : Shape := ⟨3, ![1, 2048, 11264]⟩
abbrev S1x5632x2048 : Shape := ⟨3, ![1, 5632, 2048]⟩
abbrev S128x1x2048 : Shape := ⟨3, ![128, 1, 2048]⟩
abbrev S2048 : Shape := ⟨1, ![2048]⟩
abbrev S_ : Shape := ⟨0, ![]⟩
abbrev S128x1 : Shape := ⟨2, ![128, 1]⟩
abbrev S128x1x1 : Shape := ⟨3, ![128, 1, 1]⟩
abbrev S1x1x2048 : Shape := ⟨3, ![1, 1, 2048]⟩
abbrev S2048x11264 : Shape := ⟨2, ![2048, 11264]⟩
abbrev S128x1x11264 : Shape := ⟨3, ![128, 1, 11264]⟩
abbrev S128x1x5632 : Shape := ⟨3, ![128, 1, 5632]⟩
abbrev S5632x2048 : Shape := ⟨2, ![5632, 2048]⟩

abbrev nBuf : Space → Nat
  | .hbm => 40
  | .vmem => 0
  | .smem => 0
  | _ => 0

abbrev bufTy : (tb : Table) → Fin (tcTables nBuf tb) → BufTy
  | .hbm, ⟨0, _⟩ => ⟨S128x2048, .f32⟩
  | .hbm, ⟨1, _⟩ => ⟨S1x2048, .f32⟩
  | .hbm, ⟨2, _⟩ => ⟨S1x2048x11264, .f32⟩
  | .hbm, ⟨3, _⟩ => ⟨S1x5632x2048, .f32⟩
  | .hbm, ⟨4, _⟩ => ⟨S128x1x2048, .f32⟩
  | .hbm, ⟨5, _⟩ => ⟨S2048, .f32⟩
  | .hbm, ⟨6, _⟩ => ⟨S128x1x2048, .f32⟩
  | .hbm, ⟨7, _⟩ => ⟨S_, .f32⟩
  | .hbm, ⟨8, _⟩ => ⟨S128x1, .f32⟩
  | .hbm, ⟨9, _⟩ => ⟨S128x1x1, .f32⟩
  | .hbm, ⟨10, _⟩ => ⟨S_, .f32⟩
  | .hbm, ⟨11, _⟩ => ⟨S128x1x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S128x1x1, .f32⟩
  | .hbm, ⟨17, _⟩ => ⟨S128x1x2048, .f32⟩
  | .hbm, ⟨18, _⟩ => ⟨S128x1x2048, .f32⟩
  | .hbm, ⟨19, _⟩ => ⟨S1x1x2048, .f32⟩
  | .hbm, ⟨20, _⟩ => ⟨S128x1x2048, .f32⟩
  | .hbm, ⟨21, _⟩ => ⟨S128x1x2048, .f32⟩
  | .hbm, ⟨22, _⟩ => ⟨S2048x11264, .f32⟩
  | .hbm, ⟨23, _⟩ => ⟨S128x1x11264, .f32⟩
  | .hbm, ⟨24, _⟩ => ⟨S128x1x5632, .f32⟩
  | .hbm, ⟨25, _⟩ => ⟨S128x1x5632, .f32⟩
  | .hbm, ⟨26, _⟩ => ⟨S128x1x5632, .f32⟩
  | .hbm, ⟨27, _⟩ => ⟨S_, .f32⟩
  | .hbm, ⟨28, _⟩ => ⟨S128x1x5632, .f32⟩
  | .hbm, ⟨29, _⟩ => ⟨S128x1x5632, .f32⟩
  | .hbm, ⟨30, _⟩ => ⟨S_, .f32⟩
  | .hbm, ⟨31, _⟩ => ⟨S128x1x5632, .f32⟩
  | .hbm, ⟨32, _⟩ => ⟨S128x1x5632, .f32⟩
  | .hbm, ⟨33, _⟩ => ⟨S128x1x5632, .f32⟩
  | .hbm, ⟨34, _⟩ => ⟨S128x1x5632, .f32⟩
  | .hbm, ⟨35, _⟩ => ⟨S128x1x5632, .f32⟩
  | .hbm, ⟨36, _⟩ => ⟨S5632x2048, .f32⟩
  | .hbm, ⟨37, _⟩ => ⟨S128x1x2048, .f32⟩
  | .hbm, ⟨38, _⟩ => ⟨S128x1x2048, .f32⟩
  | .hbm, ⟨39, _⟩ => ⟨S128x2048, .f32⟩
  | _, _ => ⟨S128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Prep.lean ====
abbrev S128x13312 : Shape := ⟨2, ![128, 13312]⟩
abbrev S128x128 : Shape := ⟨2, ![128, 128]⟩
abbrev S1x128x3x6144 : Shape := ⟨4, ![1, 128, 3, 6144]⟩
abbrev S1x4x6144 : Shape := ⟨3, ![1, 4, 6144]⟩
abbrev S1x16 : Shape := ⟨2, ![1, 16]⟩
abbrev S_ : Shape := ⟨0, ![]⟩
abbrev S1x128 : Shape := ⟨2, ![1, 128]⟩
abbrev S128x3x6144 : Shape := ⟨3, ![128, 3, 6144]⟩
abbrev S3x128x6144 : Shape := ⟨3, ![3, 128, 6144]⟩
abbrev S4x6144 : Shape := ⟨2, ![4, 6144]⟩
abbrev S128x2048 : Shape := ⟨2, ![128, 2048]⟩
abbrev S1x2048 : Shape := ⟨2, ![1, 2048]⟩
abbrev S1x128x2048 : Shape := ⟨3, ![1, 128, 2048]⟩
abbrev S128 : Shape := ⟨1, ![128]⟩
abbrev S128x1 : Shape := ⟨2, ![128, 1]⟩

abbrev nBuf : Space → Nat
  | .hbm => 21
  | .vmem => 14
  | .smem => 0
  | _ => 0

abbrev bufTy : (tb : Table) → Fin (tcTables nBuf tb) → BufTy
  | .hbm, ⟨0, _⟩ => ⟨S128x13312, .f32⟩
  | .hbm, ⟨1, _⟩ => ⟨S128x128, .f32⟩
  | .hbm, ⟨2, _⟩ => ⟨S1x128x3x6144, .f32⟩
  | .hbm, ⟨3, _⟩ => ⟨S1x4x6144, .f32⟩
  | .hbm, ⟨4, _⟩ => ⟨S1x16, .f32⟩
  | .hbm, ⟨5, _⟩ => ⟨S1x16, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S_, .i32⟩
  | .hbm, ⟨10, _⟩ => ⟨S_, .f32⟩
  | .hbm, ⟨11, _⟩ => ⟨S1x128, .f32⟩
  | .hbm, ⟨12, _⟩ => ⟨S128x3x6144, .f32⟩
  | .hbm, ⟨13, _⟩ => ⟨S3x128x6144, .f32⟩
  | .hbm, ⟨14, _⟩ => ⟨S4x6144, .f32⟩
  | .hbm, ⟨15, _⟩ => ⟨S128x2048, .f32⟩
  | .hbm, ⟨16, _⟩ => ⟨S128x2048, .f32⟩
  | .hbm, ⟨17, _⟩ => ⟨S128x2048, .f32⟩
  | .hbm, ⟨18, _⟩ => ⟨S128x2048, .f32⟩
  | .hbm, ⟨19, _⟩ => ⟨S128x2048, .f32⟩
  | .hbm, ⟨20, _⟩ => ⟨S128x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x128, .f32⟩
  | .local _ .vmem, ⟨4, _⟩ => ⟨S3x128x6144, .f32⟩
  | .local _ .vmem, ⟨5, _⟩ => ⟨S4x6144, .f32⟩
  | .local _ .vmem, ⟨6, _⟩ => ⟨S1x128, .f32⟩
  | .local _ .vmem, ⟨7, _⟩ => ⟨S1x128, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S128x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev main_v5_4 : Ref sig .tc := ⟨.hbm, 19, rfl⟩
abbrev main_v5_5 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== RefPrepIdeal.lean ====
abbrev S128x13312 : Shape := ⟨2, ![128, 13312]⟩
abbrev S128x128 : Shape := ⟨2, ![128, 128]⟩
abbrev S1x128x3x6144 : Shape := ⟨4, ![1, 128, 3, 6144]⟩
abbrev S1x4x6144 : Shape := ⟨3, ![1, 4, 6144]⟩
abbrev S1x16 : Shape := ⟨2, ![1, 16]⟩
abbrev S4x6144 : Shape := ⟨2, ![4, 6144]⟩
abbrev S128x3x6144 : Shape := ⟨3, ![128, 3, 6144]⟩
abbrev S128x6144 : Shape := ⟨2, ![128, 6144]⟩
abbrev S128x1x6144 : Shape := ⟨3, ![128, 1, 6144]⟩
abbrev S128x4x6144 : Shape := ⟨3, ![128, 4, 6144]⟩
abbrev S1x6144 : Shape := ⟨2, ![1, 6144]⟩
abbrev S6144 : Shape := ⟨1, ![6144]⟩
abbrev S1x1x6144 : Shape := ⟨3, ![1, 1, 6144]⟩
abbrev S_ : Shape := ⟨0, ![]⟩
abbrev S128x3x16x128 : Shape := ⟨4, ![128, 3, 16, 128]⟩
abbrev S128x1x16x128 : Shape := ⟨4, ![128, 1, 16, 128]⟩
abbrev S128x16x128 : Shape := ⟨3, ![128, 16, 128]⟩
abbrev S128x16 : Shape := ⟨2, ![128, 16]⟩
abbrev S128x16x1 : Shape := ⟨3, ![128, 16, 1]⟩
abbrev S16 : Shape := ⟨1, ![16]⟩
abbrev S128x2048 : Shape := ⟨2, ![128, 2048]⟩

abbrev nBuf : Space → Nat
  | .hbm => 125
  | .vmem => 0
  | .smem => 0
  | _ => 0

abbrev bufTy : (tb : Table) → Fin (tcTables nBuf tb) → BufTy
  | .hbm, ⟨0, _⟩ => ⟨S128x13312, .f32⟩
  | .hbm, ⟨1, _⟩ => ⟨S128x128, .f32⟩
  | .hbm, ⟨2, _⟩ => ⟨S1x128x3x6144, .f32⟩
  | .hbm, ⟨3, _⟩ => ⟨S1x4x6144, .f32⟩
  | .hbm, ⟨4, _⟩ => ⟨S1x16, .f32⟩
  | .hbm, ⟨5, _⟩ => ⟨S1x16, .f32⟩
  | .hbm, ⟨6, _⟩ => ⟨S4x6144, .f32⟩
  | .hbm, ⟨7, _⟩ => ⟨S128x3x6144, .f32⟩
  | .hbm, ⟨8, _⟩ => ⟨S128x6144, .f32⟩
  | .hbm, ⟨9, _⟩ => ⟨S128x1x6144, .f32⟩
  | .hbm, ⟨10, _⟩ => ⟨S128x4x6144, .f32⟩
  | .hbm, ⟨11, _⟩ => ⟨S128x1x6144, .f32⟩
  | .hbm, ⟨12, _⟩ => ⟨S1x6144, .f32⟩
  | .hbm, ⟨13, _⟩ => ⟨S6144, .f32⟩
  | .hbm, ⟨14, _⟩ => ⟨S1x1x6144, .f32⟩
  | .hbm, ⟨15, _⟩ => ⟨S128x1x6144, .f32⟩
  | .hbm, ⟨16, _⟩ => ⟨S128x1x6144, .f32⟩
  | .hbm, ⟨17, _⟩ => ⟨S128x1x6144, .f32⟩
  | .hbm, ⟨18, _⟩ => ⟨S1x6144, .f32⟩
  | .hbm, ⟨19, _⟩ => ⟨S6144, .f32⟩
  | .hbm, ⟨20, _⟩ => ⟨S1x1x6144, .f32⟩
  | .hbm, ⟨21, _⟩ => ⟨S128x1x6144, .f32⟩
  | .hbm, ⟨22, _⟩ => ⟨S128x1x6144, .f32⟩
  | .hbm, ⟨23, _⟩ => ⟨S128x1x6144, .f32⟩
  | .hbm, ⟨24, _⟩ => ⟨S128x1x6144, .f32⟩
  | .hbm, ⟨25, _⟩ => ⟨S1x6144, .f32⟩
  | .hbm, ⟨26, _⟩ => ⟨S6144, .f32⟩
  | .hbm, ⟨27, _⟩ => ⟨S1x1x6144, .f32⟩
  | .hbm, ⟨28, _⟩ => ⟨S128x1x6144, .f32⟩
  | .hbm, ⟨29, _⟩ => ⟨S128x1x6144, .f32⟩
  | .hbm, ⟨30, _⟩ => ⟨S128x1x6144, .f32⟩
  | .hbm, ⟨31, _⟩ => ⟨S128x1x6144, .f32⟩
  | .hbm, ⟨32, _⟩ => ⟨S1x6144, .f32⟩
  | .hbm, ⟨33, _⟩ => ⟨S6144, .f32⟩
  | .hbm, ⟨34, _⟩ => ⟨S1x1x6144, .f32⟩
  | .hbm, ⟨35, _⟩ => ⟨S128x1x6144, .f32⟩
  | .hbm, ⟨36, _⟩ => ⟨S128x1x6144, .f32⟩
  | .hbm, ⟨37, _⟩ => ⟨S128x1x6144, .f32⟩
  | .hbm, ⟨38, _⟩ => ⟨S128x1x6144, .f32⟩
  | .hbm, ⟨39, _⟩ => ⟨S128x1x6144, .f32⟩
  | .hbm, ⟨40, _⟩ => ⟨S_, .f32⟩
  | .hbm, ⟨41, _⟩ => ⟨S128x1x6144, .f32⟩
  | .hbm, ⟨42, _⟩ => ⟨S128x1x6144, .f32⟩
  | .hbm, ⟨43, _⟩ => ⟨S_, .f32⟩
  | .hbm, ⟨44, _⟩ => ⟨S128x1x6144, .f32⟩
  | .hbm, ⟨45, _⟩ => ⟨S128x1x6144, .f32⟩
  | .hbm, ⟨46, _⟩ => ⟨S128x1x6144, .f32⟩
  | .hbm, ⟨47, _⟩ => ⟨S128x3x16x128, .f32⟩
  | .hbm, ⟨48, _⟩ => ⟨S128x1x16x128, .f32⟩
  | .hbm, ⟨49, _⟩ => ⟨S128x16x128, .f32⟩
  | .hbm, ⟨50, _⟩ => ⟨S128x16x128, .f32⟩
  | .hbm, ⟨51, _⟩ => ⟨S_, .f32⟩
  | .hbm, ⟨52, _⟩ => ⟨S128x16, .f32⟩
  | .hbm, ⟨53, _⟩ => ⟨S128x16x1, .f32⟩
  | .hbm, ⟨54, _⟩ => ⟨S_, .f32⟩
  | .hbm, ⟨55, _⟩ => ⟨S128x16x1, .f32⟩
  | .hbm, ⟨56, _⟩ => ⟨S128x16x1, .f32⟩
  | .hbm, ⟨57, _⟩ => ⟨S128x16x1, .f32⟩
  | .hbm, ⟨58, _⟩ => ⟨S128x16x128, .f32⟩
  | .hbm, ⟨59, _⟩ => ⟨S128x16x128, .f32⟩
  | .hbm, ⟨60, _⟩ => ⟨S_, .f32⟩
  | .hbm, ⟨61, _⟩ => ⟨S128x16x128, .f32⟩
  | .hbm, ⟨62, _⟩ => ⟨S128x16x128, .f32⟩
  | .hbm, ⟨63, _⟩ => ⟨S128x1x16x128, .f32⟩
  | .hbm, ⟨64, _⟩ => ⟨S128x16x128, .f32⟩
  | .hbm, ⟨65, _⟩ => ⟨S128x16x128, .f32⟩
  | .hbm, ⟨66, _⟩ => ⟨S_, .f32⟩
  | .hbm, ⟨67, _⟩ => ⟨S128x16, .f32⟩
  | .hbm, ⟨68, _⟩ => ⟨S128x16x1, .f32⟩
  | .hbm, ⟨69, _⟩ => ⟨S_, .f32⟩
  | .hbm, ⟨70, _⟩ => ⟨S128x16x1, .f32⟩
  | .hbm, ⟨71, _⟩ => ⟨S128x16x1, .f32⟩
  | .hbm, ⟨72, _⟩ => ⟨S128x16x1, .f32⟩
  | .hbm, ⟨73, _⟩ => ⟨S128x16x128, .f32⟩
  | .hbm, ⟨74, _⟩ => ⟨S128x16x128, .f32⟩
  | .hbm, ⟨75, _⟩ => ⟨S128x1x16x128, .f32⟩
  | .hbm, ⟨76, _⟩ => ⟨S128x16x128, .f32⟩
  | .hbm, ⟨77, _⟩ => ⟨S128x16, .f32⟩
  | .hbm, ⟨78, _⟩ => ⟨S128x16, .f32⟩
  | .hbm, ⟨79, _⟩ => ⟨S128x16, .f32⟩
  | .hbm, ⟨80, _⟩ => ⟨S_, .f32⟩
  | .hbm, ⟨81, _⟩ => ⟨S128x16, .f32⟩
  | .hbm, ⟨82, _⟩ => ⟨S128x16, .f32⟩
  | .hbm, ⟨83, _⟩ => ⟨S_, .f32⟩
  | .hbm, ⟨84, _⟩ => ⟨S128x16, .f32⟩
  | .hbm, ⟨85, _⟩ => ⟨S128x16, .f32⟩
  | .hbm, ⟨86, _⟩ => ⟨S16, .f32⟩
  | .hbm, ⟨87, _⟩ => ⟨S16, .f32⟩
  | .hbm, ⟨88, _⟩ => ⟨S16, .f32⟩
  | .hbm, ⟨89, _⟩ => ⟨S128x16, .f32⟩
  | .hbm, ⟨90, _⟩ => ⟨S16, .f32⟩
  | .hbm, ⟨91, _⟩ => ⟨S1x16, .f32⟩
  | .hbm, ⟨92, _⟩ => ⟨S128x16, .f32⟩
  | .hbm, ⟨93, _⟩ => ⟨S128x16, .f32⟩
  | .hbm, ⟨94, _⟩ => ⟨S_, .f32⟩
  | .hbm, ⟨95, _⟩ => ⟨S128x16, .f32⟩
  | .hbm, ⟨96, _⟩ => ⟨S128x16, .f32⟩
  | .hbm, ⟨97, _⟩ => ⟨S128x16, .f32⟩
  | .hbm, ⟨98, _⟩ => ⟨S128x16, .f32⟩
  | .hbm, ⟨99, _⟩ => ⟨S128x16, .i1⟩
  | .hbm, ⟨100, _⟩ => ⟨S128x16, .f32⟩
  | .hbm, ⟨101, _⟩ => ⟨S128x16, .f32⟩
  | .hbm, ⟨102, _⟩ => ⟨S128x16, .f32⟩
  | .hbm, ⟨103, _⟩ => ⟨S128x16, .f32⟩
  | .hbm, ⟨104, _⟩ => ⟨S128x16, .f32⟩
  | .hbm, ⟨105, _⟩ => ⟨S128x16, .f32⟩
  | .hbm, ⟨106, _⟩ => ⟨S128x16, .f32⟩
  | .hbm, ⟨107, _⟩ => ⟨S128x16, .f32⟩
  | .hbm, ⟨108, _⟩ => ⟨S1x16, .f32⟩
  | .hbm, ⟨109, _⟩ => ⟨S128x16, .f32⟩
  | .hbm, ⟨110, _⟩ => ⟨S128x16, .f32⟩
  | .hbm, ⟨111, _⟩ => ⟨S128x16, .f32⟩
  | .hbm, ⟨112, _⟩ => ⟨S128x2048, .f32⟩
  | .hbm, ⟨113, _⟩ => ⟨S128x2048, .f32⟩
  | .hbm, ⟨114, _⟩ => ⟨S128x2048, .f32⟩
  | .hbm, ⟨115, _⟩ => ⟨S128x16, .f32⟩
  | .hbm, ⟨116, _⟩ => ⟨S128x16x1, .f32⟩
  | .hbm, ⟨117, _⟩ => ⟨S128x16x128, .f32⟩
  | .hbm, ⟨118, _⟩ => ⟨S128x2048, .f32⟩
  | .hbm, ⟨119, _⟩ => ⟨S128x16x1, .f32⟩
  | .hbm, ⟨120, _⟩ => ⟨S128x16x128, .f32⟩
  | .hbm, ⟨121, _⟩ => ⟨S128x2048, .f32⟩
  | .hbm, ⟨122, _⟩ => ⟨S128x16x1, .f32⟩
  | .hbm, ⟨123, _⟩ => ⟨S128x16x128, .f32⟩
  | .hbm, ⟨124, _⟩ => ⟨S128x2048, .f32⟩
  | _, _ => ⟨S128x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst : Ref sig .tc := ⟨.hbm, 51, rfl⟩
abbrev main_v37 : Ref sig .tc := ⟨.hbm, 52, rfl⟩
abbrev main_v38 : Ref sig .tc := ⟨.hbm, 53, rfl⟩
abbrev main_cst_0 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_1 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_2 : Ref sig .tc := ⟨.hbm, 66, rfl⟩
abbrev main_v49 : Ref sig .tc := ⟨.hbm, 67, rfl⟩
abbrev main_v50 : Ref sig .tc := ⟨.hbm, 68, rfl⟩
abbrev main_cst_3 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_4 : Ref sig .tc := ⟨.hbm, 80, rfl⟩
abbrev main_v61 : Ref sig .tc := ⟨.hbm, 81, rfl⟩
abbrev main_v62 : Ref sig .tc := ⟨.hbm, 82, rfl⟩
abbrev main_cst_5 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_call1_cst : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_v7 : Ref sig .tc := ⟨.hbm, 102, rfl⟩
abbrev main_call1_v8 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]
-- ==== PoolS.lean ====
abbrev S128x13312 : Shape := ⟨2, ![128, 13312]⟩
abbrev S1x128x15x1024 : Shape := ⟨4, ![1, 128, 15, 1024]⟩
abbrev S1x4x256x256 : Shape := ⟨4, ![1, 4, 256, 256]⟩
abbrev S1x1024 : Shape := ⟨2, ![1, 1024]⟩
abbrev S128x15x1024 : Shape := ⟨3, ![128, 15, 1024]⟩
abbrev S15x128x1024 : Shape := ⟨3, ![15, 128, 1024]⟩
abbrev S4x256x256 : Shape := ⟨3, ![4, 256, 256]⟩
abbrev S128x1024 : Shape := ⟨2, ![128, 1024]⟩
abbrev S128x256 : Shape := ⟨2, ![128, 256]⟩
abbrev S1x128x256 : Shape := ⟨3, ![1, 128, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 9
  | .vmem => 5
  | .smem => 0
  | _ => 0

abbrev bufTy : (tb : Table) → Fin (tcTables nBuf tb) → BufTy
  | .hbm, ⟨0, _⟩ => ⟨S128x13312, .f32⟩
  | .hbm, ⟨1, _⟩ => ⟨S1x128x15x1024, .f32⟩
  | .hbm, ⟨2, _⟩ => ⟨S1x4x256x256, .f32⟩
  | .hbm, ⟨3, _⟩ => ⟨S1x1024, .f32⟩
  | .hbm, ⟨4, _⟩ => ⟨S128x15x1024, .f32⟩
  | .hbm, ⟨5, _⟩ => ⟨S15x128x1024, .f32⟩
  | .hbm, ⟨6, _⟩ => ⟨S4x256x256, .f32⟩
  | .hbm, ⟨7, _⟩ => ⟨S4x256x256, .bf16⟩
  | .hbm, ⟨8, _⟩ => ⟨S128x1024, .bf16⟩
  | .local _ .vmem, ⟨0, _⟩ => ⟨S128x1024, .f32⟩
  | .local _ .vmem, ⟨1, _⟩ => ⟨S15x128x1024, .f32⟩
  | .local _ .vmem, ⟨2, _⟩ => ⟨S4x256x256, .bf16⟩
  | .local _ .vmem, ⟨3, _⟩ => ⟨S1x1024, .f32⟩
  | .local _ .vmem, ⟨4, _⟩ => ⟨S128x1024, .bf16⟩
  | _, _ => ⟨S128x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c8_i32 : BitVec 32 := 8#32
  let c0_i32_0 : BitVec 32 := 0#32
  ![c0_i32.toNat, c8_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S15x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefPoolSIdeal.lean ====
abbrev S128x13312 : Shape := ⟨2, ![128, 13312]⟩
abbrev S1x128x15x1024 : Shape := ⟨4, ![1, 128, 15, 1024]⟩
abbrev S1x4x256x256 : Shape := ⟨4, ![1, 4, 256, 256]⟩
abbrev S1x1024 : Shape := ⟨2, ![1, 1024]⟩
abbrev S128x15x1024 : Shape := ⟨3, ![128, 15, 1024]⟩
abbrev S128x1024 : Shape := ⟨2, ![128, 1024]⟩
abbrev S128x1x1024 : Shape := ⟨3, ![128, 1, 1024]⟩
abbrev S128x16x1024 : Shape := ⟨3, ![128, 16, 1024]⟩
abbrev S4x256x256 : Shape := ⟨3, ![4, 256, 256]⟩
abbrev S1024 : Shape := ⟨1, ![1024]⟩
abbrev S_ : Shape := ⟨0, ![]⟩
abbrev S128x17x1024 : Shape := ⟨3, ![128, 17, 1024]⟩
abbrev S1 : Shape := ⟨1, ![1]⟩
abbrev S128x1x256 : Shape := ⟨3, ![128, 1, 256]⟩
abbrev S1x1x1 : Shape := ⟨3, ![1, 1, 1]⟩
abbrev S128x1x4x256 : Shape := ⟨4, ![128, 1, 4, 256]⟩
abbrev S4x256x128x1 : Shape := ⟨4, ![4, 256, 128, 1]⟩
abbrev S1x1x1024 : Shape := ⟨3, ![1, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S128x13312, .f32⟩
  | .hbm, ⟨1, _⟩ => ⟨S1x128x15x1024, .f32⟩
  | .hbm, ⟨2, _⟩ => ⟨S1x4x256x256, .f32⟩
  | .hbm, ⟨3, _⟩ => ⟨S1x1024, .f32⟩
  | .hbm, ⟨4, _⟩ => ⟨S128x15x1024, .f32⟩
  | .hbm, ⟨5, _⟩ => ⟨S128x1024, .f32⟩
  | .hbm, ⟨6, _⟩ => ⟨S128x1x1024, .f32⟩
  | .hbm, ⟨7, _⟩ => ⟨S128x16x1024, .f32⟩
  | .hbm, ⟨8, _⟩ => ⟨S4x256x256, .f32⟩
  | .hbm, ⟨9, _⟩ => ⟨S1024, .f32⟩
  | .hbm, ⟨10, _⟩ => ⟨S128x1x1024, .f32⟩
  | .hbm, ⟨11, _⟩ => ⟨S128x1x1024, .f32⟩
  | .hbm, ⟨12, _⟩ => ⟨S_, .f32⟩
  | .hbm, ⟨13, _⟩ => ⟨S128x1x1024, .f32⟩
  | .hbm, ⟨14, _⟩ => ⟨S_, .f32⟩
  | .hbm, ⟨15, _⟩ => ⟨S_, .f32⟩
  | .hbm, ⟨16, _⟩ => ⟨S128x16x1024, .f32⟩
  | .hbm, ⟨17, _⟩ => ⟨S128x17x1024, .f32⟩
  | .hbm, ⟨18, _⟩ => ⟨S128x1x1024, .f32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S1, .i32⟩
  | .hbm, ⟨23, _⟩ => ⟨S128x1x256, .f32⟩
  | .hbm, ⟨24, _⟩ => ⟨S_, .i32⟩
  | .hbm, ⟨25, _⟩ => ⟨S1, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S1, .i32⟩
  | .hbm, ⟨30, _⟩ => ⟨S1, .f32⟩
  | .hbm, ⟨31, _⟩ => ⟨S1x1x1, .f32⟩
  | .hbm, ⟨32, _⟩ => ⟨S128x1x256, .f32⟩
  | .hbm, ⟨33, _⟩ => ⟨S128x1x256, .f32⟩
  | .hbm, ⟨34, _⟩ => ⟨S128x1x256, .f32⟩
  | .hbm, ⟨35, _⟩ => ⟨S128x1x256, .f32⟩
  | .hbm, ⟨36, _⟩ => ⟨S128x1x256, .f32⟩
  | .hbm, ⟨37, _⟩ => ⟨S_, .i32⟩
  | .hbm, ⟨38, _⟩ => ⟨S1, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S1, .i32⟩
  | .hbm, ⟨43, _⟩ => ⟨S1, .f32⟩
  | .hbm, ⟨44, _⟩ => ⟨S1x1x1, .f32⟩
  | .hbm, ⟨45, _⟩ => ⟨S128x1x256, .f32⟩
  | .hbm, ⟨46, _⟩ => ⟨S128x1x256, .f32⟩
  | .hbm, ⟨47, _⟩ => ⟨S128x1x256, .f32⟩
  | .hbm, ⟨48, _⟩ => ⟨S128x1x256, .f32⟩
  | .hbm, ⟨49, _⟩ => ⟨S128x1x256, .f32⟩
  | .hbm, ⟨50, _⟩ => ⟨S_, .i32⟩
  | .hbm, ⟨51, _⟩ => ⟨S1, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S1, .i32⟩
  | .hbm, ⟨56, _⟩ => ⟨S1, .f32⟩
  | .hbm, ⟨57, _⟩ => ⟨S1x1x1, .f32⟩
  | .hbm, ⟨58, _⟩ => ⟨S128x1x256, .f32⟩
  | .hbm, ⟨59, _⟩ => ⟨S128x1x256, .f32⟩
  | .hbm, ⟨60, _⟩ => ⟨S128x1x256, .f32⟩
  | .hbm, ⟨61, _⟩ => ⟨S128x1x256, .f32⟩
  | .hbm, ⟨62, _⟩ => ⟨S128x1x256, .f32⟩
  | .hbm, ⟨63, _⟩ => ⟨S_, .i32⟩
  | .hbm, ⟨64, _⟩ => ⟨S1, .i32⟩
  | .hbm, ⟨65, _⟩ => ⟨S1, .i32⟩
  | .hbm, ⟨66, _⟩ => ⟨S_, .i32⟩
  | .hbm, ⟨67, _⟩ => ⟨S1, .i32⟩
  | .hbm, ⟨68, _⟩ => ⟨S1, .i32⟩
  | .hbm, ⟨69, _⟩ => ⟨S1, .f32⟩
  | .hbm, ⟨70, _⟩ => ⟨S1x1x1, .f32⟩
  | .hbm, ⟨71, _⟩ => ⟨S128x1x256, .f32⟩
  | .hbm, ⟨72, _⟩ => ⟨S128x1x256, .f32⟩
  | .hbm, ⟨73, _⟩ => ⟨S128x1x256, .f32⟩
  | .hbm, ⟨74, _⟩ => ⟨S128x1x256, .f32⟩
  | .hbm, ⟨75, _⟩ => ⟨S128x1x1024, .f32⟩
  | .hbm, ⟨76, _⟩ => ⟨S128x1x1024, .f32⟩
  | .hbm, ⟨77, _⟩ => ⟨S128x1x4x256, .f32⟩
  | .hbm, ⟨78, _⟩ => ⟨S4x256x128x1, .f32⟩
  | .hbm, ⟨79, _⟩ => ⟨S128x1x4x256, .f32⟩
  | .hbm, ⟨80, _⟩ => ⟨S128x1x1024, .f32⟩
  | .hbm, ⟨81, _⟩ => ⟨S1x1x1024, .f32⟩
  | .hbm, ⟨82, _⟩ => ⟨S128x1x1024, .f32⟩
  | .hbm, ⟨83, _⟩ => ⟨S128x1x1024, .f32⟩
  | .hbm, ⟨84, _⟩ => ⟨S128x1024, .f32⟩
  | .hbm, ⟨85, _⟩ => ⟨S128x1024, .bf16⟩
  | _, _ => ⟨S128x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_call0_call0_cst : Ref sig .tc := ⟨.hbm, 14, rfl⟩
abbrev main_call0_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_2 : Ref sig .tc := ⟨.hbm, 37, rfl⟩
abbrev main_v27 : Ref sig .tc := ⟨.hbm, 38, rfl⟩
abbrev main_v28 : Ref sig .tc := ⟨.hbm, 39, rfl⟩
abbrev main_c_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_4 : Ref sig .tc := ⟨.hbm, 50, rfl⟩
abbrev main_v38 : Ref sig .tc := ⟨.hbm, 51, rfl⟩
abbrev main_v39 : Ref sig .tc := ⟨.hbm, 52, rfl⟩
abbrev main_c_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_6 : Ref sig .tc := ⟨.hbm, 63, rfl⟩
abbrev main_v49 : Ref sig .tc := ⟨.hbm, 64, rfl⟩
abbrev main_v50 : Ref sig .tc := ⟨.hbm, 65, rfl⟩
abbrev main_c_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Pool.lean ====
abbrev S8192x13312 : Shape := ⟨2, ![8192, 13312]⟩
abbrev S1x4x256x256 : Shape := ⟨4, ![1, 4, 256, 256]⟩
abbrev S1x1024 : Shape := ⟨2, ![1, 1024]⟩
abbrev S4x256x256 : Shape := ⟨3, ![4, 256, 256]⟩
abbrev S8192x1024 : Shape := ⟨2, ![8192, 1024]⟩
abbrev S1024x1024 : Shape := ⟨2, ![1024, 1024]⟩
abbrev S1040x1024 : Shape := ⟨2, ![1040, 1024]⟩
abbrev S16x1024 : Shape := ⟨2, ![16, 1024]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 6
  | .vmem => 7
  | .smem => 0
  | _ => 0

abbrev bufTy : (tb : Table) → Fin (tcTables nBuf tb) → BufTy
  | .hbm, ⟨0, _⟩ => ⟨S8192x13312, .f32⟩
  | .hbm, ⟨1, _⟩ => ⟨S1x4x256x256, .f32⟩
  | .hbm, ⟨2, _⟩ => ⟨S1x1024, .f32⟩
  | .hbm, ⟨3, _⟩ => ⟨S4x256x256, .f32⟩
  | .hbm, ⟨4, _⟩ => ⟨S4x256x256, .bf16⟩
  | .hbm, ⟨5, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S4x256x256, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1040x1024, .f32⟩
  | _, _ => ⟨S8192x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c8_i32 : BitVec 32 := 8#32
  let c0_i32 : BitVec 32 := 0#32
  ![v1.toNat, c8_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefPoolIdeal.lean ====
abbrev S8192x13312 : Shape := ⟨2, ![8192, 13312]⟩
abbrev S1x4x256x256 : Shape := ⟨4, ![1, 4, 256, 256]⟩
abbrev S1x1024 : Shape := ⟨2, ![1, 1024]⟩
abbrev S_ : Shape := ⟨0, ![]⟩
abbrev S4x15x1024 : Shape := ⟨3, ![4, 15, 1024]⟩
abbrev S8192x1024 : Shape := ⟨2, ![8192, 1024]⟩
abbrev S4x2048x1024 : Shape := ⟨3, ![4, 2048, 1024]⟩
abbrev S4x2063x1024 : Shape := ⟨3, ![4, 2063, 1024]⟩
abbrev S4x256x256 : Shape := ⟨3, ![4, 256, 256]⟩
abbrev S1024 : Shape := ⟨1, ![1024]⟩
abbrev S4x1x1024 : Shape := ⟨3, ![4, 1, 1024]⟩
abbrev S4x2064x1024 : Shape := ⟨3, ![4, 2064, 1024]⟩
abbrev S2048 : Shape := ⟨1, ![2048]⟩
abbrev S4x2048x256 : Shape := ⟨3, ![4, 2048, 256]⟩
abbrev S1x2048x1 : Shape := ⟨3, ![1, 2048, 1]⟩
abbrev S4x2048x4x256 : Shape := ⟨4, ![4, 2048, 4, 256]⟩
abbrev S4x256x4x2048 : Shape := ⟨4, ![4, 256, 4, 2048]⟩
abbrev S1x1x1024 : Shape := ⟨3, ![1, 1, 1024]⟩

abbrev nBuf : Space → Nat
  | .hbm => 86
  | .vmem => 0
  | .smem => 0
  | _ => 0

abbrev bufTy : (tb : Table) → Fin (tcTables nBuf tb) → BufTy
  | .hbm, ⟨0, _⟩ => ⟨S8192x13312, .f32⟩
  | .hbm, ⟨1, _⟩ => ⟨S1x4x256x256, .f32⟩
  | .hbm, ⟨2, _⟩ => ⟨S1x1024, .f32⟩
  | .hbm, ⟨3, _⟩ => ⟨S_, .f32⟩
  | .hbm, ⟨4, _⟩ => ⟨S4x15x1024, .f32⟩
  | .hbm, ⟨5, _⟩ => ⟨S8192x1024, .f32⟩
  | .hbm, ⟨6, _⟩ => ⟨S4x2048x1024, .f32⟩
  | .hbm, ⟨7, _⟩ => ⟨S4x2063x1024, .f32⟩
  | .hbm, ⟨8, _⟩ => ⟨S4x256x256, .f32⟩
  | .hbm, ⟨9, _⟩ => ⟨S1024, .f32⟩
  | .hbm, ⟨10, _⟩ => ⟨S4x2048x1024, .f32⟩
  | .hbm, ⟨11, _⟩ => ⟨S4x1x1024, .f32⟩
  | .hbm, ⟨12, _⟩ => ⟨S_, .f32⟩
  | .hbm, ⟨13, _⟩ => ⟨S4x1x1024, .f32⟩
  | .hbm, ⟨14, _⟩ => ⟨S_, .f32⟩
  | .hbm, ⟨15, _⟩ => ⟨S_, .f32⟩
  | .hbm, ⟨16, _⟩ => ⟨S4x2063x1024, .f32⟩
  | .hbm, ⟨17, _⟩ => ⟨S4x2064x1024, .f32⟩
  | .hbm, ⟨18, _⟩ => ⟨S4x2048x1024, .f32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S4x2048x256, .f32⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .f32⟩
  | .hbm, ⟨31, _⟩ => ⟨S1x2048x1, .f32⟩
  | .hbm, ⟨32, _⟩ => ⟨S4x2048x256, .f32⟩
  | .hbm, ⟨33, _⟩ => ⟨S4x2048x256, .f32⟩
  | .hbm, ⟨34, _⟩ => ⟨S4x2048x256, .f32⟩
  | .hbm, ⟨35, _⟩ => ⟨S4x2048x256, .f32⟩
  | .hbm, ⟨36, _⟩ => ⟨S4x2048x256, .f32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .f32⟩
  | .hbm, ⟨44, _⟩ => ⟨S1x2048x1, .f32⟩
  | .hbm, ⟨45, _⟩ => ⟨S4x2048x256, .f32⟩
  | .hbm, ⟨46, _⟩ => ⟨S4x2048x256, .f32⟩
  | .hbm, ⟨47, _⟩ => ⟨S4x2048x256, .f32⟩
  | .hbm, ⟨48, _⟩ => ⟨S4x2048x256, .f32⟩
  | .hbm, ⟨49, _⟩ => ⟨S4x2048x256, .f32⟩
  | .hbm, ⟨50, _⟩ => ⟨S_, .i32⟩
  | .hbm, ⟨51, _⟩ => ⟨S2048, .i32⟩
  | .hbm, ⟨52, _⟩ => ⟨S2048, .i32⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S2048, .f32⟩
  | .hbm, ⟨57, _⟩ => ⟨S1x2048x1, .f32⟩
  | .hbm, ⟨58, _⟩ => ⟨S4x2048x256, .f32⟩
  | .hbm, ⟨59, _⟩ => ⟨S4x2048x256, .f32⟩
  | .hbm, ⟨60, _⟩ => ⟨S4x2048x256, .f32⟩
  | .hbm, ⟨61, _⟩ => ⟨S4x2048x256, .f32⟩
  | .hbm, ⟨62, _⟩ => ⟨S4x2048x256, .f32⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S_, .i32⟩
  | .hbm, ⟨67, _⟩ => ⟨S2048, .i32⟩
  | .hbm, ⟨68, _⟩ => ⟨S2048, .i32⟩
  | .hbm, ⟨69, _⟩ => ⟨S2048, .f32⟩
  | .hbm, ⟨70, _⟩ => ⟨S1x2048x1, .f32⟩
  | .hbm, ⟨71, _⟩ => ⟨S4x2048x256, .f32⟩
  | .hbm, ⟨72, _⟩ => ⟨S4x2048x256, .f32⟩
  | .hbm, ⟨73, _⟩ => ⟨S4x2048x256, .f32⟩
  | .hbm, ⟨74, _⟩ => ⟨S4x2048x256, .f32⟩
  | .hbm, ⟨75, _⟩ => ⟨S4x2048x1024, .f32⟩
  | .hbm, ⟨76, _⟩ => ⟨S4x2048x1024, .f32⟩
  | .hbm, ⟨77, _⟩ => ⟨S4x2048x4x256, .f32⟩
  | .hbm, ⟨78, _⟩ => ⟨S4x256x4x2048, .f32⟩
  | .hbm, ⟨79, _⟩ => ⟨S4x2048x4x256, .f32⟩
  | .hbm, ⟨80, _⟩ => ⟨S4x2048x1024, .f32⟩
  | .hbm, ⟨81, _⟩ => ⟨S1x1x1024, .f32⟩
  | .hbm, ⟨82, _⟩ => ⟨S4x2048x1024, .f32⟩
  | .hbm, ⟨83, _⟩ => ⟨S4x2048x1024, .f32⟩
  | .hbm, ⟨84, _⟩ => ⟨S8192x1024, .f32⟩
  | .hbm, ⟨85, _⟩ => ⟨S8192x1024, .bf16⟩
  | _, _ => ⟨S8192x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_call0_call0_cst : Ref sig .tc := ⟨.hbm, 14, rfl⟩
abbrev main_call0_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_7 : Ref sig .tc := ⟨.hbm, 63, rfl⟩
abbrev main_v49 : Ref sig .tc := ⟨.hbm, 64, rfl⟩
abbrev main_v50 : Ref sig .tc := ⟨.hbm, 65, rfl⟩
abbrev main_c_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Proof.Whole.lean ====
/-
  Loads and stores of a whole staging memref, through the unit rectangle at zero offsets of its own sizes: what the bodies
  of all the calls proved here do.
-/
module

public import Idealize.ShloMosaic.Lib.Pipeline.Value

@[expose] public section

noncomputable section

namespace Cert.Proof

open Idealize.ShloMosaic Idealize.SL.Sem

variable {sig : RefSig} {κ : Kind} {sp : Space} {S : Shape} {e : EltTy} {Val : EltTy → Type} [∀ e, Nonempty (Val e)]

/-- The two zero offsets of a printed access. -/
theorem zero2 : (![0, 0] : Fin 2 → ℕ) = fun _ => 0 := by funext a; fin_cases a <;> rfl
/-- The three. -/
theorem zero3 : (![0, 0, 0] : Fin 3 → ℕ) = fun _ => 0 := by funext a; fin_cases a <;> rfl

/-- One store of the whole memref leaves its payload. -/
theorem read_store_whole (v : View sig κ sp S e) {off : Fin S.rank → ℕ} (h : off = fun _ => 0)
    (inb : ∀ a, off a + S.size a ≤ S.size a) (f : v.ty.Contents Val) (w : S.Idx → Val e) :
    v.read Val (v.writes Val f [⟨Rect.unit off S.size inb, w⟩]) = w := by
  rw [View.read_writes_eq_canon v f _ (fun y => ⟨_, List.mem_singleton_self _, View.mem_set_unit_zero h inb y⟩), View.canon_unit_zero h]

/-- A load of the whole memref reads what it holds. -/
theorem load_whole {m : Memref sig κ sp S e} (hm : m.IsWhole) {off : Fin S.rank → ℕ} (h : off = fun _ => 0)
    (inb : ∀ a, off a + S.size a ≤ S.size a) (X : S.Idx → Val e) :
    View.readAt Val m.view (Rect.unit off S.size inb).toLoadRect (hm.unread X) = X := by
  rw [View.readAt_eq_ld, hm.read_unread, View.ld_unit_zero h]

end Cert.Proof

end
-- ==== Proof.Inproj.Body.lean ====
/-
  The input projection's kernel body on any staging memrefs, in its two cases. At the first point of a column block the
  body converts the weights' block into the scratch and stores the samples' product; at the eight others it stores one
  prompt block's product from the scratch.
-/
module

public import proofs.«01_k».proof.Proof.Gen.KernelIdeal.Skeleton
public import proofs.«01_k».proof.Proof.Gen.KernelIdeal.Frame
public import proofs.«01_k».proof.Proof.Whole

@[expose] public section

set_option maxRecDepth 16384

noncomputable section

namespace Cert.Proof.Inproj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point of a column block: the scratch ends at the weights' block converted, the samples' output at the
    product with it, the prompt's output as it was. -/
theorem run_first (c : Dev nD) (i : grid0.Coords) (arg2 : Memref sig .tc .vmem S1024x2048 .bf16) (harg2 : arg2.IsWhole) (arg3 : Memref sig .tc .vmem S128x2048 .bf16) (harg3 : arg3.IsWhole) (arg4 : Memref sig .tc .vmem S1024x2048 .f32) (harg4 : arg4.IsWhole) (arg5 : Memref sig .tc .vmem S1024x1024 .f32) (harg5 : arg5.IsWhole) (arg6 : Memref sig .tc .vmem S128x1024 .f32) (harg6 : arg6.IsWhole) (arg7 : Memref sig .tc .vmem S1024x2048 .bf16) (harg7 : arg7.IsWhole)
    (hc0 : k0_cond1 i = 1#1) (hc1 : ¬k0_cond2 i = 1#1)
    (x0 : Vec F S1024x2048 .bf16) (x1 : Vec F S128x2048 .bf16) (x2 : Vec F S1024x2048 .f32) (d3 : Vec F S1024x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare d3 ∗ owns (c : Thread nD τ) arg6 fullShare (k0_pay2 x1 (k0_pay1 x2))
            ∗ owns (c : Thread nD τ) arg7 fullShare (k0_pay1 x2)) -∗ K ⟨⟩))
      ⊢ wp frame (wpE (defs₀ (F := F)) Variants.none c none) E (cc0_inproj i arg2 harg2 arg3 harg3 arg4 harg4 arg5 harg5 arg6 harg6 arg7 harg7) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
  obtain rfl := harg2.eq_unread hf0; obtain rfl := harg3.eq_unread hf1; obtain rfl := harg4.eq_unread hf2
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact hf3
    iexact H3
  isplitl [H4]
  · iexists _; isplitr; swap; · iexact H4
    ipureintro
    sl_unfold_run_names
    rw [read_store_whole _ zero2, load_whole harg3 zero2, View.readCov_unit_zero _ zero2, load_whole harg4 zero2]
  iexists _; isplitr; swap; · iexact HS0
  ipureintro
  sl_unfold_run_names
  rw [read_store_whole _ zero2, load_whole harg4 zero2]

set_option maxHeartbeats 1000000 in
/-- At the eight other points: the prompt's output ends at its block's product with what the scratch holds, the rest as
    it was. -/
theorem run_later (c : Dev nD) (i : grid0.Coords) (arg2 : Memref sig .tc .vmem S1024x2048 .bf16) (harg2 : arg2.IsWhole) (arg3 : Memref sig .tc .vmem S128x2048 .bf16) (harg3 : arg3.IsWhole) (arg4 : Memref sig .tc .vmem S1024x2048 .f32) (harg4 : arg4.IsWhole) (arg5 : Memref sig .tc .vmem S1024x1024 .f32) (harg5 : arg5.IsWhole) (arg6 : Memref sig .tc .vmem S128x1024 .f32) (harg6 : arg6.IsWhole) (arg7 : Memref sig .tc .vmem S1024x2048 .bf16) (harg7 : arg7.IsWhole)
    (hc0 : ¬k0_cond1 i = 1#1) (hc1 : k0_cond2 i = 1#1)
    (x0 : Vec F S1024x2048 .bf16) (x1 : Vec F S128x2048 .bf16) (x2 : Vec F S1024x2048 .f32) (d4 : Vec F S128x1024 .f32) (w : Vec F S1024x2048 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare d4 ∗ owns (c : Thread nD τ) arg7 fullShare w
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 x0 w) ∗ owns (c : Thread nD τ) arg6 fullShare d4
            ∗ owns (c : Thread nD τ) arg7 fullShare w) -∗ K ⟨⟩))
      ⊢ wp frame (wpE (defs₀ (F := F)) Variants.none c none) E (cc0_inproj i arg2 harg2 arg3 harg3 arg4 harg4 arg5 harg5 arg6 harg6 arg7 harg7) K := by
  simp only [cc0_inproj_eq_skeleton]; unfold cc0_inproj_skel
  unfold owns
  iintro ⟨⟨%f0, %hf0, H0⟩, ⟨%f1, %hf1, H1⟩, ⟨%f2, %hf2, H2⟩, ⟨%d3, %f3, -, H3⟩, ⟨%f4, %hf4, H4⟩, ⟨%fs0, %hfs0, HS0⟩, Hk⟩
  obtain rfl := harg2.eq_unread hf0; obtain rfl := harg3.eq_unread hf1; obtain rfl := harg4.eq_unread hf2
  obtain rfl := harg7.eq_unread hfs0
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_run_names
    rw [read_store_whole _ zero2, load_whole harg2 zero2, load_whole harg7 zero2]
  isplitl [H4]
  · iexists _; isplitr; · ipureintro; exact hf4
    iexact H4
  iexists _; isplitr; · ipureintro; exact harg7.read_unread _
  iexact HS0

end Cert.Proof.Inproj

end
-- ==== Proof.Inproj.Run.lean ====
/-
  The input projection's run: what each window's buffer and the scratch hold at every grid point, the body obligation, the
  launch. Point `t` is column block `t / 9`, step `t % 9`: step 0 converts the weights' block and multiplies the samples,
  step `k > 0` multiplies the prompt's row block `k - 1`.
-/
module

public import proofs.«01_k».proof.Proof.Inproj.Body
public import Idealize.ShloMosaic.Lib.Pipeline.TableIdle
public import Idealize.ShloMosaic.Lib.Claim

@[expose] public section

set_option maxRecDepth 16384

noncomputable section

namespace Cert.Proof.Inproj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The cases, point by point -/

theorem first_iff : ∀ t : Fin cfg0.N, k0_cond1 (grid0.coords t) = 1#1 ↔ t.val % 9 = 0 :=
  (by decide +kernel : ∀ t : Fin grid0.N, k0_cond1 (grid0.coords t) = 1#1 ↔ t.val % 9 = 0)
theorem later_iff : ∀ t : Fin cfg0.N, k0_cond2 (grid0.coords t) = 1#1 ↔ t.val % 9 ≠ 0 :=
  (by decide +kernel : ∀ t : Fin grid0.N, k0_cond2 (grid0.coords t) = 1#1 ↔ t.val % 9 ≠ 0)
/-- The prompt's output block is written back at every point but a column block's first. -/
theorem flush_prompt : ∀ t : Fin cfg0.N, (cfg0.win 3).flush t = true ↔ t.val % 9 ≠ 0 :=
  (by decide +kernel : ∀ t : Fin grid0.N, win0_3.flush t = true ↔ t.val % 9 ≠ 0)

/-- The prompt's output is idle at a column block's first point, -/
theorem idle_prompt (t : Fin cfg0.N) : cfg0.idle 3 (cfg0.grid.coords t) = decide (t.val % 9 = 0) := by
  show (!(k0_cond2 (grid0.coords t) == 1#1)) = _
  by_cases h : t.val % 9 = 0
  · have := (not_congr (later_iff t)).mpr (by simpa using h)
    simp [h, this]
  · have := (later_iff t).mpr h
    simp [h, this]
/-- and the samples' at the others. -/
theorem idle_sample (t : Fin cfg0.N) : cfg0.idle 4 (cfg0.grid.coords t) = decide (t.val % 9 ≠ 0) := by
  show (!(k0_cond1 (grid0.coords t) == 1#1)) = _
  by_cases h : t.val % 9 = 0
  · have := (first_iff t).mpr h
    simp [h, this]
  · have := (not_congr (first_iff t)).mpr h
    simp [h, this]

/-! ## The proof data -/

/-- The weights' block of point `t`'s column block, converted: what the scratch holds from the column block's first point on. -/
def wts (c : Dev nD) (t : Fin cfg0.N) : Vec F S1024x2048 .bf16 := k0_pay1 (iblk m c 2 t)

/-- The scratch (and the generator's register) before point `n`: within a column block it holds the converted weights. -/
def PhiS (c : Dev nD) (n : ℕ) (_ : n ≤ cfg0.N) : sProp 𝕄 :=
  iprop((∃ d : Vec F S1024x2048 .bf16, ⌜∀ h : n < cfg0.N, n % 9 ≠ 0 → d = wts m c ⟨n, h⟩⌝
      ∗ owns (c : Thread nD τ) (Memref.whole cc0_scratch0) fullShare d) ∗ (∃ r, prngReg c r))

/-- Each input's buffer keeps its block; the prompt's output ends at its row block's product, the samples' at theirs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (iblk m c 0 t) (wts m c t)
    | ⟨4, _⟩ => k0_pay2 (iblk m c 1 t) (wts m c t)
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay3 (iblk m c 0 t) (wts m c t) := by dsimp only [dats]
theorem after_4 (c : Dev nD) (t : Fin cfg0.N) : (dats m 0 c).after 4 t = k0_pay2 (iblk m c 1 t) (wts m c t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem Phi_castSucc (c : Dev nD) (t : Fin cfg0.N) : (dats m 0 c).Φ t.castSucc = PhiS m c t.val (Nat.le_of_lt t.isLt) := by
  dsimp only [dats]; exact Dat.Φ_castSucc (PhiS m c) t
theorem Phi_succ (c : Dev nD) (t : Fin cfg0.N) : (dats m 0 c).Φ t.succ = PhiS m c (t.val + 1) t.isLt := by
  dsimp only [dats]; rfl

/-- The point before. -/
abbrev prev (t : Fin cfg0.N) : Fin cfg0.N := ⟨t.val - 1, Nat.lt_of_le_of_lt (Nat.sub_le _ _) t.isLt⟩

/-- Within a column block the weights' block stays, -/
theorem iblk2_prev (c : Dev nD) (t : Fin cfg0.N) (h : t.val % 9 ≠ 0) : iblk m c 2 t = iblk m c 2 (prev t) := by
  have hf : (cfg0.win 2).fetch t = false := by
    rw [Bool.eq_false_iff]; exact fun hc => h ((fetch0_2 t).mp hc)
  have e := (dats m 0 c).before_unfetched_in 2 rfl t hf (fun _ => rfl) (iblk m c 2 t)
  rw [before_2] at e
  exact e.trans (after_2 m c (prev t))
/-- and so do the samples. -/
theorem iblk1_prev (c : Dev nD) (t : Fin cfg0.N) (h : t.val ≠ 0) : iblk m c 1 t = iblk m c 1 (prev t) := by
  have hN : t.val < 117 := lt_of_lt_of_eq t.isLt (show cfg0.N = 117 from N_0)
  have hf : (cfg0.win 1).fetch t = false := by
    rw [Bool.eq_false_iff]; exact fun hc => by have := (fetch0_1 t).mp hc; omega
  have e := (dats m 0 c).before_unfetched_in 1 rfl t hf (fun _ => rfl) (iblk m c 1 t)
  rw [before_1] at e
  exact e.trans (after_1 m c (prev t))

theorem wts_prev (c : Dev nD) (t : Fin cfg0.N) (h : t.val % 9 ≠ 0) : wts m c t = wts m c (prev t) := by
  unfold wts; rw [iblk2_prev m c t h]

/-- After a column block's first point the samples' output buffer holds their product. -/
theorem before_4 (c : Dev nD) : ∀ (n : ℕ) (t : Fin cfg0.N), t.val = n → t.val % 9 ≠ 0 → ∀ d,
    (dats m 0 c).before 4 t d = (dats m 0 c).after 4 t := by
  intro n
  induction n with
  | zero => intro t ht h; omega
  | succ n ih =>
    intro t ht h d
    have hp : (prev t).val = n := by show t.val - 1 = n; omega
    have hfl : (cfg0.win 4).flush (prev t) = false := by
      rw [Bool.eq_false_iff]; exact fun hc => by have := (flush0_4 (prev t)).mp hc; omega
    have hsame : (dats m 0 c).after 4 (prev t) = (dats m 0 c).after 4 t := by
      rw [after_4, after_4, wts_prev m c t h, iblk1_prev m c t (by omega)]
    rw [(dats m 0 c).before_of_pos 4 t (by omega) ((cfg0.win 4).fetch_out rfl t), hfl, if_neg Bool.false_ne_true]
    unfold Dat.left
    rw [idle_sample]
    by_cases h0 : (prev t).val % 9 = 0
    · rw [show decide ((prev t).val % 9 ≠ 0) = false from by simp [h0]]
      exact hsame
    · rw [show decide ((prev t).val % 9 ≠ 0) = true from by simp [h0]]
      exact (ih (prev t) hp h0 d).trans hsame

/-! ## The body obligation -/

/-- Each window's current staging memref at point `t`. -/
abbrev ms_0 (t : Fin cfg0.N) : Memref sig .tc .vmem S1024x2048 .bf16 := win0_0.stage (cfg0.slots t 0)
abbrev ms_1 (t : Fin cfg0.N) : Memref sig .tc .vmem S128x2048 .bf16 := win0_1.stage (cfg0.slots t 1)
abbrev ms_2 (t : Fin cfg0.N) : Memref sig .tc .vmem S1024x2048 .f32 := win0_2.stage (cfg0.slots t 2)
abbrev ms_3 (t : Fin cfg0.N) : Memref sig .tc .vmem S1024x1024 .f32 := win0_3.stage (cfg0.slots t 3)
abbrev ms_4 (t : Fin cfg0.N) : Memref sig .tc .vmem S128x1024 .f32 := win0_4.stage (cfg0.slots t 4)

theorem leaves_3_first (c : Dev nD) (t : Fin cfg0.N) (h : t.val % 9 = 0) :
    (dats m 0 c).leavesExact 3 t = iprop(∃ d, owns (c : Thread nD τ) (ms_3 t) fullShare ((dats m 0 c).before 3 t d)) := by
  refine (dats m 0 c).leavesExact_idle 3 t ((idle_prompt t).trans (by simp [h])) ?_
  rw [Bool.eq_false_iff]; exact fun hc => (flush_prompt t).mp hc h
theorem leaves_3_later (c : Dev nD) (t : Fin cfg0.N) (h : t.val % 9 ≠ 0) :
    (dats m 0 c).leavesExact 3 t = owns (c : Thread nD τ) (ms_3 t) fullShare (k0_pay3 (iblk m c 0 t) (wts m c t)) := by
  unfold Dat.leavesExact; rw [(idle_prompt t).trans (show _ = false by simp [h]), after_3]
theorem leaves_4_first (c : Dev nD) (t : Fin cfg0.N) (h : t.val % 9 = 0) :
    (dats m 0 c).leavesExact 4 t = owns (c : Thread nD τ) (ms_4 t) fullShare (k0_pay2 (iblk m c 1 t) (wts m c t)) := by
  unfold Dat.leavesExact; rw [(idle_sample t).trans (show _ = false by simp [h]), after_4]
/-- At the others the buffer holds the product already, whether the point writes it back or not. -/
theorem leaves_4_later (c : Dev nD) (t : Fin cfg0.N) (h : t.val % 9 ≠ 0) :
    owns (c : Thread nD τ) (ms_4 t) fullShare ((dats m 0 c).after 4 t) ⊢ ((dats m 0 c).leavesExact 4 t : sProp 𝕄) := by
  unfold Dat.leavesExact; rw [(idle_sample t).trans (show _ = true by simp [h])]
  cases hf : (cfg0.win 4).flush t
  · dsimp only
    simp only [before_4 m c t.val t rfl h]
    iintro H; iexists (dats m 0 c).after 4 t; iexact H
  · exact .rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- The converted weights stay what the scratch must hold at the next point. -/
theorem wts_next (c : Dev nD) (t : Fin cfg0.N) : ∀ h : t.val + 1 < cfg0.N, (t.val + 1) % 9 ≠ 0 → wts m c t = wts m c ⟨t.val + 1, h⟩ :=
  fun h h9 => (wts_prev m c ⟨t.val + 1, h⟩ h9).symm

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [Phi_castSucc, Phi_succ, show (dats m 0 c).owesAt () t.succ = (dats m 0 c).owesAt () t.castSucc from rfl]
  unfold PhiS
  rw [show (dats m 0 c).leavesExact 0 t = owns (c : Thread nD τ) (ms_0 t) fullShare (iblk m c 0 t) from by
    rw [← after_0]]
  rw [show (dats m 0 c).leavesExact 1 t = owns (c : Thread nD τ) (ms_1 t) fullShare (iblk m c 1 t) from by
    rw [← after_1]]
  rw [show (dats m 0 c).leavesExact 2 t = owns (c : Thread nD τ) (ms_2 t) fullShare (iblk m c 2 t) from by
    rw [← after_2]]
  by_cases h : t.val % 9 = 0
  · rw [leaves_3_first m c t h, leaves_4_first m c t h]
    iintro ⟨⟨⟨%ds, -, HS⟩, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ ((first_iff t).mpr h) (fun hc => (later_iff t).mp hc h)
      (iblk m c 0 t) (iblk m c 1 t) (iblk m c 2 t) ((dats m 0 c).before 3 t d3) Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS Hg]
    · isplitl [HS]
      · iexists wts m c t; isplitr
        · ipureintro; exact wts_next m c t
        iexact HS
      iexact Hg
    isplitl [Ho]; · iexact Ho
    isplitl [H0]; · iexact H0
    isplitl [H1]; · iexact H1
    isplitl [H2]; · iexact H2
    isplitl [H3]; · iexists d3; iexact H3
    iexact H4
  · rw [leaves_3_later m c t h]
    simp only [before_4 m c t.val t rfl h]
    iintro ⟨⟨⟨%ds, %hds, HS⟩, Hg⟩, Ho, ⟨%d0, H0⟩, ⟨%d1, H1⟩, ⟨%d2, H2⟩, ⟨%d3, H3⟩, ⟨%d4, H4⟩⟩
    obtain rfl := hds t.isLt h
    iapply (run_later c (grid0.coords t) _ _ _ _ _ _ _ _ _ _ _ _ (fun hc => h ((first_iff t).mp hc)) ((later_iff t).mpr h)
      (iblk m c 0 t) (iblk m c 1 t) (iblk m c 2 t) ((dats m 0 c).after 4 t) (wts m c t) Set.univ _)
    isplitl [H0]; · iexact H0
    isplitl [H1]; · iexact H1
    isplitl [H2]; · iexact H2
    isplitl [H3]; · iexists _; iexact H3
    isplitl [H4]; · iexact H4
    isplitl [HS]; · iexact HS
    iintro ⟨H0, H1, H2, H3, H4, HS⟩
    isplitl [HS Hg]
    · isplitl [HS]
      · iexists wts m c t; isplitr
        · ipureintro; exact wts_next m c t
        iexact HS
      iexact Hg
    isplitl [Ho]; · iexact Ho
    isplitl [H0]; · iexact H0
    isplitl [H1]; · iexact H1
    isplitl [H2]; · iexact H2
    isplitl [H3]; · iexact H3
    iapply (leaves_4_later m c t h)
    iexact H4

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

/-- Before the first point the scratch may hold anything; -/
theorem Phi_in (c : Dev nD) : Pipeline.ΦA spec0 c ⊢ ((dats m 0 c).Φ 0 : sProp 𝕄) := by
  rw [show (dats m 0 c).Φ 0 = PhiS m c 0 (Nat.zero_le _) from by dsimp only [dats]; rfl]
  unfold Pipeline.ΦA PhiS; rw [scopedRest0_eq]; simp only [owns_whole]
  iintro ⟨⟨%d, H⟩, Hg⟩
  isplitl [H]
  · iexists d; isplitr
    · ipureintro; exact fun _ h => absurd rfl h
    iexact H
  iexact Hg
/-- after the last, whatever it holds is given back. -/
theorem Phi_out (c : Dev nD) : (dats m 0 c).Φ (Fin.last cfg0.N) ⊢ (Pipeline.ΦA spec0 c : sProp 𝕄) := by
  rw [show (dats m 0 c).Φ (Fin.last cfg0.N) = PhiS m c cfg0.N le_rfl from by dsimp only [dats]; rfl]
  unfold Pipeline.ΦA PhiS; rw [scopedRest0_eq]; simp only [owns_whole]
  iintro ⟨⟨%d, -, H⟩, Hg⟩
  isplitl [H]
  · iexists d; iexact H
  iexact Hg

set_option backward.isDefEq.respectTransparency.types false in
set_option maxHeartbeats 800000 in
/-- The run, for any values, from any memory: it terminates, the windows' arrays end at their write-backs, every other
    buffer at what the host lines after the call leave, every semaphore counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_in m) (hout := Phi_out m) (Q' := _) (hQ' := fun _ h => h)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.Proof.Inproj

end
-- ==== Proof.Inproj.Value.lean ====
/-
  What the input projection's two result arrays hold after the run, in exact arithmetic: the activations' rows against the
  columns of the projection's weights, the 32 columns the layer treats apart left out.
-/
module

public import proofs.«01_k».proof.Proof.Inproj.Run
public import Idealize.ShloMosaic.Lib.Pipeline.ValueKit
public import Idealize.ShloMosaic.Lib.Pointwise
public import Idealize.ShloMosaic.Lib.ValueLayout

@[expose] public section

set_option maxRecDepth 16384

noncomputable section

namespace Cert.Proof.Inproj

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The weights' column that column `n` of the result takes: the mixer's first, the pool's after them, then the two gates. -/
def src (n : ℕ) : ℕ := if n < 8192 then n + 1024 else if n < 9216 then n - 8192 else n + 32

theorem src_lt (n : Fin 13312) : src n.val < 13344 := by
  unfold src; have := n.isLt; split_ifs <;> omega

/-- Row `r` of the activations against the weights' column `src n`. -/
def proj {M : ℕ} (x : (⟨2, ![M, 2048]⟩ : Shape).Idx → Elt Ideal .bf16) (w : S1x2048x13344.Idx → Elt Ideal .f32) :
    (⟨2, ![M, 13312]⟩ : Shape).Idx → Elt Ideal .f32 :=
  fun i => ∑ k : Fin 2048, (x (ix2 (i 0) k) * w (ix3 0 k ⟨src (i 1).val, src_lt (i 1)⟩) : EReal)

/-- The pool's buffer after the prompt: the last 15 rows of each sequence, in the pool's columns. -/
def poolPrompt (p : (⟨2, ![8192, 13312]⟩ : Shape).Idx → Elt Ideal .f32) : (⟨4, ![1, 4, 15, 1024]⟩ : Shape).Idx → Elt Ideal .f32 :=
  fun i => p (ix2 ⟨(i 1).val * 2048 + (2033 + (i 2).val), by idx_bounds i; omega⟩ ⟨8192 + (i 3).val, by idx_bounds i; omega⟩)
/-- The convolution's: the last 3 rows, in the mixer's columns. -/
def convPrompt (p : (⟨2, ![8192, 13312]⟩ : Shape).Idx → Elt Ideal .f32) : (⟨4, ![1, 4, 3, 6144]⟩ : Shape).Idx → Elt Ideal .f32 :=
  fun i => p (ix2 ⟨(i 1).val * 2048 + (2045 + (i 2).val), by idx_bounds i; omega⟩ ⟨(i 3).val, by idx_bounds i; omega⟩)
/-- A sample's step drops the pool buffer's oldest row and appends its own; -/
def poolSample (b : (⟨4, ![1, 128, 15, 1024]⟩ : Shape).Idx → Elt Ideal .f32) (p : (⟨2, ![128, 13312]⟩ : Shape).Idx → Elt Ideal .f32) :
    (⟨4, ![1, 128, 15, 1024]⟩ : Shape).Idx → Elt Ideal .f32 :=
  fun i => if h : (i 2).val < 14 then b (ix4 0 (i 1) ⟨1 + (i 2).val, by omega⟩ (i 3))
    else p (ix2 (i 1) ⟨8192 + (i 3).val, by idx_bounds i; omega⟩)
/-- the convolution's likewise. -/
def convSample (b : (⟨4, ![1, 128, 3, 6144]⟩ : Shape).Idx → Elt Ideal .f32) (p : (⟨2, ![128, 13312]⟩ : Shape).Idx → Elt Ideal .f32) :
    (⟨4, ![1, 128, 3, 6144]⟩ : Shape).Idx → Elt Ideal .f32 :=
  fun i => if h : (i 2).val < 2 then b (ix4 0 (i 1) ⟨1 + (i 2).val, by omega⟩ (i 3))
    else p (ix2 (i 1) ⟨(i 3).val, by idx_bounds i; omega⟩)

/-! ## The index maps -/

theorem index_h : ∀ t : Fin cfg0.N, win0_0.index t = ![t.val % 9 - 1, 0] :=
  (by decide +kernel : ∀ t : Fin grid0.N, win0_0.index t = ![t.val % 9 - 1, 0])
theorem index_s : ∀ t : Fin cfg0.N, win0_1.index t = ![0, 0] :=
  (by decide +kernel : ∀ t : Fin grid0.N, win0_1.index t = ![0, 0])
/-- The weights' block starts at the row its column block takes. -/
theorem index_w : ∀ t : Fin cfg0.N, win0_2.index t = ![src (1024 * (t.val / 9)), 0] :=
  (by decide +kernel : ∀ t : Fin grid0.N, win0_2.index t = ![src (1024 * (t.val / 9)), 0])
theorem index_p : ∀ t : Fin cfg0.N, win0_3.index t = ![t.val % 9 - 1, t.val / 9] :=
  (by decide +kernel : ∀ t : Fin grid0.N, win0_3.index t = ![t.val % 9 - 1, t.val / 9])
theorem index_o : ∀ t : Fin cfg0.N, win0_4.index t = ![0, t.val / 9] :=
  (by decide +kernel : ∀ t : Fin grid0.N, win0_4.index t = ![0, t.val / 9])

/-- Within a column block the columns follow each other. -/
theorem src_block (j : ℕ) (y : Fin 1024) : src (1024 * j) + y.val = src (1024 * j + y.val) := by
  unfold src; have := y.isLt; split_ifs <;> omega

/-! ## The weights as the region finds them -/

theorem V_v1 (c : Dev nD) : V m c main_v1 = fun i : S13344x2048.Idx => m ((c : Thread nD τ).loc main_arg2) (ix3 0 (i 1) (i 0)) := by
  have e : V m c main_v1 = transpose S13344x2048 [1, 0] (shapeCast S2048x13344 (m ((c : Thread nD τ).loc main_arg2)) shapeCasts_S1x2048x13344_S2048x13344) transposes_S2048x13344_S13344x2048_1_0 := by
    after_results_simp <;> rfl
  rw [e]
  generalize m ((c : Thread nD τ).loc main_arg2) = w
  funext i
  idx_vars i
  exact (ValueIdx.transpose_ix2_apply _ _ _ _).trans (ValueIdx.shapeCast_1ab_ab_apply _ _ _ _)

/-- The converted weights' block at coordinates. -/
theorem wts_apply (c : Dev nD) (t : Fin cfg0.N) (a : Fin 1024) (k : Fin 2048) (h : src (1024 * (t.val / 9) + a.val) < 13344) :
    wts m c t (ix2 a k) = m ((c : Thread nD τ).loc main_arg2) (ix3 0 k ⟨src (1024 * (t.val / 9) + a.val), h⟩) := by
  unfold wts k0_pay1
  pointwise
  blk_simp [iblk, index_w]
  rw [V_v1]
  refine congrArg (m ((c : Thread nD τ).loc main_arg2)) (congrArg₂ (ix3 0) (Fin.ext ?_) (Fin.ext ?_))
  · exact (Window.rect_emb_val_off win0_2 t _ 1).trans (by rw [index_w]; exact Nat.zero_add _)
  · exact (Window.rect_emb_val_off win0_2 t _ 0).trans (by rw [index_w]; exact src_block _ _)

theorem h_apply (c : Dev nD) (t : Fin cfg0.N) (a : Fin 1024) (k : Fin 2048) (h : (t.val % 9 - 1) * 1024 + a.val < 8192) :
    iblk m c 0 t (ix2 a k) = m ((c : Thread nD τ).loc main_arg0) (ix2 ⟨(t.val % 9 - 1) * 1024 + a.val, h⟩ k) := by
  blk_simp [iblk]
  rw [V_main_arg0]
  refine congrArg (m ((c : Thread nD τ).loc main_arg0)) (funext fun i => Fin.ext ?_)
  fin_cases i
  · blk_simp [index_h]; rfl
  · blk_simp [index_h]; rfl

theorem s_eq (c : Dev nD) (t : Fin cfg0.N) : iblk m c 1 t = m ((c : Thread nD τ).loc main_arg1) := by
  funext y
  blk_simp [iblk]
  rw [V_main_arg1]
  refine congrArg (m ((c : Thread nD τ).loc main_arg1)) (funext fun i => Fin.ext ?_)
  fin_cases i
  · blk_simp [index_s]
  · blk_simp [index_s]

/-! ## The result arrays -/

theorem lt_N (t : Fin cfg0.N) : t.val < 117 := lt_of_lt_of_eq t.isLt (show cfg0.N = 117 from N_0)

/-- The prompt's result. -/
theorem final_p (c : Dev nD) : (dats m 0 c).arrAt 3 cfg0.N
    = proj (M := 8192) (m ((c : Thread nD τ).loc main_arg0)) (m ((c : Thread nD τ).loc main_arg2)) := by
  refine (dats m 0 c).arrAt_eq_of_covers 3 _ (by decide +kernel) fun t hf y => ?_
  have hN := lt_N t
  blk_simp
  rw [after_3]
  unfold k0_pay3 proj
  idx_vars y
  pointwise
  refine Finset.sum_congr (M := EReal) rfl fun k _ => ?_
  have hy0 := y0.isLt
  have hc : (((win0_3.blk t).view.emb (ix2 y0 y1)) 1).val = 1024 * (t.val / 9) + y1.val := by
    blk_simp [index_p]; exact congrArg (· + _) (Nat.mul_comm _ _)
  rw [h_apply m c t y0 k (by omega),
    wts_apply m c t y1 k (by rw [← hc]; exact src_lt _)]
  refine congrArg₂ (fun a b : EReal => a * b) (congrArg _ (congrArg (ix2 · k) (Fin.ext ?_))) (congrArg _ (congrArg (ix3 0 k) (Fin.ext (congrArg src hc.symm))))
  symm; blk_simp [index_p]

/-- The samples'. -/
theorem final_s (c : Dev nD) : (dats m 0 c).arrAt 4 cfg0.N
    = proj (M := 128) (m ((c : Thread nD τ).loc main_arg1)) (m ((c : Thread nD τ).loc main_arg2)) := by
  refine (dats m 0 c).arrAt_eq_of_covers 4 _ (by decide +kernel) fun t hf y => ?_
  have hN := lt_N t
  blk_simp
  rw [after_4, s_eq]
  unfold k0_pay2 proj
  idx_vars y
  pointwise
  refine Finset.sum_congr (M := EReal) rfl fun k _ => ?_
  have hc : (((win0_4.blk t).view.emb (ix2 y0 y1)) 1).val = 1024 * (t.val / 9) + y1.val := by
    blk_simp [index_o]; exact congrArg (· + _) (Nat.mul_comm _ _)
  rw [wts_apply m c t y1 k (by rw [← hc]; exact src_lt _)]
  refine congrArg₂ (fun a b : EReal => a * b) (congrArg _ (congrArg (ix2 · k) (Fin.ext ?_))) (congrArg _ (congrArg (ix3 0 k) (Fin.ext (congrArg src hc.symm))))
  symm; blk_simp [index_o]

/-! ## The run, read -/

/-- The prompt's and the samples' projections of the launch contents. -/
abbrev prompt (c : Dev nD) := proj (M := 8192) (m ((c : Thread nD τ).loc main_arg0)) (m ((c : Thread nD τ).loc main_arg2))
abbrev sample (c : Dev nD) := proj (M := 128) (m ((c : Thread nD τ).loc main_arg1)) (m ((c : Thread nD τ).loc main_arg2))

/-- The arrays as the host's operations after the region find them. -/
abbrev ends (c : Dev nD) : Valuation τ sig (Elt Ideal) :=
  Pipeline.withArrays (cfgs 0).spec c (V0 m c) fun w => (dats m 0 c).arrAt w (cfgs 0).N

theorem arr_inj : Function.Injective (Pipeline.arrRef spec0) := by decide
theorem ends_p (c : Dev nD) : ends m c (Proc.tc.devRef main_v2_0) = prompt m c :=
  (Pipeline.withArrays_arr spec0 arr_inj c (V0 m c) (fun w => (dats m 0 c).arrAt w cfg0.N) 3).trans (final_p m c)
theorem ends_s (c : Dev nD) : ends m c (Proc.tc.devRef main_v2_1) = sample m c :=
  (Pipeline.withArrays_arr spec0 arr_inj c (V0 m c) (fun w => (dats m 0 c).arrAt w cfg0.N) 4).trans (final_s m c)
theorem ends_arg3 (c : Dev nD) : ends m c (Proc.tc.devRef main_arg3) = m ((c : Thread nD τ).loc main_arg3) :=
  (Pipeline.withArrays_of_ne spec0 c (V0 m c) _ main_arg3 (by decide)).trans (V_main_arg3 m c)
theorem ends_arg4 (c : Dev nD) : ends m c (Proc.tc.devRef main_arg4) = m ((c : Thread nD τ).loc main_arg4) :=
  (Pipeline.withArrays_of_ne spec0 c (V0 m c) _ main_arg4 (by decide)).trans (V_main_arg4 m c)

theorem tail_v5 (c : Dev nD) : Pipeline.afterTail₀ cfgs (dats m) 0 (V0 m) [hostOps1] c main_v5 = poolPrompt (prompt m c) := by
  show StableHlo.after [hostOps1].flatten (ends m c) _ = _
  rw [← ends_p]
  generalize ends m c = W
  simp only [hostOps1, List.flatten_cons, List.flatten_nil, List.append_nil]
  after_results_simp
  funext i
  idx_vars i
  pointwise
  rfl

theorem tail_v7 (c : Dev nD) : Pipeline.afterTail₀ cfgs (dats m) 0 (V0 m) [hostOps1] c main_v7 = convPrompt (prompt m c) := by
  show StableHlo.after [hostOps1].flatten (ends m c) _ = _
  rw [← ends_p]
  generalize ends m c = W
  simp only [hostOps1, List.flatten_cons, List.flatten_nil, List.append_nil]
  after_results_simp
  funext i
  idx_vars i
  pointwise
  rfl

theorem tail_v13 (c : Dev nD) : Pipeline.afterTail₀ cfgs (dats m) 0 (V0 m) [hostOps1] c main_v13
    = poolSample (m ((c : Thread nD τ).loc main_arg3)) (sample m c) := by
  show StableHlo.after [hostOps1].flatten (ends m c) _ = _
  rw [← ends_s, ← ends_arg3 m c]
  generalize ends m c = W
  simp only [hostOps1, List.flatten_cons, List.flatten_nil, List.append_nil]
  after_results_simp
  funext i
  idx_vars i
  pointwise
  after_results_simp
  pointwise
  rfl

theorem tail_v19 (c : Dev nD) : Pipeline.afterTail₀ cfgs (dats m) 0 (V0 m) [hostOps1] c main_v19
    = convSample (m ((c : Thread nD τ).loc main_arg4)) (sample m c) := by
  show StableHlo.after [hostOps1].flatten (ends m c) _ = _
  rw [← ends_s, ← ends_arg4 m c]
  generalize ends m c = W
  simp only [hostOps1, List.flatten_cons, List.flatten_nil, List.append_nil]
  after_results_simp
  funext i
  idx_vars i
  pointwise
  after_results_simp
  pointwise
  rfl

/-- After the run: the two projections, the buffers cut out of them, the arguments as launched. -/
theorem run : θ_run defs (onTc (τ := τ) (main (F := Ideal))) ⟨m, fun _ => 0, ρ⟩ (fun r => ∀ c : Dev nD,
      r.2.mem ((c.tc : Thread nD τ).loc main_v2_0) = prompt m c
      ∧ r.2.mem ((c.tc : Thread nD τ).loc main_v2_1) = sample m c
      ∧ r.2.mem ((c.tc : Thread nD τ).loc main_v5) = poolPrompt (prompt m c)
      ∧ r.2.mem ((c.tc : Thread nD τ).loc main_v7) = convPrompt (prompt m c)
      ∧ r.2.mem ((c.tc : Thread nD τ).loc main_v13) = poolSample (m ((c : Thread nD τ).loc main_arg3)) (sample m c)
      ∧ r.2.mem ((c.tc : Thread nD τ).loc main_v19) = convSample (m ((c : Thread nD τ).loc main_arg4)) (sample m c)) := by
  refine (θ_run defs _ _).mono (fun r h c => ⟨?_, ?_, ?_, ?_, ?_, ?_⟩) (run_quiescent m ρ)
  · exact ((h.1 c).1 3).trans (final_p m c)
  · exact ((h.1 c).1 4).trans (final_s m c)
  · exact ((h.1 c).2 main_v5 (Pipeline.mem_restRefs_of main_v5 (by decide) (by decide))).trans (tail_v5 m c)
  · exact ((h.1 c).2 main_v7 (Pipeline.mem_restRefs_of main_v7 (by decide) (by decide))).trans (tail_v7 m c)
  · exact ((h.1 c).2 main_v13 (Pipeline.mem_restRefs_of main_v13 (by decide) (by decide))).trans (tail_v13 m c)
  · exact ((h.1 c).2 main_v19 (Pipeline.mem_restRefs_of main_v19 (by decide) (by decide))).trans (tail_v19 m c)

end Cert.Proof.Inproj

end
-- ==== Proof.Inproj.Reference.lean ====
/-
  The reference's side: every result of the plain projection, read at an index, is the same sum as the kernel's.
-/
module

public import proofs.«01_k».proof.Proof.Inproj.Value
public import proofs.«01_k».proof.Proof.Gen.ReferenceIdeal.Run

@[expose] public section

set_option maxRecDepth 16384

noncomputable section

namespace Cert.Proof.InprojRef

open Cert.ReferenceIdeal Cert.ReferenceIdeal.Gen
open Cert.Proof.Inproj (src src_lt proj poolPrompt convPrompt poolSample convSample)
open Idealize.ShloMosaic Idealize.ShloMosaic.TcCoe Idealize.ShloMosaic.Tactic
open Idealize.SL Idealize.SL.Sem

variable (x : S8192x2048.Idx → Elt Ideal .bf16) (s : S128x2048.Idx → Elt Ideal .bf16) (w : S1x2048x13344.Idx → Elt Ideal .f32)
variable (b : S1x128x15x1024.Idx → Elt Ideal .f32) (d : S1x128x3x6144.Idx → Elt Ideal .f32)

/-- The prompt against every column of the weights. -/
def promptAll : S4x2048x13344.Idx → Elt Ideal .f32 :=
  Host.dotGeneral (F := Ideal) (φ₁ := .f32) (φ₂ := .f32) dot_S4x2048x2048_S2048x13344_S4x2048x13344_2_0_01_1_n_n none
    (extf .f32 (shapeCast _ x shapeCasts_S8192x2048_S4x2048x2048) bitsLt_bf16_f32) (shapeCast _ w shapeCasts_S1x2048x13344_S2048x13344)
/-- The samples. -/
def sampleAll : S128x1x13344.Idx → Elt Ideal .f32 :=
  Host.dotGeneral (F := Ideal) (φ₁ := .f32) (φ₂ := .f32) dot_S128x1x2048_S2048x13344_S128x1x13344_2_0_01_1_n_n none
    (extf .f32 (shapeCast _ s shapeCasts_S128x2048_S128x1x2048) bitsLt_bf16_f32) (shapeCast _ w shapeCasts_S1x2048x13344_S2048x13344)

/-- Column `n` of the weights against row `t` of sequence `q`. -/
theorem promptAll_apply (q : Fin 4) (t : Fin 2048) (n : Fin 13344) :
    promptAll x w (ix3 q t n) = ∑ k : Fin 2048, (x (ix2 ⟨q.val * 2048 + t.val, by omega⟩ k) * w (ix3 0 k n) : EReal) := by
  unfold promptAll
  pointwise
theorem sampleAll_apply (q : Fin 128) (u : Fin 1) (n : Fin 13344) :
    sampleAll s w (ix3 q u n) = ∑ k : Fin 2048, (s (ix2 q k) * w (ix3 0 k n) : EReal) := by
  unfold sampleAll
  pointwise

/-- Two rows of the products are equal where their row and column are. -/
theorem row_congr {M : ℕ} (x : (⟨2, ![M, 2048]⟩ : Shape).Idx → Elt Ideal .bf16) {r r' : Fin M} {n n' : Fin 13344}
    (hr : r.val = r'.val) (hn : n.val = n'.val) :
    (∑ k : Fin 2048, (x (ix2 r k) * w (ix3 0 k n) : EReal)) = ∑ k : Fin 2048, (x (ix2 r' k) * w (ix3 0 k n') : EReal) := by
  rw [Fin.ext hr, Fin.ext hn]

theorem prompt_eq :
    shapeCast _ ((concatenate S4x2048x13312 2 [⟨S4x2048x6144, ((extractStridedSlice S4x2048x6144 ![0, 0, 1024] (promptAll x w) slices_S4x2048x13344_S4x2048x6144_0_0_1024) : (⟨S4x2048x6144, .f32⟩ : BufTy).Contents (Elt Ideal))⟩,
      ⟨S4x2048x2048, ((extractStridedSlice S4x2048x2048 ![0, 0, 7168] (promptAll x w) slices_S4x2048x13344_S4x2048x2048_0_0_7168) : (⟨S4x2048x2048, .f32⟩ : BufTy).Contents (Elt Ideal))⟩,
      ⟨S4x2048x1024, ((extractStridedSlice S4x2048x1024 ![0, 0, 0] (promptAll x w) slices_S4x2048x13344_S4x2048x1024_0_0_0) : (⟨S4x2048x1024, .f32⟩ : BufTy).Contents (Elt Ideal))⟩,
      ⟨S4x2048x2048, ((extractStridedSlice S4x2048x2048 ![0, 0, 9248] (promptAll x w) slices_S4x2048x13344_S4x2048x2048_0_0_9248) : (⟨S4x2048x2048, .f32⟩ : BufTy).Contents (Elt Ideal))⟩,
      ⟨S4x2048x2048, ((extractStridedSlice S4x2048x2048 ![0, 0, 11296] (promptAll x w) slices_S4x2048x13344_S4x2048x2048_0_0_11296) : (⟨S4x2048x2048, .f32⟩ : BufTy).Contents (Elt Ideal))⟩] concatenates_S4x2048x6144_S4x2048x2048_S4x2048x1024_S4x2048x2048_S4x2048x2048_S4x2048x13312_d2 : (⟨S4x2048x13312, .f32⟩ : BufTy).Contents (Elt Ideal))) shapeCasts_S4x2048x13312_S8192x13312 = proj (M := 8192) x w := by
  funext i
  idx_vars i
  unfold proj
  pointwise
  simp only [promptAll_apply]
  repeat' split
  all_goals first
    | omega
    | exact row_congr w _ (by first | rfl | (dsimp only; omega)) (by dsimp only; unfold src; split_ifs <;> omega)
    | rfl

theorem sample_eq :
    shapeCast _ ((concatenate S128x1x13312 2 [⟨S128x1x6144, ((extractStridedSlice S128x1x6144 ![0, 0, 1024] (sampleAll s w) slices_S128x1x13344_S128x1x6144_0_0_1024) : (⟨S128x1x6144, .f32⟩ : BufTy).Contents (Elt Ideal))⟩,
      ⟨S128x1x2048, ((extractStridedSlice S128x1x2048 ![0, 0, 7168] (sampleAll s w) slices_S128x1x13344_S128x1x2048_0_0_7168) : (⟨S128x1x2048, .f32⟩ : BufTy).Contents (Elt Ideal))⟩,
      ⟨S128x1x1024, ((extractStridedSlice S128x1x1024 ![0, 0, 0] (sampleAll s w) slices_S128x1x13344_S128x1x1024_0_0_0) : (⟨S128x1x1024, .f32⟩ : BufTy).Contents (Elt Ideal))⟩,
      ⟨S128x1x2048, ((extractStridedSlice S128x1x2048 ![0, 0, 9248] (sampleAll s w) slices_S128x1x13344_S128x1x2048_0_0_9248) : (⟨S128x1x2048, .f32⟩ : BufTy).Contents (Elt Ideal))⟩,
      ⟨S128x1x2048, ((extractStridedSlice S128x1x2048 ![0, 0, 11296] (sampleAll s w) slices_S128x1x13344_S128x1x2048_0_0_11296) : (⟨S128x1x2048, .f32⟩ : BufTy).Contents (Elt Ideal))⟩] concatenates_S128x1x6144_S128x1x2048_S128x1x1024_S128x1x2048_S128x1x2048_S128x1x13312_d2 : (⟨S128x1x13312, .f32⟩ : BufTy).Contents (Elt Ideal))) shapeCasts_S128x1x13312_S128x13312 = proj (M := 128) s w := by
  funext i
  idx_vars i
  unfold proj
  pointwise
  simp only [sampleAll_apply]
  repeat' split
  all_goals first
    | omega
    | exact row_congr w _ (by first | rfl | (dsimp only; omega)) (by dsimp only; unfold src; split_ifs <;> omega)
    | rfl

theorem pool_prompt_eq :
    broadcastInDim S1x4x15x1024 ![1, 2, 3] bcast_S4x15x1024_S1x4x15x1024_1_2_3 (extractStridedSlice S4x15x1024 ![0, 2048, 0] (concatenate S4x2063x1024 1 [⟨S4x15x1024, (broadcastInDim S4x15x1024 ![] bcast_S_S4x15x1024 (constant (F := Ideal) S_ .f32 0x00000000#32))⟩,
      ⟨S4x2048x1024, (extractStridedSlice S4x2048x1024 ![0, 0, 0] (promptAll x w) slices_S4x2048x13344_S4x2048x1024_0_0_0)⟩] concatenates_S4x15x1024_S4x2048x1024_S4x2063x1024_d1) slices_S4x2063x1024_S4x15x1024_0_2048_0) = poolPrompt (proj (M := 8192) x w) := by
  funext i
  idx_vars i
  unfold poolPrompt proj
  pointwise
  simp only [promptAll_apply]
  repeat' split
  all_goals first
    | omega
    | exact row_congr w _ (by first | rfl | (dsimp only; omega)) (by dsimp only; unfold src; split_ifs <;> omega)
    | rfl

theorem conv_prompt_eq :
    broadcastInDim S1x4x3x6144 ![1, 2, 3] bcast_S4x3x6144_S1x4x3x6144_1_2_3 (extractStridedSlice S4x3x6144 ![0, 2048, 0] (concatenate S4x2051x6144 1 [⟨S4x3x6144, (broadcastInDim S4x3x6144 ![] bcast_S_S4x3x6144 (constant (F := Ideal) S_ .f32 0x00000000#32))⟩,
      ⟨S4x2048x6144, (extractStridedSlice S4x2048x6144 ![0, 0, 1024] (promptAll x w) slices_S4x2048x13344_S4x2048x6144_0_0_1024)⟩] concatenates_S4x3x6144_S4x2048x6144_S4x2051x6144_d1) slices_S4x2051x6144_S4x3x6144_0_2048_0) = convPrompt (proj (M := 8192) x w) := by
  funext i
  idx_vars i
  unfold convPrompt proj
  pointwise
  simp only [promptAll_apply]
  repeat' split
  all_goals first
    | omega
    | exact row_congr w _ (by first | rfl | (dsimp only; omega)) (by dsimp only; unfold src; split_ifs <;> omega)
    | rfl

theorem pool_sample_eq :
    broadcastInDim S1x128x15x1024 ![1, 2, 3] bcast_S128x15x1024_S1x128x15x1024_1_2_3 (extractStridedSlice S128x15x1024 ![0, 1, 0] (concatenate S128x16x1024 1 [⟨S128x15x1024, (shapeCast _ b shapeCasts_S1x128x15x1024_S128x15x1024)⟩,
      ⟨S128x1x1024, (extractStridedSlice S128x1x1024 ![0, 0, 0] (sampleAll s w) slices_S128x1x13344_S128x1x1024_0_0_0)⟩] concatenates_S128x15x1024_S128x1x1024_S128x16x1024_d1) slices_S128x16x1024_S128x15x1024_0_1_0) = poolSample b (proj (M := 128) s w) := by
  funext i
  idx_vars i
  unfold poolSample proj
  pointwise
  simp only [sampleAll_apply]
  repeat' split
  all_goals first
    | omega
    | exact row_congr w _ (by first | rfl | (dsimp only; omega)) (by dsimp only; unfold src; split_ifs <;> omega)
    | rfl

theorem conv_sample_eq :
    broadcastInDim S1x128x3x6144 ![1, 2, 3] bcast_S128x3x6144_S1x128x3x6144_1_2_3 (extractStridedSlice S128x3x6144 ![0, 1, 0] (concatenate S128x4x6144 1 [⟨S128x3x6144, (shapeCast _ d shapeCasts_S1x128x3x6144_S128x3x6144)⟩,
      ⟨S128x1x6144, (extractStridedSlice S128x1x6144 ![0, 0, 1024] (sampleAll s w) slices_S128x1x13344_S128x1x6144_0_0_1024)⟩] concatenates_S128x3x6144_S128x1x6144_S128x4x6144_d1) slices_S128x4x6144_S128x3x6144_0_1_0) = convSample d (proj (M := 128) s w) := by
  funext i
  idx_vars i
  unfold convSample proj
  pointwise
  simp only [sampleAll_apply]
  repeat' split
  all_goals first
    | omega
    | exact row_congr w _ (by first | rfl | (dsimp only; omega)) (by dsimp only; unfold src; split_ifs <;> omega)
    | rfl

/-- The reference's run, its results named. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v16) = proj (M := 8192) (m ((c.tc : Thread nD τ).loc main_arg0)) (m ((c.tc : Thread nD τ).loc main_arg2))
      ∧ r.2.mem ((c.tc : Thread nD τ).loc main_v35) = proj (M := 128) (m ((c.tc : Thread nD τ).loc main_arg1)) (m ((c.tc : Thread nD τ).loc main_arg2))
      ∧ r.2.mem ((c.tc : Thread nD τ).loc main_v17) = poolPrompt (proj (M := 8192) (m ((c.tc : Thread nD τ).loc main_arg0)) (m ((c.tc : Thread nD τ).loc main_arg2)))
      ∧ r.2.mem ((c.tc : Thread nD τ).loc main_v18) = convPrompt (proj (M := 8192) (m ((c.tc : Thread nD τ).loc main_arg0)) (m ((c.tc : Thread nD τ).loc main_arg2)))
      ∧ r.2.mem ((c.tc : Thread nD τ).loc main_v36) = poolSample (m ((c.tc : Thread nD τ).loc main_arg3)) (proj (M := 128) (m ((c.tc : Thread nD τ).loc main_arg1)) (m ((c.tc : Thread nD τ).loc main_arg2)))
      ∧ r.2.mem ((c.tc : Thread nD τ).loc main_v37) = convSample (m ((c.tc : Thread nD τ).loc main_arg4)) (proj (M := 128) (m ((c.tc : Thread nD τ).loc main_arg1)) (m ((c.tc : Thread nD τ).loc main_arg2)))) :=
  (θ_run defs _ _).mono (fun _ h c => ⟨(h c).1.trans (prompt_eq _ _), (h c).2.1.trans (sample_eq _ _),
      (h c).2.2.1.trans (pool_prompt_eq _ _), (h c).2.2.2.1.trans (conv_prompt_eq _ _),
      (h c).2.2.2.2.1.trans (pool_sample_eq _ _ _), (h c).2.2.2.2.2.1.trans (conv_sample_eq _ _ _)⟩)
    (Cert.ReferenceIdeal.Value.run m ρ)

end Cert.Proof.InprojRef

end
-- ==== Proof.Layer.lean ====
/-
  The pieces of the layer's mathematics that its calls and the plain references share, row by row, in exact arithmetic.
-/
module

public import Idealize.ShloMosaic.Lib.Pipeline.ValueKit
public import Idealize.ShloMosaic.Lib.Pointwise

@[expose] public section

noncomputable section

namespace Cert.Proof.Layer

open Idealize.ShloMosaic

/-- Entry `n` of a row times a matrix's columns. -/
def dot {K : ℕ} (x : Fin K → EReal) (w : Fin K → EReal) : EReal := ∑ k : Fin K, x k * w k

/-- Entry `k` of a row of 2048 divided by its root mean square and scaled. -/
def rms (x g : Fin 2048 → EReal) (k : Fin 2048) : EReal :=
  x k * Ideal.rsqrt (Ideal.div (∑ j : Fin 2048, x j * x j) (Ideal.ofBits FTy.f32 1157627904#32) + Ideal.ofBits FTy.f32 897988541#32) * g k

/-- `x · σ(x)`. -/
def silu (x : EReal) : EReal := x * Ideal.logistic x

/-- Hidden unit `l` of the channel mixer for a normalised row: the gate's `silu` times the up projection. -/
def act (h : Fin 2048 → EReal) (w : (⟨3, ![1, 2048, 11264]⟩ : Shape).Idx → EReal) (l : Fin 5632) : EReal :=
  silu (dot h fun k => w (ix3 0 k ⟨l.val, by omega⟩)) * dot h fun k => w (ix3 0 k ⟨5632 + l.val, by omega⟩)

/-- The channel mixer on row `r`: the row plus its hidden units against the down projection. -/
def ffn {M : ℕ} (x : (⟨2, ![M, 2048]⟩ : Shape).Idx → EReal) (g : (⟨2, ![1, 2048]⟩ : Shape).Idx → EReal)
    (w : (⟨3, ![1, 2048, 11264]⟩ : Shape).Idx → EReal) (d : (⟨3, ![1, 5632, 2048]⟩ : Shape).Idx → EReal) :
    (⟨2, ![M, 2048]⟩ : Shape).Idx → EReal :=
  fun i => x i + ∑ l : Fin 5632, act (rms (fun j => x (ix2 (i 0) j)) fun j => g (ix2 0 j)) w l * d (ix3 0 l (i 1))

/-- The per-layer input's embedding added behind its gate, before the last norm: entry `n` of row `r`. -/
def embed (x : Fin 2048 → EReal) (p : Fin 256 → EReal) (e : (⟨3, ![1, 256, 2048]⟩ : Shape).Idx → EReal)
    (q : (⟨3, ![1, 2048, 2048]⟩ : Shape).Idx → EReal) (n : Fin 2048) : EReal :=
  x n + dot p (fun k => e (ix3 0 k n)) * Ideal.logistic (dot x fun k => q (ix3 0 k n))

/-- The layer's result on row `r`: the embedding added, then the last norm. -/
def last {M : ℕ} (x : (⟨2, ![M, 2048]⟩ : Shape).Idx → EReal) (p : Fin M → Fin 256 → EReal) (e : (⟨3, ![1, 256, 2048]⟩ : Shape).Idx → EReal)
    (q : (⟨3, ![1, 2048, 2048]⟩ : Shape).Idx → EReal) (g : (⟨1, ![2048]⟩ : Shape).Idx → EReal) : (⟨2, ![M, 2048]⟩ : Shape).Idx → EReal :=
  fun i => rms (embed (fun j => x (ix2 (i 0) j)) (p (i 0)) e q) (fun j => g (ix1 j)) (i 1)

/-- The mixers' output projected and added to row `r`: entry `n`. -/
def outproj {M : ℕ} (y x : (⟨2, ![M, 2048]⟩ : Shape).Idx → EReal) (w : (⟨3, ![1, 2048, 2048]⟩ : Shape).Idx → EReal) :
    (⟨2, ![M, 2048]⟩ : Shape).Idx → EReal :=
  fun i => x i + dot (fun k => y (ix2 (i 0) k)) fun k => w (ix3 0 k (i 1))

/-- The two mixers' results, each projected up behind its own gate, and added. The gates are the last 4096 columns of the
    projections' first 13312. -/
def merge {M : ℕ} (u : (⟨2, ![M, 13312]⟩ : Shape).Idx → EReal) (p : (⟨2, ![M, 1024]⟩ : Shape).Idx → EReal)
    (g : (⟨2, ![M, 2048]⟩ : Shape).Idx → EReal) (wp : (⟨3, ![1, 1024, 2048]⟩ : Shape).Idx → EReal)
    (wg : (⟨3, ![1, 2048, 2048]⟩ : Shape).Idx → EReal) : (⟨2, ![M, 2048]⟩ : Shape).Idx → EReal :=
  fun i => Ideal.logistic (u (ix2 (i 0) ⟨9216 + (i 1).val, by have : (i 1).val < 2048 := (i 1).isLt; omega⟩)) * dot (fun k => p (ix2 (i 0) k)) (fun k => wp (ix3 0 k (i 1)))
    + Ideal.logistic (u (ix2 (i 0) ⟨11264 + (i 1).val, by have : (i 1).val < 2048 := (i 1).isLt; omega⟩)) * dot (fun k => g (ix2 (i 0) k)) (fun k => wg (ix3 0 k (i 1)))

/-- Every row normalised. -/
def normed {M : ℕ} (x : (⟨2, ![M, 2048]⟩ : Shape).Idx → EReal) (g : (⟨2, ![1, 2048]⟩ : Shape).Idx → EReal) :
    (⟨2, ![M, 2048]⟩ : Shape).Idx → EReal :=
  fun i => rms (fun j => x (ix2 (i 0) j)) (fun j => g (ix2 0 j)) (i 1)

/-- The delta rule's rates, columns 9216 to 9343 of the projection of a normalised row. -/
def rates {M : ℕ} (x : (⟨2, ![M, 2048]⟩ : Shape).Idx → EReal) (g : (⟨2, ![1, 2048]⟩ : Shape).Idx → EReal)
    (w : (⟨3, ![1, 2048, 13344]⟩ : Shape).Idx → EReal) : (⟨2, ![M, 128]⟩ : Shape).Idx → EReal :=
  fun i => dot (rms (fun j => x (ix2 (i 0) j)) fun j => g (ix2 0 j)) fun k => w (ix3 0 k ⟨9216 + (i 1).val, by have : (i 1).val < 128 := (i 1).isLt; omega⟩)

end Cert.Proof.Layer

end
-- ==== Proof.Ffn.Value.lean ====
/-
  What the channel mixer's array holds after the run, in exact arithmetic: the 22 blocks of hidden units, added to the
  result one grid point at a time, are the sum over all 5632.
-/
module

public import proofs.«01_k».proof.Proof.Layer
public import proofs.«01_k».proof.Proof.Gen.FfnIdeal.Value
public import Idealize.ShloMosaic.Lib.Pipeline.ReadBack
public import Idealize.ShloMosaic.Lib.ValueLayout

@[expose] public section

set_option maxRecDepth 16384

noncomputable section

namespace Cert.Proof.Ffn

open Cert.FfnIdeal Cert.FfnIdeal.Gen Cert.Proof.Layer
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ## The two stored values at an index -/

/-- The kept row is the normalised row. -/
theorem pay1_apply (x : Vec Ideal S1024x2048 .f32) (g : Vec Ideal S1x2048 .f32) (a : Fin 1024) (k : Fin 2048) :
    k0_pay1 x g (ix2 a k) = rms (fun j => x (ix2 a j)) (fun j => g (ix2 0 j)) k := by
  unfold k0_pay1 rms
  pointwise

/-- A grid point adds its 256 hidden units against their rows of the down projection. -/
theorem pay2_apply (h : Vec Ideal S1024x2048 .bf16) (wg wu : Vec Ideal S2048x256 .f32) (acc : Vec Ideal S1024x2048 .f32)
    (wd : Vec Ideal S256x2048 .f32) (a : Fin 1024) (n : Fin 2048) :
    k0_pay2 h wg wu acc wd (ix2 a n) = (acc (ix2 a n) + ∑ l : Fin 256, silu (dot (fun k => h (ix2 a k)) fun k => wg (ix2 k l))
      * (dot (fun k => h (ix2 a k)) fun k => wu (ix2 k l)) * wd (ix2 l n) : EReal) := by
  unfold k0_pay2 silu dot
  pointwise

/-! ## The blocks a grid point reads -/

theorem lt_N (t : Fin cfg0.N) : t.val < 176 := lt_of_lt_of_eq t.isLt (show cfg0.N = 176 from N_0)

theorem index_x : ∀ t : Fin cfg0.N, win0_0.index t = ![t.val / 22, 0] :=
  (by decide +kernel : ∀ t : Fin grid0.N, win0_0.index t = ![t.val / 22, 0])
theorem index_g : ∀ t : Fin cfg0.N, win0_1.index t = ![0, 0] :=
  (by decide +kernel : ∀ t : Fin grid0.N, win0_1.index t = ![0, 0])
theorem index_wg : ∀ t : Fin cfg0.N, win0_2.index t = ![0, t.val % 22] :=
  (by decide +kernel : ∀ t : Fin grid0.N, win0_2.index t = ![0, t.val % 22])
theorem index_wu : ∀ t : Fin cfg0.N, win0_3.index t = ![0, 22 + t.val % 22] :=
  (by decide +kernel : ∀ t : Fin grid0.N, win0_3.index t = ![0, 22 + t.val % 22])
theorem index_wd : ∀ t : Fin cfg0.N, win0_4.index t = ![t.val % 22, 0] :=
  (by decide +kernel : ∀ t : Fin grid0.N, win0_4.index t = ![t.val % 22, 0])
theorem index_o : ∀ t : Fin cfg0.N, win0_5.index t = ![t.val / 22, 0] :=
  (by decide +kernel : ∀ t : Fin grid0.N, win0_5.index t = ![t.val / 22, 0])

theorem V_v0 (c : Dev nD) : V m c main_v0 = shapeCast S2048x11264 (m ((c : Thread nD τ).loc main_arg2)) shapeCasts_S1x2048x11264_S2048x11264 := by
  simp only [V, hostOps0]
  after_results_simp <;> rfl
theorem V_v1 (c : Dev nD) : V m c main_v1 = shapeCast S5632x2048 (m ((c : Thread nD τ).loc main_arg3)) shapeCasts_S1x5632x2048_S5632x2048 := by
  simp only [V, hostOps0]
  after_results_simp <;> rfl

/-- The row of the whole array that row `a` of point `t`'s block is. -/
def row (t : Fin cfg0.N) (a : Fin 1024) : Fin 8192 := ⟨t.val / 22 * 1024 + a.val, by have := lt_N t; omega⟩
/-- The hidden unit that unit `l` of point `t`'s block is. -/
def unit (t : Fin cfg0.N) (l : Fin 256) : Fin 5632 := ⟨t.val % 22 * 256 + l.val, by omega⟩

theorem x_apply (c : Dev nD) (t : Fin cfg0.N) (a : Fin 1024) (k : Fin 2048) :
    iblk m c 0 t (ix2 a k) = m ((c : Thread nD τ).loc main_arg0) (ix2 (row t a) k) := by
  blk_simp [iblk]
  rw [V_main_arg0]
  refine congrArg (m ((c : Thread nD τ).loc main_arg0)) (funext fun i => Fin.ext ?_)
  fin_cases i
  · blk_simp [index_x]; rfl
  · blk_simp [index_x]; rfl
theorem g_apply (c : Dev nD) (t : Fin cfg0.N) (k : Fin 2048) :
    iblk m c 1 t (ix2 0 k) = m ((c : Thread nD τ).loc main_arg1) (ix2 0 k) := by
  blk_simp [iblk]
  rw [V_main_arg1]
  refine congrArg (m ((c : Thread nD τ).loc main_arg1)) (funext fun i => Fin.ext ?_)
  fin_cases i
  · blk_simp [index_g]
  · blk_simp [index_g]
theorem wg_apply (c : Dev nD) (t : Fin cfg0.N) (k : Fin 2048) (l : Fin 256) :
    iblk m c 2 t (ix2 k l) = m ((c : Thread nD τ).loc main_arg2) (ix3 0 k ⟨(unit t l).val, by omega⟩) := by
  blk_simp [iblk]
  rw [V_v0]
  refine (ValueIdx.shapeCast_1ab_ab_apply _ _ _ _).trans ?_
  refine congrArg (m ((c : Thread nD τ).loc main_arg2)) (congrArg₂ (ix3 0) (Fin.ext ?_) (Fin.ext ?_))
  · blk_simp [index_wg]
  · blk_simp [index_wg]; rfl
theorem wu_apply (c : Dev nD) (t : Fin cfg0.N) (k : Fin 2048) (l : Fin 256) :
    iblk m c 3 t (ix2 k l) = m ((c : Thread nD τ).loc main_arg2) (ix3 0 k ⟨5632 + (unit t l).val, by omega⟩) := by
  blk_simp [iblk]
  rw [V_v0]
  refine (ValueIdx.shapeCast_1ab_ab_apply _ _ _ _).trans ?_
  refine congrArg (m ((c : Thread nD τ).loc main_arg2)) (congrArg₂ (ix3 0) (Fin.ext ?_) (Fin.ext ?_))
  · blk_simp [index_wu]
  · blk_simp [index_wu]; show (22 + t.val % 22) * 256 + l.val = 5632 + (t.val % 22 * 256 + l.val); omega
theorem wd_apply (c : Dev nD) (t : Fin cfg0.N) (l : Fin 256) (n : Fin 2048) :
    iblk m c 4 t (ix2 l n) = m ((c : Thread nD τ).loc main_arg3) (ix3 0 (unit t l) n) := by
  blk_simp [iblk]
  rw [V_v1]
  refine (ValueIdx.shapeCast_1ab_ab_apply _ _ _ _).trans ?_
  refine congrArg (m ((c : Thread nD τ).loc main_arg3)) (congrArg₂ (ix3 0) (Fin.ext ?_) (Fin.ext ?_))
  · blk_simp [index_wd]; rfl
  · blk_simp [index_wd]; show 0 * 2048 + n.val = n.val; omega

/-! ## What the points leave -/

/-- The normalised row `r` of the array. -/
abbrev hrow (c : Dev nD) (r : Fin 8192) : Fin 2048 → EReal :=
  rms (fun j => m ((c : Thread nD τ).loc main_arg0) (ix2 r j)) fun j => m ((c : Thread nD τ).loc main_arg1) (ix2 0 j)

/-- Entry `(r, k)` of the array. -/
abbrev entry (c : Dev nD) (r : Fin 8192) (k : Fin 2048) : EReal := m ((c : Thread nD τ).loc main_arg0) (ix2 r k)

/-- Hidden unit `l`'s share of entry `(r, n)`. -/
abbrev share (c : Dev nD) (r : Fin 8192) (n : Fin 2048) (l : Fin 5632) : EReal :=
  act (hrow m c r) (m ((c : Thread nD τ).loc main_arg2)) l * m ((c : Thread nD τ).loc main_arg3) (ix3 0 l n)

/-- The share of the `j`th block of 256. -/
def blockShare (c : Dev nD) (r : Fin 8192) (n : Fin 2048) (j : ℕ) : EReal :=
  if h : j < 22 then ∑ l : Fin 256, share m c r n ⟨j * 256 + l.val, by omega⟩ else 0

theorem pay2_share (c : Dev nD) (t : Fin cfg0.N) (h : Vec Ideal S1024x2048 .bf16) (acc : Vec Ideal S1024x2048 .f32)
    (a : Fin 1024) (n : Fin 2048) (hh : ∀ k, h (ix2 a k) = hrow m c (row t a) k) :
    k0_pay2 h (iblk m c 2 t) (iblk m c 3 t) acc (iblk m c 4 t) (ix2 a n)
      = (acc (ix2 a n) + blockShare m c (row t a) n (t.val % 22) : EReal) := by
  rw [pay2_apply, blockShare, dif_pos (by omega)]
  refine congrArg (acc (ix2 a n) + · : EReal → EReal) (Finset.sum_congr (M := EReal) rfl fun l _ => ?_)
  simp only [hh, wg_apply, wu_apply, wd_apply]
  rfl

theorem keep_A (c : Dev nD) (t : Fin cfg0.N) (h : t.val % 22 = 0) (a : Fin 1024) (k : Fin 2048) :
    (outsAt0 m c t.val t.isLt).2 (ix2 a k) = hrow m c (row t a) k := by
  rw [outsAt0_A m c t h]
  frame_out
  refine (pay1_apply _ _ a k).trans ?_
  simp only [x_apply, g_apply]

theorem keep_B (c : Dev nD) (t : Fin cfg0.N) (h : ¬t.val % 22 = 0) :
    (outsAt0 m c t.val t.isLt).2 = (outsAt0 m c (t.val - 1) (Nat.lt_of_le_of_lt (Nat.sub_le _ _) t.isLt)).2 := by
  rw [outsAt0_B m c t h]
  rfl

theorem step_A (c : Dev nD) (t : Fin cfg0.N) (h : t.val % 22 = 0) :
    (outsAt0 m c t.val t.isLt).1 = k0_pay2 (k0_pay1 (iblk m c 0 t) (iblk m c 1 t)) (iblk m c 2 t) (iblk m c 3 t) (iblk m c 0 t) (iblk m c 4 t) := by
  rw [outsAt0_A m c t h]
  frame_out

theorem step_B (c : Dev nD) (t : Fin cfg0.N) (h : ¬t.val % 22 = 0) :
    (outsAt0 m c t.val t.isLt).1 = k0_pay2 (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t) := by
  rw [outsAt0_B m c t h]
  frame_out
  simp only [read_unread_whole]

/-- After every point the scratch holds its rows normalised, and the result the rows plus the blocks so far. -/
theorem after_point (c : Dev nD) : ∀ (n : ℕ) (hn : n < cfg0.N) (a : Fin 1024),
    (∀ k, (outsAt0 m c n hn).2 (ix2 a k) = hrow m c (row ⟨n, hn⟩ a) k)
    ∧ ∀ k, (outsAt0 m c n hn).1 (ix2 a k) = (entry m c (row ⟨n, hn⟩ a) k + ∑ j ∈ Finset.range (n % 22 + 1), blockShare m c (row ⟨n, hn⟩ a) k j : EReal) := by
  intro n
  induction n using Nat.strong_induction_on with
  | _ n ih =>
    intro hn a
    by_cases h : n % 22 = 0
    · refine ⟨keep_A m c ⟨n, hn⟩ h a, fun k => ?_⟩
      refine (congrFun (step_A m c ⟨n, hn⟩ h) _).trans ((pay2_share m c ⟨n, hn⟩ _ _ a k fun j => ?_).trans ?_)
      · exact (pay1_apply _ _ a j).trans (by simp only [x_apply, g_apply])
      · rw [x_apply, h, zero_add, Finset.sum_range_one]
    · have hp : n - 1 < cfg0.N := Nat.lt_of_le_of_lt (Nat.sub_le _ _) hn
      have hr : row ⟨n - 1, hp⟩ a = row ⟨n, hn⟩ a := Fin.ext (by dsimp only [row]; omega)
      obtain ⟨ih2, ih1⟩ := ih (n - 1) (by omega) hp a
      rw [hr] at ih2 ih1
      refine ⟨fun k => (congrFun (keep_B m c ⟨n, hn⟩ h) _).trans (ih2 k), fun k => ?_⟩
      refine (congrFun (step_B m c ⟨n, hn⟩ h) _).trans ((pay2_share m c ⟨n, hn⟩ _ _ a k ih2).trans ?_)
      rw [ih1 k, show (n - 1) % 22 + 1 = n % 22 from by omega, Finset.sum_range_succ, add_assoc]

/-- The 22 blocks are all the hidden units. -/
theorem sum_blocks (c : Dev nD) (r : Fin 8192) (n : Fin 2048) :
    ∑ j ∈ Finset.range 22, blockShare m c r n j = ∑ l : Fin 5632, share m c r n l := by
  rw [← Fin.sum_mul_add_fin (M := EReal) 22 256 (share m c r n), Finset.sum_range]
  refine Finset.sum_congr (M := EReal) rfl fun j _ => ?_
  rw [blockShare, dif_pos j.isLt]

/-- The array after the run. -/
theorem final (c : Dev nD) : (dats m 0 c).arrAt 5 cfg0.N
    = ffn (M := 8192) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  have hm : t.val % 22 = 21 := (flush0_5 t).mp hf
  blk_simp
  rw [after0_5]
  idx_vars y
  have he : ((win0_5.blk t).view.emb (ix2 y0 y1)) = ix2 (row t y0) y1 := by
    refine funext fun i => Fin.ext ?_
    fin_cases i
    · blk_simp [index_o]; rfl
    · blk_simp [index_o]; rfl
  refine ((after_point m c t.val t.isLt y0).2 y1).trans ?_
  rw [hm, sum_blocks]
  exact (congrArg (ffn (M := 8192) _ _ _ _) he).symm

/-- The run, its result named. -/
theorem run : θ_run defs (onTc (τ := τ) (main (F := Ideal))) ⟨m, fun _ => 0, ρ⟩ fun r => ∀ c : Dev nD,
    r.2.mem ((c : Thread nD τ).loc main_v2) = ffn (M := 8192) (m ((c : Thread nD τ).loc main_arg0)) (m ((c : Thread nD τ).loc main_arg1))
        (m ((c : Thread nD τ).loc main_arg2)) (m ((c : Thread nD τ).loc main_arg3)) :=
  (θ_run defs _ _).mono (fun _ h c => (h c).1.trans (final m c)) (Value.run_blocks m ρ)

end Cert.Proof.Ffn

end
-- ==== Proof.Ffn.Reference.lean ====
/-
  The plain channel mixer's result, read at an index, is the same sum as the kernel's.
-/
module

public import proofs.«01_k».proof.Proof.Layer
public import proofs.«01_k».proof.Proof.Gen.RefFfnIdeal.Run
public import Idealize.ShloMosaic.Lib.ValueLayout

@[expose] public section

set_option maxRecDepth 16384

noncomputable section

namespace Cert.Proof.FfnRef

open Cert.RefFfnIdeal Cert.RefFfnIdeal.Gen Cert.Proof.Layer
open Idealize.ShloMosaic Idealize.ShloMosaic.TcCoe Idealize.ShloMosaic.Tactic
open Idealize.SL Idealize.SL.Sem

variable (x : S8192x2048.Idx → Elt Ideal .f32) (g : S1x2048.Idx → Elt Ideal .f32)
variable (w : S1x2048x11264.Idx → Elt Ideal .f32) (d : S1x5632x2048.Idx → Elt Ideal .f32)

/-- The row that row `t` of sequence `q` is. -/
def row (q : Fin 4) (t : Fin 2048) : Fin 8192 := ⟨q.val * 2048 + t.val, by omega⟩

/-- The normalised activations. -/
def normed : FVec Ideal S4x2048x2048 .f32 :=
  mulf (mulf (shapeCast S4x2048x2048 x shapeCasts_S8192x2048_S4x2048x2048)
    (broadcastInDim S4x2048x2048 ![0, 1, 2] bcast_S4x2048x1_S4x2048x2048_0_1_2
      (Host.rsqrt (addf (Host.divf
        (broadcastInDim S4x2048x1 ![0, 1] bcast_S4x2048_S4x2048x1_0_1
          (Host.reduceAdd (mulf (shapeCast S4x2048x2048 x shapeCasts_S8192x2048_S4x2048x2048) (shapeCast S4x2048x2048 x shapeCasts_S8192x2048_S4x2048x2048))
            (constant (F := Ideal) S_ .f32 0x00000000#32) reducesTo_S4x2048x2048_S4x2048_d2 h_S_))
        (broadcastInDim S4x2048x1 ![] bcast_S_S4x2048x1 (constant (F := Ideal) S_ .f32 0x45000000#32)))
        (broadcastInDim S4x2048x1 ![] bcast_S_S4x2048x1 (constant (F := Ideal) S_ .f32 0x358637BD#32))))))
    (broadcastInDim S4x2048x2048 ![0, 1, 2] bcast_S1x1x2048_S4x2048x2048_0_1_2
      (broadcastInDim S1x1x2048 ![2] bcast_S2048_S1x1x2048_2 (shapeCast S2048 g shapeCasts_S1x2048_S2048)))

theorem normed_apply (q : Fin 4) (t k : Fin 2048) :
    normed x g (ix3 q t k) = rms (fun j => x (ix2 (row q t) j)) (fun j => g (ix2 0 j)) k := by
  unfold normed rms
  pointwise
  rfl

/-- Gate and up projections. -/
def gateUp : FVec Ideal S4x2048x11264 .f32 :=
  Host.dotGeneral (F := Ideal) (φ₁ := .f32) (φ₂ := .f32) dot_S4x2048x2048_S2048x11264_S4x2048x11264_2_0_01_1_n_n none
    (normed x g) (shapeCast S2048x11264 w shapeCasts_S1x2048x11264_S2048x11264)

theorem gateUp_apply (q : Fin 4) (t : Fin 2048) (n : Fin 11264) :
    gateUp x g w (ix3 q t n) = dot (rms (fun j => x (ix2 (row q t) j)) fun j => g (ix2 0 j)) fun k => w (ix3 0 k n) := by
  unfold gateUp dot
  pointwise
  refine Finset.sum_congr (M := EReal) rfl fun k _ => ?_
  rw [normed_apply]

/-- The hidden units. -/
def hidden : FVec Ideal S4x2048x5632 .f32 :=
  mulf (mulf (extractStridedSlice S4x2048x5632 ![0, 0, 0] (gateUp x g w) slices_S4x2048x11264_S4x2048x5632_0_0_0)
      (Host.divf (broadcastInDim S4x2048x5632 ![] bcast_S_S4x2048x5632 (constant (F := Ideal) S_ .f32 0x3F800000#32))
        (addf (broadcastInDim S4x2048x5632 ![] bcast_S_S4x2048x5632 (constant (F := Ideal) S_ .f32 0x3F800000#32))
          (Host.exp (Host.negf (extractStridedSlice S4x2048x5632 ![0, 0, 0] (gateUp x g w) slices_S4x2048x11264_S4x2048x5632_0_0_0))))))
    (extractStridedSlice S4x2048x5632 ![0, 0, 5632] (gateUp x g w) slices_S4x2048x11264_S4x2048x5632_0_0_5632)

theorem hidden_apply (q : Fin 4) (t : Fin 2048) (l : Fin 5632) :
    hidden x g w (ix3 q t l) = act (rms (fun j => x (ix2 (row q t) j)) fun j => g (ix2 0 j)) w l := by
  unfold hidden act silu
  pointwise
  simp only [gateUp_apply]
  rfl

/-- The whole result. -/
def result : FVec Ideal S8192x2048 .f32 :=
  shapeCast S8192x2048 (addf (shapeCast S4x2048x2048 x shapeCasts_S8192x2048_S4x2048x2048)
    (Host.dotGeneral (F := Ideal) (φ₁ := .f32) (φ₂ := .f32) dot_S4x2048x5632_S5632x2048_S4x2048x2048_2_0_01_1_n_n none
      (hidden x g w) (shapeCast S5632x2048 d shapeCasts_S1x5632x2048_S5632x2048))) shapeCasts_S4x2048x2048_S8192x2048

theorem result_eq : result x g w d = ffn (M := 8192) x g w d := by
  funext i
  idx_vars i
  unfold ffn result
  pointwise
  simp only [hidden_apply]
  have hr : row ⟨i0.val / 2048, by omega⟩ ⟨i0.val % 2048, by omega⟩ = i0 := Fin.ext (by dsimp only [row]; omega)
  simp only [hr]

/-- The run's own term is that result. -/
theorem res_eq (m : (ℓ : Loc nD τ sig) → Buf (Elt Ideal) ℓ) (c : Dev nD) :
    Value.res_main_v24 m c = result (m ((c.tc : Thread nD τ).loc main_arg0)) (m ((c.tc : Thread nD τ).loc main_arg1))
      (m ((c.tc : Thread nD τ).loc main_arg2)) (m ((c.tc : Thread nD τ).loc main_arg3)) := by
  unfold Value.res_main_v24 result hidden gateUp normed
  rfl

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = ffn (M := 8192) (m ((c.tc : Thread nD τ).loc main_arg0)) (m ((c.tc : Thread nD τ).loc main_arg1))
      (m ((c.tc : Thread nD τ).loc main_arg2)) (m ((c.tc : Thread nD τ).loc main_arg3)) :=
  (θ_run defs _ _).mono (fun _ h c => (h c).1.trans ((res_eq m c).trans (result_eq _ _ _ _))) (Value.run m ρ)

end Cert.Proof.FfnRef

end
-- ==== Proof.Final.Value.lean ====
/-
  What the last call's array holds after the run on the prompt, in exact arithmetic.
-/
module

public import proofs.«01_k».proof.Proof.Layer
public import proofs.«01_k».proof.Proof.Gen.FinalIdeal.Value
public import Idealize.ShloMosaic.Lib.ValueLayout

@[expose] public section

set_option maxRecDepth 16384

noncomputable section

namespace Cert.Proof.Final

open Cert.FinalIdeal Cert.FinalIdeal.Gen Cert.Proof.Layer
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The stored value at an index. -/
theorem pay_apply (x : Vec Ideal S1024x2048 .f32) (q : Vec Ideal S2048x2048 .bf16) (p : Vec Ideal S1024x256 .f32)
    (e : Vec Ideal S256x2048 .bf16) (g : Vec Ideal S1x2048 .f32) (a : Fin 1024) (n : Fin 2048) :
    k0_pay1 x q p e g (ix2 a n)
      = rms (fun j => (x (ix2 a j) + (∑ k : Fin 256, p (ix2 a k) * e (ix2 k j)) * Ideal.logistic (∑ k : Fin 2048, x (ix2 a k) * q (ix2 k j)) : EReal))
          (fun j => g (ix2 0 j)) n := by
  unfold k0_pay1 rms
  pointwise

/-- … which is the result's entry where the operands are the arrays' rows. -/
theorem pay_last (x : Vec Ideal S1024x2048 .f32) (q : Vec Ideal S2048x2048 .bf16) (p : Vec Ideal S1024x256 .f32)
    (e : Vec Ideal S256x2048 .bf16) (g : Vec Ideal S1x2048 .f32) (X : S8192x2048.Idx → EReal) (P : Fin 8192 → Fin 256 → EReal)
    (E : S1x256x2048.Idx → EReal) (Q : S1x2048x2048.Idx → EReal) (G : S2048.Idx → EReal) (a : Fin 1024) (r : Fin 8192)
    (hx : ∀ k, x (ix2 a k) = X (ix2 r k)) (hp : ∀ k, p (ix2 a k) = P r k) (he : ∀ k n, e (ix2 k n) = E (ix3 0 k n))
    (hq : ∀ k n, q (ix2 k n) = Q (ix3 0 k n)) (hg : ∀ n, g (ix2 0 n) = G (ix1 n)) (n : Fin 2048) :
    k0_pay1 x q p e g (ix2 a n) = last (M := 8192) X P E Q G (ix2 r n) := by
  rw [pay_apply]
  simp only [hx, hp, he, hq, hg]
  rfl

/-! ## The arrays the region reads -/

theorem flat_p (p : S1x4x2048x256.Idx → Elt Ideal .f32) (r : Fin 8192) (k : Fin 256) :
    shapeCast S8192x256 (shapeCast S4x2048x256 p shapeCasts_S1x4x2048x256_S4x2048x256) shapeCasts_S4x2048x256_S8192x256 (ix2 r k)
      = p (ix4 0 ⟨r.val / 2048, by omega⟩ ⟨r.val % 2048, by omega⟩ k) := by
  pointwise
theorem flat_e (e : S1x256x2048.Idx → Elt Ideal .f32) (k : Fin 256) (n : Fin 2048) :
    truncf (F := Ideal) .bf16 (shapeCast S256x2048 e shapeCasts_S1x256x2048_S256x2048) bitsLt_bf16_f32 (ix2 k n) = e (ix3 0 k n) := by
  pointwise
theorem flat_q (q : S1x2048x2048.Idx → Elt Ideal .f32) (k n : Fin 2048) :
    truncf (F := Ideal) .bf16 (shapeCast S2048x2048 q shapeCasts_S1x2048x2048_S2048x2048) bitsLt_bf16_f32 (ix2 k n) = q (ix3 0 k n) := by
  pointwise
theorem flat_g (g : S2048.Idx → Elt Ideal .f32) (n : Fin 2048) : broadcastInDim S1x2048 ![1] bcast_S2048_S1x2048_1 g (ix2 0 n) = g (ix1 n) := by
  pointwise

theorem V_v1 (c : Dev nD) (r : Fin 8192) (k : Fin 256) : V m c main_v1 (ix2 r k)
    = m ((c : Thread nD τ).loc main_arg1) (ix4 0 ⟨r.val / 2048, by omega⟩ ⟨r.val % 2048, by omega⟩ k) := by
  have e : V m c main_v1 = shapeCast S8192x256 (shapeCast S4x2048x256 (m ((c : Thread nD τ).loc main_arg1)) shapeCasts_S1x4x2048x256_S4x2048x256) shapeCasts_S4x2048x256_S8192x256 := by
    simp only [V, hostOps0]
    after_results_simp <;> rfl
  exact (congrFun e _).trans (flat_p _ r k)
theorem V_v3 (c : Dev nD) (k : Fin 256) (n : Fin 2048) : V m c main_v3 (ix2 k n) = m ((c : Thread nD τ).loc main_arg2) (ix3 0 k n) := by
  have e : V m c main_v3 = truncf (F := Ideal) .bf16 (shapeCast S256x2048 (m ((c : Thread nD τ).loc main_arg2)) shapeCasts_S1x256x2048_S256x2048) bitsLt_bf16_f32 := by
    simp only [V, hostOps0]
    after_results_simp <;> rfl
  exact (congrFun e _).trans (flat_e _ k n)
theorem V_v5 (c : Dev nD) (k n : Fin 2048) : V m c main_v5 (ix2 k n) = m ((c : Thread nD τ).loc main_arg3) (ix3 0 k n) := by
  have e : V m c main_v5 = truncf (F := Ideal) .bf16 (shapeCast S2048x2048 (m ((c : Thread nD τ).loc main_arg3)) shapeCasts_S1x2048x2048_S2048x2048) bitsLt_bf16_f32 := by
    simp only [V, hostOps0]
    after_results_simp <;> rfl
  exact (congrFun e _).trans (flat_q _ k n)
theorem V_v6 (c : Dev nD) (n : Fin 2048) : V m c main_v6 (ix2 0 n) = m ((c : Thread nD τ).loc main_arg4) (ix1 n) := by
  have e : V m c main_v6 = broadcastInDim S1x2048 ![1] bcast_S2048_S1x2048_1 (m ((c : Thread nD τ).loc main_arg4)) := by
    simp only [V, hostOps0]
    after_results_simp <;> rfl
  exact (congrFun e _).trans (flat_g _ n)

/-! ## The blocks a grid point reads -/

theorem lt_N (t : Fin cfg0.N) : t.val < 8 := lt_of_lt_of_eq t.isLt (show cfg0.N = 8 from N_0)

theorem index_x : ∀ t : Fin cfg0.N, win0_0.index t = ![t.val, 0] := (by decide +kernel : ∀ t : Fin grid0.N, win0_0.index t = ![t.val, 0])
theorem index_p : ∀ t : Fin cfg0.N, win0_1.index t = ![t.val, 0] := (by decide +kernel : ∀ t : Fin grid0.N, win0_1.index t = ![t.val, 0])
theorem index_e : ∀ t : Fin cfg0.N, win0_2.index t = ![0, 0] := (by decide +kernel : ∀ t : Fin grid0.N, win0_2.index t = ![0, 0])
theorem index_q : ∀ t : Fin cfg0.N, win0_3.index t = ![0, 0] := (by decide +kernel : ∀ t : Fin grid0.N, win0_3.index t = ![0, 0])
theorem index_g : ∀ t : Fin cfg0.N, win0_4.index t = ![0, 0] := (by decide +kernel : ∀ t : Fin grid0.N, win0_4.index t = ![0, 0])
theorem index_o : ∀ t : Fin cfg0.N, win0_5.index t = ![t.val, 0] := (by decide +kernel : ∀ t : Fin grid0.N, win0_5.index t = ![t.val, 0])

/-- The row of the whole array that row `a` of point `t`'s block is. -/
def row (t : Fin cfg0.N) (a : Fin 1024) : Fin 8192 := ⟨t.val * 1024 + a.val, by have := lt_N t; omega⟩

theorem x_apply (c : Dev nD) (t : Fin cfg0.N) (a : Fin 1024) (k : Fin 2048) :
    iblk m c 0 t (ix2 a k) = m ((c : Thread nD τ).loc main_arg0) (ix2 (row t a) k) := by
  blk_simp [iblk]
  rw [V_main_arg0]
  refine congrArg (m ((c : Thread nD τ).loc main_arg0)) (funext fun i => Fin.ext ?_)
  fin_cases i
  · blk_simp [index_x]; rfl
  · blk_simp [index_x]; rfl
theorem p_apply (c : Dev nD) (t : Fin cfg0.N) (a : Fin 1024) (k : Fin 256) :
    iblk m c 1 t (ix2 a k) = V m c main_v1 (ix2 (row t a) k) := by
  blk_simp [iblk]
  refine congrArg (V m c main_v1) (funext fun i => Fin.ext ?_)
  fin_cases i
  · blk_simp [index_p]; rfl
  · blk_simp [index_p]; rfl
theorem e_apply (c : Dev nD) (t : Fin cfg0.N) : iblk m c 2 t = V m c main_v3 := by
  funext y
  blk_simp [iblk]
  refine congrArg (V m c main_v3) (funext fun i => Fin.ext ?_)
  fin_cases i
  · blk_simp [index_e]
  · blk_simp [index_e]
theorem q_apply (c : Dev nD) (t : Fin cfg0.N) : iblk m c 3 t = V m c main_v5 := by
  funext y
  blk_simp [iblk]
  refine congrArg (V m c main_v5) (funext fun i => Fin.ext ?_)
  fin_cases i
  · blk_simp [index_q]
  · blk_simp [index_q]
theorem g_apply (c : Dev nD) (t : Fin cfg0.N) : iblk m c 4 t = V m c main_v6 := by
  funext y
  blk_simp [iblk]
  refine congrArg (V m c main_v6) (funext fun i => Fin.ext ?_)
  fin_cases i
  · blk_simp [index_g]
  · blk_simp [index_g]

/-- The per-layer input's row `r`. -/
def input (p : S1x4x2048x256.Idx → EReal) (r : Fin 8192) (k : Fin 256) : EReal := p (ix4 0 ⟨r.val / 2048, by omega⟩ ⟨r.val % 2048, by omega⟩ k)

/-- The array after the run. -/
theorem final (c : Dev nD) : (dats m 0 c).arrAt 5 cfg0.N
    = last (M := 8192) (m ((c : Thread nD τ).loc main_arg0)) (input (m ((c : Thread nD τ).loc main_arg1)))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  idx_vars y
  have he : ((win0_5.blk t).view.emb (ix2 y0 y1)) = ix2 (row t y0) y1 := by
    refine funext fun i => Fin.ext ?_
    fin_cases i
    · blk_simp [index_o]; rfl
    · blk_simp [index_o]; rfl
  rw [e_apply, q_apply, g_apply]
  refine (pay_last _ _ _ _ _ _ (input (m ((c : Thread nD τ).loc main_arg1))) _ _ _ y0 (row t y0) (x_apply m c t y0) (fun k => (p_apply m c t y0 k).trans (V_v1 m c (row t y0) k))
    (V_v3 m c) (V_v5 m c) (V_v6 m c) y1).trans ?_
  exact congrArg (last (M := 8192) _ _ _ _ _) he.symm

/-- The run, its result named. -/
theorem run : θ_run defs (onTc (τ := τ) (main (F := Ideal))) ⟨m, fun _ => 0, ρ⟩ fun r => ∀ c : Dev nD,
    r.2.mem ((c : Thread nD τ).loc main_v7) = last (M := 8192) (m ((c : Thread nD τ).loc main_arg0)) (input (m ((c : Thread nD τ).loc main_arg1)))
        (m ((c : Thread nD τ).loc main_arg2)) (m ((c : Thread nD τ).loc main_arg3)) (m ((c : Thread nD τ).loc main_arg4)) :=
  (θ_run defs _ _).mono (fun _ h c => (h c).1.trans (final m c)) (Value.run_blocks m ρ)

end Cert.Proof.Final

end
-- ==== Proof.Final.Reference.lean ====
/-
  The plain last step's result on the prompt, read at an index, is the kernel's.
-/
module

public import proofs.«01_k».proof.Proof.Layer
public import proofs.«01_k».proof.Proof.Gen.RefFinalIdeal.Run
public import Idealize.ShloMosaic.Lib.ValueLayout

@[expose] public section

set_option maxRecDepth 16384

noncomputable section

namespace Cert.Proof.FinalRef

open Cert.RefFinalIdeal Cert.RefFinalIdeal.Gen Cert.Proof.Layer
open Idealize.ShloMosaic Idealize.ShloMosaic.TcCoe Idealize.ShloMosaic.Tactic
open Idealize.SL Idealize.SL.Sem

variable (x : S8192x2048.Idx → Elt Ideal .f32) (p : S1x4x2048x256.Idx → Elt Ideal .f32) (e : S1x256x2048.Idx → Elt Ideal .f32)
variable (q : S1x2048x2048.Idx → Elt Ideal .f32) (g : S2048.Idx → Elt Ideal .f32)

/-- The row that row `t` of sequence `b` is. -/
def row (b : Fin 4) (t : Fin 2048) : Fin 8192 := ⟨b.val * 2048 + t.val, by omega⟩

/-- The gate. -/
def gate : FVec Ideal S4x2048x2048 .f32 :=
  Host.divf (broadcastInDim S4x2048x2048 ![] bcast_S_S4x2048x2048 (constant (F := Ideal) S_ .f32 0x3F800000#32))
    (addf (broadcastInDim S4x2048x2048 ![] bcast_S_S4x2048x2048 (constant (F := Ideal) S_ .f32 0x3F800000#32))
      (Host.exp (Host.negf (Host.dotGeneral (F := Ideal) (φ₁ := .f32) (φ₂ := .f32) dot_S4x2048x2048_S2048x2048_S4x2048x2048_2_0_01_1_n_n none
        (shapeCast _ x shapeCasts_S8192x2048_S4x2048x2048) (shapeCast _ q shapeCasts_S1x2048x2048_S2048x2048)))))

theorem gate_apply (b : Fin 4) (t n : Fin 2048) :
    gate x q (ix3 b t n) = Ideal.logistic (dot (fun j => x (ix2 (row b t) j)) fun k => q (ix3 0 k n)) := by
  unfold gate dot
  pointwise
  rfl

/-- The activations with the embedding added. -/
def added : FVec Ideal S4x2048x2048 .f32 :=
  addf (shapeCast _ x shapeCasts_S8192x2048_S4x2048x2048)
    (mulf (Host.dotGeneral (F := Ideal) (φ₁ := .f32) (φ₂ := .f32) dot_S4x2048x256_S256x2048_S4x2048x2048_2_0_01_1_n_n none
      (shapeCast _ p shapeCasts_S1x4x2048x256_S4x2048x256) (shapeCast _ e shapeCasts_S1x256x2048_S256x2048)) (gate x q))

theorem added_apply (b : Fin 4) (t n : Fin 2048) :
    added x p e q (ix3 b t n) = embed (fun j => x (ix2 (row b t) j)) (fun k => p (ix4 0 b t k)) e q n := by
  unfold added embed
  pointwise
  rw [gate_apply]
  rfl

/-- The whole result. -/
def result : FVec Ideal S8192x2048 .f32 :=
  shapeCast S8192x2048 (mulf (mulf (added x p e q) (broadcastInDim S4x2048x2048 ![0, 1, 2] bcast_S4x2048x1_S4x2048x2048_0_1_2
      (Host.rsqrt (addf (Host.divf (broadcastInDim S4x2048x1 ![0, 1] bcast_S4x2048_S4x2048x1_0_1
          (Host.reduceAdd (mulf (added x p e q) (added x p e q)) (constant (F := Ideal) S_ .f32 0x00000000#32) reducesTo_S4x2048x2048_S4x2048_d2 h_S_))
        (broadcastInDim S4x2048x1 ![] bcast_S_S4x2048x1 (constant (F := Ideal) S_ .f32 0x45000000#32)))
        (broadcastInDim S4x2048x1 ![] bcast_S_S4x2048x1 (constant (F := Ideal) S_ .f32 0x358637BD#32))))))
    (broadcastInDim S4x2048x2048 ![0, 1, 2] bcast_S1x1x2048_S4x2048x2048_0_1_2 (broadcastInDim S1x1x2048 ![2] bcast_S2048_S1x1x2048_2 g)))
    shapeCasts_S4x2048x2048_S8192x2048

/-- The per-layer input's row `r`. -/
def input (r : Fin 8192) (k : Fin 256) : EReal := p (ix4 0 ⟨r.val / 2048, by omega⟩ ⟨r.val % 2048, by omega⟩ k)

theorem result_eq : result x p e q g = last (M := 8192) x (input p) e q g := by
  funext i
  idx_vars i
  unfold last result rms
  pointwise
  simp only [added_apply]
  have hr : row ⟨i0.val / 2048, by omega⟩ ⟨i0.val % 2048, by omega⟩ = i0 := Fin.ext (by dsimp only [row]; omega)
  simp only [hr]
  rfl

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = last (M := 8192) (m ((c.tc : Thread nD τ).loc main_arg0)) (input (m ((c.tc : Thread nD τ).loc main_arg1)))
      (m ((c.tc : Thread nD τ).loc main_arg2)) (m ((c.tc : Thread nD τ).loc main_arg3)) (m ((c.tc : Thread nD τ).loc main_arg4)) :=
  (θ_run defs _ _).mono (fun _ h c => (h c).1.trans (Eq.trans (by unfold result added gate; rfl) (result_eq _ _ _ _ _))) (Value.run m ρ)

end Cert.Proof.FinalRef

end
-- ==== Proof.FinalS.Value.lean ====
/-
  What the last call's array holds after the run on the samples, in exact arithmetic.
-/
module

public import proofs.«01_k».proof.Proof.Layer
public import proofs.«01_k».proof.Proof.Gen.FinalSIdeal.Value
public import Idealize.ShloMosaic.Lib.ValueLayout

@[expose] public section

set_option maxRecDepth 16384

noncomputable section

namespace Cert.Proof.FinalS

open Cert.FinalSIdeal Cert.FinalSIdeal.Gen Cert.Proof.Layer
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The stored value at an index. -/
theorem pay_apply (x : Vec Ideal S128x2048 .f32) (q : Vec Ideal S2048x2048 .bf16) (p : Vec Ideal S128x256 .f32)
    (e : Vec Ideal S256x2048 .bf16) (g : Vec Ideal S1x2048 .f32) (a : Fin 128) (n : Fin 2048) :
    k0_pay1 x q p e g (ix2 a n)
      = rms (fun j => (x (ix2 a j) + (∑ k : Fin 256, p (ix2 a k) * e (ix2 k j)) * Ideal.logistic (∑ k : Fin 2048, x (ix2 a k) * q (ix2 k j)) : EReal))
          (fun j => g (ix2 0 j)) n := by
  unfold k0_pay1 rms
  pointwise

/-- … which is the result's entry where the operands are the arrays' rows. -/
theorem pay_last (x : Vec Ideal S128x2048 .f32) (q : Vec Ideal S2048x2048 .bf16) (p : Vec Ideal S128x256 .f32)
    (e : Vec Ideal S256x2048 .bf16) (g : Vec Ideal S1x2048 .f32) (X : S128x2048.Idx → EReal) (P : Fin 128 → Fin 256 → EReal)
    (E : S1x256x2048.Idx → EReal) (Q : S1x2048x2048.Idx → EReal) (G : S2048.Idx → EReal) (a : Fin 128) (r : Fin 128)
    (hx : ∀ k, x (ix2 a k) = X (ix2 r k)) (hp : ∀ k, p (ix2 a k) = P r k) (he : ∀ k n, e (ix2 k n) = E (ix3 0 k n))
    (hq : ∀ k n, q (ix2 k n) = Q (ix3 0 k n)) (hg : ∀ n, g (ix2 0 n) = G (ix1 n)) (n : Fin 2048) :
    k0_pay1 x q p e g (ix2 a n) = last (M := 128) X P E Q G (ix2 r n) := by
  rw [pay_apply]
  simp only [hx, hp, he, hq, hg]
  rfl

/-! ## The arrays the region reads -/

theorem flat_p (p : S1x128x1x256.Idx → Elt Ideal .f32) (r : Fin 128) (k : Fin 256) :
    shapeCast S128x256 (shapeCast S128x1x256 p shapeCasts_S1x128x1x256_S128x1x256) shapeCasts_S128x1x256_S128x256 (ix2 r k)
      = p (ix4 0 r 0 k) := by
  pointwise
theorem flat_e (e : S1x256x2048.Idx → Elt Ideal .f32) (k : Fin 256) (n : Fin 2048) :
    truncf (F := Ideal) .bf16 (shapeCast S256x2048 e shapeCasts_S1x256x2048_S256x2048) bitsLt_bf16_f32 (ix2 k n) = e (ix3 0 k n) := by
  pointwise
theorem flat_q (q : S1x2048x2048.Idx → Elt Ideal .f32) (k n : Fin 2048) :
    truncf (F := Ideal) .bf16 (shapeCast S2048x2048 q shapeCasts_S1x2048x2048_S2048x2048) bitsLt_bf16_f32 (ix2 k n) = q (ix3 0 k n) := by
  pointwise
theorem flat_g (g : S2048.Idx → Elt Ideal .f32) (n : Fin 2048) : broadcastInDim S1x2048 ![1] bcast_S2048_S1x2048_1 g (ix2 0 n) = g (ix1 n) := by
  pointwise

theorem V_v1 (c : Dev nD) (r : Fin 128) (k : Fin 256) : V m c main_v1 (ix2 r k)
    = m ((c : Thread nD τ).loc main_arg1) (ix4 0 r 0 k) := by
  have e : V m c main_v1 = shapeCast S128x256 (shapeCast S128x1x256 (m ((c : Thread nD τ).loc main_arg1)) shapeCasts_S1x128x1x256_S128x1x256) shapeCasts_S128x1x256_S128x256 := by
    simp only [V, hostOps0]
    after_results_simp <;> rfl
  exact (congrFun e _).trans (flat_p _ r k)
theorem V_v3 (c : Dev nD) (k : Fin 256) (n : Fin 2048) : V m c main_v3 (ix2 k n) = m ((c : Thread nD τ).loc main_arg2) (ix3 0 k n) := by
  have e : V m c main_v3 = truncf (F := Ideal) .bf16 (shapeCast S256x2048 (m ((c : Thread nD τ).loc main_arg2)) shapeCasts_S1x256x2048_S256x2048) bitsLt_bf16_f32 := by
    simp only [V, hostOps0]
    after_results_simp <;> rfl
  exact (congrFun e _).trans (flat_e _ k n)
theorem V_v5 (c : Dev nD) (k n : Fin 2048) : V m c main_v5 (ix2 k n) = m ((c : Thread nD τ).loc main_arg3) (ix3 0 k n) := by
  have e : V m c main_v5 = truncf (F := Ideal) .bf16 (shapeCast S2048x2048 (m ((c : Thread nD τ).loc main_arg3)) shapeCasts_S1x2048x2048_S2048x2048) bitsLt_bf16_f32 := by
    simp only [V, hostOps0]
    after_results_simp <;> rfl
  exact (congrFun e _).trans (flat_q _ k n)
theorem V_v6 (c : Dev nD) (n : Fin 2048) : V m c main_v6 (ix2 0 n) = m ((c : Thread nD τ).loc main_arg4) (ix1 n) := by
  have e : V m c main_v6 = broadcastInDim S1x2048 ![1] bcast_S2048_S1x2048_1 (m ((c : Thread nD τ).loc main_arg4)) := by
    simp only [V, hostOps0]
    after_results_simp <;> rfl
  exact (congrFun e _).trans (flat_g _ n)

/-! ## The blocks a grid point reads -/

theorem lt_N (t : Fin cfg0.N) : t.val < 1 := lt_of_lt_of_eq t.isLt (show cfg0.N = 1 from N_0)

theorem index_x : ∀ t : Fin cfg0.N, win0_0.index t = ![t.val, 0] := (by decide +kernel : ∀ t : Fin grid0.N, win0_0.index t = ![t.val, 0])
theorem index_p : ∀ t : Fin cfg0.N, win0_1.index t = ![t.val, 0] := (by decide +kernel : ∀ t : Fin grid0.N, win0_1.index t = ![t.val, 0])
theorem index_e : ∀ t : Fin cfg0.N, win0_2.index t = ![0, 0] := (by decide +kernel : ∀ t : Fin grid0.N, win0_2.index t = ![0, 0])
theorem index_q : ∀ t : Fin cfg0.N, win0_3.index t = ![0, 0] := (by decide +kernel : ∀ t : Fin grid0.N, win0_3.index t = ![0, 0])
theorem index_g : ∀ t : Fin cfg0.N, win0_4.index t = ![0, 0] := (by decide +kernel : ∀ t : Fin grid0.N, win0_4.index t = ![0, 0])
theorem index_o : ∀ t : Fin cfg0.N, win0_5.index t = ![t.val, 0] := (by decide +kernel : ∀ t : Fin grid0.N, win0_5.index t = ![t.val, 0])

theorem x_apply (c : Dev nD) (t : Fin cfg0.N) (a : Fin 128) (k : Fin 2048) :
    iblk m c 0 t (ix2 a k) = m ((c : Thread nD τ).loc main_arg0) (ix2 a k) := by
  blk_simp [iblk]
  rw [V_main_arg0]
  refine congrArg (m ((c : Thread nD τ).loc main_arg0)) (funext fun i => Fin.ext ?_)
  fin_cases i
  · blk_simp [index_x]
  · blk_simp [index_x]
theorem p_apply (c : Dev nD) (t : Fin cfg0.N) (a : Fin 128) (k : Fin 256) :
    iblk m c 1 t (ix2 a k) = V m c main_v1 (ix2 a k) := by
  blk_simp [iblk]
  refine congrArg (V m c main_v1) (funext fun i => Fin.ext ?_)
  fin_cases i
  · blk_simp [index_p]
  · blk_simp [index_p]
theorem e_apply (c : Dev nD) (t : Fin cfg0.N) : iblk m c 2 t = V m c main_v3 := by
  funext y
  blk_simp [iblk]
  refine congrArg (V m c main_v3) (funext fun i => Fin.ext ?_)
  fin_cases i
  · blk_simp [index_e]
  · blk_simp [index_e]
theorem q_apply (c : Dev nD) (t : Fin cfg0.N) : iblk m c 3 t = V m c main_v5 := by
  funext y
  blk_simp [iblk]
  refine congrArg (V m c main_v5) (funext fun i => Fin.ext ?_)
  fin_cases i
  · blk_simp [index_q]
  · blk_simp [index_q]
theorem g_apply (c : Dev nD) (t : Fin cfg0.N) : iblk m c 4 t = V m c main_v6 := by
  funext y
  blk_simp [iblk]
  refine congrArg (V m c main_v6) (funext fun i => Fin.ext ?_)
  fin_cases i
  · blk_simp [index_g]
  · blk_simp [index_g]

/-- The per-layer input's row `r`. -/
def input (p : S1x128x1x256.Idx → EReal) (r : Fin 128) (k : Fin 256) : EReal := p (ix4 0 r 0 k)

/-- The array after the run. -/
theorem final (c : Dev nD) : (dats m 0 c).arrAt 5 cfg0.N
    = last (M := 128) (m ((c : Thread nD τ).loc main_arg0)) (input (m ((c : Thread nD τ).loc main_arg1)))
        (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  idx_vars y
  have he : ((win0_5.blk t).view.emb (ix2 y0 y1)) = ix2 y0 y1 := by
    refine funext fun i => Fin.ext ?_
    fin_cases i
    · blk_simp [index_o]
    · blk_simp [index_o]
  rw [e_apply, q_apply, g_apply]
  refine (pay_last _ _ _ _ _ _ (input (m ((c : Thread nD τ).loc main_arg1))) _ _ _ y0 y0 (x_apply m c t y0) (fun k => (p_apply m c t y0 k).trans (V_v1 m c y0 k))
    (V_v3 m c) (V_v5 m c) (V_v6 m c) y1).trans ?_
  exact congrArg (last (M := 128) _ _ _ _ _) he.symm

/-- The run, its result named. -/
theorem run : θ_run defs (onTc (τ := τ) (main (F := Ideal))) ⟨m, fun _ => 0, ρ⟩ fun r => ∀ c : Dev nD,
    r.2.mem ((c : Thread nD τ).loc main_v7) = last (M := 128) (m ((c : Thread nD τ).loc main_arg0)) (input (m ((c : Thread nD τ).loc main_arg1)))
        (m ((c : Thread nD τ).loc main_arg2)) (m ((c : Thread nD τ).loc main_arg3)) (m ((c : Thread nD τ).loc main_arg4)) :=
  (θ_run defs _ _).mono (fun _ h c => (h c).1.trans (final m c)) (Value.run_blocks m ρ)

end Cert.Proof.FinalS

end
-- ==== Proof.FinalS.Reference.lean ====
/-
  The plain last step's result on the samples, read at an index, is the kernel's.
-/
module

public import proofs.«01_k».proof.Proof.Layer
public import proofs.«01_k».proof.Proof.Gen.RefFinalSIdeal.Run
public import Idealize.ShloMosaic.Lib.ValueLayout

@[expose] public section

set_option maxRecDepth 16384

noncomputable section

namespace Cert.Proof.FinalSRef

open Cert.RefFinalSIdeal Cert.RefFinalSIdeal.Gen Cert.Proof.Layer
open Idealize.ShloMosaic Idealize.ShloMosaic.TcCoe Idealize.ShloMosaic.Tactic
open Idealize.SL Idealize.SL.Sem

variable (x : S128x2048.Idx → Elt Ideal .f32) (p : S1x128x1x256.Idx → Elt Ideal .f32) (e : S1x256x2048.Idx → Elt Ideal .f32)
variable (q : S1x2048x2048.Idx → Elt Ideal .f32) (g : S2048.Idx → Elt Ideal .f32)

/-- The row that sample `b` is. -/
def row (b : Fin 128) (t : Fin 1) : Fin 128 := b

/-- The gate. -/
def gate : FVec Ideal S128x1x2048 .f32 :=
  Host.divf (broadcastInDim S128x1x2048 ![] bcast_S_S128x1x2048 (constant (F := Ideal) S_ .f32 0x3F800000#32))
    (addf (broadcastInDim S128x1x2048 ![] bcast_S_S128x1x2048 (constant (F := Ideal) S_ .f32 0x3F800000#32))
      (Host.exp (Host.negf (Host.dotGeneral (F := Ideal) (φ₁ := .f32) (φ₂ := .f32) dot_S128x1x2048_S2048x2048_S128x1x2048_2_0_01_1_n_n none
        (shapeCast _ x shapeCasts_S128x2048_S128x1x2048) (shapeCast _ q shapeCasts_S1x2048x2048_S2048x2048)))))

theorem gate_apply (b : Fin 128) (t : Fin 1) (n : Fin 2048) :
    gate x q (ix3 b t n) = Ideal.logistic (dot (fun j => x (ix2 (row b t) j)) fun k => q (ix3 0 k n)) := by
  unfold gate dot
  pointwise
  rfl

/-- The activations with the embedding added. -/
def added : FVec Ideal S128x1x2048 .f32 :=
  addf (shapeCast _ x shapeCasts_S128x2048_S128x1x2048)
    (mulf (Host.dotGeneral (F := Ideal) (φ₁ := .f32) (φ₂ := .f32) dot_S128x1x256_S256x2048_S128x1x2048_2_0_01_1_n_n none
      (shapeCast _ p shapeCasts_S1x128x1x256_S128x1x256) (shapeCast _ e shapeCasts_S1x256x2048_S256x2048)) (gate x q))

theorem added_apply (b : Fin 128) (t : Fin 1) (n : Fin 2048) :
    added x p e q (ix3 b t n) = embed (fun j => x (ix2 (row b t) j)) (fun k => p (ix4 0 b t k)) e q n := by
  obtain rfl := Subsingleton.elim t 0
  unfold added embed
  pointwise
  rw [gate_apply]
  rfl

/-- The whole result. -/
def result : FVec Ideal S128x2048 .f32 :=
  shapeCast S128x2048 (mulf (mulf (added x p e q) (broadcastInDim S128x1x2048 ![0, 1, 2] bcast_S128x1x1_S128x1x2048_0_1_2
      (Host.rsqrt (addf (Host.divf (broadcastInDim S128x1x1 ![0, 1] bcast_S128x1_S128x1x1_0_1
          (Host.reduceAdd (mulf (added x p e q) (added x p e q)) (constant (F := Ideal) S_ .f32 0x00000000#32) reducesTo_S128x1x2048_S128x1_d2 h_S_))
        (broadcastInDim S128x1x1 ![] bcast_S_S128x1x1 (constant (F := Ideal) S_ .f32 0x45000000#32)))
        (broadcastInDim S128x1x1 ![] bcast_S_S128x1x1 (constant (F := Ideal) S_ .f32 0x358637BD#32))))))
    (broadcastInDim S128x1x2048 ![0, 1, 2] bcast_S1x1x2048_S128x1x2048_0_1_2 (broadcastInDim S1x1x2048 ![2] bcast_S2048_S1x1x2048_2 g)))
    shapeCasts_S128x1x2048_S128x2048

/-- The per-layer input's row `r`. -/
def input (r : Fin 128) (k : Fin 256) : EReal := p (ix4 0 r 0 k)

theorem result_eq : result x p e q g = last (M := 128) x (input p) e q g := by
  funext i
  idx_vars i
  unfold last result rms
  pointwise
  simp only [added_apply]
  rfl

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = last (M := 128) (m ((c.tc : Thread nD τ).loc main_arg0)) (input (m ((c.tc : Thread nD τ).loc main_arg1)))
      (m ((c.tc : Thread nD τ).loc main_arg2)) (m ((c.tc : Thread nD τ).loc main_arg3)) (m ((c.tc : Thread nD τ).loc main_arg4)) :=
  (θ_run defs _ _).mono (fun _ h c => (h c).1.trans (Eq.trans (by unfold result added gate; rfl) (result_eq _ _ _ _ _))) (Value.run m ρ)

end Cert.Proof.FinalSRef

end
-- ==== Proof.Delta.lean ====
/-
  The delta rule of one new token, head by head, in exact arithmetic: what the step's call and its plain reference share.
-/
module

public import proofs.«01_k».proof.Proof.Layer

@[expose] public section

noncomputable section

namespace Cert.Proof.Delta

open Idealize.ShloMosaic Cert.Proof.Layer

/-- 128 tokens' rows of 16 heads, 128 lanes a head. -/
abbrev Rows := (⟨2, ![128, 2048]⟩ : Shape).Idx → EReal
/-- The heads' states. -/
abbrev States := (⟨5, ![1, 128, 16, 128, 128]⟩ : Shape).Idx → EReal

/-- Lane `e` of head `h`. -/
def lane (h : Fin 16) (e : Fin 128) : Fin 2048 := ⟨h.val * 128 + e.val, by omega⟩

/-- What the head writes at its key: `b` of the value less the decayed state's answer to the key. -/
def fresh (eg b v : EReal) (k s : Fin 128 → EReal) : EReal := b * (v - eg * dot k s)

/-- What the head reads out at its query. -/
def readout (eg b v w : EReal) (q k s : Fin 128 → EReal) : EReal := eg * dot q s + w * fresh eg b v k s

/-- Entry `k` of a head's row of 128 divided by its root mean square and scaled. -/
def rmsHead (x g : Fin 128 → EReal) (k : Fin 128) : EReal :=
  x k * Ideal.rsqrt (Ideal.div (∑ j : Fin 128, x j * x j) (Ideal.ofBits FTy.f32 1124073472#32) + Ideal.ofBits FTy.f32 897988541#32) * g k

/-- The states after the token. -/
def after (k v eg b : Rows) (s : States) : States := fun i =>
  eg (ix2 (i 1) (lane (i 2) (i 4))) * s i + k (ix2 (i 1) (lane (i 2) (i 3))) * fresh (eg (ix2 (i 1) (lane (i 2) (i 4))))
    (b (ix2 (i 1) (lane (i 2) (i 4)))) (v (ix2 (i 1) (lane (i 2) (i 4)))) (fun d => k (ix2 (i 1) (lane (i 2) d))) fun d => s (ix5 0 (i 1) (i 2) d (i 4))

/-- What the heads hand on: the gated norm of what they read out. -/
def out (q k v eg b w : Rows) (z : (⟨2, ![128, 13312]⟩ : Shape).Idx → EReal) (g : (⟨2, ![1, 128]⟩ : Shape).Idx → EReal) (s : States) :
    (⟨3, ![128, 16, 128]⟩ : Shape).Idx → EReal := fun i =>
  rmsHead (fun e => readout (eg (ix2 (i 0) (lane (i 1) e))) (b (ix2 (i 0) (lane (i 1) e))) (v (ix2 (i 0) (lane (i 1) e))) (w (ix2 (i 0) (lane (i 1) e)))
      (fun d => q (ix2 (i 0) (lane (i 1) d))) (fun d => k (ix2 (i 0) (lane (i 1) d))) fun d => s (ix5 0 (i 0) (i 1) d e))
    (fun e => g (ix2 0 e)) (i 2) * silu (z (ix2 (i 0) ⟨6144 + (lane (i 1) (i 2)).val, by omega⟩))

end Cert.Proof.Delta

end
-- ==== Proof.Step.Body.lean ====
/-
  One head's turn at one token inside the step's body, and one token's row of heads: the values stored, read at an index.
-/
module

public import proofs.«01_k».proof.Proof.Delta
public import proofs.«01_k».proof.Proof.Gen.StepIdeal.Value
public import Idealize.ShloMosaic.Lib.Pipeline.ReadBack
public import Idealize.ShloMosaic.Lib.ValueLayout

@[expose] public section

set_option maxRecDepth 16384

noncomputable section

namespace Cert.Proof.Step

open Cert.StepIdeal Cert.StepIdeal.Gen Cert.Proof.Layer Cert.Proof.Delta
open Idealize.ShloMosaic Idealize.ShloMosaic.TcCoe Idealize.ShloMosaic.Tactic
open Idealize.SL Idealize.SL.Sem

/-- The 16 keys over zeros, one key per column. -/
def cols (K : Vec Ideal S1x16x128 .f32) : FVec Ideal S128x128 .f32 :=
  transpose S128x128 [1, 0] (concatenate S128x128 0 [⟨S16x128, shapeCast S16x128 K shapeCasts_S1x16x128_S16x128⟩,
    ⟨S112x128, broadcast S112x128 (Scalar.ofBits (F := Ideal) .f32 0x00000000#32)⟩] concatenates_S16x128_S112x128_S128x128_d0) transposes_S128x128_p1_0_S128x128

/-- The 16 keys over the 16 queries, against one head's state. -/
def against (K Q : Vec Ideal S1x16x128 .f32) (s : Vec Ideal S1x1x1x128x128 .f32) : FVec Ideal S32x128 .f32 :=
  matmul dot_S32x128_S128x128_S32x128_1_0_0_1_n_n none
    (truncf .bf16 (concatenate S32x128 0 [⟨S16x128, shapeCast S16x128 K shapeCasts_S1x16x128_S16x128⟩,
      ⟨S16x128, shapeCast S16x128 Q shapeCasts_S1x16x128_S16x128⟩] concatenates_S16x128_S16x128_S32x128_d0) bitsLt_bf16_f32)
    (truncf .bf16 (shapeCast S128x128 s shapeCasts_S1x1x1x128x128_S128x128) bitsLt_bf16_f32)
    (constant (F := Ideal) S32x128 .f32 0x00000000#32)

theorem cols_apply (K : Vec Ideal S1x16x128 .f32) (h : Fin 16) (d : Fin 128) :
    cols K (ix2 d ⟨h.val, by omega⟩) = K (ix3 0 h d) := by
  unfold cols
  pointwise

theorem against_key (K Q : Vec Ideal S1x16x128 .f32) (s : Vec Ideal S1x1x1x128x128 .f32) (h : Fin 16) (e : Fin 128) :
    against K Q s (ix2 ⟨h.val, by omega⟩ e) = dot (fun d => K (ix3 0 h d)) fun d => s (ix5 0 0 0 d e) := by
  unfold against dot
  pointwise

theorem against_query (K Q : Vec Ideal S1x16x128 .f32) (s : Vec Ideal S1x1x1x128x128 .f32) (h : Fin 16) (e : Fin 128) :
    against K Q s (ix2 ⟨16 + h.val, by omega⟩ e) = dot (fun d => Q (ix3 0 h d)) fun d => s (ix5 0 0 0 d e) := by
  unfold against dot
  pointwise

/-- The two slices of a head: its key's column, and its row of the products. -/
theorem slices_col (h : Fin 16) : S128x128.Slices ![0, h.val] S128x1 := by
  refine ⟨rfl, fun a => ?_⟩; fin_cases a
  · show 0 + 128 ≤ 128; omega
  · show h.val + 1 ≤ 128; omega
theorem slices_row (h : Fin 32) : S32x128.Slices ![h.val, 0] S1x128 := by
  refine ⟨rfl, fun a => ?_⟩; fin_cases a
  · show h.val + 1 ≤ 32; omega
  · show 0 + 128 ≤ 128; omega

/-- The value a head writes. -/
def newV (h : Fin 16) (K Q : Vec Ideal S1x16x128 .f32) (s : Vec Ideal S1x1x1x128x128 .f32) (e b v : Vec Ideal S1x1x128 .f32) : FVec Ideal S1x128 .f32 :=
  mulf (shapeCast S1x128 b shapeCasts_S1x1x128_S1x128) (subf (shapeCast S1x128 v shapeCasts_S1x1x128_S1x128)
    (mulf (shapeCast S1x128 e shapeCasts_S1x1x128_S1x128) (extractStridedSlice S1x128 ![h.val, 0] (against K Q s) (slices_row ⟨h.val, by omega⟩))))

theorem newV_apply (h : Fin 16) (K Q : Vec Ideal S1x16x128 .f32) (s : Vec Ideal S1x1x1x128x128 .f32) (e b v : Vec Ideal S1x1x128 .f32) (n : Fin 128) :
    newV h K Q s e b v (ix2 0 n) = fresh (e (ix3 0 0 n)) (b (ix3 0 0 n)) (v (ix3 0 0 n)) (fun d => K (ix3 0 h d)) fun d => s (ix5 0 0 0 d n) := by
  rw [fresh, ← against_key K Q s h n]
  unfold newV
  pointwise

/-- The head's state after the token. -/
def newS (h : Fin 16) (K Q : Vec Ideal S1x16x128 .f32) (s : Vec Ideal S1x1x1x128x128 .f32) (e b v : Vec Ideal S1x1x128 .f32) : FVec Ideal S1x1x1x128x128 .f32 :=
  shapeCast S1x1x1x128x128 (addf
    (mulf (broadcastTo S128x128 (shapeCast S1x128 e shapeCasts_S1x1x128_S1x128) broadcasts_S1x128_S128x128) (shapeCast S128x128 s shapeCasts_S1x1x1x128x128_S128x128))
    (mulf (broadcastTo S128x128 (extractStridedSlice S128x1 ![0, h.val] (cols K) (slices_col h)) broadcasts_S128x1_S128x128)
      (broadcastTo S128x128 (newV h K Q s e b v) broadcasts_S1x128_S128x128))) shapeCasts_S128x128_S1x1x1x128x128

theorem newS_apply (h : Fin 16) (K Q : Vec Ideal S1x16x128 .f32) (s : Vec Ideal S1x1x1x128x128 .f32) (e b v : Vec Ideal S1x1x128 .f32) (d n : Fin 128) :
    newS h K Q s e b v (ix5 0 0 0 d n) = (e (ix3 0 0 n) * s (ix5 0 0 0 d n)
      + K (ix3 0 h d) * fresh (e (ix3 0 0 n)) (b (ix3 0 0 n)) (v (ix3 0 0 n)) (fun d => K (ix3 0 h d)) fun d => s (ix5 0 0 0 d n) : EReal) := by
  rw [← newV_apply h K Q, ← cols_apply K h d]
  unfold newS
  pointwise

/-- What a head reads out. -/
def outV (h : Fin 16) (K Q : Vec Ideal S1x16x128 .f32) (s : Vec Ideal S1x1x1x128x128 .f32) (e b v w : Vec Ideal S1x1x128 .f32) : FVec Ideal S1x128 .f32 :=
  addf (mulf (shapeCast S1x128 e shapeCasts_S1x1x128_S1x128) (extractStridedSlice S1x128 ![16 + h.val, 0] (against K Q s) (slices_row ⟨16 + h.val, by omega⟩)))
    (mulf (shapeCast S1x128 w shapeCasts_S1x1x128_S1x128) (newV h K Q s e b v))

theorem outV_apply (h : Fin 16) (K Q : Vec Ideal S1x16x128 .f32) (s : Vec Ideal S1x1x1x128x128 .f32) (e b v w : Vec Ideal S1x1x128 .f32) (n : Fin 128) :
    outV h K Q s e b v w (ix2 0 n) = readout (e (ix3 0 0 n)) (b (ix3 0 0 n)) (v (ix3 0 0 n)) (w (ix3 0 0 n)) (fun d => Q (ix3 0 h d)) (fun d => K (ix3 0 h d)) fun d => s (ix5 0 0 0 d n) := by
  rw [readout, ← newV_apply h K Q, ← against_query K Q s h n]
  unfold outV
  pointwise

/-- The heads' rows, stacked. -/
def stack (f : Fin 16 → FVec Ideal S1x128 .f32) : FVec Ideal S16x128 .f32 :=
  concatenate S16x128 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩, ⟨S1x128, f 8⟩, ⟨S1x128, f 9⟩, ⟨S1x128, f 10⟩, ⟨S1x128, f 11⟩, ⟨S1x128, f 12⟩, ⟨S1x128, f 13⟩, ⟨S1x128, f 14⟩, ⟨S1x128, f 15⟩] concatenates_S1x128_S1x128_S1x128_S1x128_S1x128_S1x128_S1x128_S1x128_S1x128_S1x128_S1x128_S1x128_S1x128_S1x128_S1x128_S1x128_S16x128_d0

theorem stack_apply (f : Fin 16 → FVec Ideal S1x128 .f32) (h : Fin 16) (n : Fin 128) : stack f (ix2 h n) = f h (ix2 0 n) := by
  unfold stack
  concat_tiles i hh
  all_goals
    refine congr (congrArg f (Fin.ext hh.symm)) (funext fun a => Fin.ext ?_)
    fin_cases a
    exacts [hh0, hh1]

/-- The gated norm of what the heads read out. -/
def tile (o : FVec Ideal S16x128 .f32) (g : Vec Ideal S1x128 .f32) (z : Vec Ideal S1x16x128 .f32) : FVec Ideal S1x16x128 .bf16 :=
  shapeCast S1x16x128 (truncf .bf16 (mulf
    (mulf (mulf o (broadcastTo S16x128 (rsqrt (addf (divf (shapeCast S16x1 (multiReduction .add [1] S16 (mulf o o) 0x00000000#32 reduces_S16x128_S16 (.inl rfl) rfl) shapeCasts_S16_S16x1)
        (broadcast S16x1 (Scalar.ofBits (F := Ideal) .f32 0x43000000#32))) (broadcast S16x1 (Scalar.ofBits (F := Ideal) .f32 0x358637BD#32)))) broadcasts_S16x1_S16x128))
      (broadcastTo S16x128 g broadcasts_S1x128_S16x128))
    (mulf (shapeCast S16x128 z shapeCasts_S1x16x128_S16x128) (logistic (shapeCast S16x128 z shapeCasts_S1x16x128_S16x128)))) bitsLt_bf16_f32) shapeCasts_S16x128_S1x16x128

theorem tile_apply (o : FVec Ideal S16x128 .f32) (g : Vec Ideal S1x128 .f32) (z : Vec Ideal S1x16x128 .f32) (h : Fin 16) (n : Fin 128) :
    tile o g z (ix3 0 h n) = (rmsHead (fun j => o (ix2 h j)) (fun j => g (ix2 0 j)) n * silu (z (ix3 0 h n)) : EReal) := by
  unfold tile rmsHead silu
  pointwise

/-! ## A token of a block -/

theorem inb_token (b : Fin 8) : ∀ a, (![b.val, 0, 0] : Fin 3 → ℕ) a + S1x16x128.size a ≤ S8x16x128.size a := by
  intro a; fin_cases a
  · show b.val + 1 ≤ 8; omega
  · show 0 + 16 ≤ 16; omega
  · show 0 + 128 ≤ 128; omega
theorem inb_head (b : Fin 8) (h : Fin 16) : ∀ a, (![b.val, h.val, 0] : Fin 3 → ℕ) a + S1x1x128.size a ≤ S8x16x128.size a := by
  intro a; fin_cases a
  · show b.val + 1 ≤ 8; omega
  · show h.val + 1 ≤ 16; omega
  · show 0 + 128 ≤ 128; omega
theorem inb_state (b : Fin 8) (h : Fin 16) : ∀ a, (![0, b.val, h.val, 0, 0] : Fin 5 → ℕ) a + S1x1x1x128x128.size a ≤ S1x8x16x128x128.size a := by
  intro a; fin_cases a
  · show 0 + 1 ≤ 1; omega
  · show b.val + 1 ≤ 8; omega
  · show h.val + 1 ≤ 16; omega
  · show 0 + 128 ≤ 128; omega
  · show 0 + 128 ≤ 128; omega

/-- Token `b`'s heads, and one head's lanes. -/
def token (x : Vec Ideal S8x16x128 .f32) (b : Fin 8) : Vec Ideal S1x16x128 .f32 := View.ld x (Rect.unit (s := S8x16x128) ![b.val, 0, 0] S1x16x128.size (inb_token b))
def head (x : Vec Ideal S8x16x128 .f32) (b : Fin 8) (h : Fin 16) : Vec Ideal S1x1x128 .f32 := View.ld x (Rect.unit (s := S8x16x128) ![b.val, h.val, 0] S1x1x128.size (inb_head b h))
/-- Where a head's state lies. -/
abbrev rectS (b : Fin 8) (h : Fin 16) : Rect S1x8x16x128x128 := Rect.unit (s := S1x8x16x128x128) ![0, b.val, h.val, 0, 0] S1x1x1x128x128.size (inb_state b h)

/-- One head's state. -/
def state (x : Vec Ideal S1x8x16x128x128 .f32) (b : Fin 8) (h : Fin 16) : Vec Ideal S1x1x1x128x128 .f32 := View.ld x (rectS b h)

theorem token_apply (x : Vec Ideal S8x16x128 .f32) (b : Fin 8) (h : Fin 16) (e : Fin 128) : token x b (ix3 0 h e) = x (ix3 b h e) :=
  View.ld_unit_apply_of _ _ _ _ _ _ fun a => by
    fin_cases a
    · show b.val = b.val + 0; omega
    · show h.val = 0 + h.val; omega
    · show e.val = 0 + e.val; omega
theorem head_apply (x : Vec Ideal S8x16x128 .f32) (b : Fin 8) (h : Fin 16) (e : Fin 128) : head x b h (ix3 0 0 e) = x (ix3 b h e) :=
  View.ld_unit_apply_of _ _ _ _ _ _ fun a => by
    fin_cases a
    · show b.val = b.val + 0; omega
    · show h.val = h.val + 0; omega
    · show e.val = 0 + e.val; omega
theorem emb_state (b : Fin 8) (h : Fin 16) (d e : Fin 128) : (rectS b h).emb (ix5 0 0 0 d e) = ix5 0 b h d e := by
  refine funext fun a => Fin.ext ((Rect.idx_unit_val _ _ _ _ a).trans ?_)
  fin_cases a
  · rfl
  · show b.val + 0 = b.val; omega
  · show h.val + 0 = h.val; omega
  · show 0 + d.val = d.val; omega
  · show 0 + e.val = e.val; omega
theorem state_apply (x : Vec Ideal S1x8x16x128x128 .f32) (b : Fin 8) (h : Fin 16) (d e : Fin 128) :
    state x b h (ix5 0 0 0 d e) = x (ix5 0 b h d e) := congrArg x (emb_state b h d e)

/-- The block's states after its tokens. -/
def stateBlk (x1 x2 x3 x4 : Vec Ideal S8x16x128 .f32) (x8 : Vec Ideal S1x8x16x128x128 .f32) : Vec Ideal S1x8x16x128x128 .f32 := fun i =>
  (x3 (ix3 (i 1) (i 2) (i 4)) * x8 i + x1 (ix3 (i 1) (i 2) (i 3)) * fresh (x3 (ix3 (i 1) (i 2) (i 4))) (x4 (ix3 (i 1) (i 2) (i 4))) (x2 (ix3 (i 1) (i 2) (i 4)))
    (fun d => x1 (ix3 (i 1) (i 2) d)) fun d => x8 (ix5 0 (i 1) (i 2) d (i 4)) : EReal)

/-- What the block's tokens hand on. -/
def outBlk (x0 x1 x2 x3 x4 x5 x6 : Vec Ideal S8x16x128 .f32) (x7 : Vec Ideal S1x128 .f32) (x8 : Vec Ideal S1x8x16x128x128 .f32) : Vec Ideal S8x16x128 .bf16 := fun i =>
  (rmsHead (fun e => readout (x3 (ix3 (i 0) (i 1) e)) (x4 (ix3 (i 0) (i 1) e)) (x2 (ix3 (i 0) (i 1) e)) (x5 (ix3 (i 0) (i 1) e))
      (fun d => x0 (ix3 (i 0) (i 1) d)) (fun d => x1 (ix3 (i 0) (i 1) d)) fun d => x8 (ix5 0 (i 0) (i 1) d e))
    (fun e => x7 (ix2 0 e)) (i 2) * silu (x6 i) : EReal)

theorem stateBlk_apply (x1 x2 x3 x4 : Vec Ideal S8x16x128 .f32) (x8 : Vec Ideal S1x8x16x128x128 .f32) (a : Fin 8) (h : Fin 16) (d e : Fin 128) :
    stateBlk x1 x2 x3 x4 x8 (ix5 0 a h d e) = (x3 (ix3 a h e) * x8 (ix5 0 a h d e) + x1 (ix3 a h d) * fresh (x3 (ix3 a h e)) (x4 (ix3 a h e)) (x2 (ix3 a h e))
      (fun d => x1 (ix3 a h d)) fun d => x8 (ix5 0 a h d e) : EReal) := rfl
theorem outBlk_apply (x0 x1 x2 x3 x4 x5 x6 : Vec Ideal S8x16x128 .f32) (x7 : Vec Ideal S1x128 .f32) (x8 : Vec Ideal S1x8x16x128x128 .f32)
    (a : Fin 8) (h : Fin 16) (e : Fin 128) : outBlk x0 x1 x2 x3 x4 x5 x6 x7 x8 (ix3 a h e)
      = (rmsHead (fun e => readout (x3 (ix3 a h e)) (x4 (ix3 a h e)) (x2 (ix3 a h e)) (x5 (ix3 a h e))
        (fun d => x0 (ix3 a h d)) (fun d => x1 (ix3 a h d)) fun d => x8 (ix5 0 a h d e)) (fun e => x7 (ix2 0 e)) e * silu (x6 (ix3 a h e)) : EReal) := rfl

/-- A head's stored state is its part of the block's. -/
theorem piece_state (x0 x1 x2 x3 x4 : Vec Ideal S8x16x128 .f32) (x8 : Vec Ideal S1x8x16x128x128 .f32) (b : Fin 8) (h : Fin 16) (x : S1x1x1x128x128.Idx) :
    newS h (token x1 b) (token x0 b) (state x8 b h) (head x3 b h) (head x4 b h) (head x2 b h) x = stateBlk x1 x2 x3 x4 x8 ((rectS b h).emb x) := by
  obtain ⟨d, n, rfl⟩ : ∃ (d n : Fin 128), x = ix5 0 0 0 d n := ⟨x 3, x 4, funext fun a => by
    fin_cases a
    exacts [Subsingleton.elim (α := Fin 1) _ _, Subsingleton.elim (α := Fin 1) _ _, Subsingleton.elim (α := Fin 1) _ _, rfl, rfl]⟩
  rw [emb_state, newS_apply]
  simp only [token_apply, head_apply, state_apply]
  rfl

/-- A token's stored row is its part of the block's. -/
theorem piece_out (x0 x1 x2 x3 x4 x5 x6 : Vec Ideal S8x16x128 .f32) (x7 : Vec Ideal S1x128 .f32) (x8 : Vec Ideal S1x8x16x128x128 .f32) (b : Fin 8) (x : S1x16x128.Idx) :
    tile (stack fun h => outV h (token x1 b) (token x0 b) (state x8 b h) (head x3 b h) (head x4 b h) (head x2 b h) (head x5 b h))
      (View.ld x7 r0_33) (token x6 b) x
      = outBlk x0 x1 x2 x3 x4 x5 x6 x7 x8 ((Rect.unit (s := S8x16x128) ![b.val, 0, 0] S1x16x128.size (inb_token b)).emb x) := by
  obtain ⟨h, n, rfl⟩ : ∃ (h : Fin 16) (n : Fin 128), x = ix3 0 h n := ⟨x 1, x 2, funext fun a => by
    fin_cases a
    exacts [Subsingleton.elim (α := Fin 1) _ _, rfl, rfl]⟩
  have e : (Rect.unit (s := S8x16x128) ![b.val, 0, 0] S1x16x128.size (inb_token b)).emb (ix3 0 h n) = ix3 b h n := by
    refine funext fun a => Fin.ext ((Rect.idx_unit_val _ _ _ _ a).trans ?_)
    fin_cases a
    · show b.val + 0 = b.val; omega
    · show 0 + h.val = h.val; omega
    · show 0 + n.val = n.val; omega
  have g : ∀ j, View.ld x7 r0_33 (ix2 0 j) = x7 (ix2 0 j) := fun j => View.ld_unit_apply_of _ _ _ _ _ _ fun a => by
    fin_cases a
    · show 0 = 0 + 0; omega
    · show j.val = 0 + j.val; omega
  rw [e, tile_apply]
  simp only [stack_apply, outV_apply, token_apply, head_apply, state_apply, g]
  rfl

end Cert.Proof.Step

end
-- ==== Proof.Step.Block.lean ====
/-
  What the step's body stores over a block of eight tokens: eight rows of heads and 128 states, each its part of one value.
-/
module

public import proofs.«01_k».proof.Proof.Step.Body

@[expose] public section

set_option maxRecDepth 16384

noncomputable section

namespace Cert.Proof.Step

open Cert.StepIdeal Cert.StepIdeal.Gen Cert.Proof.Layer Cert.Proof.Delta
open Idealize.ShloMosaic Idealize.ShloMosaic.TcCoe Idealize.ShloMosaic.Tactic
open Idealize.SL Idealize.SL.Sem

variable (x0 x1 x2 x3 x4 x5 x6 : Vec Ideal S8x16x128 .f32) (x7 : Vec Ideal S1x128 .f32) (x8 : Vec Ideal S1x8x16x128x128 .f32)

/-- The eight rows are the block's. -/
theorem out9_eq : out0_9 x0 x1 x2 x3 x4 x5 x6 x7 x8 = outBlk x0 x1 x2 x3 x4 x5 x6 x7 x8 := by
  funext y
  have p := piece_out x0 x1 x2 x3 x4 x5 x6 x7 x8
  refine View.canon_apply_of_pieces _ _ (View.PiecesOf.mem ?_) y (cover0_9 _ _ _ _ _ _ _ _ y)
  exact ⟨p 7, p 6, p 5, p 4, p 3, p 2, p 1, p 0, trivial⟩

/-- The 128 states are the block's. -/
theorem out10_eq : out0_10 x0 x1 x2 x3 x4 x5 x6 x7 x8 = stateBlk x1 x2 x3 x4 x8 := by
  funext y
  have p := piece_state x0 x1 x2 x3 x4 x8
  refine View.canon_apply_of_pieces _ _ (View.PiecesOf.mem ?_) y (cover0_10 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  exact ⟨
    p 7 15, p 7 14, p 7 13, p 7 12, p 7 11, p 7 10, p 7 9, p 7 8, p 7 7, p 7 6, p 7 5, p 7 4, p 7 3, p 7 2, p 7 1, p 7 0,
    p 6 15, p 6 14, p 6 13, p 6 12, p 6 11, p 6 10, p 6 9, p 6 8, p 6 7, p 6 6, p 6 5, p 6 4, p 6 3, p 6 2, p 6 1, p 6 0,
    p 5 15, p 5 14, p 5 13, p 5 12, p 5 11, p 5 10, p 5 9, p 5 8, p 5 7, p 5 6, p 5 5, p 5 4, p 5 3, p 5 2, p 5 1, p 5 0,
    p 4 15, p 4 14, p 4 13, p 4 12, p 4 11, p 4 10, p 4 9, p 4 8, p 4 7, p 4 6, p 4 5, p 4 4, p 4 3, p 4 2, p 4 1, p 4 0,
    p 3 15, p 3 14, p 3 13, p 3 12, p 3 11, p 3 10, p 3 9, p 3 8, p 3 7, p 3 6, p 3 5, p 3 4, p 3 3, p 3 2, p 3 1, p 3 0,
    p 2 15, p 2 14, p 2 13, p 2 12, p 2 11, p 2 10, p 2 9, p 2 8, p 2 7, p 2 6, p 2 5, p 2 4, p 2 3, p 2 2, p 2 1, p 2 0,
    p 1 15, p 1 14, p 1 13, p 1 12, p 1 11, p 1 10, p 1 9, p 1 8, p 1 7, p 1 6, p 1 5, p 1 4, p 1 3, p 1 2, p 1 1, p 1 0,
    p 0 15, p 0 14, p 0 13, p 0 12, p 0 11, p 0 10, p 0 9, p 0 8, p 0 7, p 0 6, p 0 5, p 0 4, p 0 3, p 0 2, p 0 1, p 0 0, trivial⟩

end Cert.Proof.Step

end
-- ==== Proof.Step.Value.lean ====
/-
  What the step's two arrays hold after the run, in exact arithmetic.
-/
module

public import proofs.«01_k».proof.Proof.Step.Block

@[expose] public section

set_option maxRecDepth 16384

noncomputable section

namespace Cert.Proof.Step

open Cert.StepIdeal Cert.StepIdeal.Gen Cert.Proof.Layer Cert.Proof.Delta
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ## The arrays the region reads -/

theorem flat_rows (x : S128x2048.Idx → Elt Ideal .f32) (r : Fin 128) (h : Fin 16) (e : Fin 128) :
    shapeCast S128x16x128 x shapeCasts_S128x2048_S128x16x128 (ix3 r h e) = x (ix2 r (lane h e)) := by
  unfold lane
  pointwise
theorem flat_z (x : S128x13312.Idx → Elt Ideal .f32) (r : Fin 128) (h : Fin 16) (e : Fin 128) :
    shapeCast S128x16x128 (extractStridedSlice S128x2048 ![0, 6144] x slices_S128x13312_S128x2048_0_6144) shapeCasts_S128x2048_S128x16x128 (ix3 r h e)
      = x (ix2 r ⟨6144 + (lane h e).val, by omega⟩) := by
  unfold lane
  pointwise

theorem V_v0 (c : Dev nD) (r : Fin 128) (h : Fin 16) (e : Fin 128) : V m c main_v0 (ix3 r h e) = m ((c : Thread nD τ).loc main_arg0) (ix2 r (lane h e)) := by
  have e' : V m c main_v0 = shapeCast S128x16x128 (m ((c : Thread nD τ).loc main_arg0)) shapeCasts_S128x2048_S128x16x128 := by
    simp only [V, hostOps0]
    after_results_simp <;> rfl
  exact (congrFun e' _).trans (flat_rows _ r h e)

theorem V_v1 (c : Dev nD) (r : Fin 128) (h : Fin 16) (e : Fin 128) : V m c main_v1 (ix3 r h e) = m ((c : Thread nD τ).loc main_arg1) (ix2 r (lane h e)) := by
  have e' : V m c main_v1 = shapeCast S128x16x128 (m ((c : Thread nD τ).loc main_arg1)) shapeCasts_S128x2048_S128x16x128 := by
    simp only [V, hostOps0]
    after_results_simp <;> rfl
  exact (congrFun e' _).trans (flat_rows _ r h e)

theorem V_v2 (c : Dev nD) (r : Fin 128) (h : Fin 16) (e : Fin 128) : V m c main_v2 (ix3 r h e) = m ((c : Thread nD τ).loc main_arg2) (ix2 r (lane h e)) := by
  have e' : V m c main_v2 = shapeCast S128x16x128 (m ((c : Thread nD τ).loc main_arg2)) shapeCasts_S128x2048_S128x16x128 := by
    simp only [V, hostOps0]
    after_results_simp <;> rfl
  exact (congrFun e' _).trans (flat_rows _ r h e)

theorem V_v3 (c : Dev nD) (r : Fin 128) (h : Fin 16) (e : Fin 128) : V m c main_v3 (ix3 r h e) = m ((c : Thread nD τ).loc main_arg3) (ix2 r (lane h e)) := by
  have e' : V m c main_v3 = shapeCast S128x16x128 (m ((c : Thread nD τ).loc main_arg3)) shapeCasts_S128x2048_S128x16x128 := by
    simp only [V, hostOps0]
    after_results_simp <;> rfl
  exact (congrFun e' _).trans (flat_rows _ r h e)

theorem V_v4 (c : Dev nD) (r : Fin 128) (h : Fin 16) (e : Fin 128) : V m c main_v4 (ix3 r h e) = m ((c : Thread nD τ).loc main_arg4) (ix2 r (lane h e)) := by
  have e' : V m c main_v4 = shapeCast S128x16x128 (m ((c : Thread nD τ).loc main_arg4)) shapeCasts_S128x2048_S128x16x128 := by
    simp only [V, hostOps0]
    after_results_simp <;> rfl
  exact (congrFun e' _).trans (flat_rows _ r h e)

theorem V_v5 (c : Dev nD) (r : Fin 128) (h : Fin 16) (e : Fin 128) : V m c main_v5 (ix3 r h e) = m ((c : Thread nD τ).loc main_arg5) (ix2 r (lane h e)) := by
  have e' : V m c main_v5 = shapeCast S128x16x128 (m ((c : Thread nD τ).loc main_arg5)) shapeCasts_S128x2048_S128x16x128 := by
    simp only [V, hostOps0]
    after_results_simp <;> rfl
  exact (congrFun e' _).trans (flat_rows _ r h e)
theorem V_v7 (c : Dev nD) (r : Fin 128) (h : Fin 16) (e : Fin 128) :
    V m c main_v7 (ix3 r h e) = m ((c : Thread nD τ).loc main_arg6) (ix2 r ⟨6144 + (lane h e).val, by omega⟩) := by
  have e' : V m c main_v7 = shapeCast S128x16x128 (extractStridedSlice S128x2048 ![0, 6144] (m ((c : Thread nD τ).loc main_arg6)) slices_S128x13312_S128x2048_0_6144)
      shapeCasts_S128x2048_S128x16x128 := by
    simp only [V, hostOps0]
    after_results_simp <;> rfl
  exact (congrFun e' _).trans (flat_z _ r h e)

/-! ## The blocks a grid point reads -/

theorem lt_N (t : Fin cfg0.N) : t.val < 16 := lt_of_lt_of_eq t.isLt (show cfg0.N = 16 from N_0)

theorem index_0 : ∀ t : Fin cfg0.N, win0_0.index t = ![t.val, 0, 0] := (by decide +kernel : ∀ t : Fin grid0.N, win0_0.index t = ![t.val, 0, 0])
theorem index_1 : ∀ t : Fin cfg0.N, win0_1.index t = ![t.val, 0, 0] := (by decide +kernel : ∀ t : Fin grid0.N, win0_1.index t = ![t.val, 0, 0])
theorem index_2 : ∀ t : Fin cfg0.N, win0_2.index t = ![t.val, 0, 0] := (by decide +kernel : ∀ t : Fin grid0.N, win0_2.index t = ![t.val, 0, 0])
theorem index_3 : ∀ t : Fin cfg0.N, win0_3.index t = ![t.val, 0, 0] := (by decide +kernel : ∀ t : Fin grid0.N, win0_3.index t = ![t.val, 0, 0])
theorem index_4 : ∀ t : Fin cfg0.N, win0_4.index t = ![t.val, 0, 0] := (by decide +kernel : ∀ t : Fin grid0.N, win0_4.index t = ![t.val, 0, 0])
theorem index_5 : ∀ t : Fin cfg0.N, win0_5.index t = ![t.val, 0, 0] := (by decide +kernel : ∀ t : Fin grid0.N, win0_5.index t = ![t.val, 0, 0])
theorem index_6 : ∀ t : Fin cfg0.N, win0_6.index t = ![t.val, 0, 0] := (by decide +kernel : ∀ t : Fin grid0.N, win0_6.index t = ![t.val, 0, 0])
theorem index_9 : ∀ t : Fin cfg0.N, win0_9.index t = ![t.val, 0, 0] := (by decide +kernel : ∀ t : Fin grid0.N, win0_9.index t = ![t.val, 0, 0])
theorem index_7 : ∀ t : Fin cfg0.N, win0_7.index t = ![0, 0] := (by decide +kernel : ∀ t : Fin grid0.N, win0_7.index t = ![0, 0])
theorem index_8 : ∀ t : Fin cfg0.N, win0_8.index t = ![0, t.val, 0, 0, 0] := (by decide +kernel : ∀ t : Fin grid0.N, win0_8.index t = ![0, t.val, 0, 0, 0])
theorem index_10 : ∀ t : Fin cfg0.N, win0_10.index t = ![0, t.val, 0, 0, 0] := (by decide +kernel : ∀ t : Fin grid0.N, win0_10.index t = ![0, t.val, 0, 0, 0])

/-- The token that row `a` of point `t`'s block is. -/
def row (t : Fin cfg0.N) (a : Fin 8) : Fin 128 := ⟨t.val * 8 + a.val, by have := lt_N t; omega⟩

theorem blk_0 (c : Dev nD) (t : Fin cfg0.N) (a : Fin 8) (h : Fin 16) (e : Fin 128) : iblk m c 0 t (ix3 a h e) = m ((c : Thread nD τ).loc main_arg0) (ix2 (row t a) (lane h e)) := by
  refine Eq.trans ?_ (V_v0 m c (row t a) h e)
  blk_simp [iblk]
  refine congrArg (V m c main_v0) (funext fun i => Fin.ext ?_)
  fin_cases i
  · blk_simp [index_0]; rfl
  · blk_simp [index_0]; rfl
  · blk_simp [index_0]; rfl

theorem blk_1 (c : Dev nD) (t : Fin cfg0.N) (a : Fin 8) (h : Fin 16) (e : Fin 128) : iblk m c 1 t (ix3 a h e) = m ((c : Thread nD τ).loc main_arg1) (ix2 (row t a) (lane h e)) := by
  refine Eq.trans ?_ (V_v1 m c (row t a) h e)
  blk_simp [iblk]
  refine congrArg (V m c main_v1) (funext fun i => Fin.ext ?_)
  fin_cases i
  · blk_simp [index_1]; rfl
  · blk_simp [index_1]; rfl
  · blk_simp [index_1]; rfl

theorem blk_2 (c : Dev nD) (t : Fin cfg0.N) (a : Fin 8) (h : Fin 16) (e : Fin 128) : iblk m c 2 t (ix3 a h e) = m ((c : Thread nD τ).loc main_arg2) (ix2 (row t a) (lane h e)) := by
  refine Eq.trans ?_ (V_v2 m c (row t a) h e)
  blk_simp [iblk]
  refine congrArg (V m c main_v2) (funext fun i => Fin.ext ?_)
  fin_cases i
  · blk_simp [index_2]; rfl
  · blk_simp [index_2]; rfl
  · blk_simp [index_2]; rfl

theorem blk_3 (c : Dev nD) (t : Fin cfg0.N) (a : Fin 8) (h : Fin 16) (e : Fin 128) : iblk m c 3 t (ix3 a h e) = m ((c : Thread nD τ).loc main_arg3) (ix2 (row t a) (lane h e)) := by
  refine Eq.trans ?_ (V_v3 m c (row t a) h e)
  blk_simp [iblk]
  refine congrArg (V m c main_v3) (funext fun i => Fin.ext ?_)
  fin_cases i
  · blk_simp [index_3]; rfl
  · blk_simp [index_3]; rfl
  · blk_simp [index_3]; rfl

theorem blk_4 (c : Dev nD) (t : Fin cfg0.N) (a : Fin 8) (h : Fin 16) (e : Fin 128) : iblk m c 4 t (ix3 a h e) = m ((c : Thread nD τ).loc main_arg4) (ix2 (row t a) (lane h e)) := by
  refine Eq.trans ?_ (V_v4 m c (row t a) h e)
  blk_simp [iblk]
  refine congrArg (V m c main_v4) (funext fun i => Fin.ext ?_)
  fin_cases i
  · blk_simp [index_4]; rfl
  · blk_simp [index_4]; rfl
  · blk_simp [index_4]; rfl

theorem blk_5 (c : Dev nD) (t : Fin cfg0.N) (a : Fin 8) (h : Fin 16) (e : Fin 128) : iblk m c 5 t (ix3 a h e) = m ((c : Thread nD τ).loc main_arg5) (ix2 (row t a) (lane h e)) := by
  refine Eq.trans ?_ (V_v5 m c (row t a) h e)
  blk_simp [iblk]
  refine congrArg (V m c main_v5) (funext fun i => Fin.ext ?_)
  fin_cases i
  · blk_simp [index_5]; rfl
  · blk_simp [index_5]; rfl
  · blk_simp [index_5]; rfl

theorem blk_6 (c : Dev nD) (t : Fin cfg0.N) (a : Fin 8) (h : Fin 16) (e : Fin 128) : iblk m c 6 t (ix3 a h e) = m ((c : Thread nD τ).loc main_arg6) (ix2 (row t a) ⟨6144 + (lane h e).val, by omega⟩) := by
  refine Eq.trans ?_ (V_v7 m c (row t a) h e)
  blk_simp [iblk]
  refine congrArg (V m c main_v7) (funext fun i => Fin.ext ?_)
  fin_cases i
  · blk_simp [index_6]; rfl
  · blk_simp [index_6]; rfl
  · blk_simp [index_6]; rfl
theorem blk_7 (c : Dev nD) (t : Fin cfg0.N) : iblk m c 7 t = m ((c : Thread nD τ).loc main_arg7) := by
  funext y
  blk_simp [iblk]
  rw [V_main_arg7]
  refine congrArg (m ((c : Thread nD τ).loc main_arg7)) (funext fun i => Fin.ext ?_)
  fin_cases i
  · blk_simp [index_7]
  · blk_simp [index_7]
theorem blk_8 (c : Dev nD) (t : Fin cfg0.N) (a : Fin 8) (h : Fin 16) (d e : Fin 128) :
    iblk m c 8 t (ix5 0 a h d e) = m ((c : Thread nD τ).loc main_arg8) (ix5 0 (row t a) h d e) := by
  blk_simp [iblk]
  rw [V_main_arg8]
  refine congrArg (m ((c : Thread nD τ).loc main_arg8)) (funext fun i => Fin.ext ?_)
  fin_cases i
  · blk_simp [index_8]
  · blk_simp [index_8]; rfl
  · blk_simp [index_8]; rfl
  · blk_simp [index_8]; rfl
  · blk_simp [index_8]; rfl

/-! ## The arrays after the run -/

theorem out_at (c : Dev nD) (t : Fin cfg0.N) (a : Fin 8) (h : Fin 16) (e : Fin 128) :
    outBlk (iblk m c 0 t) (iblk m c 1 t) (iblk m c 2 t) (iblk m c 3 t) (iblk m c 4 t) (iblk m c 5 t) (iblk m c 6 t) (iblk m c 7 t) (iblk m c 8 t) (ix3 a h e)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 (row t a) h e) := by
  rw [outBlk_apply]
  simp only [blk_0, blk_1, blk_2, blk_3, blk_4, blk_5, blk_6, blk_7, blk_8]
  rfl
theorem state_at (c : Dev nD) (t : Fin cfg0.N) (a : Fin 8) (h : Fin 16) (d e : Fin 128) :
    stateBlk (iblk m c 1 t) (iblk m c 2 t) (iblk m c 3 t) (iblk m c 4 t) (iblk m c 8 t) (ix5 0 a h d e)
      = after (m ((c : Thread nD τ).loc main_arg1)) (m ((c : Thread nD τ).loc main_arg2)) (m ((c : Thread nD τ).loc main_arg3)) (m ((c : Thread nD τ).loc main_arg4)) (m ((c : Thread nD τ).loc main_arg8)) (ix5 0 (row t a) h d e) := by
  rw [stateBlk_apply]
  simp only [blk_1, blk_2, blk_3, blk_4, blk_8]
  rfl

theorem final9 (c : Dev nD) : (dats m 0 c).arrAt 9 cfg0.N
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9, out9_eq]
  idx_vars y
  have he : ((win0_9.blk t).view.emb (ix3 y0 y1 y2)) = ix3 (row t y0) y1 y2 := by
    refine funext fun i => Fin.ext ?_
    fin_cases i
    · blk_simp [index_9]; rfl
    · blk_simp [index_9]; rfl
    · blk_simp [index_9]; rfl
  exact (out_at m c t y0 y1 y2).trans (congrArg (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) he.symm)
theorem final10 (c : Dev nD) : (dats m 0 c).arrAt 10 cfg0.N
    = after (m ((c : Thread nD τ).loc main_arg1)) (m ((c : Thread nD τ).loc main_arg2)) (m ((c : Thread nD τ).loc main_arg3)) (m ((c : Thread nD τ).loc main_arg4)) (m ((c : Thread nD τ).loc main_arg8)) := by
  refine (dats m 0 c).arrAt_eq_of_covers 10 _ (by decide +kernel) fun t hf y => ?_
  blk_simp
  rw [after0_10, out10_eq]
  idx_vars y
  obtain rfl := Subsingleton.elim y0 0
  have he : ((win0_10.blk t).view.emb (ix5 0 y1 y2 y3 y4)) = ix5 0 (row t y1) y2 y3 y4 := by
    refine funext fun i => Fin.ext ?_
    fin_cases i
    · blk_simp [index_10]
    · blk_simp [index_10]; rfl
    · blk_simp [index_10]; rfl
    · blk_simp [index_10]; rfl
    · blk_simp [index_10]; rfl
  exact (state_at m c t y1 y2 y3 y4).trans (congrArg (after (m ((c : Thread nD τ).loc main_arg1)) (m ((c : Thread nD τ).loc main_arg2)) (m ((c : Thread nD τ).loc main_arg3)) (m ((c : Thread nD τ).loc main_arg4)) (m ((c : Thread nD τ).loc main_arg8))) he.symm)

/-- The run, its results named. -/
theorem run : θ_run defs (onTc (τ := τ) (main (F := Ideal))) ⟨m, fun _ => 0, ρ⟩ fun r => ∀ c : Dev nD,
    r.2.mem ((c : Thread nD τ).loc main_v8_0) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v8_1) = after (m ((c : Thread nD τ).loc main_arg1)) (m ((c : Thread nD τ).loc main_arg2)) (m ((c : Thread nD τ).loc main_arg3)) (m ((c : Thread nD τ).loc main_arg4)) (m ((c : Thread nD τ).loc main_arg8)) :=
  (θ_run defs _ _).mono (fun _ h c => ⟨(h c).1.trans (final9 m c), (h c).2.1.trans (final10 m c)⟩) (Value.run_blocks m ρ)

end Cert.Proof.Step

end
-- ==== Proof.Step.Reference.lean ====
/-
  The plain step's two results, read at an index, are the kernel's.
-/
module

public import proofs.«01_k».proof.Proof.Delta
public import proofs.«01_k».proof.Proof.Gen.RefStepIdeal.Run
public import Idealize.ShloMosaic.Lib.ValueLayout

@[expose] public section

set_option maxRecDepth 16384

noncomputable section

namespace Cert.Proof.StepRef

open Cert.RefStepIdeal Cert.RefStepIdeal.Gen Cert.Proof.Layer Cert.Proof.Delta
open Idealize.ShloMosaic Idealize.ShloMosaic.TcCoe Idealize.ShloMosaic.Tactic
open Idealize.SL Idealize.SL.Sem

variable (q k v eg b w : S128x2048.Idx → Elt Ideal .f32) (z : S128x13312.Idx → Elt Ideal .f32) (g : S1x128.Idx → Elt Ideal .f32)
  (s : S1x128x16x128x128.Idx → Elt Ideal .f32)

/-- Rows by head, and the states without their first axis. -/
def heads (x : S128x2048.Idx → Elt Ideal .f32) : FVec Ideal S128x16x128 .f32 := shapeCast _ x shapeCasts_S128x2048_S128x16x128
def states : FVec Ideal S128x16x128x128 .f32 := shapeCast _ s shapeCasts_S1x128x16x128x128_S128x16x128x128

theorem heads_apply (x : S128x2048.Idx → Elt Ideal .f32) (r : Fin 128) (h : Fin 16) (e : Fin 128) : heads x (ix3 r h e) = x (ix2 r (lane h e)) := by
  unfold heads lane
  pointwise
theorem states_apply (r : Fin 128) (h : Fin 16) (d e : Fin 128) : states s (ix4 r h d e) = s (ix5 0 r h d e) := by
  unfold states
  pointwise

/-- Rows against the states. -/
def against (x : S128x2048.Idx → Elt Ideal .f32) : FVec Ideal S128x16x128 .f32 :=
  Host.dotGeneral (F := Ideal) (φ₁ := .f32) (φ₂ := .f32) dot_S128x16x128_S128x16x128x128_S128x16x128_2_2_n_3_01_01 none (heads x) (states s)
theorem against_apply (x : S128x2048.Idx → Elt Ideal .f32) (r : Fin 128) (h : Fin 16) (e : Fin 128) :
    against s x (ix3 r h e) = dot (fun d => x (ix2 r (lane h d))) fun d => s (ix5 0 r h d e) := by
  simp only [← heads_apply, ← states_apply]
  unfold against dot
  pointwise

/-- The values written. -/
def written : FVec Ideal S128x16x128 .f32 := mulf (heads b) (subf (heads v) (mulf (heads eg) (against s k)))
theorem written_apply (r : Fin 128) (h : Fin 16) (e : Fin 128) :
    written k v eg b s (ix3 r h e) = fresh (eg (ix2 r (lane h e))) (b (ix2 r (lane h e))) (v (ix2 r (lane h e)))
      (fun d => k (ix2 r (lane h d))) fun d => s (ix5 0 r h d e) := by
  rw [fresh, ← against_apply, ← heads_apply b, ← heads_apply v, ← heads_apply eg]
  rfl

/-- What the heads read out. -/
def read : FVec Ideal S128x16x128 .f32 := addf (mulf (heads eg) (against s q)) (mulf (heads w) (written k v eg b s))
theorem read_apply (r : Fin 128) (h : Fin 16) (e : Fin 128) :
    read q k v eg b w s (ix3 r h e) = readout (eg (ix2 r (lane h e))) (b (ix2 r (lane h e))) (v (ix2 r (lane h e))) (w (ix2 r (lane h e)))
      (fun d => q (ix2 r (lane h d))) (fun d => k (ix2 r (lane h d))) fun d => s (ix5 0 r h d e) := by
  rw [readout, ← written_apply, ← against_apply, ← heads_apply w, ← heads_apply eg]
  rfl

/-- The outer products of the keys and the values written. -/
def outer : FVec Ideal S128x16x128x128 .f32 :=
  Host.dotGeneral (F := Ideal) (φ₁ := .f32) (φ₂ := .f32) dot_S128x16x1x128_S128x16x1x128_S128x16x128x128_2_2_3_3_01_01 none
    (broadcastInDim S128x16x1x128 ![0, 1, 3] bcast_S128x16x128_S128x16x1x128_0_1_3 (heads k))
    (broadcastInDim S128x16x1x128 ![0, 1, 3] bcast_S128x16x128_S128x16x1x128_0_1_3 (written k v eg b s))
theorem outer_apply (r : Fin 128) (h : Fin 16) (d e : Fin 128) :
    outer k v eg b s (ix4 r h d e) = (heads k (ix3 r h d) * written k v eg b s (ix3 r h e) : EReal) := by
  unfold outer
  pointwise
  try exact Fin.sum_univ_one _

/-- The states after the token. -/
def states' : FVec Ideal S1x128x16x128x128 .f32 :=
  broadcastInDim S1x128x16x128x128 ![1, 2, 3, 4] bcast_S128x16x128x128_S1x128x16x128x128_1_2_3_4 (addf
    (mulf (states s) (broadcastInDim S128x16x128x128 ![0, 1, 2, 3] bcast_S128x16x1x128_S128x16x128x128_0_1_2_3
      (broadcastInDim S128x16x1x128 ![0, 1, 3] bcast_S128x16x128_S128x16x1x128_0_1_3 (heads eg)))) (outer k v eg b s))
theorem states'_eq : states' k v eg b s = after k v eg b s := by
  funext i
  idx_vars i
  obtain rfl := Subsingleton.elim i0 0
  show _ = (eg (ix2 i1 (lane i2 i4)) * s (ix5 0 i1 i2 i3 i4) + k (ix2 i1 (lane i2 i3)) * fresh (eg (ix2 i1 (lane i2 i4))) (b (ix2 i1 (lane i2 i4)))
    (v (ix2 i1 (lane i2 i4))) (fun d => k (ix2 i1 (lane i2 d))) fun d => s (ix5 0 i1 i2 d i4) : EReal)
  rw [← written_apply, ← heads_apply k, ← outer_apply, ← heads_apply eg, ← states_apply s, mul_comm]
  unfold states'
  pointwise

/-- The gated norm. -/
def gated : FVec Ideal S128x16x128 .bf16 :=
  truncf .bf16 (mulf (mulf (mulf (read q k v eg b w s) (broadcastInDim S128x16x128 ![0, 1, 2] bcast_S128x16x1_S128x16x128_0_1_2
      (Host.rsqrt (addf (Host.divf (broadcastInDim S128x16x1 ![0, 1] bcast_S128x16_S128x16x1_0_1
          (Host.reduceAdd (mulf (read q k v eg b w s) (read q k v eg b w s)) (constant (F := Ideal) S_ .f32 0x00000000#32) reducesTo_S128x16x128_S128x16_d2 h_S_))
        (broadcastInDim S128x16x1 ![] bcast_S_S128x16x1 (constant (F := Ideal) S_ .f32 0x43000000#32)))
        (broadcastInDim S128x16x1 ![] bcast_S_S128x16x1 (constant (F := Ideal) S_ .f32 0x358637BD#32))))))
    (broadcastInDim S128x16x128 ![0, 1, 2] bcast_S1x1x128_S128x16x128_0_1_2 (broadcastInDim S1x1x128 ![2] bcast_S128_S1x1x128_2 (shapeCast _ g shapeCasts_S1x128_S128))))
    (mulf (shapeCast _ (extractStridedSlice S128x2048 ![0, 6144] z slices_S128x13312_S128x2048_0_6144) shapeCasts_S128x2048_S128x16x128)
      (Host.divf (broadcastInDim S128x16x128 ![] bcast_S_S128x16x128 (constant (F := Ideal) S_ .f32 0x3F800000#32))
        (addf (broadcastInDim S128x16x128 ![] bcast_S_S128x16x128 (constant (F := Ideal) S_ .f32 0x3F800000#32))
          (Host.exp (Host.negf (shapeCast _ (extractStridedSlice S128x2048 ![0, 6144] z slices_S128x13312_S128x2048_0_6144) shapeCasts_S128x2048_S128x16x128))))))) bitsLt_bf16_f32
theorem gated_eq : gated q k v eg b w z g s = out q k v eg b w z g s := by
  funext i
  idx_vars i
  show _ = (rmsHead (fun e => readout (eg (ix2 i0 (lane i1 e))) (b (ix2 i0 (lane i1 e))) (v (ix2 i0 (lane i1 e))) (w (ix2 i0 (lane i1 e)))
      (fun d => q (ix2 i0 (lane i1 d))) (fun d => k (ix2 i0 (lane i1 d))) fun d => s (ix5 0 i0 i1 d e)) (fun e => g (ix2 0 e)) i2 * silu (z (ix2 i0 ⟨6144 + (lane i1 i2).val, by omega⟩)) : EReal)
  simp only [← read_apply]
  unfold gated rmsHead silu lane
  pointwise
  rfl

/-- The reference's run, its results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v41) = after (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) :=
  (θ_run defs _ _).mono (fun _ h c =>
    ⟨(h c).1.trans (Eq.trans (by unfold Value.res_main_v40 gated read written against heads states; rfl) (gated_eq _ _ _ _ _ _ _ _ _)),
      (h c).2.1.trans (Eq.trans (by unfold states' outer written against heads states; rfl) (states'_eq _ _ _ _ _))⟩) (Value.run m ρ)

end Cert.Proof.StepRef

end
-- ==== Proof.Outproj.Value.lean ====
/-
  What the output projection's array holds after the run, in exact arithmetic.
-/
module

public import proofs.«01_k».proof.Proof.Layer
public import proofs.«01_k».proof.Proof.Gen.OutprojIdeal.Value
public import Idealize.ShloMosaic.Lib.ValueLayout

@[expose] public section

set_option maxRecDepth 16384

noncomputable section

namespace Cert.Proof.Outproj

open Cert.OutprojIdeal Cert.OutprojIdeal.Gen Cert.Proof.Layer
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The stored value at an index. -/
theorem pay_apply (x : Vec Ideal S1024x1024 .f32) (y : Vec Ideal S1024x2048 .bf16) (w : Vec Ideal S2048x1024 .bf16) (a : Fin 1024) (n : Fin 1024) :
    k0_pay1 x y w (ix2 a n) = (x (ix2 a n) + dot (fun k => y (ix2 a k)) fun k => w (ix2 k n) : EReal) := by
  unfold k0_pay1 dot
  pointwise

/-- … which is the result's entry where the operands are the arrays' rows and columns. -/
theorem pay_outproj (x : Vec Ideal S1024x1024 .f32) (y : Vec Ideal S1024x2048 .bf16) (w : Vec Ideal S2048x1024 .bf16) (Y X : S8192x2048.Idx → EReal)
    (W : S1x2048x2048.Idx → EReal) (a : Fin 1024) (n : Fin 1024) (r : Fin 8192) (q : Fin 2048) (hx : x (ix2 a n) = X (ix2 r q))
    (hy : ∀ k, y (ix2 a k) = Y (ix2 r k)) (hw : ∀ k, w (ix2 k n) = W (ix3 0 k q)) : k0_pay1 x y w (ix2 a n) = outproj (M := 8192) Y X W (ix2 r q) := by
  rw [pay_apply]
  simp only [hx, hy, hw]
  rfl

/-! ## The arrays the region reads -/

theorem flat_w (w : S1x2048x2048.Idx → Elt Ideal .f32) (k n : Fin 2048) :
    truncf (F := Ideal) .bf16 (shapeCast S2048x2048 w shapeCasts_S1x2048x2048_S2048x2048) bitsLt_bf16_f32 (ix2 k n) = w (ix3 0 k n) := by
  pointwise
theorem V_v1 (c : Dev nD) (k n : Fin 2048) : V m c main_v1 (ix2 k n) = m ((c : Thread nD τ).loc main_arg2) (ix3 0 k n) := by
  have e : V m c main_v1 = truncf (F := Ideal) .bf16 (shapeCast S2048x2048 (m ((c : Thread nD τ).loc main_arg2)) shapeCasts_S1x2048x2048_S2048x2048) bitsLt_bf16_f32 := by
    simp only [V, hostOps0]
    after_results_simp <;> rfl
  exact (congrFun e _).trans (flat_w _ k n)

/-! ## The blocks a grid point reads -/

theorem lt_N (t : Fin cfg0.N) : t.val < 16 := lt_of_lt_of_eq t.isLt (show cfg0.N = 16 from N_0)

theorem index_y : ∀ t : Fin cfg0.N, win0_0.index t = ![t.val / 2, 0] := (by decide +kernel : ∀ t : Fin grid0.N, win0_0.index t = ![t.val / 2, 0])
theorem index_w : ∀ t : Fin cfg0.N, win0_1.index t = ![0, t.val % 2] := (by decide +kernel : ∀ t : Fin grid0.N, win0_1.index t = ![0, t.val % 2])
theorem index_x : ∀ t : Fin cfg0.N, win0_2.index t = ![t.val / 2, t.val % 2] := (by decide +kernel : ∀ t : Fin grid0.N, win0_2.index t = ![t.val / 2, t.val % 2])
theorem index_o : ∀ t : Fin cfg0.N, win0_3.index t = ![t.val / 2, t.val % 2] := (by decide +kernel : ∀ t : Fin grid0.N, win0_3.index t = ![t.val / 2, t.val % 2])

/-- The row of the whole array that row `a` of point `t`'s block is. -/
def row (t : Fin cfg0.N) (a : Fin 1024) : Fin 8192 := ⟨t.val / 2 * 1024 + a.val, by have := lt_N t; omega⟩
/-- The column that column `n` of point `t`'s block is. -/
def col (t : Fin cfg0.N) (n : Fin 1024) : Fin 2048 := ⟨t.val % 2 * 1024 + n.val, by omega⟩

theorem y_apply (c : Dev nD) (t : Fin cfg0.N) (a : Fin 1024) (k : Fin 2048) :
    iblk m c 0 t (ix2 a k) = m ((c : Thread nD τ).loc main_arg0) (ix2 (row t a) k) := by
  blk_simp [iblk]
  rw [V_main_arg0]
  refine congrArg (m ((c : Thread nD τ).loc main_arg0)) (funext fun i => Fin.ext ?_)
  fin_cases i
  · blk_simp [index_y] <;> rfl
  · blk_simp [index_y] <;> rfl
theorem w_apply (c : Dev nD) (t : Fin cfg0.N) (k : Fin 2048) (n : Fin 1024) :
    iblk m c 1 t (ix2 k n) = V m c main_v1 (ix2 k (col t n)) := by
  blk_simp [iblk]
  refine congrArg (V m c main_v1) (funext fun i => Fin.ext ?_)
  fin_cases i
  · blk_simp [index_w] <;> rfl
  · blk_simp [index_w] <;> rfl
theorem x_apply (c : Dev nD) (t : Fin cfg0.N) (a : Fin 1024) (n : Fin 1024) :
    iblk m c 2 t (ix2 a n) = m ((c : Thread nD τ).loc main_arg1) (ix2 (row t a) (col t n)) := by
  blk_simp [iblk]
  rw [V_main_arg1]
  refine congrArg (m ((c : Thread nD τ).loc main_arg1)) (funext fun i => Fin.ext ?_)
  fin_cases i
  · blk_simp [index_x] <;> rfl
  · blk_simp [index_x] <;> rfl

/-- The array after the run. -/
theorem final (c : Dev nD) : (dats m 0 c).arrAt 3 cfg0.N
    = outproj (M := 8192) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  have he : ((win0_3.blk t).view.emb (ix2 y0 y1)) = ix2 (row t y0) (col t y1) := by
    refine funext fun i => Fin.ext ?_
    fin_cases i
    · blk_simp [index_o] <;> rfl
    · blk_simp [index_o] <;> rfl
  refine (pay_outproj _ _ _ _ _ _ y0 y1 _ _ (x_apply m c t y0 y1) (y_apply m c t y0) fun k => (w_apply m c t k y1).trans (V_v1 m c k _)).trans ?_
  exact congrArg (outproj (M := 8192) _ _ _) he.symm

/-- The run, its result named. -/
theorem run : θ_run defs (onTc (τ := τ) (main (F := Ideal))) ⟨m, fun _ => 0, ρ⟩ fun r => ∀ c : Dev nD,
    r.2.mem ((c : Thread nD τ).loc main_v2) = outproj (M := 8192) (m ((c : Thread nD τ).loc main_arg0)) (m ((c : Thread nD τ).loc main_arg1)) (m ((c : Thread nD τ).loc main_arg2)) :=
  (θ_run defs _ _).mono (fun _ h c => (h c).1.trans (final m c)) (Value.run_blocks m ρ)

end Cert.Proof.Outproj

end
-- ==== Proof.Outproj.Reference.lean ====
/-
  The plain output projection's result, read at an index, is the kernel's.
-/
module

public import proofs.«01_k».proof.Proof.Layer
public import proofs.«01_k».proof.Proof.Gen.RefOutprojIdeal.Run
public import Idealize.ShloMosaic.Lib.ValueLayout

@[expose] public section

set_option maxRecDepth 16384

noncomputable section

namespace Cert.Proof.OutprojRef

open Cert.RefOutprojIdeal Cert.RefOutprojIdeal.Gen Cert.Proof.Layer
open Idealize.ShloMosaic Idealize.ShloMosaic.TcCoe Idealize.ShloMosaic.Tactic
open Idealize.SL Idealize.SL.Sem

variable (y : S8192x2048.Idx → Elt Ideal .bf16) (x : S8192x2048.Idx → Elt Ideal .f32) (w : S1x2048x2048.Idx → Elt Ideal .f32)

/-- The whole result. -/
def result : FVec Ideal S8192x2048 .f32 :=
  shapeCast S8192x2048 (addf (shapeCast _ x shapeCasts_S8192x2048_S4x2048x2048)
    (Host.dotGeneral (F := Ideal) (φ₁ := .f32) (φ₂ := .f32) dot_S4x2048x2048_S2048x2048_S4x2048x2048_2_0_01_1_n_n none
      (extf .f32 (shapeCast _ y shapeCasts_S8192x2048_S4x2048x2048) bitsLt_bf16_f32) (shapeCast _ w shapeCasts_S1x2048x2048_S2048x2048)))
    shapeCasts_S4x2048x2048_S8192x2048

theorem result_eq : result y x w = outproj (M := 8192) y x w := by
  funext i
  idx_vars i
  unfold outproj dot result
  pointwise

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = outproj (M := 8192) (m ((c.tc : Thread nD τ).loc main_arg0)) (m ((c.tc : Thread nD τ).loc main_arg1)) (m ((c.tc : Thread nD τ).loc main_arg2)) :=
  (θ_run defs _ _).mono (fun _ h c => (h c).1.trans (Eq.trans (by unfold result; rfl) (result_eq _ _ _))) (Value.run m ρ)

end Cert.Proof.OutprojRef

end
-- ==== Proof.OutprojS.Value.lean ====
/-
  What the output projection's array holds after the run on the samples, in exact arithmetic.
-/
module

public import proofs.«01_k».proof.Proof.Layer
public import proofs.«01_k».proof.Proof.Gen.OutprojSIdeal.Value
public import Idealize.ShloMosaic.Lib.ValueLayout

@[expose] public section

set_option maxRecDepth 16384

noncomputable section

namespace Cert.Proof.OutprojS

open Cert.OutprojSIdeal Cert.OutprojSIdeal.Gen Cert.Proof.Layer
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The stored value at an index. -/
theorem pay_apply (x : Vec Ideal S128x1024 .f32) (y : Vec Ideal S128x2048 .bf16) (w : Vec Ideal S2048x1024 .bf16) (a : Fin 128) (n : Fin 1024) :
    k0_pay1 x y w (ix2 a n) = (x (ix2 a n) + dot (fun k => y (ix2 a k)) fun k => w (ix2 k n) : EReal) := by
  unfold k0_pay1 dot
  pointwise

/-- … which is the result's entry where the operands are the arrays' rows and columns. -/
theorem pay_outproj (x : Vec Ideal S128x1024 .f32) (y : Vec Ideal S128x2048 .bf16) (w : Vec Ideal S2048x1024 .bf16) (Y X : S128x2048.Idx → EReal)
    (W : S1x2048x2048.Idx → EReal) (a : Fin 128) (n : Fin 1024) (r : Fin 128) (q : Fin 2048) (hx : x (ix2 a n) = X (ix2 r q))
    (hy : ∀ k, y (ix2 a k) = Y (ix2 r k)) (hw : ∀ k, w (ix2 k n) = W (ix3 0 k q)) : k0_pay1 x y w (ix2 a n) = outproj (M := 128) Y X W (ix2 r q) := by
  rw [pay_apply]
  simp only [hx, hy, hw]
  rfl

/-! ## The arrays the region reads -/

theorem flat_w (w : S1x2048x2048.Idx → Elt Ideal .f32) (k n : Fin 2048) :
    truncf (F := Ideal) .bf16 (shapeCast S2048x2048 w shapeCasts_S1x2048x2048_S2048x2048) bitsLt_bf16_f32 (ix2 k n) = w (ix3 0 k n) := by
  pointwise
theorem V_v1 (c : Dev nD) (k n : Fin 2048) : V m c main_v1 (ix2 k n) = m ((c : Thread nD τ).loc main_arg2) (ix3 0 k n) := by
  have e : V m c main_v1 = truncf (F := Ideal) .bf16 (shapeCast S2048x2048 (m ((c : Thread nD τ).loc main_arg2)) shapeCasts_S1x2048x2048_S2048x2048) bitsLt_bf16_f32 := by
    simp only [V, hostOps0]
    after_results_simp <;> rfl
  exact (congrFun e _).trans (flat_w _ k n)

/-! ## The blocks a grid point reads -/

theorem lt_N (t : Fin cfg0.N) : t.val < 2 := lt_of_lt_of_eq t.isLt (show cfg0.N = 2 from N_0)

theorem index_y : ∀ t : Fin cfg0.N, win0_0.index t = ![t.val / 2, 0] := (by decide +kernel : ∀ t : Fin grid0.N, win0_0.index t = ![t.val / 2, 0])
theorem index_w : ∀ t : Fin cfg0.N, win0_1.index t = ![0, t.val % 2] := (by decide +kernel : ∀ t : Fin grid0.N, win0_1.index t = ![0, t.val % 2])
theorem index_x : ∀ t : Fin cfg0.N, win0_2.index t = ![t.val / 2, t.val % 2] := (by decide +kernel : ∀ t : Fin grid0.N, win0_2.index t = ![t.val / 2, t.val % 2])
theorem index_o : ∀ t : Fin cfg0.N, win0_3.index t = ![t.val / 2, t.val % 2] := (by decide +kernel : ∀ t : Fin grid0.N, win0_3.index t = ![t.val / 2, t.val % 2])

/-- The row of the whole array that row `a` of point `t`'s block is. -/
def row (t : Fin cfg0.N) (a : Fin 128) : Fin 128 := ⟨t.val / 2 * 128 + a.val, by have := lt_N t; omega⟩
/-- The column that column `n` of point `t`'s block is. -/
def col (t : Fin cfg0.N) (n : Fin 1024) : Fin 2048 := ⟨t.val % 2 * 1024 + n.val, by omega⟩

theorem y_apply (c : Dev nD) (t : Fin cfg0.N) (a : Fin 128) (k : Fin 2048) :
    iblk m c 0 t (ix2 a k) = m ((c : Thread nD τ).loc main_arg0) (ix2 (row t a) k) := by
  blk_simp [iblk]
  rw [V_main_arg0]
  refine congrArg (m ((c : Thread nD τ).loc main_arg0)) (funext fun i => Fin.ext ?_)
  fin_cases i
  · blk_simp [index_y] <;> rfl
  · blk_simp [index_y] <;> rfl
theorem w_apply (c : Dev nD) (t : Fin cfg0.N) (k : Fin 2048) (n : Fin 1024) :
    iblk m c 1 t (ix2 k n) = V m c main_v1 (ix2 k (col t n)) := by
  blk_simp [iblk]
  refine congrArg (V m c main_v1) (funext fun i => Fin.ext ?_)
  fin_cases i
  · blk_simp [index_w] <;> rfl
  · blk_simp [index_w] <;> rfl
theorem x_apply (c : Dev nD) (t : Fin cfg0.N) (a : Fin 128) (n : Fin 1024) :
    iblk m c 2 t (ix2 a n) = m ((c : Thread nD τ).loc main_arg1) (ix2 (row t a) (col t n)) := by
  blk_simp [iblk]
  rw [V_main_arg1]
  refine congrArg (m ((c : Thread nD τ).loc main_arg1)) (funext fun i => Fin.ext ?_)
  fin_cases i
  · blk_simp [index_x] <;> rfl
  · blk_simp [index_x] <;> rfl

/-- The array after the run. -/
theorem final (c : Dev nD) : (dats m 0 c).arrAt 3 cfg0.N
    = outproj (M := 128) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  have he : ((win0_3.blk t).view.emb (ix2 y0 y1)) = ix2 (row t y0) (col t y1) := by
    refine funext fun i => Fin.ext ?_
    fin_cases i
    · blk_simp [index_o] <;> rfl
    · blk_simp [index_o] <;> rfl
  refine (pay_outproj _ _ _ _ _ _ y0 y1 _ _ (x_apply m c t y0 y1) (y_apply m c t y0) fun k => (w_apply m c t k y1).trans (V_v1 m c k _)).trans ?_
  exact congrArg (outproj (M := 128) _ _ _) he.symm

/-- The run, its result named. -/
theorem run : θ_run defs (onTc (τ := τ) (main (F := Ideal))) ⟨m, fun _ => 0, ρ⟩ fun r => ∀ c : Dev nD,
    r.2.mem ((c : Thread nD τ).loc main_v2) = outproj (M := 128) (m ((c : Thread nD τ).loc main_arg0)) (m ((c : Thread nD τ).loc main_arg1)) (m ((c : Thread nD τ).loc main_arg2)) :=
  (θ_run defs _ _).mono (fun _ h c => (h c).1.trans (final m c)) (Value.run_blocks m ρ)

end Cert.Proof.OutprojS

end
-- ==== Proof.OutprojS.Reference.lean ====
/-
  The plain output projection's result on the samples, read at an index, is the kernel's.
-/
module

public import proofs.«01_k».proof.Proof.Layer
public import proofs.«01_k».proof.Proof.Gen.RefOutprojSIdeal.Run
public import Idealize.ShloMosaic.Lib.ValueLayout

@[expose] public section

set_option maxRecDepth 16384

noncomputable section

namespace Cert.Proof.OutprojSRef

open Cert.RefOutprojSIdeal Cert.RefOutprojSIdeal.Gen Cert.Proof.Layer
open Idealize.ShloMosaic Idealize.ShloMosaic.TcCoe Idealize.ShloMosaic.Tactic
open Idealize.SL Idealize.SL.Sem

variable (y : S128x2048.Idx → Elt Ideal .bf16) (x : S128x2048.Idx → Elt Ideal .f32) (w : S1x2048x2048.Idx → Elt Ideal .f32)

/-- The whole result. -/
def result : FVec Ideal S128x2048 .f32 :=
  shapeCast S128x2048 (addf (shapeCast _ x shapeCasts_S128x2048_S128x1x2048)
    (Host.dotGeneral (F := Ideal) (φ₁ := .f32) (φ₂ := .f32) dot_S128x1x2048_S2048x2048_S128x1x2048_2_0_01_1_n_n none
      (extf .f32 (shapeCast _ y shapeCasts_S128x2048_S128x1x2048) bitsLt_bf16_f32) (shapeCast _ w shapeCasts_S1x2048x2048_S2048x2048)))
    shapeCasts_S128x1x2048_S128x2048

theorem result_eq : result y x w = outproj (M := 128) y x w := by
  funext i
  idx_vars i
  unfold outproj dot result
  pointwise

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = outproj (M := 128) (m ((c.tc : Thread nD τ).loc main_arg0)) (m ((c.tc : Thread nD τ).loc main_arg1)) (m ((c.tc : Thread nD τ).loc main_arg2)) :=
  (θ_run defs _ _).mono (fun _ h c => (h c).1.trans (Eq.trans (by unfold result; rfl) (result_eq _ _ _))) (Value.run m ρ)

end Cert.Proof.OutprojSRef

end
-- ==== Proof.Merge.Value.lean ====
/-
  What the merged mixers' array holds after the run, in exact arithmetic.
-/
module

public import proofs.«01_k».proof.Proof.Layer
public import proofs.«01_k».proof.Proof.Gen.MergeIdeal.Value
public import Idealize.ShloMosaic.Lib.ValueLayout

@[expose] public section

set_option maxRecDepth 16384

noncomputable section

namespace Cert.Proof.Merge

open Cert.MergeIdeal Cert.MergeIdeal.Gen Cert.Proof.Layer
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The stored value at an index. -/
theorem pay_apply (up : Vec Ideal S1024x1024 .f32) (p : Vec Ideal S1024x1024 .bf16) (wp : Vec Ideal S1024x1024 .bf16) (ug : Vec Ideal S1024x1024 .f32)
    (g : Vec Ideal S1024x2048 .bf16) (wg : Vec Ideal S2048x1024 .bf16) (a : Fin 1024) (n : Fin 1024) :
    k0_pay1 up p wp ug g wg (ix2 a n) = (Ideal.logistic (up (ix2 a n)) * dot (fun k => p (ix2 a k)) (fun k => wp (ix2 k n))
      + Ideal.logistic (ug (ix2 a n)) * dot (fun k => g (ix2 a k)) (fun k => wg (ix2 k n)) : EReal) := by
  unfold k0_pay1 dot
  pointwise

/-- … which is the result's entry where the operands are the arrays' rows and columns. -/
theorem pay_merge (up : Vec Ideal S1024x1024 .f32) (p : Vec Ideal S1024x1024 .bf16) (wp : Vec Ideal S1024x1024 .bf16) (ug : Vec Ideal S1024x1024 .f32)
    (g : Vec Ideal S1024x2048 .bf16) (wg : Vec Ideal S2048x1024 .bf16) (U : S8192x13312.Idx → EReal) (P : S8192x1024.Idx → EReal) (G : S8192x2048.Idx → EReal)
    (WP : S1x1024x2048.Idx → EReal) (WG : S1x2048x2048.Idx → EReal) (a : Fin 1024) (n : Fin 1024) (r : Fin 8192) (q : Fin 2048)
    (hup : up (ix2 a n) = U (ix2 r ⟨9216 + q.val, by omega⟩)) (hug : ug (ix2 a n) = U (ix2 r ⟨11264 + q.val, by omega⟩))
    (hp : ∀ k, p (ix2 a k) = P (ix2 r k)) (hg : ∀ k, g (ix2 a k) = G (ix2 r k)) (hwp : ∀ k, wp (ix2 k n) = WP (ix3 0 k q))
    (hwg : ∀ k, wg (ix2 k n) = WG (ix3 0 k q)) : k0_pay1 up p wp ug g wg (ix2 a n) = merge (M := 8192) U P G WP WG (ix2 r q) := by
  rw [pay_apply]
  simp only [hup, hug, hp, hg, hwp, hwg]
  rfl

/-! ## The arrays the region reads -/

theorem flat_p (w : S1x1024x2048.Idx → Elt Ideal .f32) (k : Fin 1024) (n : Fin 2048) :
    truncf (F := Ideal) .bf16 (shapeCast S1024x2048 w shapeCasts_S1x1024x2048_S1024x2048) bitsLt_bf16_f32 (ix2 k n) = w (ix3 0 k n) := by
  pointwise
theorem flat_g (w : S1x2048x2048.Idx → Elt Ideal .f32) (k n : Fin 2048) :
    truncf (F := Ideal) .bf16 (shapeCast S2048x2048 w shapeCasts_S1x2048x2048_S2048x2048) bitsLt_bf16_f32 (ix2 k n) = w (ix3 0 k n) := by
  pointwise
theorem V_v1 (c : Dev nD) (k : Fin 1024) (n : Fin 2048) : V m c main_v1 (ix2 k n) = m ((c : Thread nD τ).loc main_arg3) (ix3 0 k n) := by
  have e : V m c main_v1 = truncf (F := Ideal) .bf16 (shapeCast S1024x2048 (m ((c : Thread nD τ).loc main_arg3)) shapeCasts_S1x1024x2048_S1024x2048) bitsLt_bf16_f32 := by
    simp only [V, hostOps0]
    after_results_simp <;> rfl
  exact (congrFun e _).trans (flat_p _ k n)
theorem V_v3 (c : Dev nD) (k n : Fin 2048) : V m c main_v3 (ix2 k n) = m ((c : Thread nD τ).loc main_arg4) (ix3 0 k n) := by
  have e : V m c main_v3 = truncf (F := Ideal) .bf16 (shapeCast S2048x2048 (m ((c : Thread nD τ).loc main_arg4)) shapeCasts_S1x2048x2048_S2048x2048) bitsLt_bf16_f32 := by
    simp only [V, hostOps0]
    after_results_simp <;> rfl
  exact (congrFun e _).trans (flat_g _ k n)

/-! ## The blocks a grid point reads -/

theorem lt_N (t : Fin cfg0.N) : t.val < 16 := lt_of_lt_of_eq t.isLt (show cfg0.N = 16 from N_0)

theorem index_p : ∀ t : Fin cfg0.N, win0_0.index t = ![t.val / 2, 0] := (by decide +kernel : ∀ t : Fin grid0.N, win0_0.index t = ![t.val / 2, 0])
theorem index_g : ∀ t : Fin cfg0.N, win0_1.index t = ![t.val / 2, 0] := (by decide +kernel : ∀ t : Fin grid0.N, win0_1.index t = ![t.val / 2, 0])
theorem index_wp : ∀ t : Fin cfg0.N, win0_2.index t = ![0, t.val % 2] := (by decide +kernel : ∀ t : Fin grid0.N, win0_2.index t = ![0, t.val % 2])
theorem index_wg : ∀ t : Fin cfg0.N, win0_3.index t = ![0, t.val % 2] := (by decide +kernel : ∀ t : Fin grid0.N, win0_3.index t = ![0, t.val % 2])
theorem index_up : ∀ t : Fin cfg0.N, win0_4.index t = ![t.val / 2, 9 + t.val % 2] := (by decide +kernel : ∀ t : Fin grid0.N, win0_4.index t = ![t.val / 2, 9 + t.val % 2])
theorem index_ug : ∀ t : Fin cfg0.N, win0_5.index t = ![t.val / 2, 11 + t.val % 2] := (by decide +kernel : ∀ t : Fin grid0.N, win0_5.index t = ![t.val / 2, 11 + t.val % 2])
theorem index_o : ∀ t : Fin cfg0.N, win0_6.index t = ![t.val / 2, t.val % 2] := (by decide +kernel : ∀ t : Fin grid0.N, win0_6.index t = ![t.val / 2, t.val % 2])

/-- The row of the whole array that row `a` of point `t`'s block is. -/
def row (t : Fin cfg0.N) (a : Fin 1024) : Fin 8192 := ⟨t.val / 2 * 1024 + a.val, by have := lt_N t; omega⟩
/-- The column that column `n` of point `t`'s block is. -/
def col (t : Fin cfg0.N) (n : Fin 1024) : Fin 2048 := ⟨t.val % 2 * 1024 + n.val, by omega⟩

theorem p_apply (c : Dev nD) (t : Fin cfg0.N) (a : Fin 1024) (k : Fin 1024) :
    iblk m c 0 t (ix2 a k) = m ((c : Thread nD τ).loc main_arg1) (ix2 (row t a) k) := by
  blk_simp [iblk]
  rw [V_main_arg1]
  refine congrArg (m ((c : Thread nD τ).loc main_arg1)) (funext fun i => Fin.ext ?_)
  fin_cases i
  · blk_simp [index_p] <;> rfl
  · blk_simp [index_p] <;> rfl
theorem g_apply (c : Dev nD) (t : Fin cfg0.N) (a : Fin 1024) (k : Fin 2048) :
    iblk m c 1 t (ix2 a k) = m ((c : Thread nD τ).loc main_arg2) (ix2 (row t a) k) := by
  blk_simp [iblk]
  rw [V_main_arg2]
  refine congrArg (m ((c : Thread nD τ).loc main_arg2)) (funext fun i => Fin.ext ?_)
  fin_cases i
  · blk_simp [index_g] <;> rfl
  · blk_simp [index_g] <;> rfl
theorem wp_apply (c : Dev nD) (t : Fin cfg0.N) (k : Fin 1024) (n : Fin 1024) :
    iblk m c 2 t (ix2 k n) = V m c main_v1 (ix2 k (col t n)) := by
  blk_simp [iblk]
  refine congrArg (V m c main_v1) (funext fun i => Fin.ext ?_)
  fin_cases i
  · blk_simp [index_wp] <;> rfl
  · blk_simp [index_wp] <;> rfl
theorem wg_apply (c : Dev nD) (t : Fin cfg0.N) (k : Fin 2048) (n : Fin 1024) :
    iblk m c 3 t (ix2 k n) = V m c main_v3 (ix2 k (col t n)) := by
  blk_simp [iblk]
  refine congrArg (V m c main_v3) (funext fun i => Fin.ext ?_)
  fin_cases i
  · blk_simp [index_wg] <;> rfl
  · blk_simp [index_wg] <;> rfl
theorem up_apply (c : Dev nD) (t : Fin cfg0.N) (a : Fin 1024) (n : Fin 1024) :
    iblk m c 4 t (ix2 a n) = m ((c : Thread nD τ).loc main_arg0) (ix2 (row t a) ⟨9216 + (col t n).val, by omega⟩) := by
  blk_simp [iblk]
  rw [V_main_arg0]
  refine congrArg (m ((c : Thread nD τ).loc main_arg0)) (funext fun i => Fin.ext ?_)
  fin_cases i
  · blk_simp [index_up] <;> rfl
  · blk_simp [index_up]; show (9 + t.val % 2) * 1024 + n.val = 9216 + (t.val % 2 * 1024 + n.val); omega
theorem ug_apply (c : Dev nD) (t : Fin cfg0.N) (a : Fin 1024) (n : Fin 1024) :
    iblk m c 5 t (ix2 a n) = m ((c : Thread nD τ).loc main_arg0) (ix2 (row t a) ⟨11264 + (col t n).val, by omega⟩) := by
  blk_simp [iblk]
  rw [V_main_arg0]
  refine congrArg (m ((c : Thread nD τ).loc main_arg0)) (funext fun i => Fin.ext ?_)
  fin_cases i
  · blk_simp [index_ug] <;> rfl
  · blk_simp [index_ug]; show (11 + t.val % 2) * 1024 + n.val = 11264 + (t.val % 2 * 1024 + n.val); omega

/-- The array after the run. -/
theorem final (c : Dev nD) : (dats m 0 c).arrAt 6 cfg0.N
    = merge (M := 8192) (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 6 _ (by decide +kernel) fun t hf y => ?_
  blk_simp
  rw [after0_6]
  frame_out
  idx_vars y
  have he : ((win0_6.blk t).view.emb (ix2 y0 y1)) = ix2 (row t y0) (col t y1) := by
    refine funext fun i => Fin.ext ?_
    fin_cases i
    · blk_simp [index_o] <;> rfl
    · blk_simp [index_o] <;> rfl
  refine (pay_merge _ _ _ _ _ _ _ _ _ _ _ y0 y1 _ _ (up_apply m c t y0 y1) (ug_apply m c t y0 y1) (p_apply m c t y0) (g_apply m c t y0)
    (fun k => (wp_apply m c t k y1).trans (V_v1 m c k _)) fun k => (wg_apply m c t k y1).trans (V_v3 m c k _)).trans ?_
  exact congrArg (merge (M := 8192) _ _ _ _ _) he.symm

/-- The run, its result named. -/
theorem run : θ_run defs (onTc (τ := τ) (main (F := Ideal))) ⟨m, fun _ => 0, ρ⟩ fun r => ∀ c : Dev nD,
    r.2.mem ((c : Thread nD τ).loc main_v4) = merge (M := 8192) (m ((c : Thread nD τ).loc main_arg0)) (m ((c : Thread nD τ).loc main_arg1)) (m ((c : Thread nD τ).loc main_arg2)) (m ((c : Thread nD τ).loc main_arg3))
        (m ((c : Thread nD τ).loc main_arg4)) :=
  (θ_run defs _ _).mono (fun _ h c => (h c).1.trans (final m c)) (Value.run_blocks m ρ)

end Cert.Proof.Merge

end
-- ==== Proof.Merge.Reference.lean ====
/-
  The plain merge of the two mixers' results, read at an index, is the kernel's.
-/
module

public import proofs.«01_k».proof.Proof.Layer
public import proofs.«01_k».proof.Proof.Gen.RefMergeIdeal.Run
public import Idealize.ShloMosaic.Lib.ValueLayout

@[expose] public section

set_option maxRecDepth 16384

noncomputable section

namespace Cert.Proof.MergeRef

open Cert.RefMergeIdeal Cert.RefMergeIdeal.Gen Cert.Proof.Layer
open Idealize.ShloMosaic Idealize.ShloMosaic.TcCoe Idealize.ShloMosaic.Tactic
open Idealize.SL Idealize.SL.Sem

variable (u : S8192x13312.Idx → Elt Ideal .f32) (p : S8192x1024.Idx → Elt Ideal .bf16) (g : S8192x2048.Idx → Elt Ideal .bf16)
variable (wp : S1x1024x2048.Idx → Elt Ideal .f32) (wg : S1x2048x2048.Idx → Elt Ideal .f32)

/-- The row that row `t` of sequence `b` is. -/
def row (b : Fin 4) (t : Fin 2048) : Fin 8192 := ⟨b.val * 2048 + t.val, by omega⟩

/-- The pooled branch's gate. -/
def gateP : FVec Ideal S4x2048x2048 .f32 :=
  Host.divf (broadcastInDim S4x2048x2048 ![] bcast_S_S4x2048x2048 (constant (F := Ideal) S_ .f32 0x3F800000#32))
    (addf (broadcastInDim S4x2048x2048 ![] bcast_S_S4x2048x2048 (constant (F := Ideal) S_ .f32 0x3F800000#32))
      (Host.exp (Host.negf (extractStridedSlice S4x2048x2048 ![0, 0, 9216] (shapeCast _ u shapeCasts_S8192x13312_S4x2048x13312) slices_S4x2048x13312_S4x2048x2048_0_0_9216))))

theorem gateP_apply (b : Fin 4) (t n : Fin 2048) : gateP u (ix3 b t n) = Ideal.logistic (u (ix2 (row b t) ⟨9216 + n.val, by omega⟩)) := by
  unfold gateP
  pointwise
  rfl

/-- The delta rule's gate. -/
def gateG : FVec Ideal S4x2048x2048 .f32 :=
  Host.divf (broadcastInDim S4x2048x2048 ![] bcast_S_S4x2048x2048 (constant (F := Ideal) S_ .f32 0x3F800000#32))
    (addf (broadcastInDim S4x2048x2048 ![] bcast_S_S4x2048x2048 (constant (F := Ideal) S_ .f32 0x3F800000#32))
      (Host.exp (Host.negf (extractStridedSlice S4x2048x2048 ![0, 0, 11264] (shapeCast _ u shapeCasts_S8192x13312_S4x2048x13312) slices_S4x2048x13312_S4x2048x2048_0_0_11264))))

theorem gateG_apply (b : Fin 4) (t n : Fin 2048) : gateG u (ix3 b t n) = Ideal.logistic (u (ix2 (row b t) ⟨11264 + n.val, by omega⟩)) := by
  unfold gateG
  pointwise
  rfl

/-- The pooled branch projected up. -/
def upP : FVec Ideal S4x2048x2048 .f32 :=
  Host.dotGeneral (F := Ideal) (φ₁ := .f32) (φ₂ := .f32) dot_S4x2048x1024_S1024x2048_S4x2048x2048_2_0_01_1_n_n none
    (extf .f32 (shapeCast _ p shapeCasts_S8192x1024_S4x2048x1024) bitsLt_bf16_f32) (shapeCast _ wp shapeCasts_S1x1024x2048_S1024x2048)

theorem upP_apply (b : Fin 4) (t n : Fin 2048) : upP p wp (ix3 b t n) = dot (fun k => p (ix2 (row b t) k)) fun k => wp (ix3 0 k n) := by
  unfold upP dot
  pointwise
  rfl

/-- The delta rule's branch projected up. -/
def upG : FVec Ideal S4x2048x2048 .f32 :=
  Host.dotGeneral (F := Ideal) (φ₁ := .f32) (φ₂ := .f32) dot_S4x2048x2048_S2048x2048_S4x2048x2048_2_0_01_1_n_n none
    (extf .f32 (shapeCast _ g shapeCasts_S8192x2048_S4x2048x2048) bitsLt_bf16_f32) (shapeCast _ wg shapeCasts_S1x2048x2048_S2048x2048)

theorem upG_apply (b : Fin 4) (t n : Fin 2048) : upG g wg (ix3 b t n) = dot (fun k => g (ix2 (row b t) k)) fun k => wg (ix3 0 k n) := by
  unfold upG dot
  pointwise
  rfl

/-- The whole result. -/
def result : FVec Ideal S8192x2048 .bf16 :=
  truncf .bf16 (shapeCast S8192x2048 (addf (mulf (gateP u) (upP p wp)) (mulf (gateG u) (upG g wg))) shapeCasts_S4x2048x2048_S8192x2048) bitsLt_bf16_f32

theorem result_eq : result u p g wp wg = merge (M := 8192) u p g wp wg := by
  funext i
  idx_vars i
  unfold merge result
  pointwise
  simp only [gateP_apply, gateG_apply, upP_apply, upG_apply]
  have hr : row ⟨i0.val / 2048, by omega⟩ ⟨i0.val % 2048, by omega⟩ = i0 := Fin.ext (by dsimp only [row]; omega)
  simp only [hr]

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = merge (M := 8192) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
  (θ_run defs _ _).mono (fun _ h c => (h c).1.trans (Eq.trans (by unfold result gateP gateG upP upG; rfl) (result_eq _ _ _ _ _))) (Value.run m ρ)

end Cert.Proof.MergeRef

end
-- ==== Proof.MergeS.Value.lean ====
/-
  What the merged mixers' array holds after the run on the samples, in exact arithmetic.
-/
module

public import proofs.«01_k».proof.Proof.Layer
public import proofs.«01_k».proof.Proof.Gen.MergeSIdeal.Value
public import Idealize.ShloMosaic.Lib.ValueLayout

@[expose] public section

set_option maxRecDepth 16384

noncomputable section

namespace Cert.Proof.MergeS

open Cert.MergeSIdeal Cert.MergeSIdeal.Gen Cert.Proof.Layer
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The stored value at an index. -/
theorem pay_apply (up : Vec Ideal S128x1024 .f32) (p : Vec Ideal S128x1024 .bf16) (wp : Vec Ideal S1024x1024 .bf16) (ug : Vec Ideal S128x1024 .f32)
    (g : Vec Ideal S128x2048 .bf16) (wg : Vec Ideal S2048x1024 .bf16) (a : Fin 128) (n : Fin 1024) :
    k0_pay1 up p wp ug g wg (ix2 a n) = (Ideal.logistic (up (ix2 a n)) * dot (fun k => p (ix2 a k)) (fun k => wp (ix2 k n))
      + Ideal.logistic (ug (ix2 a n)) * dot (fun k => g (ix2 a k)) (fun k => wg (ix2 k n)) : EReal) := by
  unfold k0_pay1 dot
  pointwise

/-- … which is the result's entry where the operands are the arrays' rows and columns. -/
theorem pay_merge (up : Vec Ideal S128x1024 .f32) (p : Vec Ideal S128x1024 .bf16) (wp : Vec Ideal S1024x1024 .bf16) (ug : Vec Ideal S128x1024 .f32)
    (g : Vec Ideal S128x2048 .bf16) (wg : Vec Ideal S2048x1024 .bf16) (U : S128x13312.Idx → EReal) (P : S128x1024.Idx → EReal) (G : S128x2048.Idx → EReal)
    (WP : S1x1024x2048.Idx → EReal) (WG : S1x2048x2048.Idx → EReal) (a : Fin 128) (n : Fin 1024) (r : Fin 128) (q : Fin 2048)
    (hup : up (ix2 a n) = U (ix2 r ⟨9216 + q.val, by omega⟩)) (hug : ug (ix2 a n) = U (ix2 r ⟨11264 + q.val, by omega⟩))
    (hp : ∀ k, p (ix2 a k) = P (ix2 r k)) (hg : ∀ k, g (ix2 a k) = G (ix2 r k)) (hwp : ∀ k, wp (ix2 k n) = WP (ix3 0 k q))
    (hwg : ∀ k, wg (ix2 k n) = WG (ix3 0 k q)) : k0_pay1 up p wp ug g wg (ix2 a n) = merge (M := 128) U P G WP WG (ix2 r q) := by
  rw [pay_apply]
  simp only [hup, hug, hp, hg, hwp, hwg]
  rfl

/-! ## The arrays the region reads -/

theorem flat_p (w : S1x1024x2048.Idx → Elt Ideal .f32) (k : Fin 1024) (n : Fin 2048) :
    truncf (F := Ideal) .bf16 (shapeCast S1024x2048 w shapeCasts_S1x1024x2048_S1024x2048) bitsLt_bf16_f32 (ix2 k n) = w (ix3 0 k n) := by
  pointwise
theorem flat_g (w : S1x2048x2048.Idx → Elt Ideal .f32) (k n : Fin 2048) :
    truncf (F := Ideal) .bf16 (shapeCast S2048x2048 w shapeCasts_S1x2048x2048_S2048x2048) bitsLt_bf16_f32 (ix2 k n) = w (ix3 0 k n) := by
  pointwise
theorem V_v1 (c : Dev nD) (k : Fin 1024) (n : Fin 2048) : V m c main_v1 (ix2 k n) = m ((c : Thread nD τ).loc main_arg3) (ix3 0 k n) := by
  have e : V m c main_v1 = truncf (F := Ideal) .bf16 (shapeCast S1024x2048 (m ((c : Thread nD τ).loc main_arg3)) shapeCasts_S1x1024x2048_S1024x2048) bitsLt_bf16_f32 := by
    simp only [V, hostOps0]
    after_results_simp <;> rfl
  exact (congrFun e _).trans (flat_p _ k n)
theorem V_v3 (c : Dev nD) (k n : Fin 2048) : V m c main_v3 (ix2 k n) = m ((c : Thread nD τ).loc main_arg4) (ix3 0 k n) := by
  have e : V m c main_v3 = truncf (F := Ideal) .bf16 (shapeCast S2048x2048 (m ((c : Thread nD τ).loc main_arg4)) shapeCasts_S1x2048x2048_S2048x2048) bitsLt_bf16_f32 := by
    simp only [V, hostOps0]
    after_results_simp <;> rfl
  exact (congrFun e _).trans (flat_g _ k n)

/-! ## The blocks a grid point reads -/

theorem lt_N (t : Fin cfg0.N) : t.val < 2 := lt_of_lt_of_eq t.isLt (show cfg0.N = 2 from N_0)

theorem index_p : ∀ t : Fin cfg0.N, win0_0.index t = ![t.val / 2, 0] := (by decide +kernel : ∀ t : Fin grid0.N, win0_0.index t = ![t.val / 2, 0])
theorem index_g : ∀ t : Fin cfg0.N, win0_1.index t = ![t.val / 2, 0] := (by decide +kernel : ∀ t : Fin grid0.N, win0_1.index t = ![t.val / 2, 0])
theorem index_wp : ∀ t : Fin cfg0.N, win0_2.index t = ![0, t.val % 2] := (by decide +kernel : ∀ t : Fin grid0.N, win0_2.index t = ![0, t.val % 2])
theorem index_wg : ∀ t : Fin cfg0.N, win0_3.index t = ![0, t.val % 2] := (by decide +kernel : ∀ t : Fin grid0.N, win0_3.index t = ![0, t.val % 2])
theorem index_up : ∀ t : Fin cfg0.N, win0_4.index t = ![t.val / 2, 9 + t.val % 2] := (by decide +kernel : ∀ t : Fin grid0.N, win0_4.index t = ![t.val / 2, 9 + t.val % 2])
theorem index_ug : ∀ t : Fin cfg0.N, win0_5.index t = ![t.val / 2, 11 + t.val % 2] := (by decide +kernel : ∀ t : Fin grid0.N, win0_5.index t = ![t.val / 2, 11 + t.val % 2])
theorem index_o : ∀ t : Fin cfg0.N, win0_6.index t = ![t.val / 2, t.val % 2] := (by decide +kernel : ∀ t : Fin grid0.N, win0_6.index t = ![t.val / 2, t.val % 2])

/-- The row of the whole array that row `a` of point `t`'s block is. -/
def row (t : Fin cfg0.N) (a : Fin 128) : Fin 128 := ⟨t.val / 2 * 128 + a.val, by have := lt_N t; omega⟩
/-- The column that column `n` of point `t`'s block is. -/
def col (t : Fin cfg0.N) (n : Fin 1024) : Fin 2048 := ⟨t.val % 2 * 1024 + n.val, by omega⟩

theorem p_apply (c : Dev nD) (t : Fin cfg0.N) (a : Fin 128) (k : Fin 1024) :
    iblk m c 0 t (ix2 a k) = m ((c : Thread nD τ).loc main_arg1) (ix2 (row t a) k) := by
  blk_simp [iblk]
  rw [V_main_arg1]
  refine congrArg (m ((c : Thread nD τ).loc main_arg1)) (funext fun i => Fin.ext ?_)
  fin_cases i
  · blk_simp [index_p] <;> rfl
  · blk_simp [index_p] <;> rfl
theorem g_apply (c : Dev nD) (t : Fin cfg0.N) (a : Fin 128) (k : Fin 2048) :
    iblk m c 1 t (ix2 a k) = m ((c : Thread nD τ).loc main_arg2) (ix2 (row t a) k) := by
  blk_simp [iblk]
  rw [V_main_arg2]
  refine congrArg (m ((c : Thread nD τ).loc main_arg2)) (funext fun i => Fin.ext ?_)
  fin_cases i
  · blk_simp [index_g] <;> rfl
  · blk_simp [index_g] <;> rfl
theorem wp_apply (c : Dev nD) (t : Fin cfg0.N) (k : Fin 1024) (n : Fin 1024) :
    iblk m c 2 t (ix2 k n) = V m c main_v1 (ix2 k (col t n)) := by
  blk_simp [iblk]
  refine congrArg (V m c main_v1) (funext fun i => Fin.ext ?_)
  fin_cases i
  · blk_simp [index_wp] <;> rfl
  · blk_simp [index_wp] <;> rfl
theorem wg_apply (c : Dev nD) (t : Fin cfg0.N) (k : Fin 2048) (n : Fin 1024) :
    iblk m c 3 t (ix2 k n) = V m c main_v3 (ix2 k (col t n)) := by
  blk_simp [iblk]
  refine congrArg (V m c main_v3) (funext fun i => Fin.ext ?_)
  fin_cases i
  · blk_simp [index_wg] <;> rfl
  · blk_simp [index_wg] <;> rfl
theorem up_apply (c : Dev nD) (t : Fin cfg0.N) (a : Fin 128) (n : Fin 1024) :
    iblk m c 4 t (ix2 a n) = m ((c : Thread nD τ).loc main_arg0) (ix2 (row t a) ⟨9216 + (col t n).val, by omega⟩) := by
  blk_simp [iblk]
  rw [V_main_arg0]
  refine congrArg (m ((c : Thread nD τ).loc main_arg0)) (funext fun i => Fin.ext ?_)
  fin_cases i
  · blk_simp [index_up] <;> rfl
  · blk_simp [index_up]; show (9 + t.val % 2) * 1024 + n.val = 9216 + (t.val % 2 * 1024 + n.val); omega
theorem ug_apply (c : Dev nD) (t : Fin cfg0.N) (a : Fin 128) (n : Fin 1024) :
    iblk m c 5 t (ix2 a n) = m ((c : Thread nD τ).loc main_arg0) (ix2 (row t a) ⟨11264 + (col t n).val, by omega⟩) := by
  blk_simp [iblk]
  rw [V_main_arg0]
  refine congrArg (m ((c : Thread nD τ).loc main_arg0)) (funext fun i => Fin.ext ?_)
  fin_cases i
  · blk_simp [index_ug] <;> rfl
  · blk_simp [index_ug]; show (11 + t.val % 2) * 1024 + n.val = 11264 + (t.val % 2 * 1024 + n.val); omega

/-- The array after the run. -/
theorem final (c : Dev nD) : (dats m 0 c).arrAt 6 cfg0.N
    = merge (M := 128) (m ((c : Thread nD τ).loc main_arg0)) (m ((c : Thread nD τ).loc main_arg1)) (m ((c : Thread nD τ).loc main_arg2)) (m ((c : Thread nD τ).loc main_arg3))
        (m ((c : Thread nD τ).loc main_arg4)) := by
  refine (dats m 0 c).arrAt_eq_of_covers 6 _ (by decide +kernel) fun t hf y => ?_
  blk_simp
  rw [after0_6]
  frame_out
  idx_vars y
  have he : ((win0_6.blk t).view.emb (ix2 y0 y1)) = ix2 (row t y0) (col t y1) := by
    refine funext fun i => Fin.ext ?_
    fin_cases i
    · blk_simp [index_o] <;> rfl
    · blk_simp [index_o] <;> rfl
  refine (pay_merge _ _ _ _ _ _ _ _ _ _ _ y0 y1 _ _ (up_apply m c t y0 y1) (ug_apply m c t y0 y1) (p_apply m c t y0) (g_apply m c t y0)
    (fun k => (wp_apply m c t k y1).trans (V_v1 m c k _)) fun k => (wg_apply m c t k y1).trans (V_v3 m c k _)).trans ?_
  exact congrArg (merge (M := 128) _ _ _ _ _) he.symm

/-- The run, its result named. -/
theorem run : θ_run defs (onTc (τ := τ) (main (F := Ideal))) ⟨m, fun _ => 0, ρ⟩ fun r => ∀ c : Dev nD,
    r.2.mem ((c : Thread nD τ).loc main_v4) = merge (M := 128) (m ((c : Thread nD τ).loc main_arg0)) (m ((c : Thread nD τ).loc main_arg1)) (m ((c : Thread nD τ).loc main_arg2)) (m ((c : Thread nD τ).loc main_arg3))
        (m ((c : Thread nD τ).loc main_arg4)) :=
  (θ_run defs _ _).mono (fun _ h c => (h c).1.trans (final m c)) (Value.run_blocks m ρ)

end Cert.Proof.MergeS

end
-- ==== Proof.MergeS.Reference.lean ====
/-
  The plain merge of the two mixers' results on the samples, read at an index, is the kernel's.
-/
module

public import proofs.«01_k».proof.Proof.Layer
public import proofs.«01_k».proof.Proof.Gen.RefMergeSIdeal.Run
public import Idealize.ShloMosaic.Lib.ValueLayout

@[expose] public section

set_option maxRecDepth 16384

noncomputable section

namespace Cert.Proof.MergeSRef

open Cert.RefMergeSIdeal Cert.RefMergeSIdeal.Gen Cert.Proof.Layer
open Idealize.ShloMosaic Idealize.ShloMosaic.TcCoe Idealize.ShloMosaic.Tactic
open Idealize.SL Idealize.SL.Sem

variable (u : S128x13312.Idx → Elt Ideal .f32) (p : S128x1024.Idx → Elt Ideal .bf16) (g : S128x2048.Idx → Elt Ideal .bf16)
variable (wp : S1x1024x2048.Idx → Elt Ideal .f32) (wg : S1x2048x2048.Idx → Elt Ideal .f32)

/-- The row that sample `b` is. -/
def row (b : Fin 128) (t : Fin 1) : Fin 128 := b

/-- The pooled branch's gate. -/
def gateP : FVec Ideal S128x1x2048 .f32 :=
  Host.divf (broadcastInDim S128x1x2048 ![] bcast_S_S128x1x2048 (constant (F := Ideal) S_ .f32 0x3F800000#32))
    (addf (broadcastInDim S128x1x2048 ![] bcast_S_S128x1x2048 (constant (F := Ideal) S_ .f32 0x3F800000#32))
      (Host.exp (Host.negf (extractStridedSlice S128x1x2048 ![0, 0, 9216] (shapeCast _ u shapeCasts_S128x13312_S128x1x13312) slices_S128x1x13312_S128x1x2048_0_0_9216))))

theorem gateP_apply (b : Fin 128) (t : Fin 1) (n : Fin 2048) : gateP u (ix3 b t n) = Ideal.logistic (u (ix2 (row b t) ⟨9216 + n.val, by omega⟩)) := by
  unfold gateP
  pointwise
  rfl

/-- The delta rule's gate. -/
def gateG : FVec Ideal S128x1x2048 .f32 :=
  Host.divf (broadcastInDim S128x1x2048 ![] bcast_S_S128x1x2048 (constant (F := Ideal) S_ .f32 0x3F800000#32))
    (addf (broadcastInDim S128x1x2048 ![] bcast_S_S128x1x2048 (constant (F := Ideal) S_ .f32 0x3F800000#32))
      (Host.exp (Host.negf (extractStridedSlice S128x1x2048 ![0, 0, 11264] (shapeCast _ u shapeCasts_S128x13312_S128x1x13312) slices_S128x1x13312_S128x1x2048_0_0_11264))))

theorem gateG_apply (b : Fin 128) (t : Fin 1) (n : Fin 2048) : gateG u (ix3 b t n) = Ideal.logistic (u (ix2 (row b t) ⟨11264 + n.val, by omega⟩)) := by
  unfold gateG
  pointwise
  rfl

/-- The pooled branch projected up. -/
def upP : FVec Ideal S128x1x2048 .f32 :=
  Host.dotGeneral (F := Ideal) (φ₁ := .f32) (φ₂ := .f32) dot_S128x1x1024_S1024x2048_S128x1x2048_2_0_01_1_n_n none
    (extf .f32 (shapeCast _ p shapeCasts_S128x1024_S128x1x1024) bitsLt_bf16_f32) (shapeCast _ wp shapeCasts_S1x1024x2048_S1024x2048)

theorem upP_apply (b : Fin 128) (t : Fin 1) (n : Fin 2048) : upP p wp (ix3 b t n) = dot (fun k => p (ix2 (row b t) k)) fun k => wp (ix3 0 k n) := by
  unfold upP dot
  pointwise
  rfl

/-- The delta rule's branch projected up. -/
def upG : FVec Ideal S128x1x2048 .f32 :=
  Host.dotGeneral (F := Ideal) (φ₁ := .f32) (φ₂ := .f32) dot_S128x1x2048_S2048x2048_S128x1x2048_2_0_01_1_n_n none
    (extf .f32 (shapeCast _ g shapeCasts_S128x2048_S128x1x2048) bitsLt_bf16_f32) (shapeCast _ wg shapeCasts_S1x2048x2048_S2048x2048)

theorem upG_apply (b : Fin 128) (t : Fin 1) (n : Fin 2048) : upG g wg (ix3 b t n) = dot (fun k => g (ix2 (row b t) k)) fun k => wg (ix3 0 k n) := by
  unfold upG dot
  pointwise
  rfl

/-- The whole result. -/
def result : FVec Ideal S128x2048 .bf16 :=
  truncf .bf16 (shapeCast S128x2048 (addf (mulf (gateP u) (upP p wp)) (mulf (gateG u) (upG g wg))) shapeCasts_S128x1x2048_S128x2048) bitsLt_bf16_f32

theorem result_eq : result u p g wp wg = merge (M := 128) u p g wp wg := by
  funext i
  idx_vars i
  unfold merge result
  pointwise
  simp only [gateP_apply, gateG_apply, upP_apply, upG_apply]
  rfl

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v27) = merge (M := 128) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) :=
  (θ_run defs _ _).mono (fun _ h c => (h c).1.trans (Eq.trans (by unfold result gateP gateG upP upG; rfl) (result_eq _ _ _ _ _))) (Value.run m ρ)

end Cert.Proof.MergeSRef

end
-- ==== Proof.NormIn.Value.lean ====
/-
  What the first norm's two arrays hold after the run, in exact arithmetic.
-/
module

public import proofs.«01_k».proof.Proof.Layer
public import proofs.«01_k».proof.Proof.Gen.NormInIdeal.Value
public import Idealize.ShloMosaic.Lib.ValueLayout

@[expose] public section

set_option maxRecDepth 16384

noncomputable section

namespace Cert.Proof.NormIn

open Cert.NormInIdeal Cert.NormInIdeal.Gen Cert.Proof.Layer
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The first stored value at an index: the normalised row. -/
theorem pay1_apply (x : Vec Ideal S1024x2048 .f32) (g : Vec Ideal S1x2048 .f32) (a : Fin 1024) (k : Fin 2048) :
    k0_pay1 x g (ix2 a k) = rms (fun j => x (ix2 a j)) (fun j => g (ix2 0 j)) k := by
  unfold k0_pay1 rms
  pointwise

/-- The second: the normalised row against 128 rows of the transposed weights. -/
theorem pay2_apply (x : Vec Ideal S1024x2048 .f32) (g : Vec Ideal S1x2048 .f32) (w : Vec Ideal S128x2048 .f32) (a : Fin 1024) (n : Fin 128) :
    k0_pay2 x g w (ix2 a n) = dot (rms (fun j => x (ix2 a j)) fun j => g (ix2 0 j)) fun k => w (ix2 n k) := by
  unfold k0_pay2 dot
  pointwise
  simp only [pay1_apply]

/-- … which are the results' entries where the operands are the arrays' rows. -/
theorem pay1_normed (x : Vec Ideal S1024x2048 .f32) (g : Vec Ideal S1x2048 .f32) (X : S8192x2048.Idx → EReal) (G : S1x2048.Idx → EReal)
    (a : Fin 1024) (k : Fin 2048) (r : Fin 8192) (hx : ∀ j, x (ix2 a j) = X (ix2 r j)) (hg : ∀ j, g (ix2 0 j) = G (ix2 0 j)) :
    k0_pay1 x g (ix2 a k) = normed (M := 8192) X G (ix2 r k) := by
  rw [pay1_apply]
  simp only [hx, hg]
  rfl
theorem pay2_rates (x : Vec Ideal S1024x2048 .f32) (g : Vec Ideal S1x2048 .f32) (w : Vec Ideal S128x2048 .f32) (X : S8192x2048.Idx → EReal)
    (G : S1x2048.Idx → EReal) (W : S1x2048x13344.Idx → EReal) (a : Fin 1024) (n : Fin 128) (r : Fin 8192) (hx : ∀ j, x (ix2 a j) = X (ix2 r j))
    (hg : ∀ j, g (ix2 0 j) = G (ix2 0 j)) (hw : ∀ k, w (ix2 n k) = W (ix3 0 k ⟨9216 + n.val, by omega⟩)) :
    k0_pay2 x g w (ix2 a n) = rates (M := 8192) X G W (ix2 r n) := by
  rw [pay2_apply]
  simp only [hx, hg, hw]
  rfl

/-! ## The blocks a grid point reads -/

theorem flat_w (w : S1x2048x13344.Idx → Elt Ideal .f32) (n : Fin 13344) (k : Fin 2048) :
    transpose S13344x2048 [1, 0] (shapeCast S2048x13344 w shapeCasts_S1x2048x13344_S2048x13344) transposes_S2048x13344_S13344x2048_1_0 (ix2 n k) = w (ix3 0 k n) := by
  pointwise
theorem V_v1 (c : Dev nD) (n : Fin 13344) (k : Fin 2048) : V m c main_v1 (ix2 n k) = m ((c : Thread nD τ).loc main_arg2) (ix3 0 k n) := by
  have e : V m c main_v1 = transpose S13344x2048 [1, 0] (shapeCast S2048x13344 (m ((c : Thread nD τ).loc main_arg2)) shapeCasts_S1x2048x13344_S2048x13344) transposes_S2048x13344_S13344x2048_1_0 := by
    simp only [V, hostOps0]
    after_results_simp <;> rfl
  exact (congrFun e _).trans (flat_w _ n k)

theorem lt_N (t : Fin cfg0.N) : t.val < 8 := lt_of_lt_of_eq t.isLt (show cfg0.N = 8 from N_0)

theorem index_x : ∀ t : Fin cfg0.N, win0_0.index t = ![t.val, 0] := (by decide +kernel : ∀ t : Fin grid0.N, win0_0.index t = ![t.val, 0])
theorem index_g : ∀ t : Fin cfg0.N, win0_1.index t = ![0, 0] := (by decide +kernel : ∀ t : Fin grid0.N, win0_1.index t = ![0, 0])
theorem index_w : ∀ t : Fin cfg0.N, win0_2.index t = ![72, 0] := (by decide +kernel : ∀ t : Fin grid0.N, win0_2.index t = ![72, 0])
theorem index_h : ∀ t : Fin cfg0.N, win0_3.index t = ![t.val, 0] := (by decide +kernel : ∀ t : Fin grid0.N, win0_3.index t = ![t.val, 0])
theorem index_ab : ∀ t : Fin cfg0.N, win0_4.index t = ![t.val, 0] := (by decide +kernel : ∀ t : Fin grid0.N, win0_4.index t = ![t.val, 0])

/-- The row of the whole array that row `a` of point `t`'s block is. -/
def row (t : Fin cfg0.N) (a : Fin 1024) : Fin 8192 := ⟨t.val * 1024 + a.val, by have := lt_N t; omega⟩

theorem x_apply (c : Dev nD) (t : Fin cfg0.N) (a : Fin 1024) (k : Fin 2048) :
    iblk m c 0 t (ix2 a k) = m ((c : Thread nD τ).loc main_arg0) (ix2 (row t a) k) := by
  blk_simp [iblk]
  rw [V_main_arg0]
  refine congrArg (m ((c : Thread nD τ).loc main_arg0)) (funext fun i => Fin.ext ?_)
  fin_cases i
  · blk_simp [index_x] <;> rfl
  · blk_simp [index_x] <;> rfl
theorem g_apply (c : Dev nD) (t : Fin cfg0.N) (k : Fin 2048) :
    iblk m c 1 t (ix2 0 k) = m ((c : Thread nD τ).loc main_arg1) (ix2 0 k) := by
  blk_simp [iblk]
  rw [V_main_arg1]
  refine congrArg (m ((c : Thread nD τ).loc main_arg1)) (funext fun i => Fin.ext ?_)
  fin_cases i
  · blk_simp [index_g] <;> rfl
  · blk_simp [index_g] <;> rfl
/-- The third block is rows 9216 to 9343 of the transposed weights, inside the array. -/
theorem w_apply (c : Dev nD) (t : Fin cfg0.N) (n : Fin 128) (k : Fin 2048) :
    X0_2 m c t (ix2 n k) = V m c main_v1 (ix2 ⟨9216 + n.val, by omega⟩ k) := by
  unfold X0_2 Pipeline.Window.fill
  rw [dif_pos (moved0_2 t _)]
  blk_simp [iblk]
  refine congrArg (V m c main_v1) (funext fun i => Fin.ext ?_)
  fin_cases i
  · blk_simp [index_w] <;> rfl
  · blk_simp [index_w] <;> rfl

/-- The normalised rows after the run. -/
theorem final_h (c : Dev nD) : (dats m 0 c).arrAt 3 cfg0.N = normed (M := 8192) (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  frame_out
  idx_vars y
  have he : ((win0_3.blk t).view.emb (ix2 y0 y1)) = ix2 (row t y0) y1 := by
    refine funext fun i => Fin.ext ?_
    fin_cases i
    · blk_simp [index_h] <;> rfl
    · blk_simp [index_h] <;> rfl
  refine (pay1_normed _ _ _ _ y0 y1 _ (x_apply m c t y0) (g_apply m c t)).trans ?_
  exact congrArg (normed (M := 8192) _ _) he.symm

/-- The rates after the run. -/
theorem final_ab (c : Dev nD) : (dats m 0 c).arrAt 4 cfg0.N = rates (M := 8192) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  frame_out
  idx_vars y
  have he : ((win0_4.blk t).view.emb (ix2 y0 y1)) = ix2 (row t y0) y1 := by
    refine funext fun i => Fin.ext ?_
    fin_cases i
    · blk_simp [index_ab] <;> rfl
    · blk_simp [index_ab] <;> rfl
  refine (pay2_rates _ _ _ _ _ _ y0 y1 _ (x_apply m c t y0) (g_apply m c t) fun k => (w_apply m c t y1 k).trans (V_v1 m c _ k)).trans ?_
  exact congrArg (rates (M := 8192) _ _ _) he.symm

/-- The run, its results named. -/
theorem run : θ_run defs (onTc (τ := τ) (main (F := Ideal))) ⟨m, fun _ => 0, ρ⟩ fun r => ∀ c : Dev nD,
    r.2.mem ((c : Thread nD τ).loc main_v2_0) = normed (M := 8192) (m ((c : Thread nD τ).loc main_arg0)) (m ((c : Thread nD τ).loc main_arg1))
    ∧ r.2.mem ((c : Thread nD τ).loc main_v2_1) = rates (M := 8192) (m ((c : Thread nD τ).loc main_arg0)) (m ((c : Thread nD τ).loc main_arg1)) (m ((c : Thread nD τ).loc main_arg2)) :=
  (θ_run defs _ _).mono (fun _ h c => ⟨(h c).1.trans (final_h m c), (h c).2.1.trans (final_ab m c)⟩) (Value.run_blocks m ρ)

end Cert.Proof.NormIn

end
-- ==== Proof.NormIn.Reference.lean ====
/-
  The plain first norm's results, read at an index, are the kernel's.
-/
module

public import proofs.«01_k».proof.Proof.Layer
public import proofs.«01_k».proof.Proof.Gen.RefNormInIdeal.Run
public import Idealize.ShloMosaic.Lib.ValueLayout

@[expose] public section

set_option maxRecDepth 16384

noncomputable section

namespace Cert.Proof.NormInRef

open Cert.RefNormInIdeal Cert.RefNormInIdeal.Gen Cert.Proof.Layer
open Idealize.ShloMosaic Idealize.ShloMosaic.TcCoe Idealize.ShloMosaic.Tactic
open Idealize.SL Idealize.SL.Sem

variable (x : S8192x2048.Idx → Elt Ideal .f32) (g : S1x2048.Idx → Elt Ideal .f32) (w : S1x2048x13344.Idx → Elt Ideal .f32)

/-- The row that row `t` of sequence `b` is. -/
def row (b : Fin 4) (t : Fin 2048) : Fin 8192 := ⟨b.val * 2048 + t.val, by omega⟩

/-- The normalised activations. -/
def rows : FVec Ideal S4x2048x2048 .f32 :=
  mulf (mulf (shapeCast S4x2048x2048 x shapeCasts_S8192x2048_S4x2048x2048)
    (broadcastInDim S4x2048x2048 ![0, 1, 2] bcast_S4x2048x1_S4x2048x2048_0_1_2
      (Host.rsqrt (addf (Host.divf
        (broadcastInDim S4x2048x1 ![0, 1] bcast_S4x2048_S4x2048x1_0_1
          (Host.reduceAdd (mulf (shapeCast S4x2048x2048 x shapeCasts_S8192x2048_S4x2048x2048) (shapeCast S4x2048x2048 x shapeCasts_S8192x2048_S4x2048x2048))
            (constant (F := Ideal) S_ .f32 0x00000000#32) reducesTo_S4x2048x2048_S4x2048_d2 h_S_))
        (broadcastInDim S4x2048x1 ![] bcast_S_S4x2048x1 (constant (F := Ideal) S_ .f32 0x45000000#32)))
        (broadcastInDim S4x2048x1 ![] bcast_S_S4x2048x1 (constant (F := Ideal) S_ .f32 0x358637BD#32))))))
    (broadcastInDim S4x2048x2048 ![0, 1, 2] bcast_S1x1x2048_S4x2048x2048_0_1_2
      (broadcastInDim S1x1x2048 ![2] bcast_S2048_S1x1x2048_2 (shapeCast S2048 g shapeCasts_S1x2048_S2048)))

theorem rows_apply (b : Fin 4) (t k : Fin 2048) :
    rows x g (ix3 b t k) = rms (fun j => x (ix2 (row b t) j)) (fun j => g (ix2 0 j)) k := by
  unfold rows rms
  pointwise
  rfl

/-- The first result. -/
def resultH : FVec Ideal S8192x2048 .bf16 := truncf .bf16 (shapeCast S8192x2048 (rows x g) shapeCasts_S4x2048x2048_S8192x2048) bitsLt_bf16_f32

theorem resultH_eq : resultH x g = normed (M := 8192) x g := by
  funext i
  idx_vars i
  unfold normed resultH
  pointwise
  simp only [rows_apply]
  have hr : row ⟨i0.val / 2048, by omega⟩ ⟨i0.val % 2048, by omega⟩ = i0 := Fin.ext (by dsimp only [row]; omega)
  simp only [hr]

/-- The second result. -/
def resultR : FVec Ideal S8192x128 .f32 :=
  shapeCast S8192x128 (Host.dotGeneral (F := Ideal) (φ₁ := .f32) (φ₂ := .f32) dot_S4x2048x2048_S2048x128_S4x2048x128_2_0_01_1_n_n none (rows x g)
    (extractStridedSlice S2048x128 ![0, 9216] (shapeCast S2048x13344 w shapeCasts_S1x2048x13344_S2048x13344) slices_S2048x13344_S2048x128_0_9216))
    shapeCasts_S4x2048x128_S8192x128

theorem resultR_eq : resultR x g w = rates (M := 8192) x g w := by
  funext i
  idx_vars i
  unfold rates dot resultR
  pointwise
  simp only [rows_apply]
  have hr : row ⟨i0.val / 2048, by omega⟩ ⟨i0.val % 2048, by omega⟩ = i0 := Fin.ext (by dsimp only [row]; omega)
  simp only [hr]

/-- The reference's run, its results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = normed (M := 8192) (m ((c.tc : Thread nD τ).loc main_arg0)) (m ((c.tc : Thread nD τ).loc main_arg1))
      ∧ r.2.mem ((c.tc : Thread nD τ).loc main_v20) = rates (M := 8192) (m ((c.tc : Thread nD τ).loc main_arg0)) (m ((c.tc : Thread nD τ).loc main_arg1)) (m ((c.tc : Thread nD τ).loc main_arg2)) :=
  (θ_run defs _ _).mono (fun _ h c => ⟨(h c).1.trans (Eq.trans (by unfold resultH rows; rfl) (resultH_eq _ _)),
    (h c).2.1.trans (Eq.trans (by unfold resultR rows; rfl) (resultR_eq _ _ _))⟩) (Value.run m ρ)

end Cert.Proof.NormInRef

end
-- ==== Proof.NormInS.Value.lean ====
/-
  What the first norm's two arrays hold after the run on the samples, in exact arithmetic.
-/
module

public import proofs.«01_k».proof.Proof.Layer
public import proofs.«01_k».proof.Proof.Gen.NormInSIdeal.Value
public import Idealize.ShloMosaic.Lib.ValueLayout

@[expose] public section

set_option maxRecDepth 16384

noncomputable section

namespace Cert.Proof.NormInS

open Cert.NormInSIdeal Cert.NormInSIdeal.Gen Cert.Proof.Layer
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The first stored value at an index: the normalised row. -/
theorem pay1_apply (x : Vec Ideal S128x2048 .f32) (g : Vec Ideal S1x2048 .f32) (a : Fin 128) (k : Fin 2048) :
    k0_pay1 x g (ix2 a k) = rms (fun j => x (ix2 a j)) (fun j => g (ix2 0 j)) k := by
  unfold k0_pay1 rms
  pointwise

/-- The second: the normalised row against 128 rows of the transposed weights. -/
theorem pay2_apply (x : Vec Ideal S128x2048 .f32) (g : Vec Ideal S1x2048 .f32) (w : Vec Ideal S128x2048 .f32) (a : Fin 128) (n : Fin 128) :
    k0_pay2 x g w (ix2 a n) = dot (rms (fun j => x (ix2 a j)) fun j => g (ix2 0 j)) fun k => w (ix2 n k) := by
  unfold k0_pay2 dot
  pointwise
  simp only [pay1_apply]

/-- … which are the results' entries where the operands are the arrays' rows. -/
theorem pay1_normed (x : Vec Ideal S128x2048 .f32) (g : Vec Ideal S1x2048 .f32) (X : S128x2048.Idx → EReal) (G : S1x2048.Idx → EReal)
    (a : Fin 128) (k : Fin 2048) (r : Fin 128) (hx : ∀ j, x (ix2 a j) = X (ix2 r j)) (hg : ∀ j, g (ix2 0 j) = G (ix2 0 j)) :
    k0_pay1 x g (ix2 a k) = normed (M := 128) X G (ix2 r k) := by
  rw [pay1_apply]
  simp only [hx, hg]
  rfl
theorem pay2_rates (x : Vec Ideal S128x2048 .f32) (g : Vec Ideal S1x2048 .f32) (w : Vec Ideal S128x2048 .f32) (X : S128x2048.Idx → EReal)
    (G : S1x2048.Idx → EReal) (W : S1x2048x13344.Idx → EReal) (a : Fin 128) (n : Fin 128) (r : Fin 128) (hx : ∀ j, x (ix2 a j) = X (ix2 r j))
    (hg : ∀ j, g (ix2 0 j) = G (ix2 0 j)) (hw : ∀ k, w (ix2 n k) = W (ix3 0 k ⟨9216 + n.val, by omega⟩)) :
    k0_pay2 x g w (ix2 a n) = rates (M := 128) X G W (ix2 r n) := by
  rw [pay2_apply]
  simp only [hx, hg, hw]
  rfl

/-! ## The blocks a grid point reads -/

theorem flat_w (w : S1x2048x13344.Idx → Elt Ideal .f32) (n : Fin 13344) (k : Fin 2048) :
    transpose S13344x2048 [1, 0] (shapeCast S2048x13344 w shapeCasts_S1x2048x13344_S2048x13344) transposes_S2048x13344_S13344x2048_1_0 (ix2 n k) = w (ix3 0 k n) := by
  pointwise
theorem V_v1 (c : Dev nD) (n : Fin 13344) (k : Fin 2048) : V m c main_v1 (ix2 n k) = m ((c : Thread nD τ).loc main_arg2) (ix3 0 k n) := by
  have e : V m c main_v1 = transpose S13344x2048 [1, 0] (shapeCast S2048x13344 (m ((c : Thread nD τ).loc main_arg2)) shapeCasts_S1x2048x13344_S2048x13344) transposes_S2048x13344_S13344x2048_1_0 := by
    simp only [V, hostOps0]
    after_results_simp <;> rfl
  exact (congrFun e _).trans (flat_w _ n k)

theorem lt_N (t : Fin cfg0.N) : t.val < 1 := lt_of_lt_of_eq t.isLt (show cfg0.N = 1 from N_0)

theorem index_x : ∀ t : Fin cfg0.N, win0_0.index t = ![t.val, 0] := (by decide +kernel : ∀ t : Fin grid0.N, win0_0.index t = ![t.val, 0])
theorem index_g : ∀ t : Fin cfg0.N, win0_1.index t = ![0, 0] := (by decide +kernel : ∀ t : Fin grid0.N, win0_1.index t = ![0, 0])
theorem index_w : ∀ t : Fin cfg0.N, win0_2.index t = ![72, 0] := (by decide +kernel : ∀ t : Fin grid0.N, win0_2.index t = ![72, 0])
theorem index_h : ∀ t : Fin cfg0.N, win0_3.index t = ![t.val, 0] := (by decide +kernel : ∀ t : Fin grid0.N, win0_3.index t = ![t.val, 0])
theorem index_ab : ∀ t : Fin cfg0.N, win0_4.index t = ![t.val, 0] := (by decide +kernel : ∀ t : Fin grid0.N, win0_4.index t = ![t.val, 0])

/-- The row of the whole array that row `a` of point `t`'s block is. -/
def row (t : Fin cfg0.N) (a : Fin 128) : Fin 128 := a

theorem x_apply (c : Dev nD) (t : Fin cfg0.N) (a : Fin 128) (k : Fin 2048) :
    iblk m c 0 t (ix2 a k) = m ((c : Thread nD τ).loc main_arg0) (ix2 (row t a) k) := by
  blk_simp [iblk]
  rw [V_main_arg0]
  refine congrArg (m ((c : Thread nD τ).loc main_arg0)) (funext fun i => Fin.ext ?_)
  fin_cases i
  · blk_simp [index_x] <;> rfl
  · blk_simp [index_x] <;> rfl
theorem g_apply (c : Dev nD) (t : Fin cfg0.N) (k : Fin 2048) :
    iblk m c 1 t (ix2 0 k) = m ((c : Thread nD τ).loc main_arg1) (ix2 0 k) := by
  blk_simp [iblk]
  rw [V_main_arg1]
  refine congrArg (m ((c : Thread nD τ).loc main_arg1)) (funext fun i => Fin.ext ?_)
  fin_cases i
  · blk_simp [index_g] <;> rfl
  · blk_simp [index_g] <;> rfl
/-- The third block is rows 9216 to 9343 of the transposed weights, inside the array. -/
theorem w_apply (c : Dev nD) (t : Fin cfg0.N) (n : Fin 128) (k : Fin 2048) :
    X0_2 m c t (ix2 n k) = V m c main_v1 (ix2 ⟨9216 + n.val, by omega⟩ k) := by
  unfold X0_2 Pipeline.Window.fill
  rw [dif_pos (moved0_2 t _)]
  blk_simp [iblk]
  refine congrArg (V m c main_v1) (funext fun i => Fin.ext ?_)
  fin_cases i
  · blk_simp [index_w] <;> rfl
  · blk_simp [index_w] <;> rfl

/-- The normalised rows after the run. -/
theorem final_h (c : Dev nD) : (dats m 0 c).arrAt 3 cfg0.N = normed (M := 128) (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  frame_out
  idx_vars y
  have he : ((win0_3.blk t).view.emb (ix2 y0 y1)) = ix2 (row t y0) y1 := by
    refine funext fun i => Fin.ext ?_
    fin_cases i
    · blk_simp [index_h] <;> rfl
    · blk_simp [index_h] <;> rfl
  refine (pay1_normed _ _ _ _ y0 y1 _ (x_apply m c t y0) (g_apply m c t)).trans ?_
  exact congrArg (normed (M := 128) _ _) he.symm

/-- The rates after the run. -/
theorem final_ab (c : Dev nD) : (dats m 0 c).arrAt 4 cfg0.N = rates (M := 128) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  frame_out
  idx_vars y
  have he : ((win0_4.blk t).view.emb (ix2 y0 y1)) = ix2 (row t y0) y1 := by
    refine funext fun i => Fin.ext ?_
    fin_cases i
    · blk_simp [index_ab] <;> rfl
    · blk_simp [index_ab] <;> rfl
  refine (pay2_rates _ _ _ _ _ _ y0 y1 _ (x_apply m c t y0) (g_apply m c t) fun k => (w_apply m c t y1 k).trans (V_v1 m c _ k)).trans ?_
  exact congrArg (rates (M := 128) _ _ _) he.symm

/-- The run, its results named. -/
theorem run : θ_run defs (onTc (τ := τ) (main (F := Ideal))) ⟨m, fun _ => 0, ρ⟩ fun r => ∀ c : Dev nD,
    r.2.mem ((c : Thread nD τ).loc main_v2_0) = normed (M := 128) (m ((c : Thread nD τ).loc main_arg0)) (m ((c : Thread nD τ).loc main_arg1))
    ∧ r.2.mem ((c : Thread nD τ).loc main_v2_1) = rates (M := 128) (m ((c : Thread nD τ).loc main_arg0)) (m ((c : Thread nD τ).loc main_arg1)) (m ((c : Thread nD τ).loc main_arg2)) :=
  (θ_run defs _ _).mono (fun _ h c => ⟨(h c).1.trans (final_h m c), (h c).2.1.trans (final_ab m c)⟩) (Value.run_blocks m ρ)

end Cert.Proof.NormInS

end
-- ==== Proof.NormInS.Reference.lean ====
/-
  The plain first norm's results on the samples, read at an index, are the kernel's.
-/
module

public import proofs.«01_k».proof.Proof.Layer
public import proofs.«01_k».proof.Proof.Gen.RefNormInSIdeal.Run
public import Idealize.ShloMosaic.Lib.ValueLayout

@[expose] public section

set_option maxRecDepth 16384

noncomputable section

namespace Cert.Proof.NormInSRef

open Cert.RefNormInSIdeal Cert.RefNormInSIdeal.Gen Cert.Proof.Layer
open Idealize.ShloMosaic Idealize.ShloMosaic.TcCoe Idealize.ShloMosaic.Tactic
open Idealize.SL Idealize.SL.Sem

variable (x : S128x2048.Idx → Elt Ideal .f32) (g : S1x2048.Idx → Elt Ideal .f32) (w : S1x2048x13344.Idx → Elt Ideal .f32)

/-- The row that sample `b` is. -/
def row (b : Fin 128) (t : Fin 1) : Fin 128 := b

/-- The normalised activations. -/
def rows : FVec Ideal S128x1x2048 .f32 :=
  mulf (mulf (shapeCast S128x1x2048 x shapeCasts_S128x2048_S128x1x2048)
    (broadcastInDim S128x1x2048 ![0, 1, 2] bcast_S128x1x1_S128x1x2048_0_1_2
      (Host.rsqrt (addf (Host.divf
        (broadcastInDim S128x1x1 ![0, 1] bcast_S128x1_S128x1x1_0_1
          (Host.reduceAdd (mulf (shapeCast S128x1x2048 x shapeCasts_S128x2048_S128x1x2048) (shapeCast S128x1x2048 x shapeCasts_S128x2048_S128x1x2048))
            (constant (F := Ideal) S_ .f32 0x00000000#32) reducesTo_S128x1x2048_S128x1_d2 h_S_))
        (broadcastInDim S128x1x1 ![] bcast_S_S128x1x1 (constant (F := Ideal) S_ .f32 0x45000000#32)))
        (broadcastInDim S128x1x1 ![] bcast_S_S128x1x1 (constant (F := Ideal) S_ .f32 0x358637BD#32))))))
    (broadcastInDim S128x1x2048 ![0, 1, 2] bcast_S1x1x2048_S128x1x2048_0_1_2
      (broadcastInDim S1x1x2048 ![2] bcast_S2048_S1x1x2048_2 (shapeCast S2048 g shapeCasts_S1x2048_S2048)))

theorem rows_apply (b : Fin 128) (t : Fin 1) (k : Fin 2048) :
    rows x g (ix3 b t k) = rms (fun j => x (ix2 (row b t) j)) (fun j => g (ix2 0 j)) k := by
  unfold rows rms
  pointwise
  rfl

/-- The first result. -/
def resultH : FVec Ideal S128x2048 .bf16 := truncf .bf16 (shapeCast S128x2048 (rows x g) shapeCasts_S128x1x2048_S128x2048) bitsLt_bf16_f32

theorem resultH_eq : resultH x g = normed (M := 128) x g := by
  funext i
  idx_vars i
  unfold normed resultH
  pointwise
  simp only [rows_apply]
  rfl

/-- The second result. -/
def resultR : FVec Ideal S128x128 .f32 :=
  shapeCast S128x128 (Host.dotGeneral (F := Ideal) (φ₁ := .f32) (φ₂ := .f32) dot_S128x1x2048_S2048x128_S128x1x128_2_0_01_1_n_n none (rows x g)
    (extractStridedSlice S2048x128 ![0, 9216] (shapeCast S2048x13344 w shapeCasts_S1x2048x13344_S2048x13344) slices_S2048x13344_S2048x128_0_9216))
    shapeCasts_S128x1x128_S128x128

theorem resultR_eq : resultR x g w = rates (M := 128) x g w := by
  funext i
  idx_vars i
  unfold rates dot resultR
  pointwise
  simp only [rows_apply]
  rfl

/-- The reference's run, its results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = normed (M := 128) (m ((c.tc : Thread nD τ).loc main_arg0)) (m ((c.tc : Thread nD τ).loc main_arg1))
      ∧ r.2.mem ((c.tc : Thread nD τ).loc main_v20) = rates (M := 128) (m ((c.tc : Thread nD τ).loc main_arg0)) (m ((c.tc : Thread nD τ).loc main_arg1)) (m ((c.tc : Thread nD τ).loc main_arg2)) :=
  (θ_run defs _ _).mono (fun _ h c => ⟨(h c).1.trans (Eq.trans (by unfold resultH rows; rfl) (resultH_eq _ _)),
    (h c).2.1.trans (Eq.trans (by unfold resultR rows; rfl) (resultR_eq _ _ _))⟩) (Value.run m ρ)

end Cert.Proof.NormInSRef

end
-- ==== Proof.FfnS.Value.lean ====
/-
  What the channel mixer's array holds after the run on the samples, in exact arithmetic: the 11 blocks of hidden units, added to the
  result one grid point at a time, are the sum over all 5632.
-/
module

public import proofs.«01_k».proof.Proof.Layer
public import proofs.«01_k».proof.Proof.Gen.FfnSIdeal.Value
public import Idealize.ShloMosaic.Lib.Pipeline.ReadBack
public import Idealize.ShloMosaic.Lib.ValueLayout

@[expose] public section

set_option maxRecDepth 16384

noncomputable section

namespace Cert.Proof.FfnS

open Cert.FfnSIdeal Cert.FfnSIdeal.Gen Cert.Proof.Layer
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ## The two stored values at an index -/

/-- The kept row is the normalised row. -/
theorem pay1_apply (x : Vec Ideal S128x2048 .f32) (g : Vec Ideal S1x2048 .f32) (a : Fin 128) (k : Fin 2048) :
    k0_pay1 x g (ix2 a k) = rms (fun j => x (ix2 a j)) (fun j => g (ix2 0 j)) k := by
  unfold k0_pay1 rms
  pointwise

/-- A grid point adds its 512 hidden units against their rows of the down projection. -/
theorem pay2_apply (h : Vec Ideal S128x2048 .bf16) (wg wu : Vec Ideal S2048x512 .f32) (acc : Vec Ideal S128x2048 .f32)
    (wd : Vec Ideal S512x2048 .f32) (a : Fin 128) (n : Fin 2048) :
    k0_pay2 h wg wu acc wd (ix2 a n) = (acc (ix2 a n) + ∑ l : Fin 512, silu (dot (fun k => h (ix2 a k)) fun k => wg (ix2 k l))
      * (dot (fun k => h (ix2 a k)) fun k => wu (ix2 k l)) * wd (ix2 l n) : EReal) := by
  unfold k0_pay2 silu dot
  pointwise

/-! ## The blocks a grid point reads -/

theorem lt_N (t : Fin cfg0.N) : t.val < 11 := lt_of_lt_of_eq t.isLt (show cfg0.N = 11 from N_0)

theorem index_x : ∀ t : Fin cfg0.N, win0_0.index t = ![t.val / 11, 0] :=
  (by decide +kernel : ∀ t : Fin grid0.N, win0_0.index t = ![t.val / 11, 0])
theorem index_g : ∀ t : Fin cfg0.N, win0_1.index t = ![0, 0] :=
  (by decide +kernel : ∀ t : Fin grid0.N, win0_1.index t = ![0, 0])
theorem index_wg : ∀ t : Fin cfg0.N, win0_2.index t = ![0, t.val % 11] :=
  (by decide +kernel : ∀ t : Fin grid0.N, win0_2.index t = ![0, t.val % 11])
theorem index_wu : ∀ t : Fin cfg0.N, win0_3.index t = ![0, 11 + t.val % 11] :=
  (by decide +kernel : ∀ t : Fin grid0.N, win0_3.index t = ![0, 11 + t.val % 11])
theorem index_wd : ∀ t : Fin cfg0.N, win0_4.index t = ![t.val % 11, 0] :=
  (by decide +kernel : ∀ t : Fin grid0.N, win0_4.index t = ![t.val % 11, 0])
theorem index_o : ∀ t : Fin cfg0.N, win0_5.index t = ![t.val / 11, 0] :=
  (by decide +kernel : ∀ t : Fin grid0.N, win0_5.index t = ![t.val / 11, 0])

theorem V_v0 (c : Dev nD) : V m c main_v0 = shapeCast S2048x11264 (m ((c : Thread nD τ).loc main_arg2)) shapeCasts_S1x2048x11264_S2048x11264 := by
  simp only [V, hostOps0]
  after_results_simp <;> rfl
theorem V_v1 (c : Dev nD) : V m c main_v1 = shapeCast S5632x2048 (m ((c : Thread nD τ).loc main_arg3)) shapeCasts_S1x5632x2048_S5632x2048 := by
  simp only [V, hostOps0]
  after_results_simp <;> rfl

/-- The row of the whole array that row `a` of point `t`'s block is. -/
def row (t : Fin cfg0.N) (a : Fin 128) : Fin 128 := ⟨t.val / 11 * 128 + a.val, by have := lt_N t; omega⟩
/-- The hidden unit that unit `l` of point `t`'s block is. -/
def unit (t : Fin cfg0.N) (l : Fin 512) : Fin 5632 := ⟨t.val % 11 * 512 + l.val, by omega⟩

theorem x_apply (c : Dev nD) (t : Fin cfg0.N) (a : Fin 128) (k : Fin 2048) :
    iblk m c 0 t (ix2 a k) = m ((c : Thread nD τ).loc main_arg0) (ix2 (row t a) k) := by
  blk_simp [iblk]
  rw [V_main_arg0]
  refine congrArg (m ((c : Thread nD τ).loc main_arg0)) (funext fun i => Fin.ext ?_)
  fin_cases i
  · blk_simp [index_x]; rfl
  · blk_simp [index_x]; rfl
theorem g_apply (c : Dev nD) (t : Fin cfg0.N) (k : Fin 2048) :
    iblk m c 1 t (ix2 0 k) = m ((c : Thread nD τ).loc main_arg1) (ix2 0 k) := by
  blk_simp [iblk]
  rw [V_main_arg1]
  refine congrArg (m ((c : Thread nD τ).loc main_arg1)) (funext fun i => Fin.ext ?_)
  fin_cases i
  · blk_simp [index_g]
  · blk_simp [index_g]
theorem wg_apply (c : Dev nD) (t : Fin cfg0.N) (k : Fin 2048) (l : Fin 512) :
    iblk m c 2 t (ix2 k l) = m ((c : Thread nD τ).loc main_arg2) (ix3 0 k ⟨(unit t l).val, by omega⟩) := by
  blk_simp [iblk]
  rw [V_v0]
  refine (ValueIdx.shapeCast_1ab_ab_apply _ _ _ _).trans ?_
  refine congrArg (m ((c : Thread nD τ).loc main_arg2)) (congrArg₂ (ix3 0) (Fin.ext ?_) (Fin.ext ?_))
  · blk_simp [index_wg]
  · blk_simp [index_wg]; rfl
theorem wu_apply (c : Dev nD) (t : Fin cfg0.N) (k : Fin 2048) (l : Fin 512) :
    iblk m c 3 t (ix2 k l) = m ((c : Thread nD τ).loc main_arg2) (ix3 0 k ⟨5632 + (unit t l).val, by omega⟩) := by
  blk_simp [iblk]
  rw [V_v0]
  refine (ValueIdx.shapeCast_1ab_ab_apply _ _ _ _).trans ?_
  refine congrArg (m ((c : Thread nD τ).loc main_arg2)) (congrArg₂ (ix3 0) (Fin.ext ?_) (Fin.ext ?_))
  · blk_simp [index_wu]
  · blk_simp [index_wu]; show (11 + t.val % 11) * 512 + l.val = 5632 + (t.val % 11 * 512 + l.val); omega
theorem wd_apply (c : Dev nD) (t : Fin cfg0.N) (l : Fin 512) (n : Fin 2048) :
    iblk m c 4 t (ix2 l n) = m ((c : Thread nD τ).loc main_arg3) (ix3 0 (unit t l) n) := by
  blk_simp [iblk]
  rw [V_v1]
  refine (ValueIdx.shapeCast_1ab_ab_apply _ _ _ _).trans ?_
  refine congrArg (m ((c : Thread nD τ).loc main_arg3)) (congrArg₂ (ix3 0) (Fin.ext ?_) (Fin.ext ?_))
  · blk_simp [index_wd]; rfl
  · blk_simp [index_wd]; show 0 * 2048 + n.val = n.val; omega

/-! ## What the points leave -/

/-- The normalised row `r` of the array. -/
abbrev hrow (c : Dev nD) (r : Fin 128) : Fin 2048 → EReal :=
  rms (fun j => m ((c : Thread nD τ).loc main_arg0) (ix2 r j)) fun j => m ((c : Thread nD τ).loc main_arg1) (ix2 0 j)

/-- Entry `(r, k)` of the array. -/
abbrev entry (c : Dev nD) (r : Fin 128) (k : Fin 2048) : EReal := m ((c : Thread nD τ).loc main_arg0) (ix2 r k)

/-- Hidden unit `l`'s share of entry `(r, n)`. -/
abbrev share (c : Dev nD) (r : Fin 128) (n : Fin 2048) (l : Fin 5632) : EReal :=
  act (hrow m c r) (m ((c : Thread nD τ).loc main_arg2)) l * m ((c : Thread nD τ).loc main_arg3) (ix3 0 l n)

/-- The share of the `j`th block of 512. -/
def blockShare (c : Dev nD) (r : Fin 128) (n : Fin 2048) (j : ℕ) : EReal :=
  if h : j < 11 then ∑ l : Fin 512, share m c r n ⟨j * 512 + l.val, by omega⟩ else 0

theorem pay2_share (c : Dev nD) (t : Fin cfg0.N) (h : Vec Ideal S128x2048 .bf16) (acc : Vec Ideal S128x2048 .f32)
    (a : Fin 128) (n : Fin 2048) (hh : ∀ k, h (ix2 a k) = hrow m c (row t a) k) :
    k0_pay2 h (iblk m c 2 t) (iblk m c 3 t) acc (iblk m c 4 t) (ix2 a n)
      = (acc (ix2 a n) + blockShare m c (row t a) n (t.val % 11) : EReal) := by
  rw [pay2_apply, blockShare, dif_pos (by omega)]
  refine congrArg (acc (ix2 a n) + · : EReal → EReal) (Finset.sum_congr (M := EReal) rfl fun l _ => ?_)
  simp only [hh, wg_apply, wu_apply, wd_apply]
  rfl

theorem keep_A (c : Dev nD) (t : Fin cfg0.N) (h : t.val % 11 = 0) (a : Fin 128) (k : Fin 2048) :
    (outsAt0 m c t.val t.isLt).2 (ix2 a k) = hrow m c (row t a) k := by
  rw [outsAt0_A m c t h]
  frame_out
  refine (pay1_apply _ _ a k).trans ?_
  simp only [x_apply, g_apply]

theorem keep_B (c : Dev nD) (t : Fin cfg0.N) (h : ¬t.val % 11 = 0) :
    (outsAt0 m c t.val t.isLt).2 = (outsAt0 m c (t.val - 1) (Nat.lt_of_le_of_lt (Nat.sub_le _ _) t.isLt)).2 := by
  rw [outsAt0_B m c t h]
  rfl

theorem step_A (c : Dev nD) (t : Fin cfg0.N) (h : t.val % 11 = 0) :
    (outsAt0 m c t.val t.isLt).1 = k0_pay2 (k0_pay1 (iblk m c 0 t) (iblk m c 1 t)) (iblk m c 2 t) (iblk m c 3 t) (iblk m c 0 t) (iblk m c 4 t) := by
  rw [outsAt0_A m c t h]
  frame_out

theorem step_B (c : Dev nD) (t : Fin cfg0.N) (h : ¬t.val % 11 = 0) :
    (outsAt0 m c t.val t.isLt).1 = k0_pay2 (outsAt0 m c (t.val - 1) (Nat.lt_of_le_of_lt (Nat.sub_le _ _) t.isLt)).2 (iblk m c 2 t) (iblk m c 3 t)
      (outsAt0 m c (t.val - 1) (Nat.lt_of_le_of_lt (Nat.sub_le _ _) t.isLt)).1 (iblk m c 4 t) := by
  rw [outsAt0_B m c t h]
  frame_out
  simp only [read_unread_whole]

/-- After every point the scratch holds its rows normalised, and the result the rows plus the blocks so far. -/
theorem after_point (c : Dev nD) : ∀ (n : ℕ) (hn : n < cfg0.N) (a : Fin 128),
    (∀ k, (outsAt0 m c n hn).2 (ix2 a k) = hrow m c (row ⟨n, hn⟩ a) k)
    ∧ ∀ k, (outsAt0 m c n hn).1 (ix2 a k) = (entry m c (row ⟨n, hn⟩ a) k + ∑ j ∈ Finset.range (n % 11 + 1), blockShare m c (row ⟨n, hn⟩ a) k j : EReal) := by
  intro n
  induction n using Nat.strong_induction_on with
  | _ n ih =>
    intro hn a
    by_cases h : n % 11 = 0
    · refine ⟨keep_A m c ⟨n, hn⟩ h a, fun k => ?_⟩
      refine (congrFun (step_A m c ⟨n, hn⟩ h) _).trans ((pay2_share m c ⟨n, hn⟩ _ _ a k fun j => ?_).trans ?_)
      · exact (pay1_apply _ _ a j).trans (by simp only [x_apply, g_apply])
      · rw [x_apply, h, zero_add, Finset.sum_range_one]
    · have hp : n - 1 < cfg0.N := Nat.lt_of_le_of_lt (Nat.sub_le _ _) hn
      have hr : row ⟨n - 1, hp⟩ a = row ⟨n, hn⟩ a := Fin.ext (by dsimp only [row]; omega)
      obtain ⟨ih2, ih1⟩ := ih (n - 1) (by omega) hp a
      rw [hr] at ih2 ih1
      refine ⟨fun k => (congrFun (keep_B m c ⟨n, hn⟩ h) _).trans (ih2 k), fun k => ?_⟩
      refine (congrFun (step_B m c ⟨n, hn⟩ h) _).trans ((pay2_share m c ⟨n, hn⟩ _ _ a k ih2).trans ?_)
      rw [ih1 k, show (n - 1) % 11 + 1 = n % 11 from by omega, Finset.sum_range_succ, add_assoc]

/-- The 11 blocks are all the hidden units. -/
theorem sum_blocks (c : Dev nD) (r : Fin 128) (n : Fin 2048) :
    ∑ j ∈ Finset.range 11, blockShare m c r n j = ∑ l : Fin 5632, share m c r n l := by
  rw [← Fin.sum_mul_add_fin (M := EReal) 11 512 (share m c r n), Finset.sum_range]
  refine Finset.sum_congr (M := EReal) rfl fun j _ => ?_
  rw [blockShare, dif_pos j.isLt]

/-- The array after the run. -/
theorem final (c : Dev nD) : (dats m 0 c).arrAt 5 cfg0.N
    = ffn (M := 128) (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  have hm : t.val % 11 = 10 := (flush0_5 t).mp hf
  blk_simp
  rw [after0_5]
  idx_vars y
  have he : ((win0_5.blk t).view.emb (ix2 y0 y1)) = ix2 (row t y0) y1 := by
    refine funext fun i => Fin.ext ?_
    fin_cases i
    · blk_simp [index_o]; rfl
    · blk_simp [index_o]; rfl
  refine ((after_point m c t.val t.isLt y0).2 y1).trans ?_
  rw [hm, sum_blocks]
  exact (congrArg (ffn (M := 128) _ _ _ _) he).symm

/-- The run, its result named. -/
theorem run : θ_run defs (onTc (τ := τ) (main (F := Ideal))) ⟨m, fun _ => 0, ρ⟩ fun r => ∀ c : Dev nD,
    r.2.mem ((c : Thread nD τ).loc main_v2) = ffn (M := 128) (m ((c : Thread nD τ).loc main_arg0)) (m ((c : Thread nD τ).loc main_arg1))
        (m ((c : Thread nD τ).loc main_arg2)) (m ((c : Thread nD τ).loc main_arg3)) :=
  (θ_run defs _ _).mono (fun _ h c => (h c).1.trans (final m c)) (Value.run_blocks m ρ)

end Cert.Proof.FfnS

end
-- ==== Proof.FfnS.Reference.lean ====
/-
  The plain channel mixer's result on the samples, read at an index, is the same sum as the kernel's.
-/
module

public import proofs.«01_k».proof.Proof.Layer
public import proofs.«01_k».proof.Proof.Gen.RefFfnSIdeal.Run
public import Idealize.ShloMosaic.Lib.ValueLayout

@[expose] public section

set_option maxRecDepth 16384

noncomputable section

namespace Cert.Proof.FfnSRef

open Cert.RefFfnSIdeal Cert.RefFfnSIdeal.Gen Cert.Proof.Layer
open Idealize.ShloMosaic Idealize.ShloMosaic.TcCoe Idealize.ShloMosaic.Tactic
open Idealize.SL Idealize.SL.Sem

variable (x : S128x2048.Idx → Elt Ideal .f32) (g : S1x2048.Idx → Elt Ideal .f32)
variable (w : S1x2048x11264.Idx → Elt Ideal .f32) (d : S1x5632x2048.Idx → Elt Ideal .f32)

/-- The row that sample `q` is. -/
def row (q : Fin 128) (t : Fin 1) : Fin 128 := q

/-- The normalised activations. -/
def normed : FVec Ideal S128x1x2048 .f32 :=
  mulf (mulf (shapeCast S128x1x2048 x shapeCasts_S128x2048_S128x1x2048)
    (broadcastInDim S128x1x2048 ![0, 1, 2] bcast_S128x1x1_S128x1x2048_0_1_2
      (Host.rsqrt (addf (Host.divf
        (broadcastInDim S128x1x1 ![0, 1] bcast_S128x1_S128x1x1_0_1
          (Host.reduceAdd (mulf (shapeCast S128x1x2048 x shapeCasts_S128x2048_S128x1x2048) (shapeCast S128x1x2048 x shapeCasts_S128x2048_S128x1x2048))
            (constant (F := Ideal) S_ .f32 0x00000000#32) reducesTo_S128x1x2048_S128x1_d2 h_S_))
        (broadcastInDim S128x1x1 ![] bcast_S_S128x1x1 (constant (F := Ideal) S_ .f32 0x45000000#32)))
        (broadcastInDim S128x1x1 ![] bcast_S_S128x1x1 (constant (F := Ideal) S_ .f32 0x358637BD#32))))))
    (broadcastInDim S128x1x2048 ![0, 1, 2] bcast_S1x1x2048_S128x1x2048_0_1_2
      (broadcastInDim S1x1x2048 ![2] bcast_S2048_S1x1x2048_2 (shapeCast S2048 g shapeCasts_S1x2048_S2048)))

theorem normed_apply (q : Fin 128) (t : Fin 1) (k : Fin 2048) :
    normed x g (ix3 q t k) = rms (fun j => x (ix2 (row q t) j)) (fun j => g (ix2 0 j)) k := by
  unfold normed rms
  pointwise
  rfl

/-- Gate and up projections. -/
def gateUp : FVec Ideal S128x1x11264 .f32 :=
  Host.dotGeneral (F := Ideal) (φ₁ := .f32) (φ₂ := .f32) dot_S128x1x2048_S2048x11264_S128x1x11264_2_0_01_1_n_n none
    (normed x g) (shapeCast S2048x11264 w shapeCasts_S1x2048x11264_S2048x11264)

theorem gateUp_apply (q : Fin 128) (t : Fin 1) (n : Fin 11264) :
    gateUp x g w (ix3 q t n) = dot (rms (fun j => x (ix2 (row q t) j)) fun j => g (ix2 0 j)) fun k => w (ix3 0 k n) := by
  unfold gateUp dot
  pointwise
  refine Finset.sum_congr (M := EReal) rfl fun k _ => ?_
  rw [normed_apply]

/-- The hidden units. -/
def hidden : FVec Ideal S128x1x5632 .f32 :=
  mulf (mulf (extractStridedSlice S128x1x5632 ![0, 0, 0] (gateUp x g w) slices_S128x1x11264_S128x1x5632_0_0_0)
      (Host.divf (broadcastInDim S128x1x5632 ![] bcast_S_S128x1x5632 (constant (F := Ideal) S_ .f32 0x3F800000#32))
        (addf (broadcastInDim S128x1x5632 ![] bcast_S_S128x1x5632 (constant (F := Ideal) S_ .f32 0x3F800000#32))
          (Host.exp (Host.negf (extractStridedSlice S128x1x5632 ![0, 0, 0] (gateUp x g w) slices_S128x1x11264_S128x1x5632_0_0_0))))))
    (extractStridedSlice S128x1x5632 ![0, 0, 5632] (gateUp x g w) slices_S128x1x11264_S128x1x5632_0_0_5632)

theorem hidden_apply (q : Fin 128) (t : Fin 1) (l : Fin 5632) :
    hidden x g w (ix3 q t l) = act (rms (fun j => x (ix2 (row q t) j)) fun j => g (ix2 0 j)) w l := by
  unfold hidden act silu
  pointwise
  simp only [gateUp_apply]
  rfl

/-- The whole result. -/
def result : FVec Ideal S128x2048 .f32 :=
  shapeCast S128x2048 (addf (shapeCast S128x1x2048 x shapeCasts_S128x2048_S128x1x2048)
    (Host.dotGeneral (F := Ideal) (φ₁ := .f32) (φ₂ := .f32) dot_S128x1x5632_S5632x2048_S128x1x2048_2_0_01_1_n_n none
      (hidden x g w) (shapeCast S5632x2048 d shapeCasts_S1x5632x2048_S5632x2048))) shapeCasts_S128x1x2048_S128x2048

theorem result_eq : result x g w d = ffn (M := 128) x g w d := by
  funext i
  idx_vars i
  unfold ffn result
  pointwise
  simp only [hidden_apply]
  rfl

/-- The run's own term is that result. -/
theorem res_eq (m : (ℓ : Loc nD τ sig) → Buf (Elt Ideal) ℓ) (c : Dev nD) :
    Value.res_main_v24 m c = result (m ((c.tc : Thread nD τ).loc main_arg0)) (m ((c.tc : Thread nD τ).loc main_arg1))
      (m ((c.tc : Thread nD τ).loc main_arg2)) (m ((c.tc : Thread nD τ).loc main_arg3)) := by
  unfold Value.res_main_v24 result hidden gateUp normed
  rfl

/-- The reference's run, its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = ffn (M := 128) (m ((c.tc : Thread nD τ).loc main_arg0)) (m ((c.tc : Thread nD τ).loc main_arg1))
      (m ((c.tc : Thread nD τ).loc main_arg2)) (m ((c.tc : Thread nD τ).loc main_arg3)) :=
  (θ_run defs _ _).mono (fun _ h c => (h c).1.trans ((res_eq m c).trans (result_eq _ _ _ _))) (Value.run m ρ)

end Cert.Proof.FfnSRef

end
-- ==== Proof.Pool.Formula.lean ====
/-
  The pool mixer in exact arithmetic: trailing means less the token, mixed within each group of 256 columns. A difference of
  running sums over finite rows is the sum over the rows between.
-/
module

public import Idealize.ShloMosaic.Lib.Pipeline.ValueKit
public import Idealize.ShloMosaic.Lib.Pointwise

@[expose] public section

noncomputable section

namespace Cert.Proof.Pool

open Idealize.ShloMosaic

/-! ## The mixer -/

/-- Column `e` of group `g`. -/
def col (g : Fin 4) (e : Fin 256) : Fin 1024 := ⟨g.val * 256 + e.val, by omega⟩

/-- How many rows each group averages. -/
def width (g : Fin 4) : ℕ := 2 ^ (g.val + 1)

/-- The mean of `w` rows ending at row `j`, less row `j`: the rows summed from the newest, and divided by `c`. -/
def less (c : EReal) (w : ℕ) (f : ℕ → EReal) (j : ℕ) : EReal := Ideal.div (∑ k ∈ Finset.range w, f (j - k)) c - f j

/-- Each group's differences mixed by the group's matrix, and every column scaled. -/
def mixed {M : ℕ} (d : Fin M → Fin 4 → Fin 256 → EReal) (w : (⟨4, ![1, 4, 256, 256]⟩ : Shape).Idx → EReal)
    (s : (⟨2, ![1, 1024]⟩ : Shape).Idx → EReal) : (⟨2, ![M, 1024]⟩ : Shape).Idx → EReal := fun i =>
  let g : Fin 4 := ⟨(i 1).val / 256, by have : (i 1).val < 1024 := (i 1).isLt; omega⟩
  (∑ k : Fin 256, d (i 0) g k * w (ix4 0 g k ⟨(i 1).val % 256, Nat.mod_lt _ (by omega)⟩)) * s (ix2 0 (i 1))

theorem mixed_apply {M : ℕ} (d : Fin M → Fin 4 → Fin 256 → EReal) (w : (⟨4, ![1, 4, 256, 256]⟩ : Shape).Idx → EReal)
    (s : (⟨2, ![1, 1024]⟩ : Shape).Idx → EReal) (r : Fin M) (g : Fin 4) (e : Fin 256) :
    mixed d w s (ix2 r (col g e)) = (∑ k : Fin 256, d r g k * w (ix4 0 g k e)) * s (ix2 0 (col g e)) := by
  have hg : (⟨(g.val * 256 + e.val) / 256, by omega⟩ : Fin 4) = g := Fin.ext (show (g.val * 256 + e.val) / 256 = g.val by omega)
  have he : (⟨(g.val * 256 + e.val) % 256, Nat.mod_lt _ (by omega)⟩ : Fin 256) = e := Fin.ext (show (g.val * 256 + e.val) % 256 = e.val by omega)
  show (∑ k : Fin 256, d r ⟨(g.val * 256 + e.val) / 256, _⟩ k * w (ix4 0 ⟨(g.val * 256 + e.val) / 256, _⟩ k ⟨(g.val * 256 + e.val) % 256, _⟩)) * s (ix2 0 (col g e)) = _
  rw [hg, he]

/-- Every index is a column of a group. -/
theorem eq_col {M : ℕ} (i : (⟨2, ![M, 1024]⟩ : Shape).Idx) : ∃ (r : Fin M) (g : Fin 4) (e : Fin 256), i = ix2 r (col g e) := by
  have h1 : (i 1).val < 1024 := (i 1).isLt
  refine ⟨i 0, ⟨(i 1).val / 256, by omega⟩, ⟨(i 1).val % 256, Nat.mod_lt _ (by omega)⟩, funext fun a => ?_⟩
  fin_cases a
  · rfl
  · exact Fin.ext (show (i 1).val = (i 1).val / 256 * 256 + (i 1).val % 256 by omega)

/-! ## The rows a sample reads -/

/-- The new rows' projections, the fifteen rows before each, the groups' matrices, the columns' scales. -/
abbrev New := (⟨2, ![128, 13312]⟩ : Shape).Idx → EReal
abbrev Past := (⟨4, ![1, 128, 15, 1024]⟩ : Shape).Idx → EReal
abbrev Weights := (⟨4, ![1, 4, 256, 256]⟩ : Shape).Idx → EReal
abbrev Scales := (⟨2, ![1, 1024]⟩ : Shape).Idx → EReal

/-- Column `n` of sample `r`: its fifteen rows before, then the new one. -/
def sixteen (u : New) (s : Past) (r : Fin 128) (n : Fin 1024) (i : ℕ) : EReal :=
  if h : i < 15 then s (ix4 0 r ⟨i, h⟩ n) else u (ix2 r ⟨8192 + n.val, by omega⟩)

/-- The samples' pool mixer: every group averages its full width. -/
def sample (u : New) (s : Past) (w : Weights) (c : Scales) : (⟨2, ![128, 1024]⟩ : Shape).Idx → EReal :=
  mixed (fun r g k => less ((width g : ℝ) : EReal) (width g) (sixteen u s r (col g k)) 15) w c

/-! ## The rows a prompt's token reads -/

/-- The tokens' projections: four requests of 2048 tokens. -/
abbrev Tokens := (⟨2, ![8192, 13312]⟩ : Shape).Idx → EReal

/-- Column `n` of request `b`: fifteen zero rows, then its tokens (and zero past them). -/
def padded (u : Tokens) (b : Fin 4) (n : Fin 1024) (i : ℕ) : EReal :=
  if h : 15 ≤ i ∧ i < 2063 then u (ix2 ⟨b.val * 2048 + (i - 15), by omega⟩ ⟨8192 + n.val, by omega⟩) else 0

theorem padded_zero (u : Tokens) (b : Fin 4) (n : Fin 1024) (i : ℕ) (h : i < 15) : padded u b n i = 0 := dif_neg (by omega)
theorem padded_token (u : Tokens) (b : Fin 4) (n : Fin 1024) (p : Fin 2048) (i : ℕ) (h : i = 15 + p.val) :
    padded u b n i = u (ix2 ⟨b.val * 2048 + p.val, by omega⟩ ⟨8192 + n.val, by omega⟩) := by
  subst h
  unfold padded
  rw [dif_pos (by omega)]
  exact congrArg u (congrArg (fun z => ix2 z _) (Fin.ext (by show b.val * 2048 + (15 + p.val - 15) = b.val * 2048 + p.val; omega)))

/-- How many rows a group averages at position `p`, as a number. -/
def rowsAt (p : ℕ) (g : Fin 4) : EReal := ((((min (p + 1) (width g) : ℕ) : ℤ) : ℝ) : EReal)

/-- The prompt's pool mixer. -/
def prompt (u : Tokens) (w : Weights) (c : Scales) : (⟨2, ![8192, 1024]⟩ : Shape).Idx → EReal :=
  mixed (fun r g k => less (rowsAt (r.val % 2048) g) (width g) (padded u ⟨r.val / 2048, by omega⟩ (col g k)) (15 + r.val % 2048)) w c

/-- The lesser of two small words. -/
theorem least (p k : ℕ) (hp : p < 4096) (hk : k < 4096) (x y : BitVec 32) (hx : x.toNat = p) (hy : y.toNat = k) : (IntOp.minsi x y).toInt = ((min p k : ℕ) : ℤ) := by
  have ex : x.toInt = p := by rw [BitVec.toInt_eq_toNat_of_lt (by omega), hx]
  have ey : y.toInt = k := by rw [BitVec.toInt_eq_toNat_of_lt (by omega), hy]
  unfold IntOp.minsi
  simp only [BitVec.slt, ex, ey]
  by_cases h : p < k
  · rw [if_pos (by simpa using h), ex, Nat.min_eq_left h.le]
  · rw [if_neg (by simpa using h), ey, Nat.min_eq_right (by omega)]

/-! ## The widths as numbers -/

theorem bits_2 : Ideal.ofBits FTy.f32 1073741824#32 = ((width 0 : ℝ) : EReal) := by
  simp [Ideal.ofBits, Ideal.ieee, width, -EReal.coe_mul]
  norm_num
theorem bits_4 : Ideal.ofBits FTy.f32 1082130432#32 = ((width 1 : ℝ) : EReal) := by
  simp [Ideal.ofBits, Ideal.ieee, width, -EReal.coe_mul]
  norm_num
theorem bits_8 : Ideal.ofBits FTy.f32 1090519040#32 = ((width 2 : ℝ) : EReal) := by
  simp [Ideal.ofBits, Ideal.ieee, width, -EReal.coe_mul]
  norm_num
theorem bits_16 : Ideal.ofBits FTy.f32 1098907648#32 = ((width 3 : ℝ) : EReal) := by
  simp [Ideal.ofBits, Ideal.ieee, width, -EReal.coe_mul]
  norm_num

/-! ## Running sums -/

/-- A running sum as a sum over the rows up to this one. -/
theorem foldl_add {α : Type} (g : α → EReal) : ∀ (l : List α) (r : EReal), l.foldl (fun r n => r + g n) r = r + (l.map g).sum
  | [], r => (add_zero r).symm
  | a :: l, r => by rw [List.foldl_cons, foldl_add g l, List.map_cons, List.sum_cons, add_assoc]

/-- The positions of a window along the middle axis. -/
def along (N : ℕ) : Fin N ≃ (⟨3, ![1, N, 1]⟩ : Shape).Idx where
  toFun k := ix3 0 k 0
  invFun i := i 1
  left_inv _ := rfl
  right_inv i := funext fun a => by
    fin_cases a
    · exact Fin.ext (by have : (i 0).val < 1 := (i 0).isLt; show 0 = (i 0).val; omega)
    · rfl
    · exact Fin.ext (by have : (i 2).val < 1 := (i 2).isLt; show 0 = (i 2).val; omega)

/-- The sum over a window that ends at row `j`, of whatever lies inside the array. -/
theorem window_sum (N : ℕ) (f : ℕ → EReal) (j : ℕ) (hj : j < N) :
    (∑ k : Fin N, if N - 1 ≤ j + k.val then f (j + k.val - (N - 1)) else 0) = ∑ k ∈ Finset.range (j + 1), f k := by
  rw [Fin.sum_univ_eq_sum_range (fun k => if N - 1 ≤ j + k then f (j + k - (N - 1)) else 0) N]
  obtain ⟨p, rfl⟩ : ∃ p, N = p + (j + 1) := ⟨N - (j + 1), by omega⟩
  rw [Finset.sum_range_add, Finset.sum_eq_zero, zero_add]
  · refine Finset.sum_congr rfl fun k _ => ?_
    rw [if_pos (by omega)]
    congr 1
    omega
  · intro k hk
    rw [if_neg (by have := Finset.mem_range.mp hk; omega)]

/-- The host's running sum along the middle axis, from zero. -/
theorem scan_apply {A N C : ℕ} (x : (⟨3, ![A, N, C]⟩ : Shape).Idx → EReal) (z : (⟨0, ![]⟩ : Shape).Idx → EReal) (hz : ∀ i, z i = 0)
    (h : (⟨3, ![A, N, C]⟩ : Shape).ReduceWindows ![1, N, 1] ![1, 1, 1] ![0, N - 1, 0] ![0, 0, 0] ⟨3, ![A, N, C]⟩)
    (hu : 0 < (⟨0, ![]⟩ : Shape).numel) (a : Fin A) (c : Fin C) (f : ℕ → EReal) (hf : ∀ i : Fin N, x (ix3 a i c) = f i.val) (j : Fin N) :
    Host.reduceWindowAdd (F := Ideal) (φ := .f32) ![1, N, 1] ![1, 1, 1] ![0, N - 1, 0] ![0, 0, 0] x z h hu (ix3 a j c)
      = ∑ k ∈ Finset.range (j.val + 1), f k := by
  rw [← window_sum N f j.val j.isLt]
  show (List.finRange (⟨3, ![1, N, 1]⟩ : Shape).numel).foldl _ _ = _
  rw [foldl_add, hz, zero_add, ← Fin.sum_univ_def, ← Equiv.sum_comp ((along N).trans (⟨3, ![1, N, 1]⟩ : Shape).rowMajor)]
  refine Finset.sum_congr rfl fun k _ => ?_
  simp only [Equiv.trans_apply, Equiv.symm_apply_apply]
  by_cases hk : N - 1 ≤ j.val + k.val
  · have hb : j.val + k.val - (N - 1) < N := by omega
    rw [if_pos hk, ← hf ⟨j.val + k.val - (N - 1), hb⟩, dif_pos]
    · refine congrArg x (funext fun b => Fin.ext ?_)
      fin_cases b
      · show a.val * 1 + 0 - 0 = a.val; omega
      · show j.val * 1 + k.val - (N - 1) = j.val + k.val - (N - 1); omega
      · show c.val * 1 + 0 - 0 = c.val; omega
    · intro b
      fin_cases b
      · show 0 ≤ a.val * 1 + 0 ∧ a.val * 1 + 0 - 0 < A; omega
      · show N - 1 ≤ j.val * 1 + k.val ∧ j.val * 1 + k.val - (N - 1) < N; omega
      · show 0 ≤ c.val * 1 + 0 ∧ c.val * 1 + 0 - 0 < C; omega
  · rw [if_neg hk, dif_neg]
    intro hin
    exact hk (by have : N - 1 ≤ j.val * 1 + k.val := (hin 1).1; omega)

/-- Over finite rows, the running sum up to row `b + w` less the one up to row `b` is the sum of the `w` rows between. -/
theorem sum_coe (f : ℕ → ℝ) (n : ℕ) : (∑ k ∈ Finset.range n, (f k : EReal)) = ((∑ k ∈ Finset.range n, f k : ℝ) : EReal) := by
  induction n with
  | zero => simp
  | succ n ih => rw [Finset.sum_range_succ, Finset.sum_range_succ, ih, EReal.coe_add]
theorem sum_between (f : ℕ → EReal) (hf : ∀ i, f i ≠ ⊤ ∧ f i ≠ ⊥) (b w j : ℕ) (hj : b + w = j + 1) :
    (∑ k ∈ Finset.range (b + w), f k) - (∑ k ∈ Finset.range b, f k) = ∑ k ∈ Finset.range w, f (j - k) := by
  have e : f = fun i => (((f i).toReal : ℝ) : EReal) := funext fun i => (EReal.coe_toReal (hf i).1 (hf i).2).symm
  rw [← Finset.sum_range_reflect (fun k => f (j - k)) w]
  rw [e]
  simp only [sum_coe, ← EReal.coe_sub]
  refine congrArg _ ?_
  rw [Finset.sum_range_add, add_sub_cancel_left]
  refine Finset.sum_congr rfl fun k hk => ?_
  have := Finset.mem_range.mp hk
  rw [show b + k = j - (w - 1 - k) by omega]

/-- A number whose absolute value lies below infinity is neither infinity. -/
theorem finite_of_abs (x : EReal) (h : Ideal.cmp .olt (max x (-x)) (Ideal.ofBits FTy.f32 0x7F800000#32) = 1#1) : x ≠ ⊤ ∧ x ≠ ⊥ := by
  have hb : Ideal.ofBits FTy.f32 0x7F800000#32 = ⊤ := by simp [Ideal.ofBits, Ideal.ieee]
  rw [hb] at h
  constructor
  · rintro rfl
    simp [Ideal.cmp] at h
  · rintro rfl
    simp [Ideal.cmp] at h

end Cert.Proof.Pool

end
-- ==== Proof.PoolS.Value.lean ====
/-
  What the samples' pool mixer leaves in its result array, in exact arithmetic.
-/
module

public import proofs.«01_k».proof.Proof.Pool.Formula
public import proofs.«01_k».proof.Proof.Gen.PoolSIdeal.Value
public import Idealize.ShloMosaic.Lib.ValueLayout
public import Idealize.ShloMosaic.Lib.Pipeline.ReadBack

@[expose] public section

set_option maxRecDepth 16384

noncomputable section

namespace Cert.Proof.PoolS

open Cert.PoolSIdeal Cert.PoolSIdeal.Gen Cert.Proof.Pool
open Idealize.ShloMosaic Idealize.ShloMosaic.TcCoe Idealize.ShloMosaic.Tactic
open Idealize.SL Idealize.SL.Sem
open Idealize.ShloMosaic.Pipeline (Dat Cfg Window)

/-! ## The body's values at an index -/

section Body

theorem mix_3 (d : FVec Ideal S128x256 .bf16) (w : Vec Ideal S1x256x256 .bf16) (c : Vec Ideal S1x256 .f32) (r : Fin 128) (e : Fin 256) :
    k0_pay1 d w c (ix2 r e) = ((∑ k : Fin 256, d (ix2 r k) * w (ix3 0 k e)) * c (ix2 0 e) : EReal) := by
  unfold k0_pay1
  pointwise
theorem mix_1 (d : FVec Ideal S128x256 .bf16) (w : Vec Ideal S1x256x256 .bf16) (c : Vec Ideal S1x256 .f32) (r : Fin 128) (e : Fin 256) :
    k0_pay4 d w c (ix2 r e) = ((∑ k : Fin 256, d (ix2 r k) * w (ix3 0 k e)) * c (ix2 0 e) : EReal) := by
  unfold k0_pay4
  pointwise
theorem mix_0 (u : Vec Ideal S128x256 .f32) (p0 : Vec Ideal S1x128x256 .f32) (w : Vec Ideal S1x256x256 .bf16) (c : Vec Ideal S1x256 .f32) (r : Fin 128) (e : Fin 256) :
    k0_pay2 u p0 w c (ix2 r e)
      = ((∑ k : Fin 256, (Ideal.div (u (ix2 r k) + p0 (ix3 0 r k)) (Ideal.ofBits FTy.f32 1073741824#32) - u (ix2 r k)) * w (ix3 0 k e)) * c (ix2 0 e) : EReal) := by
  unfold k0_pay2
  pointwise
theorem mix_2 (u : Vec Ideal S128x256 .f32) (t : FVec Ideal S128x256 .f32) (w : Vec Ideal S1x256x256 .bf16) (c : Vec Ideal S1x256 .f32) (r : Fin 128) (e : Fin 256) :
    k0_pay6 u t w c (ix2 r e)
      = ((∑ k : Fin 256, (Ideal.div (t (ix2 r k)) (Ideal.ofBits FTy.f32 1090519040#32) - u (ix2 r k)) * w (ix3 0 k e)) * c (ix2 0 e) : EReal) := by
  unfold k0_pay6
  pointwise
theorem less_1 (u : Vec Ideal S128x256 .f32) (p0 p1 p2 : Vec Ideal S1x128x256 .f32) (r : Fin 128) (e : Fin 256) :
    k0_pay3 u p0 p1 p2 (ix2 r e)
      = (Ideal.div (u (ix2 r e) + p0 (ix3 0 r e) + p1 (ix3 0 r e) + p2 (ix3 0 r e)) (Ideal.ofBits FTy.f32 1082130432#32) - u (ix2 r e) : EReal) := by
  unfold k0_pay3
  pointwise
theorem sum_2 (u : Vec Ideal S128x256 .f32) (p0 p1 p2 p3 p4 p5 p6 : Vec Ideal S1x128x256 .f32) (r : Fin 128) (e : Fin 256) :
    k0_pay5 u p0 p1 p2 p3 p4 p5 p6 (ix2 r e)
      = (u (ix2 r e) + p0 (ix3 0 r e) + p1 (ix3 0 r e) + p2 (ix3 0 r e) + p3 (ix3 0 r e) + p4 (ix3 0 r e) + p5 (ix3 0 r e) + p6 (ix3 0 r e) : EReal) := by
  unfold k0_pay5
  pointwise
theorem sum_3 (u : Vec Ideal S128x256 .f32) (p0 p1 p2 p3 p4 : Vec Ideal S1x128x256 .f32) (r : Fin 128) (e : Fin 256) :
    k0_pay7 u p0 p1 p2 p3 p4 (ix2 r e)
      = (u (ix2 r e) + p0 (ix3 0 r e) + p1 (ix3 0 r e) + p2 (ix3 0 r e) + p3 (ix3 0 r e) + p4 (ix3 0 r e) : EReal) := by
  unfold k0_pay7
  pointwise
theorem flat_3 (p : Vec Ideal S1x128x256 .f32) (r : Fin 128) (e : Fin 256) : k0_pay8 p (ix2 r e) = p (ix3 0 r e) := by
  unfold k0_pay8
  pointwise
theorem less_3 (u : Vec Ideal S128x256 .f32) (t v : FVec Ideal S128x256 .f32) (p0 p1 p2 p3 p4 p5 p6 p7 p8 : Vec Ideal S1x128x256 .f32) (r : Fin 128) (e : Fin 256) :
    k0_pay9 u t v p0 p1 p2 p3 p4 p5 p6 p7 p8 (ix2 r e)
      = (Ideal.div (t (ix2 r e) + v (ix2 r e) + p0 (ix3 0 r e) + p1 (ix3 0 r e) + p2 (ix3 0 r e) + p3 (ix3 0 r e) + p4 (ix3 0 r e) + p5 (ix3 0 r e) + p6 (ix3 0 r e)
          + p7 (ix3 0 r e) + p8 (ix3 0 r e)) (Ideal.ofBits FTy.f32 1098907648#32) - u (ix2 r e) : EReal) := by
  unfold k0_pay9
  pointwise

variable (x0 : Vec Ideal S128x1024 .f32) (x1 : Vec Ideal S15x128x1024 .f32) (x2 : Vec Ideal S4x256x256 .bf16) (x3 : Vec Ideal S1x1024 .f32)
  (f : Fin 128 → Fin 1024 → ℕ → EReal) (w : Weights) (c : Scales)

/-- Four columns groups' loads: the new rows, the rows before, a group's matrix, a group's scales. -/
theorem token (hx0 : ∀ r n, x0 (ix2 r n) = f r n 15) (b : ℕ) (inb) (r : Fin 128) (e : Fin 256) :
    View.ld x0 (Rect.unit (s := S128x1024) ![0, b] S128x256.size inb) (ix2 r e)
      = f r ⟨b + e.val, by have h : b + 256 ≤ 1024 := inb 1; omega⟩ 15 :=
  (View.ld_unit_apply_of _ _ _ _ _ (ix2 r ⟨b + e.val, by have h : b + 256 ≤ 1024 := inb 1; omega⟩) fun a => by
    fin_cases a
    · show r.val = 0 + r.val; omega
    · rfl).trans (hx0 _ _)
theorem before (hx1 : ∀ i r n, x1 (ix3 i r n) = f r n i.val) (a b : ℕ) (inb) (r : Fin 128) (e : Fin 256) :
    View.ld x1 (Rect.unit (s := S15x128x1024) ![a, 0, b] S1x128x256.size inb) (ix3 0 r e)
      = f r ⟨b + e.val, by have h : b + 256 ≤ 1024 := inb 2; omega⟩ a :=
  (View.ld_unit_apply_of _ _ _ _ _ (ix3 ⟨a, by have h : a + 1 ≤ 15 := inb 0; omega⟩ r ⟨b + e.val, by have h : b + 256 ≤ 1024 := inb 2; omega⟩) fun i => by
    fin_cases i
    · rfl
    · show r.val = 0 + r.val; omega
    · rfl).trans (hx1 _ _ _)
theorem matrix (hx2 : ∀ g k e, x2 (ix3 g k e) = w (ix4 0 g k e)) (a : ℕ) (inb) (k e : Fin 256) :
    View.ld x2 (Rect.unit (s := S4x256x256) ![a, 0, 0] S1x256x256.size inb) (ix3 0 k e) = w (ix4 0 ⟨a, by have h : a + 1 ≤ 4 := inb 0; omega⟩ k e) :=
  (View.ld_unit_apply_of _ _ _ _ _ (ix3 ⟨a, by have h : a + 1 ≤ 4 := inb 0; omega⟩ k e) fun i => by
    fin_cases i
    · rfl
    · show k.val = 0 + k.val; omega
    · show e.val = 0 + e.val; omega).trans (hx2 _ _ _)
theorem scales (hx3 : ∀ n, x3 (ix2 0 n) = c (ix2 0 n)) (b : ℕ) (inb) (e : Fin 256) :
    View.ld x3 (Rect.unit (s := S1x1024) ![0, b] S1x256.size inb) (ix2 0 e)
      = c (ix2 0 ⟨b + e.val, by have h : b + 256 ≤ 1024 := inb 1; omega⟩) :=
  (View.ld_unit_apply_of _ _ _ _ _ (ix2 0 ⟨b + e.val, by have h : b + 256 ≤ 1024 := inb 1; omega⟩) fun a => by
    fin_cases a
    · rfl
    · rfl).trans (hx3 _)

/-! A group's rows, added one after another -/

theorem rows_0 (h : ℕ → EReal) : ∑ k ∈ Finset.range (width 0), h (15 - k) = h 15 + h 14 := by
  show ∑ k ∈ Finset.range 2, h (15 - k) = _
  simp only [Finset.sum_range_succ, Finset.sum_range_zero, zero_add]
theorem rows_1 (h : ℕ → EReal) : ∑ k ∈ Finset.range (width 1), h (15 - k) = h 15 + h 14 + h 13 + h 12 := by
  show ∑ k ∈ Finset.range 4, h (15 - k) = _
  simp only [Finset.sum_range_succ, Finset.sum_range_zero, zero_add]
theorem rows_2 (h : ℕ → EReal) : ∑ k ∈ Finset.range (width 2), h (15 - k) = h 15 + h 14 + h 13 + h 12 + h 11 + h 10 + h 9 + h 8 := by
  show ∑ k ∈ Finset.range 8, h (15 - k) = _
  simp only [Finset.sum_range_succ, Finset.sum_range_zero, zero_add]
theorem rows_3 (h : ℕ → EReal) : ∑ k ∈ Finset.range (width 3), h (15 - k) = h 15 + h 14 + h 13 + h 12 + h 11 + h 10 + h 9 + h 8 + h 7 + h 6 + h 5 + h 4 + h 3 + h 2 + h 1 + h 0 := by
  show ∑ k ∈ Finset.range 16, h (15 - k) = _
  simp only [Finset.sum_range_succ, Finset.sum_range_zero, zero_add]

/-- The block's result. -/
abbrev blockOf : (⟨2, ![128, 1024]⟩ : Shape).Idx → EReal := mixed (fun r g k => less ((width g : ℝ) : EReal) (width g) (f r (col g k)) 15) w c

/-- One group's store, read where it lands. -/
theorem piece (g : Fin 4) (b : ℕ) (hb : b = g.val * 256) (inb) (p : FVec Ideal S128x256 .bf16)
    (hp : ∀ r e, p (ix2 r e) = ((∑ k : Fin 256, less ((width g : ℝ) : EReal) (width g) (f r (col g k)) 15 * w (ix4 0 g k e)) * c (ix2 0 (col g e)) : EReal))
    (x : S128x256.Idx) : p x = blockOf f w c ((Rect.unit (s := S128x1024) ![0, b] S128x256.size inb).emb x) := by
  obtain ⟨r, e, rfl⟩ : ∃ (r : Fin 128) (e : Fin 256), x = ix2 r e := ⟨x 0, x 1, funext fun i => by fin_cases i <;> rfl⟩
  subst hb
  refine (hp r e).trans ((mixed_apply _ w c r g e).symm.trans (congrArg (blockOf f w c) (funext fun i => Fin.ext ?_)))
  fin_cases i
  · show r.val = 0 + 1 * r.val; omega
  · show g.val * 256 + e.val = g.val * 256 + 1 * e.val; omega

theorem out_eq (hx0 : ∀ r n, x0 (ix2 r n) = f r n 15) (hx1 : ∀ i r n, x1 (ix3 i r n) = f r n i.val) (hx2 : ∀ g k e, x2 (ix3 g k e) = w (ix4 0 g k e))
    (hx3 : ∀ n, x3 (ix2 0 n) = c (ix2 0 n)) : out0_4 x0 x1 x2 x3 = blockOf f w c := by
  unfold out0_4
  funext y
  refine View.canon_apply_of_pieces _ _ (View.PiecesOf.mem ?_) y (cover0_4 _ _ _ _ y)
  refine ⟨piece f w c 3 768 rfl inb_S128x1024_S128x256_0_768 _ fun r e => ?_, piece f w c 2 512 rfl inb_S128x1024_S128x256_0_512 _ fun r e => ?_, piece f w c 1 256 rfl inb_S128x1024_S128x256_0_256 _ fun r e => ?_, piece f w c 0 0 rfl inb_S128x1024_S128x256_0_0 _ fun r e => ?_, trivial⟩
  · refine (mix_3 _ _ _ r e).trans ?_
    simp only [less_3, sum_3, flat_3, token x0 f hx0, before x1 f hx1, matrix x2 w hx2, scales x3 c hx3, bits_16]
    exact congrArg (fun x : EReal => x * c (ix2 0 (col 3 e))) (Finset.sum_congr rfl fun k _ => congrArg (fun x : EReal => (Ideal.div x ((width 3 : ℝ) : EReal) - f r (col 3 k) 15) * w (ix4 0 3 k e)) (rows_3 (f r (col 3 k))).symm)
  · refine (mix_2 _ _ _ _ r e).trans ?_
    simp only [sum_2, token x0 f hx0, before x1 f hx1, matrix x2 w hx2, scales x3 c hx3, bits_8]
    exact congrArg (fun x : EReal => x * c (ix2 0 (col 2 e))) (Finset.sum_congr rfl fun k _ => congrArg (fun x : EReal => (Ideal.div x ((width 2 : ℝ) : EReal) - f r (col 2 k) 15) * w (ix4 0 2 k e)) (rows_2 (f r (col 2 k))).symm)
  · refine (mix_1 _ _ _ r e).trans ?_
    simp only [less_1, token x0 f hx0, before x1 f hx1, matrix x2 w hx2, scales x3 c hx3, bits_4]
    exact congrArg (fun x : EReal => x * c (ix2 0 (col 1 e))) (Finset.sum_congr rfl fun k _ => congrArg (fun x : EReal => (Ideal.div x ((width 1 : ℝ) : EReal) - f r (col 1 k) 15) * w (ix4 0 1 k e)) (rows_1 (f r (col 1 k))).symm)
  · refine (mix_0 _ _ _ _ r e).trans ?_
    simp only [token x0 f hx0, before x1 f hx1, matrix x2 w hx2, scales x3 c hx3, bits_2]
    exact congrArg (fun x : EReal => x * c (ix2 0 (col 0 e))) (Finset.sum_congr rfl fun k _ => congrArg (fun x : EReal => (Ideal.div x ((width 0 : ℝ) : EReal) - f r (col 0 k) 15) * w (ix4 0 0 k e)) (rows_0 (f r (col 0 k))).symm)

end Body

variable (m : (ℓ : Loc nD τ sig) → Buf (Elt Ideal) ℓ) (ρ : Dev nD → PrngReg)

/-! ## The arrays the region reads -/

theorem flat_past (s : S1x128x15x1024.Idx → Elt Ideal .f32) (i : Fin 15) (r : Fin 128) (n : Fin 1024) :
    transpose S15x128x1024 [1, 0, 2] (shapeCast S128x15x1024 s shapeCasts_S1x128x15x1024_S128x15x1024) transposes_S128x15x1024_S15x128x1024_1_0_2 (ix3 i r n)
      = s (ix4 0 r i n) := by
  pointwise
theorem flat_weights (w : S1x4x256x256.Idx → Elt Ideal .f32) (g : Fin 4) (k e : Fin 256) :
    truncf (F := Ideal) .bf16 (shapeCast S4x256x256 w shapeCasts_S1x4x256x256_S4x256x256) bitsLt_bf16_f32 (ix3 g k e) = w (ix4 0 g k e) := by
  pointwise
theorem V_v1 (c : Dev nD) (i : Fin 15) (r : Fin 128) (n : Fin 1024) : V m c main_v1 (ix3 i r n) = m ((c : Thread nD τ).loc main_arg1) (ix4 0 r i n) := by
  have e : V m c main_v1 = transpose S15x128x1024 [1, 0, 2] (shapeCast S128x15x1024 (m ((c : Thread nD τ).loc main_arg1)) shapeCasts_S1x128x15x1024_S128x15x1024) transposes_S128x15x1024_S15x128x1024_1_0_2 := by
    simp only [V, hostOps0, List.flatten_cons, List.flatten_nil, List.append_nil, List.cons_append, List.nil_append]
    after_results_simp <;> rfl
  exact (congrFun e _).trans (flat_past _ i r n)
theorem V_v3 (c : Dev nD) (g : Fin 4) (k e : Fin 256) : V m c main_v3 (ix3 g k e) = m ((c : Thread nD τ).loc main_arg2) (ix4 0 g k e) := by
  have h : V m c main_v3 = truncf (F := Ideal) .bf16 (shapeCast S4x256x256 (m ((c : Thread nD τ).loc main_arg2)) shapeCasts_S1x4x256x256_S4x256x256) bitsLt_bf16_f32 := by
    simp only [V, hostOps0, List.flatten_cons, List.flatten_nil, List.append_nil, List.cons_append, List.nil_append]
    after_results_simp <;> rfl
  exact (congrFun h _).trans (flat_weights _ g k e)

/-! ## The blocks -/

theorem index_0 : ∀ t : Fin cfg0.N, win0_0.index t = ![0, 8] := (by decide +kernel : ∀ t : Fin grid0.N, win0_0.index t = ![0, 8])
theorem index_1 : ∀ t : Fin cfg0.N, win0_1.index t = ![0, 0, 0] := (by decide +kernel : ∀ t : Fin grid0.N, win0_1.index t = ![0, 0, 0])
theorem index_2 : ∀ t : Fin cfg0.N, win0_2.index t = ![0, 0, 0] := (by decide +kernel : ∀ t : Fin grid0.N, win0_2.index t = ![0, 0, 0])
theorem index_3 : ∀ t : Fin cfg0.N, win0_3.index t = ![0, 0] := (by decide +kernel : ∀ t : Fin grid0.N, win0_3.index t = ![0, 0])
theorem index_4 : ∀ t : Fin cfg0.N, win0_4.index t = ![0, 0] := (by decide +kernel : ∀ t : Fin grid0.N, win0_4.index t = ![0, 0])

theorem blk_0 (c : Dev nD) (t : Fin cfg0.N) (r : Fin 128) (n : Fin 1024) :
    iblk m c 0 t (ix2 r n) = m ((c : Thread nD τ).loc main_arg0) (ix2 r ⟨8192 + n.val, by omega⟩) := by
  blk_simp [iblk]
  rw [V_main_arg0]
  refine congrArg (m ((c : Thread nD τ).loc main_arg0)) (funext fun i => Fin.ext ?_)
  fin_cases i
  · blk_simp [index_0] <;> rfl
  · blk_simp [index_0] <;> rfl
theorem blk_1 (c : Dev nD) (t : Fin cfg0.N) (i : Fin 15) (r : Fin 128) (n : Fin 1024) : iblk m c 1 t (ix3 i r n) = V m c main_v1 (ix3 i r n) := by
  blk_simp [iblk]
  refine congrArg (V m c main_v1) (funext fun i => Fin.ext ?_)
  fin_cases i
  · blk_simp [index_1] <;> rfl
  · blk_simp [index_1] <;> rfl
  · blk_simp [index_1] <;> rfl
theorem blk_2 (c : Dev nD) (t : Fin cfg0.N) (g : Fin 4) (k e : Fin 256) : iblk m c 2 t (ix3 g k e) = V m c main_v3 (ix3 g k e) := by
  blk_simp [iblk]
  refine congrArg (V m c main_v3) (funext fun i => Fin.ext ?_)
  fin_cases i
  · blk_simp [index_2] <;> rfl
  · blk_simp [index_2] <;> rfl
  · blk_simp [index_2] <;> rfl
theorem blk_3 (c : Dev nD) (t : Fin cfg0.N) (n : Fin 1024) : iblk m c 3 t (ix2 0 n) = m ((c : Thread nD τ).loc main_arg3) (ix2 0 n) := by
  blk_simp [iblk]
  rw [V_main_arg3]
  refine congrArg (m ((c : Thread nD τ).loc main_arg3)) (funext fun i => Fin.ext ?_)
  fin_cases i
  · blk_simp [index_3] <;> rfl
  · blk_simp [index_3] <;> rfl

/-! ## The array after the run -/

abbrev resultOf (c : Dev nD) : S128x1024.Idx → EReal :=
  sample (m ((c : Thread nD τ).loc main_arg0)) (m ((c : Thread nD τ).loc main_arg1)) (m ((c : Thread nD τ).loc main_arg2)) (m ((c : Thread nD τ).loc main_arg3))

theorem out_block (c : Dev nD) (t : Fin cfg0.N) : out0_4 (iblk m c 0 t) (iblk m c 1 t) (iblk m c 2 t) (iblk m c 3 t) = resultOf m c := by
  refine out_eq _ _ _ _ (sixteen (m ((c : Thread nD τ).loc main_arg0)) (m ((c : Thread nD τ).loc main_arg1))) _ _ (fun r n => ?_) (fun i r n => ?_) (fun g k e => ?_) fun n => blk_3 m c t n
  · refine (blk_0 m c t r n).trans ?_
    unfold sixteen
    rw [dif_neg (by omega)]
  · refine (blk_1 m c t i r n).trans ((V_v1 m c i r n).trans ?_)
    unfold sixteen
    rw [dif_pos i.isLt]
  · exact (blk_2 m c t g k e).trans (V_v3 m c g k e)

theorem final (c : Dev nD) : (dats m 0 c).arrAt 4 cfg0.N = resultOf m c := by
  refine (dats m 0 c).arrAt_eq_of_covers 4 _ (by decide +kernel) fun t hf y => ?_
  blk_simp
  rw [after0_4, out_block]
  idx_vars y
  refine congrArg (resultOf m c) (funext fun i => Fin.ext ?_)
  fin_cases i
  · blk_simp [index_4] <;> rfl
  · blk_simp [index_4] <;> rfl

/-- The run, its result named. -/
theorem run : θ_run defs (onTc (τ := τ) (main (F := Ideal))) ⟨m, fun _ => 0, ρ⟩ fun r => ∀ c : Dev nD,
    r.2.mem ((c : Thread nD τ).loc main_v4) = resultOf m c :=
  (θ_run defs _ _).mono (fun _ h c => (h c).1.trans (final m c)) (Value.run_blocks m ρ)

end Cert.Proof.PoolS

end
-- ==== Proof.PoolS.Reference.lean ====
/-
  The plain reference's pool mixer for the samples, in exact arithmetic: over finite rows its running sums give the same means.
-/
module

public import proofs.«01_k».proof.Proof.Pool.Formula
public import proofs.«01_k».proof.Proof.Gen.RefPoolSIdeal.Run
public import proofs.«01_k».proof.Proof.Gen.Pre_pool_sample_finite
public import Idealize.ShloMosaic.Lib.ValueLayout

@[expose] public section

set_option maxRecDepth 16384

noncomputable section

namespace Cert.Proof.PoolSRef

open Cert.RefPoolSIdeal Cert.RefPoolSIdeal.Gen Cert.Proof.Pool
open Idealize.ShloMosaic Idealize.ShloMosaic.TcCoe Idealize.ShloMosaic.Tactic
open Idealize.SL Idealize.SL.Sem

variable (u : S128x13312.Idx → Elt Ideal .f32) (s : S1x128x15x1024.Idx → Elt Ideal .f32) (w : S1x4x256x256.Idx → Elt Ideal .f32)
  (c : S1x1024.Idx → Elt Ideal .f32)

/-! ## The rows and their running sums -/

/-- The fifteen rows before, then the new one. -/
def rows : FVec Ideal S128x16x1024 .f32 :=
  concatenate S128x16x1024 1 [⟨S128x15x1024, shapeCast _ s shapeCasts_S1x128x15x1024_S128x15x1024⟩,
    ⟨S128x1x1024, broadcastInDim S128x1x1024 ![0, 2] bcast_S128x1024_S128x1x1024_0_2 (extractStridedSlice S128x1024 ![0, 8192] u slices_S128x13312_S128x1024_0_8192)⟩]
    concatenates_S128x15x1024_S128x1x1024_S128x16x1024_d1
theorem rows_past (r : Fin 128) (i : Fin 15) (n : Fin 1024) : rows u s (ix3 r ⟨i.val, by omega⟩ n) = s (ix4 0 r i n) := by
  unfold rows
  pointwise
theorem rows_new (r : Fin 128) (n : Fin 1024) : rows u s (ix3 r 15 n) = u (ix2 r ⟨8192 + n.val, by omega⟩) := by
  unfold rows
  pointwise
theorem rows_apply (r : Fin 128) (i : Fin 16) (n : Fin 1024) : rows u s (ix3 r i n) = sixteen u s r n i.val := by
  unfold sixteen
  by_cases h : i.val < 15
  · rw [dif_pos h]
    exact rows_past u s r ⟨i.val, h⟩ n
  · rw [dif_neg h]
    have e : i = 15 := Fin.ext (by show i.val = 15; omega)
    subst e
    exact rows_new u s r n

/-- The running sums, a zero row first. -/
def scan : FVec Ideal S128x16x1024 .f32 :=
  Host.reduceWindowAdd ![1, 16, 1] ![1, 1, 1] ![0, 15, 0] ![0, 0, 0] (rows u s) (broadcastInDim S_ ![] bcast_S_S_ (constant (F := Ideal) S_ .f32 0x00000000#32))
    reduceWindows_S128x16x1024_S128x16x1024_w1s1p0_0_w16s1p15_0_w1s1p0_0 h_S_
theorem scan_at (r : Fin 128) (j : Fin 16) (n : Fin 1024) : scan u s (ix3 r j n) = ∑ k ∈ Finset.range (j.val + 1), sixteen u s r n k :=
  scan_apply (rows u s) _ (fun i => Ideal.ofBits_zero_f32) _ _ r n (sixteen u s r n) (fun i => rows_apply u s r i n) j
def sums : FVec Ideal S128x17x1024 .f32 :=
  concatenate S128x17x1024 1 [⟨S128x1x1024, broadcastInDim S128x1x1024 ![] bcast_S_S128x1x1024 (constant (F := Ideal) S_ .f32 0x00000000#32)⟩, ⟨S128x16x1024, scan u s⟩]
    concatenates_S128x1x1024_S128x16x1024_S128x17x1024_d1
theorem sums_first (r : Fin 128) (n : Fin 1024) : sums u s (ix3 r 0 n) = (0 : EReal) := by
  unfold sums
  pointwise
theorem sums_later (r : Fin 128) (j : Fin 16) (n : Fin 1024) : sums u s (ix3 r ⟨j.val + 1, by omega⟩ n) = scan u s (ix3 r j n) := by
  unfold sums
  pointwise
  rw [dif_neg (by omega)]
  rfl
theorem sums_apply (r : Fin 128) (j : Fin 17) (n : Fin 1024) : sums u s (ix3 r j n) = (∑ k ∈ Finset.range j.val, sixteen u s r n k : EReal) := by
  by_cases h : j.val = 0
  · have e : j = 0 := Fin.ext h
    subst e
    exact sums_first u s r n
  · obtain ⟨p, hp⟩ : ∃ p : Fin 16, j = ⟨p.val + 1, by omega⟩ := ⟨⟨j.val - 1, by omega⟩, Fin.ext (by show j.val = j.val - 1 + 1; omega)⟩
    subst hp
    exact (sums_later u s r p n).trans (scan_at u s r p n)

/-! ## A group's means -/

/-- The number of rows averaged, from the position and the width. -/
def count (b : BitVec 32) : FVec Ideal S128x1x256 .f32 :=
  broadcastInDim S128x1x256 ![0, 1, 2] bcast_S1x1x1_S128x1x256_0_1_2 (broadcastInDim S1x1x1 ![1] bcast_S1_S1x1x1_1 (sitofp .f32 (minsi
    (addi (addi (broadcastInDim S1 ![] bcast_S_S1 (constantI S_ 32 16384#32)) (iotaInDim S1 32 0)) (broadcastInDim S1 ![] bcast_S_S1 (constantI S_ 32 1#32)))
    (broadcastInDim S1 ![] bcast_S_S1 (constantI S_ 32 b)))))
theorem count_apply (b : BitVec 32) (r : Fin 128) (e : Fin 256) : count b (ix3 r 0 e) = (((IntOp.minsi 16385#32 b).toInt : ℝ) : EReal) := by
  unfold count
  pointwise
  rfl

def ends : FVec Ideal S128x1x1024 .f32 := extractStridedSlice S128x1x1024 ![0, 16, 0] (sums u s) slices_S128x17x1024_S128x1x1024_0_16_0

def mean_0 : FVec Ideal S128x1x256 .f32 := Host.divf (subf (extractStridedSlice S128x1x256 ![0, 0, 0] (ends u s) slices_S128x1x1024_S128x1x256_0_0_0)
  (extractStridedSlice S128x1x256 ![0, 14, 0] (sums u s) slices_S128x17x1024_S128x1x256_0_14_0)) (count 2#32)
def mean_1 : FVec Ideal S128x1x256 .f32 := Host.divf (subf (extractStridedSlice S128x1x256 ![0, 0, 256] (ends u s) slices_S128x1x1024_S128x1x256_0_0_256)
  (extractStridedSlice S128x1x256 ![0, 12, 256] (sums u s) slices_S128x17x1024_S128x1x256_0_12_256)) (count 4#32)
def mean_2 : FVec Ideal S128x1x256 .f32 := Host.divf (subf (extractStridedSlice S128x1x256 ![0, 0, 512] (ends u s) slices_S128x1x1024_S128x1x256_0_0_512)
  (extractStridedSlice S128x1x256 ![0, 8, 512] (sums u s) slices_S128x17x1024_S128x1x256_0_8_512)) (count 8#32)
def mean_3 : FVec Ideal S128x1x256 .f32 := Host.divf (subf (extractStridedSlice S128x1x256 ![0, 0, 768] (ends u s) slices_S128x1x1024_S128x1x256_0_0_768)
  (extractStridedSlice S128x1x256 ![0, 0, 768] (sums u s) slices_S128x17x1024_S128x1x256_0_0_768)) (count 16#32)

theorem mean_0_apply (r : Fin 128) (e : Fin 256) : mean_0 u s (ix3 r 0 e)
    = (Ideal.div (sums u s (ix3 r 16 (col 0 e)) - sums u s (ix3 r 14 (col 0 e))) (count 2#32 (ix3 r 0 e)) : EReal) := by
  unfold mean_0 ends col
  pointwise
theorem mean_1_apply (r : Fin 128) (e : Fin 256) : mean_1 u s (ix3 r 0 e)
    = (Ideal.div (sums u s (ix3 r 16 (col 1 e)) - sums u s (ix3 r 12 (col 1 e))) (count 4#32 (ix3 r 0 e)) : EReal) := by
  unfold mean_1 ends col
  pointwise
theorem mean_2_apply (r : Fin 128) (e : Fin 256) : mean_2 u s (ix3 r 0 e)
    = (Ideal.div (sums u s (ix3 r 16 (col 2 e)) - sums u s (ix3 r 8 (col 2 e))) (count 8#32 (ix3 r 0 e)) : EReal) := by
  unfold mean_2 ends col
  pointwise
theorem mean_3_apply (r : Fin 128) (e : Fin 256) : mean_3 u s (ix3 r 0 e)
    = (Ideal.div (sums u s (ix3 r 16 (col 3 e)) - sums u s (ix3 r 0 (col 3 e))) (count 16#32 (ix3 r 0 e)) : EReal) := by
  unfold mean_3 ends col
  pointwise

/-- Every row finite. -/
def Finite : Prop := ∀ r n i, sixteen u s r n i ≠ ⊤ ∧ sixteen u s r n i ≠ ⊥

theorem between (h : Finite u s) (r : Fin 128) (n : Fin 1024) (b k : ℕ) (hb : b < 17) (hk : b + k = 16) :
    (sums u s (ix3 r 16 n) - sums u s (ix3 r ⟨b, hb⟩ n) : EReal) = ∑ i ∈ Finset.range k, sixteen u s r n (15 - i) := by
  rw [sums_apply, sums_apply]
  have e := sum_between (sixteen u s r n) (h r n) b k 15 hk
  rw [hk] at e
  exact e

/-- The four groups' means side by side. -/
def means : FVec Ideal S128x1x1024 .f32 :=
  concatenate S128x1x1024 2 [⟨S128x1x256, mean_0 u s⟩, ⟨S128x1x256, mean_1 u s⟩, ⟨S128x1x256, mean_2 u s⟩, ⟨S128x1x256, mean_3 u s⟩]
    concatenates_S128x1x256_S128x1x256_S128x1x256_S128x1x256_S128x1x1024_d2
theorem means_0 (r : Fin 128) (e : Fin 256) : means u s (ix3 r 0 (col 0 e)) = mean_0 u s (ix3 r 0 e) := by
  unfold means col
  pointwise
theorem means_1 (r : Fin 128) (e : Fin 256) : means u s (ix3 r 0 (col 1 e)) = mean_1 u s (ix3 r 0 e) := by
  unfold means col
  pointwise
theorem means_2 (r : Fin 128) (e : Fin 256) : means u s (ix3 r 0 (col 2 e)) = mean_2 u s (ix3 r 0 e) := by
  unfold means col
  pointwise
  rw [dif_neg (by omega), dif_neg (by omega), dif_pos (by omega)]
  exact congrArg (fun z => mean_2 u s (ix3 r 0 z)) (Fin.ext (by show 512 + e.val - 256 - 256 = e.val; omega))
theorem means_3 (r : Fin 128) (e : Fin 256) : means u s (ix3 r 0 (col 3 e)) = mean_3 u s (ix3 r 0 e) := by
  unfold means col
  pointwise
  rw [dif_neg (by omega), dif_neg (by omega), dif_neg (by omega)]
  exact congrArg (fun z => mean_3 u s (ix3 r 0 z)) (Fin.ext (by show 768 + e.val - 256 - 256 - 256 = e.val; omega))
theorem means_apply (h : Finite u s) (r : Fin 128) (g : Fin 4) (e : Fin 256) :
    means u s (ix3 r 0 (col g e)) = (Ideal.div (∑ k ∈ Finset.range (width g), sixteen u s r (col g e) (15 - k)) ((width g : ℝ) : EReal) : EReal) := by
  fin_cases g
  · refine (means_0 u s r e).trans ((mean_0_apply u s r e).trans ?_)
    rw [count_apply]
    exact congr (congrArg Ideal.div (between u s h r (col 0 e) 14 2 (by omega) rfl)) (by simp [width, IntOp.minsi])
  · refine (means_1 u s r e).trans ((mean_1_apply u s r e).trans ?_)
    rw [count_apply]
    exact congr (congrArg Ideal.div (between u s h r (col 1 e) 12 4 (by omega) rfl)) (by simp [width, IntOp.minsi])
  · refine (means_2 u s r e).trans ((mean_2_apply u s r e).trans ?_)
    rw [count_apply]
    exact congr (congrArg Ideal.div (between u s h r (col 2 e) 8 8 (by omega) rfl)) (by simp [width, IntOp.minsi])
  · refine (means_3 u s r e).trans ((mean_3_apply u s r e).trans ?_)
    rw [count_apply]
    exact congr (congrArg Ideal.div (between u s h r (col 3 e) 0 16 (by omega) rfl)) (by simp [width, IntOp.minsi])

/-! ## The mixing -/

/-- The differences, by group. -/
def diffs : FVec Ideal S128x1x4x256 .f32 :=
  shapeCast _ (subf (means u s) (extractStridedSlice S128x1x1024 ![0, 15, 0] (rows u s) slices_S128x16x1024_S128x1x1024_0_15_0)) shapeCasts_S128x1x1024_S128x1x4x256
theorem diffs_apply (r : Fin 128) (g : Fin 4) (e : Fin 256) :
    diffs u s (ix4 r 0 g e) = (means u s (ix3 r 0 (col g e)) - rows u s (ix3 r 15 (col g e)) : EReal) := by
  unfold diffs col
  pointwise

/-- Every group through its matrix, scaled. -/
def result (d : FVec Ideal S128x1x4x256 .f32) : FVec Ideal S128x1024 .bf16 :=
  truncf .bf16 (shapeCast _ (mulf (shapeCast _ (transpose S128x1x4x256 [2, 3, 0, 1]
    (Host.dotGeneral (F := Ideal) (φ₁ := .f32) (φ₂ := .f32) dot_S4x256x256_S128x1x4x256_S4x256x128x1_1_3_2_01_0_2 none (shapeCast S4x256x256 w shapeCasts_S1x4x256x256_S4x256x256) d)
    transposes_S4x256x128x1_S128x1x4x256_2_3_0_1) shapeCasts_S128x1x4x256_S128x1x1024)
    (broadcastInDim S128x1x1024 ![0, 1, 2] bcast_S1x1x1024_S128x1x1024_0_1_2 (broadcastInDim S1x1x1024 ![2] bcast_S1024_S1x1x1024_2 (shapeCast S1024 c shapeCasts_S1x1024_S1024))))
    shapeCasts_S128x1x1024_S128x1024) bitsLt_bf16_f32
theorem result_apply (d : FVec Ideal S128x1x4x256 .f32) (r : Fin 128) (g : Fin 4) (e : Fin 256) :
    result w c d (ix2 r (col g e)) = ((∑ k : Fin 256, w (ix4 0 g k e) * d (ix4 r 0 g k)) * c (ix2 0 (col g e)) : EReal) := by
  unfold result col
  pointwise

theorem result_eq (h : Finite u s) : result w c (diffs u s) = sample u s w c := by
  funext i
  obtain ⟨r, g, e, rfl⟩ := eq_col i
  refine (result_apply w c _ r g e).trans (Eq.trans ?_ (mixed_apply _ w c r g e).symm)
  refine congrArg (fun x : EReal => x * c (ix2 0 (col g e))) (Finset.sum_congr rfl fun k _ => ?_)
  rw [diffs_apply, means_apply u s h, rows_apply, mul_comm]
  rfl

/-- The reference's run, its result named. -/
theorem run (m : (ℓ : Loc nD τ sig) → Buf (Elt Ideal) ℓ) (ρ : Dev nD → PrngReg)
    (hf : ∀ c : Dev nD, Finite (m ((c.tc : Thread nD τ).loc main_arg0)) (m ((c.tc : Thread nD τ).loc main_arg1))) :
    θ_run defs (onTc (τ := τ) (main (F := Ideal))) ⟨m, fun _ => 0, ρ⟩ fun r => ∀ c : Dev nD,
      r.2.mem ((c.tc : Thread nD τ).loc main_v69)
        = sample (m ((c.tc : Thread nD τ).loc main_arg0)) (m ((c.tc : Thread nD τ).loc main_arg1)) (m ((c.tc : Thread nD τ).loc main_arg2)) (m ((c.tc : Thread nD τ).loc main_arg3)) :=
  (θ_run defs _ _).mono (fun _ h c =>
    (h c).1.trans (Eq.trans (by unfold Value.res_main_v69 result diffs means mean_0 mean_1 mean_2 mean_3 ends sums scan rows count; rfl) (result_eq _ _ _ _ (hf c)))) (Value.run m ρ)

/-- What the precondition says of the rows. -/
theorem finite_of_pre (h : (Cert.Pre_pool_sample_finite.fn (F := Ideal) u s w c : IVec S128x16x1024 1) = fun _ => 1#1) : Finite u s := by
  have hr : ∀ r (i : Fin 16) n, (rows u s (ix3 r i n) : EReal) ≠ ⊤ ∧ (rows u s (ix3 r i n) : EReal) ≠ ⊥ := fun r i n => by
    have e : Ideal.cmp .olt (max (rows u s (ix3 r i n)) (-rows u s (ix3 r i n))) (Ideal.ofBits FTy.f32 0x7F800000#32) = 1#1 := congrFun h (ix3 r i n)
    exact finite_of_abs _ e
  intro r n i
  by_cases hi : i < 15
  · have := hr r ⟨i, by omega⟩ n
    rwa [rows_apply] at this
  · have e : sixteen u s r n i = sixteen u s r n 15 := by
      unfold sixteen
      rw [dif_neg hi, dif_neg (by omega)]
    rw [e]
    have := hr r 15 n
    rwa [rows_apply] at this

end Cert.Proof.PoolSRef

end
-- ==== Proof.Pool.Value.lean ====
/-
  What the prompt's pool mixer leaves in its result array, in exact arithmetic. Its scratch holds sixteen rows before a
  block, then the block: zeros at a request's start, else the last sixteen rows of the block before.
-/
module

public import proofs.«01_k».proof.Proof.Pool.Formula
public import proofs.«01_k».proof.Proof.Gen.PoolIdeal.Value
public import Idealize.ShloMosaic.Lib.ValueLayout
public import Idealize.ShloMosaic.Lib.WritesUnit
public import Idealize.ShloMosaic.Lib.Pipeline.ReadBack

@[expose] public section

set_option maxRecDepth 16384

noncomputable section

namespace Cert.Proof.Pool

open Cert.PoolIdeal Cert.PoolIdeal.Gen
open Idealize.ShloMosaic Idealize.ShloMosaic.TcCoe Idealize.ShloMosaic.Tactic
open Idealize.SL Idealize.SL.Sem
open Idealize.ShloMosaic.Pipeline (Dat Cfg Window)

/-! ## The body's values at an index -/

section Body

/-- The number of rows averaged, as the body computes it. -/
theorem position (i : grid0.Coords) (r : Fin 1024) : k0_pay5 i (ix2 r 0) = 0#32 + BitVec.ofNat 32 (i 1).val * 1024#32 + BitVec.ofNat 32 r.val := by
  unfold k0_pay5
  pointwise
  rfl
theorem count (i : grid0.Coords) (s : ℕ) (hs : (i 1).val * 1024 = s) (hi : s < 2048) (r : Fin 1024) (g : Fin 4) (b : BitVec 32) (hb : b.toNat = width g) (hw : width g < 4096) :
    (((IntOp.minsi (k0_pay5 i (ix2 r 0) + 1#32) b).toInt : ℝ) : EReal) = rowsAt (s + r.val) g := by
  rw [position]
  exact congrArg (fun z : ℤ => ((z : ℝ) : EReal)) (least (s + r.val + 1) (width g) (by omega) hw _ b
    (by subst hs; simp only [BitVec.toNat_add, BitVec.toNat_mul, BitVec.toNat_ofNat]; omega) hb)

theorem mix_3 (d : FVec Ideal S1024x256 .bf16) (w : FVec Ideal S256x256 .bf16) (c : Vec Ideal S1x256 .f32) (r : Fin 1024) (e : Fin 256) :
    k0_pay1 d w c (ix2 r e) = ((∑ k : Fin 256, d (ix2 r k) * w (ix2 k e)) * c (ix2 0 e) : EReal) := by
  unfold k0_pay1
  pointwise
theorem flat_3 (w : Vec Ideal S1x256x256 .bf16) (k e : Fin 256) : k0_pay12 w (ix2 k e) = w (ix3 0 k e) := by
  unfold k0_pay12
  pointwise
theorem mix_0 (i : grid0.Coords) (t0 t1 : Vec Ideal S1024x256 .f32) (w : Vec Ideal S1x256x256 .bf16) (c : Vec Ideal S1x256 .f32) (r : Fin 1024) (e : Fin 256) :
    k0_pay6 i t0 t1 w c (ix2 r e)
      = ((∑ k : Fin 256, (Ideal.div (t0 (ix2 r k) + t1 (ix2 r k)) (((IntOp.minsi (k0_pay5 i (ix2 r 0) + 1#32) 2#32).toInt : ℝ) : EReal) - t0 (ix2 r k)) * w (ix3 0 k e)) * c (ix2 0 e) : EReal) := by
  unfold k0_pay6
  pointwise
  rfl
theorem mix_1 (v : IVec S1024x1 32) (t0 t1 t2 t3 : Vec Ideal S1024x256 .f32) (w : Vec Ideal S1x256x256 .bf16) (c : Vec Ideal S1x256 .f32) (r : Fin 1024) (e : Fin 256) :
    k0_pay7 v t0 t1 t2 t3 w c (ix2 r e)
      = ((∑ k : Fin 256, (Ideal.div (t0 (ix2 r k) + t1 (ix2 r k) + t2 (ix2 r k) + t3 (ix2 r k)) (((IntOp.minsi (v (ix2 r 0) + 1#32) 4#32).toInt : ℝ) : EReal) - t0 (ix2 r k)) * w (ix3 0 k e)) * c (ix2 0 e) : EReal) := by
  unfold k0_pay7
  pointwise
  rfl
theorem sum_2 (t0 t1 t2 t3 : Vec Ideal S1024x256 .f32) (r : Fin 1024) (e : Fin 256) :
    k0_pay8 t0 t1 t2 t3 (ix2 r e) = (t0 (ix2 r e) + t1 (ix2 r e) + t2 (ix2 r e) + t3 (ix2 r e) : EReal) := by
  unfold k0_pay8
  pointwise
theorem mix_2 (v : IVec S1024x1 32) (t0 : Vec Ideal S1024x256 .f32) (a : FVec Ideal S1024x256 .f32) (t4 t5 t6 t7 : Vec Ideal S1024x256 .f32) (w : Vec Ideal S1x256x256 .bf16) (c : Vec Ideal S1x256 .f32) (r : Fin 1024) (e : Fin 256) :
    k0_pay9 v t0 a t4 t5 t6 t7 w c (ix2 r e)
      = ((∑ k : Fin 256, (Ideal.div (a (ix2 r k) + t4 (ix2 r k) + t5 (ix2 r k) + t6 (ix2 r k) + t7 (ix2 r k)) (((IntOp.minsi (v (ix2 r 0) + 1#32) 8#32).toInt : ℝ) : EReal) - t0 (ix2 r k)) * w (ix3 0 k e)) * c (ix2 0 e) : EReal) := by
  unfold k0_pay9
  pointwise
  rfl
theorem sum_3 (t0 t1 t2 t3 t4 : Vec Ideal S1024x256 .f32) (r : Fin 1024) (e : Fin 256) :
    k0_pay10 t0 t1 t2 t3 t4 (ix2 r e) = (t0 (ix2 r e) + t1 (ix2 r e) + t2 (ix2 r e) + t3 (ix2 r e) + t4 (ix2 r e) : EReal) := by
  unfold k0_pay10
  pointwise
theorem less_3 (v : IVec S1024x1 32) (t0 : Vec Ideal S1024x256 .f32) (a : FVec Ideal S1024x256 .f32) (t5 t6 t7 t8 t9 t10 t11 t12 t13 t14 t15 : Vec Ideal S1024x256 .f32) (r : Fin 1024) (e : Fin 256) :
    k0_pay11 v t0 a t5 t6 t7 t8 t9 t10 t11 t12 t13 t14 t15 (ix2 r e)
      = (Ideal.div (a (ix2 r e) + t5 (ix2 r e) + t6 (ix2 r e) + t7 (ix2 r e) + t8 (ix2 r e) + t9 (ix2 r e) + t10 (ix2 r e) + t11 (ix2 r e) + t12 (ix2 r e) + t13 (ix2 r e)
          + t14 (ix2 r e) + t15 (ix2 r e)) (((IntOp.minsi (v (ix2 r 0) + 1#32) 16#32).toInt : ℝ) : EReal) - t0 (ix2 r e) : EReal) := by
  unfold k0_pay11
  pointwise
  rfl
theorem block_flat (x : Vec Ideal S1024x1024 .f32) (p n : Fin 1024) : k0_pay4 x (ix2 p n) = x (ix2 p n) := by
  unfold k0_pay4
  pointwise
theorem last_flat (x : Vec Ideal S16x1024 .f32) (p : Fin 16) (n : Fin 1024) : k0_pay2 x (ix2 p n) = x (ix2 p n) := by
  unfold k0_pay2
  pointwise
theorem zeros (p : Fin 16) (n : Fin 1024) : k0_pay3 (F := Ideal) (ix2 p n) = (0 : EReal) := by
  unfold k0_pay3
  pointwise

/-! ## The scratch -/

/-- The scratch after some stores, read at an index. -/
abbrev held (f : (View.whole cc0_scratch0 : View sig .tc _ S1040x1024 .f32).ty.Contents (Elt Ideal)) (L : List (View.Piece (Elt Ideal) S1040x1024 .f32)) : S1040x1024.Idx → EReal :=
  View.read (Elt Ideal) (View.whole cc0_scratch0) ((View.whole cc0_scratch0).writes (Elt Ideal) f L)

variable (f : (View.whole cc0_scratch0 : View sig .tc _ S1040x1024 .f32).ty.Contents (Elt Ideal)) (L : List (View.Piece (Elt Ideal) S1040x1024 .f32))

/-- Rows 16 on hold the block; the rows before are as they were. -/
theorem held_block (P : S1024x1024.Idx → EReal) (inb) (p n : Fin 1024) :
    held f (⟨Rect.unit (s := S1040x1024) ![16, 0] S1024x1024.size inb, P⟩ :: L) (ix2 ⟨16 + p.val, by omega⟩ n) = P (ix2 p n) :=
  View.read_writes_cons_rows_of_mem (View.whole cc0_scratch0) f inb P L _ (ix2 p n) rfl rfl rfl
theorem held_above (P : S1024x1024.Idx → EReal) (inb) (i : Fin 1040) (hi : i.val < 16) (n : Fin 1024) :
    held f (⟨Rect.unit (s := S1040x1024) ![16, 0] S1024x1024.size inb, P⟩ :: L) (ix2 i n) = held f L (ix2 i n) :=
  View.read_writes_cons_rows_of_not_mem (View.whole cc0_scratch0) f inb P L _ rfl rfl (Or.inl hi)
theorem held_first (Z : S16x1024.Idx → EReal) (inb) (i : Fin 1040) (hi : i.val < 16) (n : Fin 1024) :
    held f (⟨Rect.unit (s := S1040x1024) ![0, 0] S16x1024.size inb, Z⟩ :: L) (ix2 i n) = Z (ix2 ⟨i.val, hi⟩ n) :=
  View.read_writes_cons_rows_of_mem (View.whole cc0_scratch0) f inb Z L _ (ix2 ⟨i.val, hi⟩ n) rfl (by show i.val = 0 + i.val; omega) rfl

/-- With a block's fifteen rows before it, then its rows, as `g` counts them. -/
theorem held_rows (g : Fin 1024 → ℕ → EReal) (P : S1024x1024.Idx → EReal) (inb) (hP : ∀ p n : Fin 1024, P (ix2 p n) = g n (15 + p.val))
    (hL : ∀ (i : Fin 1040) (n : Fin 1024), 1 ≤ i.val → i.val < 16 → held f L (ix2 i n) = g n (i.val - 1)) (i : Fin 1040) (hi : 1 ≤ i.val) (n : Fin 1024) :
    held f (⟨Rect.unit (s := S1040x1024) ![16, 0] S1024x1024.size inb, P⟩ :: L) (ix2 i n) = g n (i.val - 1) := by
  by_cases h : i.val < 16
  · exact (held_above f L P inb i h n).trans (hL i n hi h)
  · obtain ⟨p, hp⟩ : ∃ p : Fin 1024, i.val = 16 + p.val := ⟨⟨i.val - 16, by omega⟩, by show i.val = 16 + (i.val - 16); omega⟩
    have e : i = ⟨16 + p.val, by omega⟩ := Fin.ext hp
    rw [e]
    exact (held_block f L P inb p n).trans ((hP p n).trans (congrArg (g n) (by show 15 + p.val = 16 + p.val - 1; omega)))

/-- A load holds the rows `k` before a block's own, in the columns of group `q`. -/
abbrev Row (g : Fin 1024 → ℕ → EReal) (q : Fin 4) (k : ℕ) (x : Vec Ideal S1024x256 .f32) : Prop := ∀ (r : Fin 1024) (e : Fin 256), x (ix2 r e) = g (col q e) (15 + r.val - k)

/-- A load of 1024 of the scratch's rows. -/
theorem tile_at (X : S1040x1024.Idx → Elt Ideal .f32) (a b : ℕ) (inb) (r : Fin 1024) (e : Fin 256) :
    View.ld X (Rect.unit (s := S1040x1024) ![a, b] S1024x256.size inb) (ix2 r e)
      = X (ix2 ⟨a + r.val, by have h : a + 1024 ≤ 1040 := inb 0; omega⟩ ⟨b + e.val, by have h : b + 256 ≤ 1024 := inb 1; omega⟩) :=
  View.ld_unit_apply_of _ _ _ _ _ _ fun i => by
    fin_cases i
    · rfl
    · rfl
theorem rows_load (g : Fin 1024 → ℕ → EReal) (X : S1040x1024.Idx → Elt Ideal .f32) (hX : ∀ i : Fin 1040, 1 ≤ i.val → ∀ n : Fin 1024, X (ix2 i n) = g n (i.val - 1))
    (a b : ℕ) (inb) (q : Fin 4) (k : ℕ) (hk : k < 16) (ha : a = 16 - k) (hb : b = q.val * 256) :
    Row g q k (View.ld X (Rect.unit (s := S1040x1024) ![a, b] S1024x256.size inb)) := fun r e => by
  subst hb
  exact (tile_at X a _ inb r e).trans ((hX _ (by show 1 ≤ a + r.val; omega) _).trans (congrArg (g _) (by show a + r.val - 1 = 15 + r.val - k; omega)))

/-- At a request's start: a load of the scratch after its zeros and the block. -/
theorem load_first (g : Fin 1024 → ℕ → EReal) (P : S1024x1024.Idx → Elt Ideal .f32) (hP : ∀ p n : Fin 1024, P (ix2 p n) = g n (15 + p.val)) (hg : ∀ n i, i < 15 → g n i = 0)
    (inb₁ inb₂) (a b : ℕ) (inb) (q : Fin 4) (k : ℕ) (hk : k < 16) (ha : a = 16 - k) (hb : b = q.val * 256) :
    Row g q k ((View.whole cc0_scratch0).readCov (Val := Elt Ideal) [⟨Rect.unit (s := S1040x1024) ![16, 0] S1024x1024.size inb₁, P⟩, ⟨Rect.unit (s := S1040x1024) ![0, 0] S16x1024.size inb₂, k0_pay3 (F := Ideal)⟩]
        (Rect.unit (s := S1040x1024) ![a, b] S1024x256.size inb).toLoadRect) :=
  rows_load g (held (View.whole cc0_scratch0).junk [⟨Rect.unit (s := S1040x1024) ![16, 0] S1024x1024.size inb₁, P⟩, ⟨Rect.unit (s := S1040x1024) ![0, 0] S16x1024.size inb₂, k0_pay3 (F := Ideal)⟩]) (held_rows _ _ g P inb₁ hP fun i n hi h =>
    (held_first _ _ _ inb₂ i h n).trans ((zeros _ n).trans (hg n _ (by omega)).symm)) a b inb q k hk ha hb
/-- Later: a load of the block's own rows, and one that starts among the rows before it. -/
theorem load_own (g : Fin 1024 → ℕ → EReal) (P : S1024x1024.Idx → Elt Ideal .f32) (hP : ∀ p n : Fin 1024, P (ix2 p n) = g n (15 + p.val))
    (inb₁) (b : ℕ) (inb) (q : Fin 4) (hb : b = q.val * 256) :
    Row g q 0 ((View.whole cc0_scratch0).readCov (Val := Elt Ideal) [⟨Rect.unit (s := S1040x1024) ![16, 0] S1024x1024.size inb₁, P⟩]
        (Rect.unit (s := S1040x1024) ![16, b] S1024x256.size inb).toLoadRect) := fun r e => by
  subst hb
  exact (tile_at (held (View.whole cc0_scratch0).junk [⟨Rect.unit (s := S1040x1024) ![16, 0] S1024x1024.size inb₁, P⟩]) 16 _ inb r e).trans ((held_block _ _ P inb₁ r _).trans (hP _ _))
theorem load_later (g : Fin 1024 → ℕ → EReal) (P : S1024x1024.Idx → Elt Ideal .f32) (hP : ∀ p n : Fin 1024, P (ix2 p n) = g n (15 + p.val))
    (X : S1040x1024.Idx → Elt Ideal .f32) (hX : ∀ (i : Fin 1040) (n : Fin 1024), 1 ≤ i.val → i.val < 16 → X (ix2 i n) = g n (i.val - 1)) (hw : (Memref.whole cc0_scratch0).IsWhole)
    (inb₁) (a b : ℕ) (inb) (q : Fin 4) (k : ℕ) (hk : k < 16) (ha : a = 16 - k) (hb : b = q.val * 256) :
    Row g q k (View.ld (View.read (Elt Ideal) (View.whole cc0_scratch0) ((View.whole cc0_scratch0).writes (Elt Ideal) (hw.unread X) [⟨Rect.unit (s := S1040x1024) ![16, 0] S1024x1024.size inb₁, P⟩]))
        (Rect.unit (s := S1040x1024) ![a, b] S1024x256.size inb)) :=
  rows_load g _ (held_rows (hw.unread X) [] g P inb₁ hP fun i n hi h =>
    (congrFun (read_unread_whole cc0_scratch0 hw X) (ix2 i n)).trans (hX i n hi h)) a b inb q k hk ha hb
/-- The block's last sixteen rows. -/
theorem last_at (X : S1040x1024.Idx → Elt Ideal .f32) (inb) (p : Fin 16) (n : Fin 1024) :
    View.ld X (Rect.unit (s := S1040x1024) ![1024, 0] S16x1024.size inb) (ix2 p n) = X (ix2 ⟨16 + (1008 + p.val), by omega⟩ n) :=
  View.ld_unit_apply_of _ _ _ _ _ _ fun i => by
    fin_cases i
    · show 16 + (1008 + p.val) = 1024 + p.val; omega
    · show n.val = 0 + n.val; omega
theorem load_last (P : S1024x1024.Idx → Elt Ideal .f32) (inb₁) (inb) (p : Fin 16) (n : Fin 1024) :
    (View.whole cc0_scratch0).readCov (Val := Elt Ideal) (⟨Rect.unit (s := S1040x1024) ![16, 0] S1024x1024.size inb₁, P⟩ :: L)
        (Rect.unit (s := S1040x1024) ![1024, 0] S16x1024.size inb).toLoadRect (ix2 p n)
      = P (ix2 ⟨1008 + p.val, by omega⟩ n) :=
  (last_at (held (View.whole cc0_scratch0).junk (⟨Rect.unit (s := S1040x1024) ![16, 0] S1024x1024.size inb₁, P⟩ :: L)) inb p n).trans (held_block _ L P inb₁ ⟨1008 + p.val, by omega⟩ n)

/-! ## A group's matrix and scales, and its rows added one after another -/

variable (x1 : Vec Ideal S4x256x256 .bf16) (x2 : Vec Ideal S1x1024 .f32) (w : Weights) (c : Scales)

theorem matrix (h1 : ∀ g k e, x1 (ix3 g k e) = w (ix4 0 g k e)) (a : ℕ) (inb) (q : Fin 4) (ha : a = q.val) (k e : Fin 256) :
    View.ld x1 (Rect.unit (s := S4x256x256) ![a, 0, 0] S1x256x256.size inb) (ix3 0 k e) = w (ix4 0 q k e) :=
  (View.ld_unit_apply_of _ _ _ _ _ (ix3 q k e) fun i => by
    fin_cases i
    · show q.val = a + 0; omega
    · show k.val = 0 + k.val; omega
    · show e.val = 0 + e.val; omega).trans (h1 _ _ _)
theorem scales (h2 : ∀ n, x2 (ix2 0 n) = c (ix2 0 n)) (b : ℕ) (inb) (q : Fin 4) (hb : b = q.val * 256) (e : Fin 256) :
    View.ld x2 (Rect.unit (s := S1x1024) ![0, b] S1x256.size inb) (ix2 0 e) = c (ix2 0 (col q e)) :=
  (View.ld_unit_apply_of _ _ _ _ _ (ix2 0 (col q e)) fun a => by
    fin_cases a
    · rfl
    · show q.val * 256 + e.val = b + e.val; omega).trans (h2 _)

theorem rows_0 (h : ℕ → EReal) (j : ℕ) : ∑ k ∈ Finset.range (width 0), h (j - k) = h (j - 0) + h (j - 1) := by
  show ∑ k ∈ Finset.range 2, h (j - k) = _
  simp only [Finset.sum_range_succ, Finset.sum_range_zero, zero_add]
theorem rows_1 (h : ℕ → EReal) (j : ℕ) : ∑ k ∈ Finset.range (width 1), h (j - k) = h (j - 0) + h (j - 1) + h (j - 2) + h (j - 3) := by
  show ∑ k ∈ Finset.range 4, h (j - k) = _
  simp only [Finset.sum_range_succ, Finset.sum_range_zero, zero_add]
theorem rows_2 (h : ℕ → EReal) (j : ℕ) : ∑ k ∈ Finset.range (width 2), h (j - k)
    = h (j - 0) + h (j - 1) + h (j - 2) + h (j - 3) + h (j - 4) + h (j - 5) + h (j - 6) + h (j - 7) := by
  show ∑ k ∈ Finset.range 8, h (j - k) = _
  simp only [Finset.sum_range_succ, Finset.sum_range_zero, zero_add]
theorem rows_3 (h : ℕ → EReal) (j : ℕ) : ∑ k ∈ Finset.range (width 3), h (j - k)
    = h (j - 0) + h (j - 1) + h (j - 2) + h (j - 3) + h (j - 4) + h (j - 5) + h (j - 6) + h (j - 7) + h (j - 8) + h (j - 9) + h (j - 10) + h (j - 11) + h (j - 12) + h (j - 13) + h (j - 14) + h (j - 15) := by
  show ∑ k ∈ Finset.range 16, h (j - k) = _
  simp only [Finset.sum_range_succ, Finset.sum_range_zero, zero_add]

section Groups

/-! ## A group's differences, mixed -/

/-- What a group's store holds at row `r` and the group's column `e`. -/
abbrev mixedAt (s : ℕ) (g : Fin 1024 → ℕ → EReal) (w : Weights) (c : Scales) (q : Fin 4) (r : Fin 1024) (e : Fin 256) : EReal :=
  (∑ k : Fin 256, less (rowsAt (s + r.val) q) (width q) (g (col q k)) (15 + r.val) * w (ix4 0 q k e)) * c (ix2 0 (col q e))

variable (i : grid0.Coords) (s : ℕ) (hs : (i 1).val * 1024 = s) (hs' : s < 2048) (g : Fin 1024 → ℕ → EReal)
include hs hs'

theorem group_0 (t0 t1 : Vec Ideal S1024x256 .f32) (r0 : Row g 0 0 t0) (r1 : Row g 0 1 t1)
    (W : Vec Ideal S1x256x256 .bf16) (hW : ∀ k e, W (ix3 0 k e) = w (ix4 0 0 k e)) (C : Vec Ideal S1x256 .f32) (hC : ∀ e, C (ix2 0 e) = c (ix2 0 (col 0 e))) (r : Fin 1024) (e : Fin 256) :
    k0_pay6 i t0 t1 W C (ix2 r e) = mixedAt s g w c 0 r e := by
  refine (mix_0 _ _ _ _ _ r e).trans ?_
  simp only [r0 r, r1 r, hW, hC, count i s hs hs' r 0 2#32 rfl (by decide)]
  unfold mixedAt less
  simp only [rows_0]
  rfl
theorem group_1 (t0 t1 t2 t3 : Vec Ideal S1024x256 .f32) (r0 : Row g 1 0 t0) (r1 : Row g 1 1 t1) (r2 : Row g 1 2 t2) (r3 : Row g 1 3 t3)
    (W : Vec Ideal S1x256x256 .bf16) (hW : ∀ k e, W (ix3 0 k e) = w (ix4 0 1 k e)) (C : Vec Ideal S1x256 .f32) (hC : ∀ e, C (ix2 0 e) = c (ix2 0 (col 1 e))) (r : Fin 1024) (e : Fin 256) :
    k0_pay7 (k0_pay5 i) t0 t1 t2 t3 W C (ix2 r e) = mixedAt s g w c 1 r e := by
  refine (mix_1 _ _ _ _ _ _ _ r e).trans ?_
  simp only [r0 r, r1 r, r2 r, r3 r, hW, hC, count i s hs hs' r 1 4#32 rfl (by decide)]
  unfold mixedAt less
  simp only [rows_1]
  rfl
theorem group_2 (t0 t1 t2 t3 t4 t5 t6 t7 : Vec Ideal S1024x256 .f32) (r0 : Row g 2 0 t0) (r1 : Row g 2 1 t1) (r2 : Row g 2 2 t2) (r3 : Row g 2 3 t3) (r4 : Row g 2 4 t4) (r5 : Row g 2 5 t5) (r6 : Row g 2 6 t6) (r7 : Row g 2 7 t7)
    (W : Vec Ideal S1x256x256 .bf16) (hW : ∀ k e, W (ix3 0 k e) = w (ix4 0 2 k e)) (C : Vec Ideal S1x256 .f32) (hC : ∀ e, C (ix2 0 e) = c (ix2 0 (col 2 e))) (r : Fin 1024) (e : Fin 256) :
    k0_pay9 (k0_pay5 i) t0 (k0_pay8 t0 t1 t2 t3) t4 t5 t6 t7 W C (ix2 r e) = mixedAt s g w c 2 r e := by
  refine (mix_2 _ _ _ _ _ _ _ _ _ r e).trans ?_
  simp only [sum_2, r0 r, r1 r, r2 r, r3 r, r4 r, r5 r, r6 r, r7 r, hW, hC, count i s hs hs' r 2 8#32 rfl (by decide)]
  unfold mixedAt less
  simp only [rows_2]
  rfl
theorem group_3 (t0 t1 t2 t3 t4 t5 t6 t7 t8 t9 t10 t11 t12 t13 t14 t15 : Vec Ideal S1024x256 .f32) (r0 : Row g 3 0 t0) (r1 : Row g 3 1 t1) (r2 : Row g 3 2 t2) (r3 : Row g 3 3 t3) (r4 : Row g 3 4 t4) (r5 : Row g 3 5 t5) (r6 : Row g 3 6 t6) (r7 : Row g 3 7 t7) (r8 : Row g 3 8 t8) (r9 : Row g 3 9 t9) (r10 : Row g 3 10 t10) (r11 : Row g 3 11 t11) (r12 : Row g 3 12 t12) (r13 : Row g 3 13 t13) (r14 : Row g 3 14 t14) (r15 : Row g 3 15 t15)
    (W : Vec Ideal S1x256x256 .bf16) (hW : ∀ k e, W (ix3 0 k e) = w (ix4 0 3 k e)) (C : Vec Ideal S1x256 .f32) (hC : ∀ e, C (ix2 0 e) = c (ix2 0 (col 3 e))) (r : Fin 1024) (e : Fin 256) :
    k0_pay1 (k0_pay11 (k0_pay5 i) t0 (k0_pay10 t0 t1 t2 t3 t4) t5 t6 t7 t8 t9 t10 t11 t12 t13 t14 t15) (k0_pay12 W) C (ix2 r e) = mixedAt s g w c 3 r e := by
  refine (mix_3 _ _ _ r e).trans ?_
  simp only [less_3, sum_3, flat_3, r0 r, r1 r, r2 r, r3 r, r4 r, r5 r, r6 r, r7 r, r8 r, r9 r, r10 r, r11 r, r12 r, r13 r, r14 r, r15 r, hW, hC, count i s hs hs' r 3 16#32 rfl (by decide)]
  unfold mixedAt less
  simp only [rows_3]
  rfl

end Groups

/-- A block's result, from position `s`. -/
abbrev blockOf (s : ℕ) (g : Fin 1024 → ℕ → EReal) (w : Weights) (c : Scales) : (⟨2, ![1024, 1024]⟩ : Shape).Idx → EReal :=
  mixed (fun r q k => less (rowsAt (s + r.val) q) (width q) (g (col q k)) (15 + r.val)) w c

/-- One group's store, read where it lands. -/
theorem piece (s : ℕ) (g : Fin 1024 → ℕ → EReal) (q : Fin 4) (b : ℕ) (hb : b = q.val * 256) (inb) (p : FVec Ideal S1024x256 .bf16)
    (hp : ∀ r e, p (ix2 r e) = ((∑ k : Fin 256, less (rowsAt (s + r.val) q) (width q) (g (col q k)) (15 + r.val) * w (ix4 0 q k e)) * c (ix2 0 (col q e)) : EReal))
    (x : S1024x256.Idx) : p x = blockOf s g w c ((Rect.unit (s := S1024x1024) ![0, b] S1024x256.size inb).emb x) := by
  obtain ⟨r, e, rfl⟩ : ∃ (r : Fin 1024) (e : Fin 256), x = ix2 r e := ⟨x 0, x 1, funext fun i => by fin_cases i <;> rfl⟩
  subst hb
  refine (hp r e).trans ((mixed_apply _ w c r q e).symm.trans (congrArg (blockOf s g w c) (funext fun i => Fin.ext ?_)))
  fin_cases i
  · show r.val = 0 + 1 * r.val; omega
  · show q.val * 256 + e.val = q.val * 256 + 1 * e.val; omega

end Body

variable (m : (ℓ : Loc nD τ sig) → Buf (Elt Ideal) ℓ) (ρ : Dev nD → PrngReg)

/-! ## What a point leaves -/

/-- A request's first block. -/
theorem out_first (d : Dev nD) (t : Fin cfg0.N) (h0 : t.val % 2 = 0) (s : ℕ) (hs : (grid0.coords t 1).val * 1024 = s) (hs' : s < 2048) (g : Fin 1024 → ℕ → EReal) (w : Weights) (c : Scales)
    (hx : ∀ p n : Fin 1024, iblk m d 0 t (ix2 p n) = g n (15 + p.val))
    (hg : ∀ n i, i < 15 → g n i = 0)
    (h1 : ∀ q k e, iblk m d 1 t (ix3 q k e) = w (ix4 0 q k e)) (h2 : ∀ n, iblk m d 2 t (ix2 0 n) = c (ix2 0 n)) :
    (outsAt0 m d t.val t.isLt).1 = blockOf s g w c := by
  have hP : ∀ p n : Fin 1024, k0_pay4 (F := Ideal) (iblk m d 0 t) (ix2 p n) = g n (15 + p.val) := fun p n => (block_flat _ p n).trans (hx p n)
  funext y
  rw [outsAt0_A m d t h0]
  frame_out
  refine View.canon_apply_of_pieces _ _ (View.PiecesOf.mem ?_) y (View.cover_of_tiledL (s := S1024x1024) _ S1024x256.size (by sl_kernel_rfl) y)
  refine ⟨piece w c s g 3 768 rfl inb_S1024x1024_S1024x256_0_768 _ fun r e => ?_, piece w c s g 2 512 rfl inb_S1024x1024_S1024x256_0_512 _ fun r e => ?_, piece w c s g 1 256 rfl inb_S1024x1024_S1024x256_0_256 _ fun r e => ?_, piece w c s g 0 0 rfl inb_S1024x1024_S1024x256_0_0 _ fun r e => ?_, trivial⟩
  · exact group_3 w c (grid0.coords t) s hs hs' g _ _ _ _ _ _ _ _ _ _ _ _ _ _ _ _ (load_first g _ hP hg _ _ 16 768 _ 3 0 (by decide) rfl rfl) (load_first g _ hP hg _ _ 15 768 _ 3 1 (by decide) rfl rfl) (load_first g _ hP hg _ _ 14 768 _ 3 2 (by decide) rfl rfl) (load_first g _ hP hg _ _ 13 768 _ 3 3 (by decide) rfl rfl) (load_first g _ hP hg _ _ 12 768 _ 3 4 (by decide) rfl rfl) (load_first g _ hP hg _ _ 11 768 _ 3 5 (by decide) rfl rfl) (load_first g _ hP hg _ _ 10 768 _ 3 6 (by decide) rfl rfl) (load_first g _ hP hg _ _ 9 768 _ 3 7 (by decide) rfl rfl) (load_first g _ hP hg _ _ 8 768 _ 3 8 (by decide) rfl rfl) (load_first g _ hP hg _ _ 7 768 _ 3 9 (by decide) rfl rfl) (load_first g _ hP hg _ _ 6 768 _ 3 10 (by decide) rfl rfl) (load_first g _ hP hg _ _ 5 768 _ 3 11 (by decide) rfl rfl) (load_first g _ hP hg _ _ 4 768 _ 3 12 (by decide) rfl rfl) (load_first g _ hP hg _ _ 3 768 _ 3 13 (by decide) rfl rfl) (load_first g _ hP hg _ _ 2 768 _ 3 14 (by decide) rfl rfl) (load_first g _ hP hg _ _ 1 768 _ 3 15 (by decide) rfl rfl)
      _ (matrix _ w h1 3 _ 3 rfl) _ (scales _ c h2 768 _ 3 rfl) r e
  · exact group_2 w c (grid0.coords t) s hs hs' g _ _ _ _ _ _ _ _ (load_first g _ hP hg _ _ 16 512 _ 2 0 (by decide) rfl rfl) (load_first g _ hP hg _ _ 15 512 _ 2 1 (by decide) rfl rfl) (load_first g _ hP hg _ _ 14 512 _ 2 2 (by decide) rfl rfl) (load_first g _ hP hg _ _ 13 512 _ 2 3 (by decide) rfl rfl) (load_first g _ hP hg _ _ 12 512 _ 2 4 (by decide) rfl rfl) (load_first g _ hP hg _ _ 11 512 _ 2 5 (by decide) rfl rfl) (load_first g _ hP hg _ _ 10 512 _ 2 6 (by decide) rfl rfl) (load_first g _ hP hg _ _ 9 512 _ 2 7 (by decide) rfl rfl)
      _ (matrix _ w h1 2 _ 2 rfl) _ (scales _ c h2 512 _ 2 rfl) r e
  · exact group_1 w c (grid0.coords t) s hs hs' g _ _ _ _ (load_first g _ hP hg _ _ 16 256 _ 1 0 (by decide) rfl rfl) (load_first g _ hP hg _ _ 15 256 _ 1 1 (by decide) rfl rfl) (load_first g _ hP hg _ _ 14 256 _ 1 2 (by decide) rfl rfl) (load_first g _ hP hg _ _ 13 256 _ 1 3 (by decide) rfl rfl)
      _ (matrix _ w h1 1 _ 1 rfl) _ (scales _ c h2 256 _ 1 rfl) r e
  · exact group_0 w c (grid0.coords t) s hs hs' g _ _ (load_first g _ hP hg _ _ 16 0 _ 0 0 (by decide) rfl rfl) (load_first g _ hP hg _ _ 15 0 _ 0 1 (by decide) rfl rfl)
      _ (matrix _ w h1 0 _ 0 rfl) _ (scales _ c h2 0 _ 0 rfl) r e
/-- A request's second block. -/
theorem out_later (d : Dev nD) (t : Fin cfg0.N) (h0 : ¬t.val % 2 = 0) (s : ℕ) (hs : (grid0.coords t 1).val * 1024 = s) (hs' : s < 2048) (g : Fin 1024 → ℕ → EReal) (w : Weights) (c : Scales)
    (hx : ∀ p n : Fin 1024, iblk m d 0 t (ix2 p n) = g n (15 + p.val))
    (hX : ∀ (i : Fin 1040) (n : Fin 1024), 1 ≤ i.val → i.val < 16 → (outsAt0 m d (t.val - 1) (by omega)).2 (ix2 i n) = g n (i.val - 1))
    (h1 : ∀ q k e, iblk m d 1 t (ix3 q k e) = w (ix4 0 q k e)) (h2 : ∀ n, iblk m d 2 t (ix2 0 n) = c (ix2 0 n)) :
    (outsAt0 m d t.val t.isLt).1 = blockOf s g w c := by
  have hP : ∀ p n : Fin 1024, k0_pay4 (F := Ideal) (iblk m d 0 t) (ix2 p n) = g n (15 + p.val) := fun p n => (block_flat _ p n).trans (hx p n)
  funext y
  rw [outsAt0_B m d t h0]
  frame_out
  refine View.canon_apply_of_pieces _ _ (View.PiecesOf.mem ?_) y (View.cover_of_tiledL (s := S1024x1024) _ S1024x256.size (by sl_kernel_rfl) y)
  refine ⟨piece w c s g 3 768 rfl inb_S1024x1024_S1024x256_0_768 _ fun r e => ?_, piece w c s g 2 512 rfl inb_S1024x1024_S1024x256_0_512 _ fun r e => ?_, piece w c s g 1 256 rfl inb_S1024x1024_S1024x256_0_256 _ fun r e => ?_, piece w c s g 0 0 rfl inb_S1024x1024_S1024x256_0_0 _ fun r e => ?_, trivial⟩
  · exact group_3 w c (grid0.coords t) s hs hs' g _ _ _ _ _ _ _ _ _ _ _ _ _ _ _ _ (load_own g _ hP _ 768 _ 3 rfl) (load_later g _ hP _ hX _ _ 15 768 _ 3 1 (by decide) rfl rfl) (load_later g _ hP _ hX _ _ 14 768 _ 3 2 (by decide) rfl rfl) (load_later g _ hP _ hX _ _ 13 768 _ 3 3 (by decide) rfl rfl) (load_later g _ hP _ hX _ _ 12 768 _ 3 4 (by decide) rfl rfl) (load_later g _ hP _ hX _ _ 11 768 _ 3 5 (by decide) rfl rfl) (load_later g _ hP _ hX _ _ 10 768 _ 3 6 (by decide) rfl rfl) (load_later g _ hP _ hX _ _ 9 768 _ 3 7 (by decide) rfl rfl) (load_later g _ hP _ hX _ _ 8 768 _ 3 8 (by decide) rfl rfl) (load_later g _ hP _ hX _ _ 7 768 _ 3 9 (by decide) rfl rfl) (load_later g _ hP _ hX _ _ 6 768 _ 3 10 (by decide) rfl rfl) (load_later g _ hP _ hX _ _ 5 768 _ 3 11 (by decide) rfl rfl) (load_later g _ hP _ hX _ _ 4 768 _ 3 12 (by decide) rfl rfl) (load_later g _ hP _ hX _ _ 3 768 _ 3 13 (by decide) rfl rfl) (load_later g _ hP _ hX _ _ 2 768 _ 3 14 (by decide) rfl rfl) (load_later g _ hP _ hX _ _ 1 768 _ 3 15 (by decide) rfl rfl)
      _ (matrix _ w h1 3 _ 3 rfl) _ (scales _ c h2 768 _ 3 rfl) r e
  · exact group_2 w c (grid0.coords t) s hs hs' g _ _ _ _ _ _ _ _ (load_own g _ hP _ 512 _ 2 rfl) (load_later g _ hP _ hX _ _ 15 512 _ 2 1 (by decide) rfl rfl) (load_later g _ hP _ hX _ _ 14 512 _ 2 2 (by decide) rfl rfl) (load_later g _ hP _ hX _ _ 13 512 _ 2 3 (by decide) rfl rfl) (load_later g _ hP _ hX _ _ 12 512 _ 2 4 (by decide) rfl rfl) (load_later g _ hP _ hX _ _ 11 512 _ 2 5 (by decide) rfl rfl) (load_later g _ hP _ hX _ _ 10 512 _ 2 6 (by decide) rfl rfl) (load_later g _ hP _ hX _ _ 9 512 _ 2 7 (by decide) rfl rfl)
      _ (matrix _ w h1 2 _ 2 rfl) _ (scales _ c h2 512 _ 2 rfl) r e
  · exact group_1 w c (grid0.coords t) s hs hs' g _ _ _ _ (load_own g _ hP _ 256 _ 1 rfl) (load_later g _ hP _ hX _ _ 15 256 _ 1 1 (by decide) rfl rfl) (load_later g _ hP _ hX _ _ 14 256 _ 1 2 (by decide) rfl rfl) (load_later g _ hP _ hX _ _ 13 256 _ 1 3 (by decide) rfl rfl)
      _ (matrix _ w h1 1 _ 1 rfl) _ (scales _ c h2 256 _ 1 rfl) r e
  · exact group_0 w c (grid0.coords t) s hs hs' g _ _ (load_own g _ hP _ 0 _ 0 rfl) (load_later g _ hP _ hX _ _ 15 0 _ 0 1 (by decide) rfl rfl)
      _ (matrix _ w h1 0 _ 0 rfl) _ (scales _ c h2 0 _ 0 rfl) r e
/-- The scratch after a request's first block: its last sixteen rows are kept. -/
theorem kept (d : Dev nD) (t : Fin cfg0.N) (h0 : t.val % 2 = 0) (i : Fin 1040) (hi : i.val < 16) (n : Fin 1024) :
    (outsAt0 m d t.val t.isLt).2 (ix2 i n) = iblk m d 0 t (ix2 ⟨1008 + i.val, by omega⟩ n) := by
  rw [outsAt0_A m d t h0]
  frame_out
  refine (View.read_writes_junk_apply_eq_canon (View.whole cc0_scratch0) (ix2 i n) _).symm.trans ?_
  exact (held_first _ _ _ inb_S1040x1024_S16x1024_0_0 i hi n).trans ((last_flat _ _ n).trans ((load_last _ _ _ _ ⟨i.val, hi⟩ n).trans (block_flat _ _ n)))

/-! ## The arrays the region reads -/

theorem flat_weights (w : S1x4x256x256.Idx → Elt Ideal .f32) (g : Fin 4) (k e : Fin 256) :
    truncf (F := Ideal) .bf16 (shapeCast S4x256x256 w shapeCasts_S1x4x256x256_S4x256x256) bitsLt_bf16_f32 (ix3 g k e) = w (ix4 0 g k e) := by
  pointwise
theorem V_v1 (c : Dev nD) (g : Fin 4) (k e : Fin 256) : V m c main_v1 (ix3 g k e) = m ((c : Thread nD τ).loc main_arg1) (ix4 0 g k e) := by
  have h : V m c main_v1 = truncf (F := Ideal) .bf16 (shapeCast S4x256x256 (m ((c : Thread nD τ).loc main_arg1)) shapeCasts_S1x4x256x256_S4x256x256) bitsLt_bf16_f32 := by
    simp only [V, hostOps0, List.flatten_cons, List.flatten_nil, List.append_nil, List.cons_append, List.nil_append]
    after_results_simp <;> rfl
  exact (congrFun h _).trans (flat_weights _ g k e)

/-! ## The blocks -/

theorem points : cfg0.N = 8 := N_0
theorem index_0 : ∀ t : Fin cfg0.N, win0_0.index t = ![t.val, 8] := (by decide +kernel : ∀ t : Fin grid0.N, win0_0.index t = ![t.val, 8])
theorem index_1 : ∀ t : Fin cfg0.N, win0_1.index t = ![0, 0, 0] := (by decide +kernel : ∀ t : Fin grid0.N, win0_1.index t = ![0, 0, 0])
theorem index_2 : ∀ t : Fin cfg0.N, win0_2.index t = ![0, 0] := (by decide +kernel : ∀ t : Fin grid0.N, win0_2.index t = ![0, 0])
theorem index_3 : ∀ t : Fin cfg0.N, win0_3.index t = ![t.val, 0] := (by decide +kernel : ∀ t : Fin grid0.N, win0_3.index t = ![t.val, 0])
/-- A point's place in its request. -/
theorem place : ∀ t : Fin cfg0.N, (grid0.coords t 1).val = t.val % 2 := (by decide +kernel : ∀ t : Fin grid0.N, (grid0.coords t 1).val = t.val % 2)

theorem blk_0 (c : Dev nD) (t : Fin cfg0.N) (p n : Fin 1024) :
    iblk m c 0 t (ix2 p n) = m ((c : Thread nD τ).loc main_arg0) (ix2 ⟨t.val * 1024 + p.val, by have := t.isLt; have := points; omega⟩ ⟨8192 + n.val, by omega⟩) := by
  blk_simp [iblk]
  rw [V_main_arg0]
  refine congrArg (m ((c : Thread nD τ).loc main_arg0)) (funext fun i => Fin.ext ?_)
  fin_cases i
  · blk_simp [index_0] <;> rfl
  · blk_simp [index_0] <;> rfl
theorem blk_1 (c : Dev nD) (t : Fin cfg0.N) (g : Fin 4) (k e : Fin 256) : iblk m c 1 t (ix3 g k e) = V m c main_v1 (ix3 g k e) := by
  blk_simp [iblk]
  refine congrArg (V m c main_v1) (funext fun i => Fin.ext ?_)
  fin_cases i
  · blk_simp [index_1] <;> rfl
  · blk_simp [index_1] <;> rfl
  · blk_simp [index_1] <;> rfl
theorem blk_2 (c : Dev nD) (t : Fin cfg0.N) (n : Fin 1024) : iblk m c 2 t (ix2 0 n) = m ((c : Thread nD τ).loc main_arg2) (ix2 0 n) := by
  blk_simp [iblk]
  rw [V_main_arg2]
  refine congrArg (m ((c : Thread nD τ).loc main_arg2)) (funext fun i => Fin.ext ?_)
  fin_cases i
  · blk_simp [index_2] <;> rfl
  · blk_simp [index_2] <;> rfl

/-- The rows of a point's request, counted from fifteen before the point's first. -/
abbrev rowsFrom (c : Dev nD) (t : Fin cfg0.N) (n : Fin 1024) (i : ℕ) : EReal :=
  padded (m ((c : Thread nD τ).loc main_arg0)) ⟨t.val / 2, by have := t.isLt; have := points; omega⟩ n (t.val % 2 * 1024 + i)

theorem rows_block (c : Dev nD) (t : Fin cfg0.N) (p n : Fin 1024) : iblk m c 0 t (ix2 p n) = rowsFrom m c t n (15 + p.val) := by
  have ht := t.isLt
  have hN := points
  refine (blk_0 m c t p n).trans ((padded_token _ _ n ⟨t.val % 2 * 1024 + p.val, by omega⟩ _ (by show t.val % 2 * 1024 + (15 + p.val) = 15 + (t.val % 2 * 1024 + p.val); omega)).trans ?_).symm
  exact congrArg (m ((c : Thread nD τ).loc main_arg0)) (congrArg (fun z => ix2 z _) (Fin.ext (by show t.val / 2 * 2048 + (t.val % 2 * 1024 + p.val) = t.val * 1024 + p.val; omega)))

/-! ## The array after the run -/

abbrev resultOf (c : Dev nD) : S8192x1024.Idx → EReal :=
  prompt (m ((c : Thread nD τ).loc main_arg0)) (m ((c : Thread nD τ).loc main_arg1)) (m ((c : Thread nD τ).loc main_arg2))

theorem out_block (c : Dev nD) (t : Fin cfg0.N) : (outsAt0 m c t.val t.isLt).1
    = blockOf (t.val % 2 * 1024) (rowsFrom m c t) (m ((c : Thread nD τ).loc main_arg1)) (m ((c : Thread nD τ).loc main_arg2)) := by
  have ht := t.isLt
  have hN := points
  have h1 := fun q k e => (blk_1 m c t q k e).trans (V_v1 m c q k e)
  by_cases h0 : t.val % 2 = 0
  · exact out_first m c t h0 _ (by rw [place]) (by omega) _ _ _ (rows_block m c t) (fun n i hi => padded_zero _ _ n _ (by omega)) h1 (blk_2 m c t)
  · refine out_later m c t h0 _ (by rw [place]) (by omega) _ _ _ (rows_block m c t) (fun i n hi hi' => ?_) h1 (blk_2 m c t)
    refine (kept m c ⟨t.val - 1, by omega⟩ (by show (t.val - 1) % 2 = 0; omega) i hi' n).trans ((rows_block m c ⟨t.val - 1, by omega⟩ _ n).trans ?_)
    unfold rowsFrom
    congr 1
    · exact Fin.ext (by show (t.val - 1) / 2 = t.val / 2; omega)
    · show (t.val - 1) % 2 * 1024 + (15 + (1008 + i.val)) = t.val % 2 * 1024 + (i.val - 1)
      omega

/-- The rows a mean reads stay the same under another count of them. -/
theorem less_from (k : EReal) (w : ℕ) (hw : w ≤ 16) (f : ℕ → EReal) (o j : ℕ) (hj : 15 ≤ j) : less k w (fun i => f (o + i)) j = less k w f (o + j) := by
  unfold less
  refine congrArg (fun x : EReal => Ideal.div x k - f (o + j)) (Finset.sum_congr rfl fun a ha => congrArg f ?_)
  have := Finset.mem_range.mp ha
  omega
theorem width_le : ∀ g : Fin 4, width g ≤ 16 := by decide

/-- A point's block is the mixer's rows from the point's first. -/
theorem block_prompt (c : Dev nD) (t : Fin cfg0.N) (r n : Fin 1024) : (outsAt0 m c t.val t.isLt).1 (ix2 r n)
    = resultOf m c (ix2 ⟨t.val * 1024 + r.val, by have := t.isLt; have := points; omega⟩ n) := by
  have ht := t.isLt
  have hN := points
  have e1 : (t.val * 1024 + r.val) / 2048 = t.val / 2 := by omega
  have e2 : (t.val * 1024 + r.val) % 2048 = t.val % 2 * 1024 + r.val := by omega
  rw [out_block]
  refine congrArg (fun x : EReal => x * _) (Finset.sum_congr rfl fun k _ => congrArg (fun x : EReal => x * _) ?_)
  show less (rowsAt (t.val % 2 * 1024 + r.val) _) _ _ (15 + r.val) = less (rowsAt ((t.val * 1024 + r.val) % 2048) _) _ (padded _ ⟨(t.val * 1024 + r.val) / 2048, _⟩ _) (15 + (t.val * 1024 + r.val) % 2048)
  simp only [e1, e2]
  rw [less_from _ _ (width_le _) _ _ _ (by omega)]
  exact congrArg _ (by omega)

theorem final (c : Dev nD) : (dats m 0 c).arrAt 3 cfg0.N = resultOf m c := by
  refine (dats m 0 c).arrAt_eq_of_covers 3 _ (by decide +kernel) fun t hf y => ?_
  blk_simp
  rw [after0_3]
  idx_vars y
  refine (block_prompt m c t _ _).trans (congrArg (resultOf m c) (funext fun i => Fin.ext ?_))
  fin_cases i
  · blk_simp [index_3] <;> rfl
  · blk_simp [index_3] <;> rfl

/-- The run, its result named. -/
theorem run : θ_run defs (onTc (τ := τ) (main (F := Ideal))) ⟨m, fun _ => 0, ρ⟩ fun r => ∀ c : Dev nD,
    r.2.mem ((c : Thread nD τ).loc main_v2) = resultOf m c :=
  (θ_run defs _ _).mono (fun _ h c => (h c).1.trans (final m c)) (Value.run_blocks m ρ)

end Cert.Proof.Pool

end
-- ==== Proof.Pool.Reference.lean ====
/-
  The plain reference's pool mixer for the prompt, in exact arithmetic: over finite rows its running sums give the same means.
-/
module

public import proofs.«01_k».proof.Proof.Pool.Formula
public import proofs.«01_k».proof.Proof.Gen.RefPoolIdeal.Run
public import proofs.«01_k».proof.Proof.Gen.Pre_pool_finite
public import Idealize.ShloMosaic.Lib.ValueLayout

@[expose] public section

set_option maxRecDepth 16384

noncomputable section

namespace Cert.Proof.PoolRef

open Cert.RefPoolIdeal Cert.RefPoolIdeal.Gen Cert.Proof.Pool
open Idealize.ShloMosaic Idealize.ShloMosaic.TcCoe Idealize.ShloMosaic.Tactic
open Idealize.SL Idealize.SL.Sem

variable (u : S8192x13312.Idx → Elt Ideal .f32) (w : S1x4x256x256.Idx → Elt Ideal .f32) (c : S1x1024.Idx → Elt Ideal .f32)

/-! ## The rows and their running sums -/

/-- Fifteen zero rows, then the request's tokens. -/
def rows : FVec Ideal S4x2063x1024 .f32 :=
  concatenate S4x2063x1024 1 [⟨S4x15x1024, broadcastInDim S4x15x1024 ![] bcast_S_S4x15x1024 (constant (F := Ideal) S_ .f32 0x00000000#32)⟩,
    ⟨S4x2048x1024, shapeCast _ (extractStridedSlice S8192x1024 ![0, 8192] u slices_S8192x13312_S8192x1024_0_8192) shapeCasts_S8192x1024_S4x2048x1024⟩]
    concatenates_S4x15x1024_S4x2048x1024_S4x2063x1024_d1
theorem rows_zero (q : Fin 4) (i : Fin 15) (n : Fin 1024) : rows u (ix3 q ⟨i.val, by omega⟩ n) = (0 : EReal) := by
  unfold rows
  pointwise
theorem rows_token (q : Fin 4) (p : Fin 2048) (n : Fin 1024) :
    rows u (ix3 q ⟨p.val + 15, by omega⟩ n) = u (ix2 ⟨q.val * 2048 + p.val, by omega⟩ ⟨8192 + n.val, by omega⟩) := by
  unfold rows
  pointwise
  rw [dif_neg (by omega)]
  exact congrArg u (congrArg (fun z => ix2 z _) (Fin.ext (by show q.val * 2048 + (p.val + 15 - 15) = q.val * 2048 + p.val; omega)))
theorem rows_apply (q : Fin 4) (i : Fin 2063) (n : Fin 1024) : rows u (ix3 q i n) = padded u q n i.val := by
  by_cases h : i.val < 15
  · exact (rows_zero u q ⟨i.val, h⟩ n).trans (padded_zero u q n i.val h).symm
  · obtain ⟨p, hp⟩ : ∃ p : Fin 2048, i.val = p.val + 15 := ⟨⟨i.val - 15, by omega⟩, by show i.val = i.val - 15 + 15; omega⟩
    have e : i = ⟨p.val + 15, by omega⟩ := Fin.ext hp
    rw [e]
    exact (rows_token u q p n).trans (padded_token u q n p _ (Nat.add_comm _ _)).symm

/-- The running sums, a zero row first. -/
def scan : FVec Ideal S4x2063x1024 .f32 :=
  Host.reduceWindowAdd ![1, 2063, 1] ![1, 1, 1] ![0, 2062, 0] ![0, 0, 0] (rows u) (broadcastInDim S_ ![] bcast_S_S_ (constant (F := Ideal) S_ .f32 0x00000000#32))
    reduceWindows_S4x2063x1024_S4x2063x1024_w1s1p0_0_w2063s1p2062_0_w1s1p0_0 h_S_
theorem scan_at (q : Fin 4) (j : Fin 2063) (n : Fin 1024) : scan u (ix3 q j n) = ∑ k ∈ Finset.range (j.val + 1), padded u q n k :=
  scan_apply (rows u) _ (fun i => Ideal.ofBits_zero_f32) _ _ q n (padded u q n) (fun i => rows_apply u q i n) j
def sums : FVec Ideal S4x2064x1024 .f32 :=
  concatenate S4x2064x1024 1 [⟨S4x1x1024, broadcastInDim S4x1x1024 ![] bcast_S_S4x1x1024 (constant (F := Ideal) S_ .f32 0x00000000#32)⟩, ⟨S4x2063x1024, scan u⟩]
    concatenates_S4x1x1024_S4x2063x1024_S4x2064x1024_d1
theorem sums_first (q : Fin 4) (n : Fin 1024) : sums u (ix3 q 0 n) = (0 : EReal) := by
  unfold sums
  pointwise
theorem sums_later (q : Fin 4) (j : Fin 2063) (n : Fin 1024) : sums u (ix3 q ⟨j.val + 1, by omega⟩ n) = scan u (ix3 q j n) := by
  unfold sums
  pointwise
  rw [dif_neg (by omega)]
  rfl
theorem sums_apply (q : Fin 4) (j : Fin 2064) (n : Fin 1024) : sums u (ix3 q j n) = (∑ k ∈ Finset.range j.val, padded u q n k : EReal) := by
  by_cases h : j.val = 0
  · have e : j = 0 := Fin.ext h
    subst e
    exact sums_first u q n
  · obtain ⟨p, hp⟩ : ∃ p : Fin 2063, j = ⟨p.val + 1, by omega⟩ := ⟨⟨j.val - 1, by omega⟩, Fin.ext (by show j.val = j.val - 1 + 1; omega)⟩
    subst hp
    exact (sums_later u q p n).trans (scan_at u q p n)

/-! ## A group's means -/

/-- The number of rows averaged at each position. -/
def count (b : BitVec 32) : FVec Ideal S4x2048x256 .f32 :=
  broadcastInDim S4x2048x256 ![0, 1, 2] bcast_S1x2048x1_S4x2048x256_0_1_2 (broadcastInDim S1x2048x1 ![1] bcast_S2048_S1x2048x1_1 (sitofp .f32 (minsi
    (addi (addi (broadcastInDim S2048 ![] bcast_S_S2048 (constantI S_ 32 0#32)) (iotaInDim S2048 32 0)) (broadcastInDim S2048 ![] bcast_S_S2048 (constantI S_ 32 1#32)))
    (broadcastInDim S2048 ![] bcast_S_S2048 (constantI S_ 32 b)))))
theorem count_word (b : BitVec 32) (q : Fin 4) (p : Fin 2048) (e : Fin 256) :
    count b (ix3 q p e) = (((IntOp.minsi (0#32 + BitVec.ofNat 32 p.val + 1#32) b).toInt : ℝ) : EReal) := by
  unfold count
  pointwise
  rfl
theorem count_apply (g : Fin 4) (b : BitVec 32) (hb : b.toNat = width g) (hw : width g < 4096) (q : Fin 4) (p : Fin 2048) (e : Fin 256) :
    count b (ix3 q p e) = rowsAt p.val g :=
  (count_word b q p e).trans (congrArg (fun z : ℤ => ((z : ℝ) : EReal)) (least (p.val + 1) (width g) (by omega) hw _ b
    (by simp only [BitVec.toNat_add, BitVec.toNat_ofNat]; omega) hb))

def ends : FVec Ideal S4x2048x1024 .f32 := extractStridedSlice S4x2048x1024 ![0, 16, 0] (sums u) slices_S4x2064x1024_S4x2048x1024_0_16_0

def mean_0 : FVec Ideal S4x2048x256 .f32 := Host.divf (subf (extractStridedSlice S4x2048x256 ![0, 0, 0] (ends u) slices_S4x2048x1024_S4x2048x256_0_0_0)
  (extractStridedSlice S4x2048x256 ![0, 14, 0] (sums u) slices_S4x2064x1024_S4x2048x256_0_14_0)) (count 2#32)
def mean_1 : FVec Ideal S4x2048x256 .f32 := Host.divf (subf (extractStridedSlice S4x2048x256 ![0, 0, 256] (ends u) slices_S4x2048x1024_S4x2048x256_0_0_256)
  (extractStridedSlice S4x2048x256 ![0, 12, 256] (sums u) slices_S4x2064x1024_S4x2048x256_0_12_256)) (count 4#32)
def mean_2 : FVec Ideal S4x2048x256 .f32 := Host.divf (subf (extractStridedSlice S4x2048x256 ![0, 0, 512] (ends u) slices_S4x2048x1024_S4x2048x256_0_0_512)
  (extractStridedSlice S4x2048x256 ![0, 8, 512] (sums u) slices_S4x2064x1024_S4x2048x256_0_8_512)) (count 8#32)
def mean_3 : FVec Ideal S4x2048x256 .f32 := Host.divf (subf (extractStridedSlice S4x2048x256 ![0, 0, 768] (ends u) slices_S4x2048x1024_S4x2048x256_0_0_768)
  (extractStridedSlice S4x2048x256 ![0, 0, 768] (sums u) slices_S4x2064x1024_S4x2048x256_0_0_768)) (count 16#32)

theorem mean_0_apply (q : Fin 4) (p : Fin 2048) (e : Fin 256) : mean_0 u (ix3 q p e)
    = (Ideal.div (sums u (ix3 q ⟨16 + p.val, by omega⟩ (col 0 e)) - sums u (ix3 q ⟨14 + p.val, by omega⟩ (col 0 e))) (count 2#32 (ix3 q p e)) : EReal) := by
  unfold mean_0 ends col
  pointwise
theorem mean_1_apply (q : Fin 4) (p : Fin 2048) (e : Fin 256) : mean_1 u (ix3 q p e)
    = (Ideal.div (sums u (ix3 q ⟨16 + p.val, by omega⟩ (col 1 e)) - sums u (ix3 q ⟨12 + p.val, by omega⟩ (col 1 e))) (count 4#32 (ix3 q p e)) : EReal) := by
  unfold mean_1 ends col
  pointwise
theorem mean_2_apply (q : Fin 4) (p : Fin 2048) (e : Fin 256) : mean_2 u (ix3 q p e)
    = (Ideal.div (sums u (ix3 q ⟨16 + p.val, by omega⟩ (col 2 e)) - sums u (ix3 q ⟨8 + p.val, by omega⟩ (col 2 e))) (count 8#32 (ix3 q p e)) : EReal) := by
  unfold mean_2 ends col
  pointwise
theorem mean_3_apply (q : Fin 4) (p : Fin 2048) (e : Fin 256) : mean_3 u (ix3 q p e)
    = (Ideal.div (sums u (ix3 q ⟨16 + p.val, by omega⟩ (col 3 e)) - sums u (ix3 q ⟨p.val, by omega⟩ (col 3 e))) (count 16#32 (ix3 q p e)) : EReal) := by
  unfold mean_3 ends col
  pointwise

/-- Every row finite. -/
def Finite : Prop := ∀ q n i, padded u q n i ≠ ⊤ ∧ padded u q n i ≠ ⊥

theorem between (h : Finite u) (q : Fin 4) (p : Fin 2048) (n : Fin 1024) (b k : ℕ) (hb : b < 2064) (hk : b + k = 16 + p.val) :
    (sums u (ix3 q ⟨16 + p.val, by omega⟩ n) - sums u (ix3 q ⟨b, hb⟩ n) : EReal) = ∑ i ∈ Finset.range k, padded u q n (15 + p.val - i) := by
  rw [sums_apply, sums_apply]
  have e := sum_between (padded u q n) (h q n) b k (15 + p.val) (by omega)
  rw [hk] at e
  exact e

/-- The four groups' means side by side. -/
def means : FVec Ideal S4x2048x1024 .f32 :=
  concatenate S4x2048x1024 2 [⟨S4x2048x256, mean_0 u⟩, ⟨S4x2048x256, mean_1 u⟩, ⟨S4x2048x256, mean_2 u⟩, ⟨S4x2048x256, mean_3 u⟩]
    concatenates_S4x2048x256_S4x2048x256_S4x2048x256_S4x2048x256_S4x2048x1024_d2
theorem means_0 (q : Fin 4) (p : Fin 2048) (e : Fin 256) : means u (ix3 q p (col 0 e)) = mean_0 u (ix3 q p e) := by
  unfold means col
  pointwise
theorem means_1 (q : Fin 4) (p : Fin 2048) (e : Fin 256) : means u (ix3 q p (col 1 e)) = mean_1 u (ix3 q p e) := by
  unfold means col
  pointwise
theorem means_2 (q : Fin 4) (p : Fin 2048) (e : Fin 256) : means u (ix3 q p (col 2 e)) = mean_2 u (ix3 q p e) := by
  unfold means col
  pointwise
  rw [dif_neg (by omega), dif_neg (by omega), dif_pos (by omega)]
  exact congrArg (fun z => mean_2 u (ix3 q p z)) (Fin.ext (by show 512 + e.val - 256 - 256 = e.val; omega))
theorem means_3 (q : Fin 4) (p : Fin 2048) (e : Fin 256) : means u (ix3 q p (col 3 e)) = mean_3 u (ix3 q p e) := by
  unfold means col
  pointwise
  rw [dif_neg (by omega), dif_neg (by omega), dif_neg (by omega)]
  exact congrArg (fun z => mean_3 u (ix3 q p z)) (Fin.ext (by show 768 + e.val - 256 - 256 - 256 = e.val; omega))
theorem means_apply (h : Finite u) (q : Fin 4) (p : Fin 2048) (g : Fin 4) (e : Fin 256) :
    means u (ix3 q p (col g e)) = (Ideal.div (∑ k ∈ Finset.range (width g), padded u q (col g e) (15 + p.val - k)) (rowsAt p.val g) : EReal) := by
  fin_cases g
  · refine (means_0 u q p e).trans ((mean_0_apply u q p e).trans ?_)
    exact congr (congrArg Ideal.div (between u h q p (col 0 e) (14 + p.val) 2 (by omega) (by omega))) (count_apply 0 2#32 rfl (by decide) q p e)
  · refine (means_1 u q p e).trans ((mean_1_apply u q p e).trans ?_)
    exact congr (congrArg Ideal.div (between u h q p (col 1 e) (12 + p.val) 4 (by omega) (by omega))) (count_apply 1 4#32 rfl (by decide) q p e)
  · refine (means_2 u q p e).trans ((mean_2_apply u q p e).trans ?_)
    exact congr (congrArg Ideal.div (between u h q p (col 2 e) (8 + p.val) 8 (by omega) (by omega))) (count_apply 2 8#32 rfl (by decide) q p e)
  · refine (means_3 u q p e).trans ((mean_3_apply u q p e).trans ?_)
    exact congr (congrArg Ideal.div (between u h q p (col 3 e) p.val 16 (by omega) (by omega))) (count_apply 3 16#32 rfl (by decide) q p e)

/-! ## The mixing -/

/-- The differences, by group. -/
def diffs : FVec Ideal S4x2048x4x256 .f32 :=
  shapeCast _ (subf (means u) (extractStridedSlice S4x2048x1024 ![0, 15, 0] (rows u) slices_S4x2063x1024_S4x2048x1024_0_15_0)) shapeCasts_S4x2048x1024_S4x2048x4x256
theorem diffs_apply (q : Fin 4) (p : Fin 2048) (g : Fin 4) (e : Fin 256) :
    diffs u (ix4 q p g e) = (means u (ix3 q p (col g e)) - rows u (ix3 q ⟨15 + p.val, by omega⟩ (col g e)) : EReal) := by
  unfold diffs col
  pointwise

/-- Every group through its matrix, scaled. -/
def result (d : FVec Ideal S4x2048x4x256 .f32) : FVec Ideal S8192x1024 .bf16 :=
  truncf .bf16 (shapeCast _ (mulf (shapeCast _ (transpose S4x2048x4x256 [2, 3, 0, 1]
    (Host.dotGeneral (F := Ideal) (φ₁ := .f32) (φ₂ := .f32) dot_S4x256x256_S4x2048x4x256_S4x256x4x2048_1_3_2_01_0_2 none (shapeCast S4x256x256 w shapeCasts_S1x4x256x256_S4x256x256) d)
    transposes_S4x256x4x2048_S4x2048x4x256_2_3_0_1) shapeCasts_S4x2048x4x256_S4x2048x1024)
    (broadcastInDim S4x2048x1024 ![0, 1, 2] bcast_S1x1x1024_S4x2048x1024_0_1_2 (broadcastInDim S1x1x1024 ![2] bcast_S1024_S1x1x1024_2 (shapeCast S1024 c shapeCasts_S1x1024_S1024))))
    shapeCasts_S4x2048x1024_S8192x1024) bitsLt_bf16_f32
theorem result_apply (d : FVec Ideal S4x2048x4x256 .f32) (q : Fin 4) (p : Fin 2048) (g : Fin 4) (e : Fin 256) :
    result w c d (ix2 ⟨q.val * 2048 + p.val, by omega⟩ (col g e)) = ((∑ k : Fin 256, w (ix4 0 g k e) * d (ix4 q p g k)) * c (ix2 0 (col g e)) : EReal) := by
  unfold result col
  pointwise

theorem result_eq (h : Finite u) : result w c (diffs u) = prompt u w c := by
  funext i
  obtain ⟨r, g, e, rfl⟩ := eq_col i
  obtain ⟨q, p, rfl⟩ : ∃ (q : Fin 4) (p : Fin 2048), r = ⟨q.val * 2048 + p.val, by omega⟩ :=
    ⟨⟨r.val / 2048, by omega⟩, ⟨r.val % 2048, by omega⟩, Fin.ext (by show r.val = r.val / 2048 * 2048 + r.val % 2048; omega)⟩
  refine (result_apply w c _ q p g e).trans (Eq.trans ?_ (mixed_apply _ w c _ g e).symm)
  refine congrArg (fun x : EReal => x * c (ix2 0 (col g e))) (Finset.sum_congr rfl fun k _ => ?_)
  have hq : (⟨(q.val * 2048 + p.val) / 2048, by omega⟩ : Fin 4) = q := Fin.ext (by show (q.val * 2048 + p.val) / 2048 = q.val; omega)
  have hp : (q.val * 2048 + p.val) % 2048 = p.val := by omega
  rw [diffs_apply, means_apply u h, rows_apply, mul_comm]
  show _ = less (rowsAt ((q.val * 2048 + p.val) % 2048) g) (width g) (padded u ⟨(q.val * 2048 + p.val) / 2048, _⟩ (col g k)) (15 + (q.val * 2048 + p.val) % 2048) * _
  rw [hq, hp]
  rfl

/-- The reference's run, its result named. -/
theorem run (m : (ℓ : Loc nD τ sig) → Buf (Elt Ideal) ℓ) (ρ : Dev nD → PrngReg)
    (hf : ∀ c : Dev nD, Finite (m ((c.tc : Thread nD τ).loc main_arg0))) :
    θ_run defs (onTc (τ := τ) (main (F := Ideal))) ⟨m, fun _ => 0, ρ⟩ fun r => ∀ c : Dev nD,
      r.2.mem ((c.tc : Thread nD τ).loc main_v69)
        = prompt (m ((c.tc : Thread nD τ).loc main_arg0)) (m ((c.tc : Thread nD τ).loc main_arg1)) (m ((c.tc : Thread nD τ).loc main_arg2)) :=
  (θ_run defs _ _).mono (fun _ h c =>
    (h c).1.trans (Eq.trans (by unfold Value.res_main_v69 result diffs means mean_0 mean_1 mean_2 mean_3 ends sums scan rows count; rfl) (result_eq _ _ _ (hf c)))) (Value.run m ρ)

/-- What the precondition says of the rows. -/
theorem finite_of_pre (h : (Cert.Pre_pool_finite.fn (F := Ideal) u w c : IVec S8192x1024 1) = fun _ => 1#1) : Finite u := by
  have hr : ∀ (r : Fin 8192) (n : Fin 1024), (u (ix2 r ⟨8192 + n.val, by omega⟩) : EReal) ≠ ⊤ ∧ (u (ix2 r ⟨8192 + n.val, by omega⟩) : EReal) ≠ ⊥ := fun r n => by
    let x := extractStridedSlice S8192x1024 ![0, 8192] u slices_S8192x13312_S8192x1024_0_8192
    have ex : x (ix2 r n) = u (ix2 r ⟨8192 + n.val, by omega⟩) := by
      show extractStridedSlice S8192x1024 ![0, 8192] u slices_S8192x13312_S8192x1024_0_8192 (ix2 r n) = _
      pointwise
    have e : Ideal.cmp .olt (max (x (ix2 r n)) (-x (ix2 r n))) (Ideal.ofBits FTy.f32 0x7F800000#32) = 1#1 := congrFun h (ix2 r n)
    rw [ex] at e
    exact finite_of_abs _ e
  intro q n i
  unfold padded
  by_cases hi : 15 ≤ i ∧ i < 2063
  · rw [dif_pos hi]
    exact hr _ n
  · rw [dif_neg hi]
    exact ⟨EReal.zero_ne_top, EReal.zero_ne_bot⟩

end Cert.Proof.PoolRef

end
-- ==== Proof.Prep.Formula.lean ====
/-
  What one new token brings to the delta rule, in exact arithmetic: the short convolution over its last four rows, the normed
  queries and keys, and the heads' gates. The preparation's call and its plain reference share these.
-/
module

public import proofs.«01_k».proof.Proof.Delta

@[expose] public section

noncomputable section

namespace Cert.Proof.Prep

open Idealize.ShloMosaic Cert.Proof.Layer Cert.Proof.Delta

/-- The new rows' projections, the three rows before each, and the convolution's four taps. -/
abbrev New := (⟨2, ![128, 13312]⟩ : Shape).Idx → EReal
abbrev Past := (⟨4, ![1, 128, 3, 6144]⟩ : Shape).Idx → EReal
abbrev Taps := (⟨3, ![1, 4, 6144]⟩ : Shape).Idx → EReal
/-- The new rows' rates, and a number per head. -/
abbrev Rates := (⟨2, ![128, 128]⟩ : Shape).Idx → EReal
abbrev PerHead := (⟨2, ![1, 16]⟩ : Shape).Idx → EReal

/-- Four rows against four taps, then `silu`. -/
def taps (s0 s1 s2 u w0 w1 w2 w3 : EReal) : EReal := silu (s0 * w0 + s1 * w1 + s2 * w2 + u * w3)

/-- Column `n` of part `p`: the queries, the keys, the values. -/
def col (p : Fin 3) (n : Fin 2048) : Fin 6144 := ⟨p.val * 2048 + n.val, by omega⟩

/-- The short convolution of row `r` at column `n` of part `p`. -/
def short (u : New) (s : Past) (w : Taps) (p : Fin 3) (r : Fin 128) (n : Fin 2048) : EReal :=
  taps (s (ix4 0 r 0 (col p n))) (s (ix4 0 r 1 (col p n))) (s (ix4 0 r 2 (col p n))) (u (ix2 r ⟨(col p n).val, by omega⟩))
    (w (ix3 0 0 (col p n))) (w (ix3 0 1 (col p n))) (w (ix3 0 2 (col p n))) (w (ix3 0 3 (col p n)))

/-- Entry `e` of a head divided by its length. -/
def unit (x : Fin 128 → EReal) (e : Fin 128) : EReal := x e * Ideal.rsqrt ((∑ j : Fin 128, x j * x j) + Ideal.ofBits FTy.f32 897988541#32)

/-- Entry `e` of a query: scaled by the root of the head's width. -/
def query (x : Fin 128 → EReal) (e : Fin 128) : EReal := unit x e * Ideal.ofBits FTy.f32 1035273459#32

/-- `log (1 + eˣ)`. -/
def softplus (x : EReal) : EReal := max x 0 + Ideal.log1p (Ideal.exp (-(max x (-x))))

/-- How much of its state a head keeps. -/
def decay (a b x : EReal) : EReal := Ideal.exp (-Ideal.exp a * softplus (x + b))

/-- Rows whose lane `e` of head `h` is `f`'s. -/
def heads (f : Fin 128 → Fin 16 → Fin 128 → EReal) : Rows := fun i =>
  f (i 0) ⟨(i 1).val / 128, by have : (i 1).val < 2048 := (i 1).isLt; omega⟩ ⟨(i 1).val % 128, Nat.mod_lt _ (by omega)⟩

theorem heads_apply (f : Fin 128 → Fin 16 → Fin 128 → EReal) (r : Fin 128) (h : Fin 16) (e : Fin 128) :
    heads f (ix2 r (lane h e)) = f r h e :=
  congr (congrArg (f r) (Fin.ext (show (h.val * 128 + e.val) / 128 = h.val by omega))) (Fin.ext (show (h.val * 128 + e.val) % 128 = e.val by omega))

/-- Every index of the rows is a lane of a head. -/
theorem eq_lane (i : (⟨2, ![128, 2048]⟩ : Shape).Idx) : ∃ (r : Fin 128) (h : Fin 16) (e : Fin 128), i = ix2 r (lane h e) := by
  have h1 : (i 1).val < 2048 := (i 1).isLt
  refine ⟨i 0, ⟨(i 1).val / 128, by omega⟩, ⟨(i 1).val % 128, Nat.mod_lt _ (by omega)⟩, funext fun a => ?_⟩
  fin_cases a
  · rfl
  · exact Fin.ext (show (i 1).val = (i 1).val / 128 * 128 + (i 1).val % 128 by omega)

/-- The queries, the keys, the values. -/
def queries (u : New) (s : Past) (w : Taps) : Rows := heads fun r h e => query (fun d => short u s w 0 r (lane h d)) e
def keys (u : New) (s : Past) (w : Taps) : Rows := heads fun r h e => unit (fun d => short u s w 1 r (lane h d)) e
def values (u : New) (s : Past) (w : Taps) : Rows := heads fun r h e => short u s w 2 r (lane h e)
/-- Each head's decay, its writing rate, and its query against its key, over the head's lanes. -/
def decays (x : Rates) (a b : PerHead) : Rows := heads fun r h _ => decay (a (ix2 0 h)) (b (ix2 0 h)) (x (ix2 r ⟨h.val, by omega⟩))
def writes (x : Rates) : Rows := heads fun r h _ => Ideal.logistic (x (ix2 r ⟨16 + h.val, by omega⟩))
def meets (u : New) (s : Past) (w : Taps) : Rows := heads fun r h _ =>
  dot (query fun d => short u s w 0 r (lane h d)) (unit fun d => short u s w 1 r (lane h d))

end Cert.Proof.Prep

end
-- ==== Proof.Prep.Body.lean ====
/-
  The preparation's stores, one head's lanes at a time: each value stored, read at an index.
-/
module

public import proofs.«01_k».proof.Proof.Prep.Formula
public import proofs.«01_k».proof.Proof.Gen.PrepIdeal.Value
public import Idealize.ShloMosaic.Lib.ValueLayout

@[expose] public section

set_option maxRecDepth 16384

noncomputable section

namespace Cert.Proof.Prep

open Cert.PrepIdeal Cert.PrepIdeal.Gen Cert.Proof.Layer Cert.Proof.Delta
open Idealize.ShloMosaic Idealize.ShloMosaic.TcCoe Idealize.ShloMosaic.Tactic
open Idealize.SL Idealize.SL.Sem

/-! ## The convolution and the gates -/

/-- One part's convolution: the new row's product comes first, which changes no sum. -/
theorem conv_apply (u : Vec Ideal S128x2048 .f32) (w3 : Vec Ideal S1x2048 .f32) (s0 : Vec Ideal S1x128x2048 .f32) (w0 : Vec Ideal S1x2048 .f32)
    (s1 : Vec Ideal S1x128x2048 .f32) (w1 : Vec Ideal S1x2048 .f32) (s2 : Vec Ideal S1x128x2048 .f32) (w2 : Vec Ideal S1x2048 .f32) (r : Fin 128) (n : Fin 2048) :
    k0_pay2 u w3 s0 w0 s1 w1 s2 w2 (ix2 r n) = taps (s0 (ix3 0 r n)) (s1 (ix3 0 r n)) (s2 (ix3 0 r n)) (u (ix2 r n))
      (w0 (ix2 0 n)) (w1 (ix2 0 n)) (w2 (ix2 0 n)) (w3 (ix2 0 n)) := by
  have e : ∀ a b c d : EReal, a + b + c + d = d + a + b + c := fun a b c d => by
    rw [add_comm (a + b + c) d, ← add_assoc, ← add_assoc]
  unfold taps silu
  rw [e]
  unfold k0_pay2
  pointwise

/-- The heads' decays. -/
theorem decay_apply (x : Vec Ideal S128x128 .f32) (a b : Vec Ideal S1x128 .f32) (r n : Fin 128) :
    k0_pay7 x a b (ix2 r n) = decay (a (ix2 0 n)) (b (ix2 0 n)) (x (ix2 r n)) := by
  unfold decay softplus
  rw [← zero_sub (Ideal.exp (a (ix2 0 n))), ← zero_sub (max (x (ix2 r n) + b (ix2 0 n)) _)]
  unfold k0_pay7
  pointwise
  rfl

/-- The heads' writing rates. -/
theorem write_apply (x : Vec Ideal S128x128 .f32) (r n : Fin 128) : k0_pay8 x (ix2 r n) = Ideal.logistic (x (ix2 r n)) := by
  unfold k0_pay8
  pointwise

/-! ## One head's lanes -/

theorem slices_lanes (h : Fin 16) : S128x2048.Slices ![0, h.val * 128] S128x128 := by
  refine ⟨rfl, fun a => ?_⟩; fin_cases a
  · show 0 + 128 ≤ 128; omega
  · show h.val * 128 + 128 ≤ 2048; omega
theorem slices_col (k : Fin 128) : S128x128.Slices ![0, k.val] S128x1 := by
  refine ⟨rfl, fun a => ?_⟩; fin_cases a
  · show 0 + 128 ≤ 128; omega
  · show k.val + 1 ≤ 128; omega

/-- Head `h` of the rows. -/
def cut (h : Fin 16) (x : FVec Ideal S128x2048 .f32) : FVec Ideal S128x128 .f32 := extractStridedSlice S128x128 ![0, h.val * 128] x (slices_lanes h)

theorem cut_apply (h : Fin 16) (x : FVec Ideal S128x2048 .f32) (r e : Fin 128) : cut h x (ix2 r e) = x (ix2 r (lane h e)) := by
  unfold cut lane
  pointwise

/-- A head divided by its length, the same scaled, and the two heads' products summed. -/
def unitT (x : FVec Ideal S128x128 .f32) : FVec Ideal S128x128 .f32 :=
  mulf x (broadcastTo S128x128 (rsqrt (addf (shapeCast S128x1 (multiReduction .add [1] S128 (mulf x x) 0x00000000#32 reduces_S128x128_S128 (.inl rfl) rfl) shapeCasts_S128_S128x1)
    (broadcast S128x1 (Scalar.ofBits (F := Ideal) .f32 0x358637BD#32)))) broadcasts_S128x1_S128x128)
def queryT (x : FVec Ideal S128x128 .f32) : FVec Ideal S128x128 .f32 := mulf (unitT x) (broadcast S128x128 (Scalar.ofBits (F := Ideal) .f32 0x3DB504F3#32))
def meetT (q k : FVec Ideal S128x128 .f32) : FVec Ideal S128x128 .f32 :=
  broadcastTo S128x128 (shapeCast S128x1 (shapeCast S128x1 (multiReduction .add [1] S128 (mulf q k) 0x00000000#32 reduces_S128x128_S128 (.inl rfl) rfl)
    shapeCasts_S128_S128x1) shapeCasts_S128x1_S128x1) broadcasts_S128x1_S128x128
/-- Column `k` over a head's lanes. -/
def spread (k : Fin 128) (x : FVec Ideal S128x128 .f32) : FVec Ideal S128x128 .f32 :=
  broadcastTo S128x128 (shapeCast S128x1 (extractStridedSlice S128x1 ![0, k.val] x (slices_col k)) shapeCasts_S128x1_S128x1) broadcasts_S128x1_S128x128

theorem unitT_apply (x : FVec Ideal S128x128 .f32) (r e : Fin 128) : unitT x (ix2 r e) = unit (fun d => x (ix2 r d)) e := by
  unfold unitT unit
  pointwise
theorem queryT_apply (x : FVec Ideal S128x128 .f32) (r e : Fin 128) : queryT x (ix2 r e) = query (fun d => x (ix2 r d)) e := by
  rw [query, ← unitT_apply]
  unfold queryT
  pointwise
theorem meetT_apply (q k : FVec Ideal S128x128 .f32) (r e : Fin 128) : meetT q k (ix2 r e) = dot (fun d => q (ix2 r d)) fun d => k (ix2 r d) := by
  unfold meetT dot
  pointwise
theorem spread_apply (k : Fin 128) (x : FVec Ideal S128x128 .f32) (r e : Fin 128) : spread k x (ix2 r e) = x (ix2 r k) := by
  unfold spread
  pointwise

/-! ## The stores -/

theorem inb_lanes (h : Fin 16) : ∀ a, (![0, h.val * 128] : Fin 2 → ℕ) a + S128x128.size a ≤ S128x2048.size a := by
  intro a; fin_cases a
  · show 0 + 128 ≤ 128; omega
  · show h.val * 128 + 128 ≤ 2048; omega

/-- Where head `h` is stored. -/
abbrev rectL (h : Fin 16) : Rect S128x2048 := Rect.unit (s := S128x2048) ![0, h.val * 128] S128x128.size (inb_lanes h)

theorem emb_lanes (h : Fin 16) (r e : Fin 128) : (rectL h).emb (ix2 r e) = ix2 r (lane h e) := by
  refine funext fun a => Fin.ext ((Rect.idx_unit_val _ _ _ _ a).trans ?_)
  fin_cases a
  · show 0 + r.val = r.val; omega
  · rfl

/-- A tile whose entries are head `h`'s is that head's part of the rows. -/
theorem piece (f : Fin 128 → Fin 16 → Fin 128 → EReal) (h : Fin 16) (v : FVec Ideal S128x128 .f32) (hv : ∀ r e, v (ix2 r e) = f r h e) (y : S128x128.Idx) :
    v y = heads f ((rectL h).emb y) := by
  obtain ⟨r, e, rfl⟩ : ∃ (r e : Fin 128), y = ix2 r e := ⟨y 0, y 1, funext fun a => by fin_cases a <;> rfl⟩
  rw [emb_lanes, heads_apply, hv]

variable (x y : FVec Ideal S128x2048 .f32) (g : FVec Ideal S128x128 .f32) (f k : Fin 128 → Fin 2048 → EReal) (d : Fin 128 → Fin 128 → EReal)

theorem piece_query (hx : ∀ r n, x (ix2 r n) = f r n) (h : Fin 16) (i : S128x128.Idx) :
    queryT (cut h x) i = heads (fun r h e => query (fun d => f r (lane h d)) e) ((rectL h).emb i) :=
  piece _ h _ (fun r e => by simp only [queryT_apply, cut_apply, hx]) i
theorem piece_unit (hx : ∀ r n, x (ix2 r n) = f r n) (h : Fin 16) (i : S128x128.Idx) :
    unitT (cut h x) i = heads (fun r h e => unit (fun d => f r (lane h d)) e) ((rectL h).emb i) :=
  piece _ h _ (fun r e => by simp only [unitT_apply, cut_apply, hx]) i
theorem piece_meet (hx : ∀ r n, x (ix2 r n) = f r n) (hy : ∀ r n, y (ix2 r n) = k r n) (h : Fin 16) (i : S128x128.Idx) :
    meetT (queryT (cut h x)) (unitT (cut h y)) i
      = heads (fun r h _ => dot (query fun d => f r (lane h d)) (unit fun d => k r (lane h d))) ((rectL h).emb i) :=
  piece _ h _ (fun r e => by simp only [meetT_apply, queryT_apply, unitT_apply, cut_apply, hx, hy]) i
theorem piece_decay (a : Fin 128 → Fin 16 → EReal) (hg : ∀ r (h : Fin 16), g (ix2 r ⟨h.val, by omega⟩) = a r h) (h : Fin 16) (i : S128x128.Idx) :
    spread ⟨h.val, by omega⟩ g i = heads (fun r h _ => a r h) ((rectL h).emb i) :=
  piece _ h _ (fun r e => by rw [spread_apply, hg]) i
theorem piece_write (a : Fin 128 → Fin 16 → EReal) (hg : ∀ r (h : Fin 16), g (ix2 r ⟨16 + h.val, by omega⟩) = a r h) (h : Fin 16) (i : S128x128.Idx) :
    spread ⟨16 + h.val, by omega⟩ g i = heads (fun r h _ => a r h) ((rectL h).emb i) :=
  piece _ h _ (fun r e => by rw [spread_apply, hg]) i

end Cert.Proof.Prep

end
-- ==== Proof.Prep.Value.lean ====
/-
  What the preparation's six arrays hold after the run, in exact arithmetic.
-/
module

public import proofs.«01_k».proof.Proof.Prep.Body
public import Idealize.ShloMosaic.Lib.Pipeline.ReadBack

@[expose] public section

set_option maxRecDepth 16384

noncomputable section

namespace Cert.Proof.Prep

open Cert.PrepIdeal Cert.PrepIdeal.Gen Cert.Proof.Layer Cert.Proof.Delta
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-! ## The arrays the region reads -/

theorem flat_past (s : S1x128x3x6144.Idx → Elt Ideal .f32) (i : Fin 3) (r : Fin 128) (n : Fin 6144) :
    transpose S3x128x6144 [1, 0, 2] (shapeCast S128x3x6144 s shapeCasts_S1x128x3x6144_S128x3x6144) transposes_S128x3x6144_S3x128x6144_1_0_2 (ix3 i r n)
      = s (ix4 0 r i n) := by
  pointwise
theorem flat_taps (w : S1x4x6144.Idx → Elt Ideal .f32) (i : Fin 4) (n : Fin 6144) : shapeCast S4x6144 w shapeCasts_S1x4x6144_S4x6144 (ix2 i n) = w (ix3 0 i n) := by
  pointwise
/-- The padding leaves the heads' numbers. -/
theorem pad_head (a : S1x16.Idx → Elt Ideal .f32) (z : S_.Idx → Elt Ideal .f32) (h : Fin 16) :
    pad S1x128 ![0, 0] ![0, 112] ![0, 0] a z pads_S1x16_S1x128_000_01120 h_S_ (ix2 0 ⟨h.val, by omega⟩) = a (ix2 0 h) := by
  pointwise

theorem V_v0 (c : Dev nD) (h : Fin 16) : V m c main_v0 (ix2 0 ⟨h.val, by omega⟩) = m ((c : Thread nD τ).loc main_arg4) (ix2 0 h) := by
  have e : V m c main_v0 = pad S1x128 ![0, 0] ![0, 112] ![0, 0] (m ((c : Thread nD τ).loc main_arg4)) (sitofp (F := Ideal) .f32 (constantI S_ 32 0#32)) pads_S1x16_S1x128_000_01120 h_S_ := by
    simp only [V, hostOps0, hostOps0_1, hostOps0_2, hostOps0_3, hostOps0_4, List.flatten_cons, List.flatten_nil, List.append_nil, List.cons_append, List.nil_append,
      StableHlo.TRef.binary, StableHlo.TRef.unary, StableHlo.TRef.toBuf, StableHlo.TRef.ofBuf, cast_eq]
    after_results_simp <;> rfl
  exact (congrFun e _).trans (pad_head _ _ h)
theorem V_v1 (c : Dev nD) (h : Fin 16) : V m c main_v1 (ix2 0 ⟨h.val, by omega⟩) = m ((c : Thread nD τ).loc main_arg5) (ix2 0 h) := by
  have e : V m c main_v1 = pad S1x128 ![0, 0] ![0, 112] ![0, 0] (m ((c : Thread nD τ).loc main_arg5)) (sitofp (F := Ideal) .f32 (constantI S_ 32 0#32)) pads_S1x16_S1x128_000_01120 h_S_ := by
    simp only [V, hostOps0, hostOps0_1, hostOps0_2, hostOps0_3, hostOps0_4, List.flatten_cons, List.flatten_nil, List.append_nil, List.cons_append, List.nil_append,
      StableHlo.TRef.binary, StableHlo.TRef.unary, StableHlo.TRef.toBuf, StableHlo.TRef.ofBuf, cast_eq]
    after_results_simp <;> rfl
  exact (congrFun e _).trans (pad_head _ _ h)
theorem V_v3 (c : Dev nD) (i : Fin 3) (r : Fin 128) (n : Fin 6144) : V m c main_v3 (ix3 i r n) = m ((c : Thread nD τ).loc main_arg2) (ix4 0 r i n) := by
  have e : V m c main_v3 = transpose S3x128x6144 [1, 0, 2] (shapeCast S128x3x6144 (m ((c : Thread nD τ).loc main_arg2)) shapeCasts_S1x128x3x6144_S128x3x6144) transposes_S128x3x6144_S3x128x6144_1_0_2 := by
    simp only [V, hostOps0, hostOps0_1, hostOps0_2, hostOps0_3, hostOps0_4, List.flatten_cons, List.flatten_nil, List.append_nil, List.cons_append, List.nil_append,
      StableHlo.TRef.binary, StableHlo.TRef.unary, StableHlo.TRef.toBuf, StableHlo.TRef.ofBuf, cast_eq]
    after_results_simp <;> rfl
  exact (congrFun e _).trans (flat_past _ i r n)
theorem V_v4 (c : Dev nD) (i : Fin 4) (n : Fin 6144) : V m c main_v4 (ix2 i n) = m ((c : Thread nD τ).loc main_arg3) (ix3 0 i n) := by
  have e : V m c main_v4 = shapeCast S4x6144 (m ((c : Thread nD τ).loc main_arg3)) shapeCasts_S1x4x6144_S4x6144 := by
    simp only [V, hostOps0, hostOps0_1, hostOps0_2, hostOps0_3, hostOps0_4, List.flatten_cons, List.flatten_nil, List.append_nil, List.cons_append, List.nil_append,
      StableHlo.TRef.binary, StableHlo.TRef.unary, StableHlo.TRef.toBuf, StableHlo.TRef.ofBuf, cast_eq]
    after_results_simp <;> rfl
  exact (congrFun e _).trans (flat_taps _ i n)

/-! ## The blocks -/

theorem index_0 : ∀ t : Fin cfg0.N, win0_0.index t = ![0, 0] := (by decide +kernel : ∀ t : Fin grid0.N, win0_0.index t = ![0, 0])
theorem index_1 : ∀ t : Fin cfg0.N, win0_1.index t = ![0, 1] := (by decide +kernel : ∀ t : Fin grid0.N, win0_1.index t = ![0, 1])
theorem index_2 : ∀ t : Fin cfg0.N, win0_2.index t = ![0, 2] := (by decide +kernel : ∀ t : Fin grid0.N, win0_2.index t = ![0, 2])
theorem index_3 : ∀ t : Fin cfg0.N, win0_3.index t = ![0, 0] := (by decide +kernel : ∀ t : Fin grid0.N, win0_3.index t = ![0, 0])
theorem index_4 : ∀ t : Fin cfg0.N, win0_4.index t = ![0, 0, 0] := (by decide +kernel : ∀ t : Fin grid0.N, win0_4.index t = ![0, 0, 0])
theorem index_5 : ∀ t : Fin cfg0.N, win0_5.index t = ![0, 0] := (by decide +kernel : ∀ t : Fin grid0.N, win0_5.index t = ![0, 0])
theorem index_6 : ∀ t : Fin cfg0.N, win0_6.index t = ![0, 0] := (by decide +kernel : ∀ t : Fin grid0.N, win0_6.index t = ![0, 0])
theorem index_7 : ∀ t : Fin cfg0.N, win0_7.index t = ![0, 0] := (by decide +kernel : ∀ t : Fin grid0.N, win0_7.index t = ![0, 0])
theorem index_8 : ∀ t : Fin cfg0.N, win0_8.index t = ![0, 0] := (by decide +kernel : ∀ t : Fin grid0.N, win0_8.index t = ![0, 0])
theorem index_9 : ∀ t : Fin cfg0.N, win0_9.index t = ![0, 0] := (by decide +kernel : ∀ t : Fin grid0.N, win0_9.index t = ![0, 0])
theorem index_10 : ∀ t : Fin cfg0.N, win0_10.index t = ![0, 0] := (by decide +kernel : ∀ t : Fin grid0.N, win0_10.index t = ![0, 0])
theorem index_11 : ∀ t : Fin cfg0.N, win0_11.index t = ![0, 0] := (by decide +kernel : ∀ t : Fin grid0.N, win0_11.index t = ![0, 0])
theorem index_12 : ∀ t : Fin cfg0.N, win0_12.index t = ![0, 0] := (by decide +kernel : ∀ t : Fin grid0.N, win0_12.index t = ![0, 0])
theorem index_13 : ∀ t : Fin cfg0.N, win0_13.index t = ![0, 0] := (by decide +kernel : ∀ t : Fin grid0.N, win0_13.index t = ![0, 0])

theorem blk_0 (c : Dev nD) (t : Fin cfg0.N) (r : Fin 128) (n : Fin 2048) :
    X0_0 m c t (ix2 r n) = m ((c : Thread nD τ).loc main_arg0) (ix2 r ⟨(col 0 n).val, by omega⟩) := by
  unfold X0_0 Pipeline.Window.fill
  rw [dif_pos (moved0_0 t _)]
  blk_simp [iblk]
  rw [V_main_arg0]
  refine congrArg (m ((c : Thread nD τ).loc main_arg0)) (funext fun i => Fin.ext ?_)
  fin_cases i
  · blk_simp [index_0] <;> rfl
  · blk_simp [index_0, col] <;> exact (Nat.zero_add _).symm
theorem blk_1 (c : Dev nD) (t : Fin cfg0.N) (r : Fin 128) (n : Fin 2048) :
    X0_1 m c t (ix2 r n) = m ((c : Thread nD τ).loc main_arg0) (ix2 r ⟨(col 1 n).val, by omega⟩) := by
  unfold X0_1 Pipeline.Window.fill
  rw [dif_pos (moved0_1 t _)]
  blk_simp [iblk]
  rw [V_main_arg0]
  refine congrArg (m ((c : Thread nD τ).loc main_arg0)) (funext fun i => Fin.ext ?_)
  fin_cases i
  · blk_simp [index_1] <;> rfl
  · blk_simp [index_1, col] <;> rfl
theorem blk_2 (c : Dev nD) (t : Fin cfg0.N) (r : Fin 128) (n : Fin 2048) :
    X0_2 m c t (ix2 r n) = m ((c : Thread nD τ).loc main_arg0) (ix2 r ⟨(col 2 n).val, by omega⟩) := by
  unfold X0_2 Pipeline.Window.fill
  rw [dif_pos (moved0_2 t _)]
  blk_simp [iblk]
  rw [V_main_arg0]
  refine congrArg (m ((c : Thread nD τ).loc main_arg0)) (funext fun i => Fin.ext ?_)
  fin_cases i
  · blk_simp [index_2] <;> rfl
  · blk_simp [index_2, col] <;> rfl
theorem blk_3 (c : Dev nD) (t : Fin cfg0.N) (r n : Fin 128) : iblk m c 3 t (ix2 r n) = m ((c : Thread nD τ).loc main_arg1) (ix2 r n) := by
  blk_simp [iblk]
  rw [V_main_arg1]
  refine congrArg (m ((c : Thread nD τ).loc main_arg1)) (funext fun i => Fin.ext ?_)
  fin_cases i
  · blk_simp [index_3] <;> rfl
  · blk_simp [index_3] <;> rfl
theorem blk_4 (c : Dev nD) (t : Fin cfg0.N) (i : Fin 3) (r : Fin 128) (n : Fin 6144) : iblk m c 4 t (ix3 i r n) = V m c main_v3 (ix3 i r n) := by
  blk_simp [iblk]
  refine congrArg (V m c main_v3) (funext fun i => Fin.ext ?_)
  fin_cases i
  · blk_simp [index_4] <;> rfl
  · blk_simp [index_4] <;> rfl
  · blk_simp [index_4] <;> rfl
theorem blk_5 (c : Dev nD) (t : Fin cfg0.N) (i : Fin 4) (n : Fin 6144) : iblk m c 5 t (ix2 i n) = V m c main_v4 (ix2 i n) := by
  blk_simp [iblk]
  refine congrArg (V m c main_v4) (funext fun i => Fin.ext ?_)
  fin_cases i
  · blk_simp [index_5] <;> rfl
  · blk_simp [index_5] <;> rfl
theorem blk_6 (c : Dev nD) (t : Fin cfg0.N) (n : Fin 128) : iblk m c 6 t (ix2 0 n) = V m c main_v0 (ix2 0 n) := by
  blk_simp [iblk]
  refine congrArg (V m c main_v0) (funext fun i => Fin.ext ?_)
  fin_cases i
  · blk_simp [index_6] <;> rfl
  · blk_simp [index_6] <;> rfl
theorem blk_7 (c : Dev nD) (t : Fin cfg0.N) (n : Fin 128) : iblk m c 7 t (ix2 0 n) = V m c main_v1 (ix2 0 n) := by
  blk_simp [iblk]
  refine congrArg (V m c main_v1) (funext fun i => Fin.ext ?_)
  fin_cases i
  · blk_simp [index_7] <;> rfl
  · blk_simp [index_7] <;> rfl

/-! ## The three parts' convolutions -/

theorem past_00 (c : Dev nD) (t : Fin cfg0.N) (r : Fin 128) (n : Fin 2048) :
    View.ld (iblk m c 4 t) (Rect.unit (s := S3x128x6144) ![0, 0, 0] S1x128x2048.size inb_S3x128x6144_S1x128x2048_0_0_0) (ix3 0 r n)
      = m ((c : Thread nD τ).loc main_arg2) (ix4 0 r 0 (col 0 n)) :=
  (View.ld_unit_apply_of _ _ _ _ _ (ix3 0 r (col 0 n)) fun a => by
    fin_cases a
    · rfl
    · show r.val = 0 + r.val; omega
    · show 0 * 2048 + n.val = 0 + n.val; omega).trans ((blk_4 m c t _ _ _).trans (V_v3 m c _ _ _))
theorem past_01 (c : Dev nD) (t : Fin cfg0.N) (r : Fin 128) (n : Fin 2048) :
    View.ld (iblk m c 4 t) (Rect.unit (s := S3x128x6144) ![1, 0, 0] S1x128x2048.size inb_S3x128x6144_S1x128x2048_1_0_0) (ix3 0 r n)
      = m ((c : Thread nD τ).loc main_arg2) (ix4 0 r 1 (col 0 n)) :=
  (View.ld_unit_apply_of _ _ _ _ _ (ix3 1 r (col 0 n)) fun a => by
    fin_cases a
    · rfl
    · show r.val = 0 + r.val; omega
    · show 0 * 2048 + n.val = 0 + n.val; omega).trans ((blk_4 m c t _ _ _).trans (V_v3 m c _ _ _))
theorem past_02 (c : Dev nD) (t : Fin cfg0.N) (r : Fin 128) (n : Fin 2048) :
    View.ld (iblk m c 4 t) (Rect.unit (s := S3x128x6144) ![2, 0, 0] S1x128x2048.size inb_S3x128x6144_S1x128x2048_2_0_0) (ix3 0 r n)
      = m ((c : Thread nD τ).loc main_arg2) (ix4 0 r 2 (col 0 n)) :=
  (View.ld_unit_apply_of _ _ _ _ _ (ix3 2 r (col 0 n)) fun a => by
    fin_cases a
    · rfl
    · show r.val = 0 + r.val; omega
    · show 0 * 2048 + n.val = 0 + n.val; omega).trans ((blk_4 m c t _ _ _).trans (V_v3 m c _ _ _))
theorem tap_00 (c : Dev nD) (t : Fin cfg0.N) (n : Fin 2048) :
    View.ld (iblk m c 5 t) (Rect.unit (s := S4x6144) ![0, 0] S1x2048.size inb_S4x6144_S1x2048_0_0) (ix2 0 n)
      = m ((c : Thread nD τ).loc main_arg3) (ix3 0 0 (col 0 n)) :=
  (View.ld_unit_apply_of _ _ _ _ _ (ix2 0 (col 0 n)) fun a => by
    fin_cases a
    · rfl
    · show 0 * 2048 + n.val = 0 + n.val; omega).trans ((blk_5 m c t _ _).trans (V_v4 m c _ _))
theorem tap_01 (c : Dev nD) (t : Fin cfg0.N) (n : Fin 2048) :
    View.ld (iblk m c 5 t) (Rect.unit (s := S4x6144) ![1, 0] S1x2048.size inb_S4x6144_S1x2048_1_0) (ix2 0 n)
      = m ((c : Thread nD τ).loc main_arg3) (ix3 0 1 (col 0 n)) :=
  (View.ld_unit_apply_of _ _ _ _ _ (ix2 1 (col 0 n)) fun a => by
    fin_cases a
    · rfl
    · show 0 * 2048 + n.val = 0 + n.val; omega).trans ((blk_5 m c t _ _).trans (V_v4 m c _ _))
theorem tap_02 (c : Dev nD) (t : Fin cfg0.N) (n : Fin 2048) :
    View.ld (iblk m c 5 t) (Rect.unit (s := S4x6144) ![2, 0] S1x2048.size inb_S4x6144_S1x2048_2_0) (ix2 0 n)
      = m ((c : Thread nD τ).loc main_arg3) (ix3 0 2 (col 0 n)) :=
  (View.ld_unit_apply_of _ _ _ _ _ (ix2 2 (col 0 n)) fun a => by
    fin_cases a
    · rfl
    · show 0 * 2048 + n.val = 0 + n.val; omega).trans ((blk_5 m c t _ _).trans (V_v4 m c _ _))
theorem tap_03 (c : Dev nD) (t : Fin cfg0.N) (n : Fin 2048) :
    View.ld (iblk m c 5 t) (Rect.unit (s := S4x6144) ![3, 0] S1x2048.size inb_S4x6144_S1x2048_3_0) (ix2 0 n)
      = m ((c : Thread nD τ).loc main_arg3) (ix3 0 3 (col 0 n)) :=
  (View.ld_unit_apply_of _ _ _ _ _ (ix2 3 (col 0 n)) fun a => by
    fin_cases a
    · rfl
    · show 0 * 2048 + n.val = 0 + n.val; omega).trans ((blk_5 m c t _ _).trans (V_v4 m c _ _))
/-- Part 0's convolution over the block. -/
def part_0 (c : Dev nD) (t : Fin cfg0.N) : FVec Ideal S128x2048 .f32 :=
  k0_pay2 (X0_0 m c t) (View.ld (iblk m c 5 t) (Rect.unit (s := S4x6144) ![3, 0] S1x2048.size inb_S4x6144_S1x2048_3_0))
    (View.ld (iblk m c 4 t) (Rect.unit (s := S3x128x6144) ![0, 0, 0] S1x128x2048.size inb_S3x128x6144_S1x128x2048_0_0_0)) (View.ld (iblk m c 5 t) (Rect.unit (s := S4x6144) ![0, 0] S1x2048.size inb_S4x6144_S1x2048_0_0))
    (View.ld (iblk m c 4 t) (Rect.unit (s := S3x128x6144) ![1, 0, 0] S1x128x2048.size inb_S3x128x6144_S1x128x2048_1_0_0)) (View.ld (iblk m c 5 t) (Rect.unit (s := S4x6144) ![1, 0] S1x2048.size inb_S4x6144_S1x2048_1_0))
    (View.ld (iblk m c 4 t) (Rect.unit (s := S3x128x6144) ![2, 0, 0] S1x128x2048.size inb_S3x128x6144_S1x128x2048_2_0_0)) (View.ld (iblk m c 5 t) (Rect.unit (s := S4x6144) ![2, 0] S1x2048.size inb_S4x6144_S1x2048_2_0))
theorem part_0_apply (c : Dev nD) (t : Fin cfg0.N) (r : Fin 128) (n : Fin 2048) :
    part_0 m c t (ix2 r n) = short (m ((c : Thread nD τ).loc main_arg0)) (m ((c : Thread nD τ).loc main_arg2)) (m ((c : Thread nD τ).loc main_arg3)) 0 r n := by
  refine (conv_apply _ _ _ _ _ _ _ _ r n).trans ?_
  rw [blk_0, past_00, past_01, past_02, tap_00, tap_01, tap_02, tap_03]
  rfl
theorem past_10 (c : Dev nD) (t : Fin cfg0.N) (r : Fin 128) (n : Fin 2048) :
    View.ld (iblk m c 4 t) (Rect.unit (s := S3x128x6144) ![0, 0, 2048] S1x128x2048.size inb_S3x128x6144_S1x128x2048_0_0_2048) (ix3 0 r n)
      = m ((c : Thread nD τ).loc main_arg2) (ix4 0 r 0 (col 1 n)) :=
  (View.ld_unit_apply_of _ _ _ _ _ (ix3 0 r (col 1 n)) fun a => by
    fin_cases a
    · rfl
    · show r.val = 0 + r.val; omega
    · show 1 * 2048 + n.val = 2048 + n.val; omega).trans ((blk_4 m c t _ _ _).trans (V_v3 m c _ _ _))
theorem past_11 (c : Dev nD) (t : Fin cfg0.N) (r : Fin 128) (n : Fin 2048) :
    View.ld (iblk m c 4 t) (Rect.unit (s := S3x128x6144) ![1, 0, 2048] S1x128x2048.size inb_S3x128x6144_S1x128x2048_1_0_2048) (ix3 0 r n)
      = m ((c : Thread nD τ).loc main_arg2) (ix4 0 r 1 (col 1 n)) :=
  (View.ld_unit_apply_of _ _ _ _ _ (ix3 1 r (col 1 n)) fun a => by
    fin_cases a
    · rfl
    · show r.val = 0 + r.val; omega
    · show 1 * 2048 + n.val = 2048 + n.val; omega).trans ((blk_4 m c t _ _ _).trans (V_v3 m c _ _ _))
theorem past_12 (c : Dev nD) (t : Fin cfg0.N) (r : Fin 128) (n : Fin 2048) :
    View.ld (iblk m c 4 t) (Rect.unit (s := S3x128x6144) ![2, 0, 2048] S1x128x2048.size inb_S3x128x6144_S1x128x2048_2_0_2048) (ix3 0 r n)
      = m ((c : Thread nD τ).loc main_arg2) (ix4 0 r 2 (col 1 n)) :=
  (View.ld_unit_apply_of _ _ _ _ _ (ix3 2 r (col 1 n)) fun a => by
    fin_cases a
    · rfl
    · show r.val = 0 + r.val; omega
    · show 1 * 2048 + n.val = 2048 + n.val; omega).trans ((blk_4 m c t _ _ _).trans (V_v3 m c _ _ _))
theorem tap_10 (c : Dev nD) (t : Fin cfg0.N) (n : Fin 2048) :
    View.ld (iblk m c 5 t) (Rect.unit (s := S4x6144) ![0, 2048] S1x2048.size inb_S4x6144_S1x2048_0_2048) (ix2 0 n)
      = m ((c : Thread nD τ).loc main_arg3) (ix3 0 0 (col 1 n)) :=
  (View.ld_unit_apply_of _ _ _ _ _ (ix2 0 (col 1 n)) fun a => by
    fin_cases a
    · rfl
    · show 1 * 2048 + n.val = 2048 + n.val; omega).trans ((blk_5 m c t _ _).trans (V_v4 m c _ _))
theorem tap_11 (c : Dev nD) (t : Fin cfg0.N) (n : Fin 2048) :
    View.ld (iblk m c 5 t) (Rect.unit (s := S4x6144) ![1, 2048] S1x2048.size inb_S4x6144_S1x2048_1_2048) (ix2 0 n)
      = m ((c : Thread nD τ).loc main_arg3) (ix3 0 1 (col 1 n)) :=
  (View.ld_unit_apply_of _ _ _ _ _ (ix2 1 (col 1 n)) fun a => by
    fin_cases a
    · rfl
    · show 1 * 2048 + n.val = 2048 + n.val; omega).trans ((blk_5 m c t _ _).trans (V_v4 m c _ _))
theorem tap_12 (c : Dev nD) (t : Fin cfg0.N) (n : Fin 2048) :
    View.ld (iblk m c 5 t) (Rect.unit (s := S4x6144) ![2, 2048] S1x2048.size inb_S4x6144_S1x2048_2_2048) (ix2 0 n)
      = m ((c : Thread nD τ).loc main_arg3) (ix3 0 2 (col 1 n)) :=
  (View.ld_unit_apply_of _ _ _ _ _ (ix2 2 (col 1 n)) fun a => by
    fin_cases a
    · rfl
    · show 1 * 2048 + n.val = 2048 + n.val; omega).trans ((blk_5 m c t _ _).trans (V_v4 m c _ _))
theorem tap_13 (c : Dev nD) (t : Fin cfg0.N) (n : Fin 2048) :
    View.ld (iblk m c 5 t) (Rect.unit (s := S4x6144) ![3, 2048] S1x2048.size inb_S4x6144_S1x2048_3_2048) (ix2 0 n)
      = m ((c : Thread nD τ).loc main_arg3) (ix3 0 3 (col 1 n)) :=
  (View.ld_unit_apply_of _ _ _ _ _ (ix2 3 (col 1 n)) fun a => by
    fin_cases a
    · rfl
    · show 1 * 2048 + n.val = 2048 + n.val; omega).trans ((blk_5 m c t _ _).trans (V_v4 m c _ _))
/-- Part 1's convolution over the block. -/
def part_1 (c : Dev nD) (t : Fin cfg0.N) : FVec Ideal S128x2048 .f32 :=
  k0_pay2 (X0_1 m c t) (View.ld (iblk m c 5 t) (Rect.unit (s := S4x6144) ![3, 2048] S1x2048.size inb_S4x6144_S1x2048_3_2048))
    (View.ld (iblk m c 4 t) (Rect.unit (s := S3x128x6144) ![0, 0, 2048] S1x128x2048.size inb_S3x128x6144_S1x128x2048_0_0_2048)) (View.ld (iblk m c 5 t) (Rect.unit (s := S4x6144) ![0, 2048] S1x2048.size inb_S4x6144_S1x2048_0_2048))
    (View.ld (iblk m c 4 t) (Rect.unit (s := S3x128x6144) ![1, 0, 2048] S1x128x2048.size inb_S3x128x6144_S1x128x2048_1_0_2048)) (View.ld (iblk m c 5 t) (Rect.unit (s := S4x6144) ![1, 2048] S1x2048.size inb_S4x6144_S1x2048_1_2048))
    (View.ld (iblk m c 4 t) (Rect.unit (s := S3x128x6144) ![2, 0, 2048] S1x128x2048.size inb_S3x128x6144_S1x128x2048_2_0_2048)) (View.ld (iblk m c 5 t) (Rect.unit (s := S4x6144) ![2, 2048] S1x2048.size inb_S4x6144_S1x2048_2_2048))
theorem part_1_apply (c : Dev nD) (t : Fin cfg0.N) (r : Fin 128) (n : Fin 2048) :
    part_1 m c t (ix2 r n) = short (m ((c : Thread nD τ).loc main_arg0)) (m ((c : Thread nD τ).loc main_arg2)) (m ((c : Thread nD τ).loc main_arg3)) 1 r n := by
  refine (conv_apply _ _ _ _ _ _ _ _ r n).trans ?_
  rw [blk_1, past_10, past_11, past_12, tap_10, tap_11, tap_12, tap_13]
  rfl
theorem past_20 (c : Dev nD) (t : Fin cfg0.N) (r : Fin 128) (n : Fin 2048) :
    View.ld (iblk m c 4 t) (Rect.unit (s := S3x128x6144) ![0, 0, 4096] S1x128x2048.size inb_S3x128x6144_S1x128x2048_0_0_4096) (ix3 0 r n)
      = m ((c : Thread nD τ).loc main_arg2) (ix4 0 r 0 (col 2 n)) :=
  (View.ld_unit_apply_of _ _ _ _ _ (ix3 0 r (col 2 n)) fun a => by
    fin_cases a
    · rfl
    · show r.val = 0 + r.val; omega
    · show 2 * 2048 + n.val = 4096 + n.val; omega).trans ((blk_4 m c t _ _ _).trans (V_v3 m c _ _ _))
theorem past_21 (c : Dev nD) (t : Fin cfg0.N) (r : Fin 128) (n : Fin 2048) :
    View.ld (iblk m c 4 t) (Rect.unit (s := S3x128x6144) ![1, 0, 4096] S1x128x2048.size inb_S3x128x6144_S1x128x2048_1_0_4096) (ix3 0 r n)
      = m ((c : Thread nD τ).loc main_arg2) (ix4 0 r 1 (col 2 n)) :=
  (View.ld_unit_apply_of _ _ _ _ _ (ix3 1 r (col 2 n)) fun a => by
    fin_cases a
    · rfl
    · show r.val = 0 + r.val; omega
    · show 2 * 2048 + n.val = 4096 + n.val; omega).trans ((blk_4 m c t _ _ _).trans (V_v3 m c _ _ _))
theorem past_22 (c : Dev nD) (t : Fin cfg0.N) (r : Fin 128) (n : Fin 2048) :
    View.ld (iblk m c 4 t) (Rect.unit (s := S3x128x6144) ![2, 0, 4096] S1x128x2048.size inb_S3x128x6144_S1x128x2048_2_0_4096) (ix3 0 r n)
      = m ((c : Thread nD τ).loc main_arg2) (ix4 0 r 2 (col 2 n)) :=
  (View.ld_unit_apply_of _ _ _ _ _ (ix3 2 r (col 2 n)) fun a => by
    fin_cases a
    · rfl
    · show r.val = 0 + r.val; omega
    · show 2 * 2048 + n.val = 4096 + n.val; omega).trans ((blk_4 m c t _ _ _).trans (V_v3 m c _ _ _))
theorem tap_20 (c : Dev nD) (t : Fin cfg0.N) (n : Fin 2048) :
    View.ld (iblk m c 5 t) (Rect.unit (s := S4x6144) ![0, 4096] S1x2048.size inb_S4x6144_S1x2048_0_4096) (ix2 0 n)
      = m ((c : Thread nD τ).loc main_arg3) (ix3 0 0 (col 2 n)) :=
  (View.ld_unit_apply_of _ _ _ _ _ (ix2 0 (col 2 n)) fun a => by
    fin_cases a
    · rfl
    · show 2 * 2048 + n.val = 4096 + n.val; omega).trans ((blk_5 m c t _ _).trans (V_v4 m c _ _))
theorem tap_21 (c : Dev nD) (t : Fin cfg0.N) (n : Fin 2048) :
    View.ld (iblk m c 5 t) (Rect.unit (s := S4x6144) ![1, 4096] S1x2048.size inb_S4x6144_S1x2048_1_4096) (ix2 0 n)
      = m ((c : Thread nD τ).loc main_arg3) (ix3 0 1 (col 2 n)) :=
  (View.ld_unit_apply_of _ _ _ _ _ (ix2 1 (col 2 n)) fun a => by
    fin_cases a
    · rfl
    · show 2 * 2048 + n.val = 4096 + n.val; omega).trans ((blk_5 m c t _ _).trans (V_v4 m c _ _))
theorem tap_22 (c : Dev nD) (t : Fin cfg0.N) (n : Fin 2048) :
    View.ld (iblk m c 5 t) (Rect.unit (s := S4x6144) ![2, 4096] S1x2048.size inb_S4x6144_S1x2048_2_4096) (ix2 0 n)
      = m ((c : Thread nD τ).loc main_arg3) (ix3 0 2 (col 2 n)) :=
  (View.ld_unit_apply_of _ _ _ _ _ (ix2 2 (col 2 n)) fun a => by
    fin_cases a
    · rfl
    · show 2 * 2048 + n.val = 4096 + n.val; omega).trans ((blk_5 m c t _ _).trans (V_v4 m c _ _))
theorem tap_23 (c : Dev nD) (t : Fin cfg0.N) (n : Fin 2048) :
    View.ld (iblk m c 5 t) (Rect.unit (s := S4x6144) ![3, 4096] S1x2048.size inb_S4x6144_S1x2048_3_4096) (ix2 0 n)
      = m ((c : Thread nD τ).loc main_arg3) (ix3 0 3 (col 2 n)) :=
  (View.ld_unit_apply_of _ _ _ _ _ (ix2 3 (col 2 n)) fun a => by
    fin_cases a
    · rfl
    · show 2 * 2048 + n.val = 4096 + n.val; omega).trans ((blk_5 m c t _ _).trans (V_v4 m c _ _))
/-- Part 2's convolution over the block. -/
def part_2 (c : Dev nD) (t : Fin cfg0.N) : FVec Ideal S128x2048 .f32 :=
  k0_pay2 (X0_2 m c t) (View.ld (iblk m c 5 t) (Rect.unit (s := S4x6144) ![3, 4096] S1x2048.size inb_S4x6144_S1x2048_3_4096))
    (View.ld (iblk m c 4 t) (Rect.unit (s := S3x128x6144) ![0, 0, 4096] S1x128x2048.size inb_S3x128x6144_S1x128x2048_0_0_4096)) (View.ld (iblk m c 5 t) (Rect.unit (s := S4x6144) ![0, 4096] S1x2048.size inb_S4x6144_S1x2048_0_4096))
    (View.ld (iblk m c 4 t) (Rect.unit (s := S3x128x6144) ![1, 0, 4096] S1x128x2048.size inb_S3x128x6144_S1x128x2048_1_0_4096)) (View.ld (iblk m c 5 t) (Rect.unit (s := S4x6144) ![1, 4096] S1x2048.size inb_S4x6144_S1x2048_1_4096))
    (View.ld (iblk m c 4 t) (Rect.unit (s := S3x128x6144) ![2, 0, 4096] S1x128x2048.size inb_S3x128x6144_S1x128x2048_2_0_4096)) (View.ld (iblk m c 5 t) (Rect.unit (s := S4x6144) ![2, 4096] S1x2048.size inb_S4x6144_S1x2048_2_4096))
theorem part_2_apply (c : Dev nD) (t : Fin cfg0.N) (r : Fin 128) (n : Fin 2048) :
    part_2 m c t (ix2 r n) = short (m ((c : Thread nD τ).loc main_arg0)) (m ((c : Thread nD τ).loc main_arg2)) (m ((c : Thread nD τ).loc main_arg3)) 2 r n := by
  refine (conv_apply _ _ _ _ _ _ _ _ r n).trans ?_
  rw [blk_2, past_20, past_21, past_22, tap_20, tap_21, tap_22, tap_23]
  rfl

/-! ## What the body stores -/

theorem gates_decay (c : Dev nD) (t : Fin cfg0.N) (r : Fin 128) (h : Fin 16) :
    k0_pay7 (iblk m c 3 t) (iblk m c 6 t) (iblk m c 7 t) (ix2 r ⟨h.val, by omega⟩)
      = decay (m ((c : Thread nD τ).loc main_arg4) (ix2 0 h)) (m ((c : Thread nD τ).loc main_arg5) (ix2 0 h)) (m ((c : Thread nD τ).loc main_arg1) (ix2 r ⟨h.val, by omega⟩)) := by
  refine (decay_apply _ _ _ r _).trans ?_
  rw [blk_3, blk_6, blk_7, V_v0, V_v1]
theorem gates_write (c : Dev nD) (t : Fin cfg0.N) (r : Fin 128) (h : Fin 16) :
    k0_pay8 (iblk m c 3 t) (ix2 r ⟨16 + h.val, by omega⟩) = Ideal.logistic (m ((c : Thread nD τ).loc main_arg1) (ix2 r ⟨16 + h.val, by omega⟩)) := by
  refine (write_apply _ r _).trans ?_
  rw [blk_3]

theorem out_queries (c : Dev nD) (t : Fin cfg0.N) : (outsAt0 m c t).1 = queries (m ((c : Thread nD τ).loc main_arg0)) (m ((c : Thread nD τ).loc main_arg2)) (m ((c : Thread nD τ).loc main_arg3)) := by
  unfold outsAt0
  frame_out
  funext y
  have p := piece_query (part_0 m c t) _ (part_0_apply m c t)
  refine View.canon_apply_of_pieces _ _ (View.PiecesOf.mem ?_) y (View.cover_of_tiledL (s := S128x2048) _ ![128, 128] (by sl_kernel_rfl) y)
  exact ⟨p 15, p 14, p 13, p 12, p 11, p 10, p 9, p 8, p 7, p 6, p 5, p 4, p 3, p 2, p 1, p 0, trivial⟩
theorem out_keys (c : Dev nD) (t : Fin cfg0.N) : (outsAt0 m c t).2.1 = keys (m ((c : Thread nD τ).loc main_arg0)) (m ((c : Thread nD τ).loc main_arg2)) (m ((c : Thread nD τ).loc main_arg3)) := by
  unfold outsAt0
  frame_out
  funext y
  have p := piece_unit (part_1 m c t) _ (part_1_apply m c t)
  refine View.canon_apply_of_pieces _ _ (View.PiecesOf.mem ?_) y (View.cover_of_tiledL (s := S128x2048) _ ![128, 128] (by sl_kernel_rfl) y)
  exact ⟨p 15, p 14, p 13, p 12, p 11, p 10, p 9, p 8, p 7, p 6, p 5, p 4, p 3, p 2, p 1, p 0, trivial⟩
theorem out_values (c : Dev nD) (t : Fin cfg0.N) : (outsAt0 m c t).2.2.1 = values (m ((c : Thread nD τ).loc main_arg0)) (m ((c : Thread nD τ).loc main_arg2)) (m ((c : Thread nD τ).loc main_arg3)) := by
  unfold outsAt0
  frame_out
  funext y
  obtain ⟨r, h, e, rfl⟩ := eq_lane y
  exact (part_2_apply m c t r (lane h e)).trans (heads_apply (fun r h e => short (m ((c : Thread nD τ).loc main_arg0)) (m ((c : Thread nD τ).loc main_arg2)) (m ((c : Thread nD τ).loc main_arg3)) 2 r (lane h e)) r h e).symm
theorem out_decays (c : Dev nD) (t : Fin cfg0.N) : (outsAt0 m c t).2.2.2.1 = decays (m ((c : Thread nD τ).loc main_arg1)) (m ((c : Thread nD τ).loc main_arg4)) (m ((c : Thread nD τ).loc main_arg5)) := by
  unfold outsAt0
  frame_out
  funext y
  have p := piece_decay (k0_pay7 (iblk m c 3 t) (iblk m c 6 t) (iblk m c 7 t)) _ (gates_decay m c t)
  refine View.canon_apply_of_pieces _ _ (View.PiecesOf.mem ?_) y (View.cover_of_tiledL (s := S128x2048) _ ![128, 128] (by sl_kernel_rfl) y)
  exact ⟨p 15, p 14, p 13, p 12, p 11, p 10, p 9, p 8, p 7, p 6, p 5, p 4, p 3, p 2, p 1, p 0, trivial⟩
theorem out_writes (c : Dev nD) (t : Fin cfg0.N) : (outsAt0 m c t).2.2.2.2.1 = writes (m ((c : Thread nD τ).loc main_arg1)) := by
  unfold outsAt0
  frame_out
  funext y
  have p := piece_write (k0_pay8 (iblk m c 3 t)) _ (gates_write m c t)
  refine View.canon_apply_of_pieces _ _ (View.PiecesOf.mem ?_) y (View.cover_of_tiledL (s := S128x2048) _ ![128, 128] (by sl_kernel_rfl) y)
  exact ⟨p 15, p 14, p 13, p 12, p 11, p 10, p 9, p 8, p 7, p 6, p 5, p 4, p 3, p 2, p 1, p 0, trivial⟩
theorem out_meets (c : Dev nD) (t : Fin cfg0.N) : (outsAt0 m c t).2.2.2.2.2 = meets (m ((c : Thread nD τ).loc main_arg0)) (m ((c : Thread nD τ).loc main_arg2)) (m ((c : Thread nD τ).loc main_arg3)) := by
  unfold outsAt0
  frame_out
  funext y
  have p := piece_meet (part_0 m c t) (part_1 m c t) _ _ (part_0_apply m c t) (part_1_apply m c t)
  refine View.canon_apply_of_pieces _ _ (View.PiecesOf.mem ?_) y (View.cover_of_tiledL (s := S128x2048) _ ![128, 128] (by sl_kernel_rfl) y)
  exact ⟨p 15, p 14, p 13, p 12, p 11, p 10, p 9, p 8, p 7, p 6, p 5, p 4, p 3, p 2, p 1, p 0, trivial⟩

/-! ## The arrays after the run -/

theorem final_queries (c : Dev nD) : (dats m 0 c).arrAt 8 cfg0.N = queries (m ((c : Thread nD τ).loc main_arg0)) (m ((c : Thread nD τ).loc main_arg2)) (m ((c : Thread nD τ).loc main_arg3)) := by
  refine (dats m 0 c).arrAt_eq_of_covers 8 _ (by decide +kernel) fun t hf y => ?_
  blk_simp
  rw [after0_8, out_queries]
  idx_vars y
  refine congrArg (queries (m ((c : Thread nD τ).loc main_arg0)) (m ((c : Thread nD τ).loc main_arg2)) (m ((c : Thread nD τ).loc main_arg3))) (funext fun i => Fin.ext ?_)
  fin_cases i
  · blk_simp [index_8] <;> rfl
  · blk_simp [index_8] <;> rfl
theorem final_keys (c : Dev nD) : (dats m 0 c).arrAt 9 cfg0.N = keys (m ((c : Thread nD τ).loc main_arg0)) (m ((c : Thread nD τ).loc main_arg2)) (m ((c : Thread nD τ).loc main_arg3)) := by
  refine (dats m 0 c).arrAt_eq_of_covers 9 _ (by decide +kernel) fun t hf y => ?_
  blk_simp
  rw [after0_9, out_keys]
  idx_vars y
  refine congrArg (keys (m ((c : Thread nD τ).loc main_arg0)) (m ((c : Thread nD τ).loc main_arg2)) (m ((c : Thread nD τ).loc main_arg3))) (funext fun i => Fin.ext ?_)
  fin_cases i
  · blk_simp [index_9] <;> rfl
  · blk_simp [index_9] <;> rfl
theorem final_values (c : Dev nD) : (dats m 0 c).arrAt 10 cfg0.N = values (m ((c : Thread nD τ).loc main_arg0)) (m ((c : Thread nD τ).loc main_arg2)) (m ((c : Thread nD τ).loc main_arg3)) := by
  refine (dats m 0 c).arrAt_eq_of_covers 10 _ (by decide +kernel) fun t hf y => ?_
  blk_simp
  rw [after0_10, out_values]
  idx_vars y
  refine congrArg (values (m ((c : Thread nD τ).loc main_arg0)) (m ((c : Thread nD τ).loc main_arg2)) (m ((c : Thread nD τ).loc main_arg3))) (funext fun i => Fin.ext ?_)
  fin_cases i
  · blk_simp [index_10] <;> rfl
  · blk_simp [index_10] <;> rfl
theorem final_decays (c : Dev nD) : (dats m 0 c).arrAt 11 cfg0.N = decays (m ((c : Thread nD τ).loc main_arg1)) (m ((c : Thread nD τ).loc main_arg4)) (m ((c : Thread nD τ).loc main_arg5)) := by
  refine (dats m 0 c).arrAt_eq_of_covers 11 _ (by decide +kernel) fun t hf y => ?_
  blk_simp
  rw [after0_11, out_decays]
  idx_vars y
  refine congrArg (decays (m ((c : Thread nD τ).loc main_arg1)) (m ((c : Thread nD τ).loc main_arg4)) (m ((c : Thread nD τ).loc main_arg5))) (funext fun i => Fin.ext ?_)
  fin_cases i
  · blk_simp [index_11] <;> rfl
  · blk_simp [index_11] <;> rfl
theorem final_writes (c : Dev nD) : (dats m 0 c).arrAt 12 cfg0.N = writes (m ((c : Thread nD τ).loc main_arg1)) := by
  refine (dats m 0 c).arrAt_eq_of_covers 12 _ (by decide +kernel) fun t hf y => ?_
  blk_simp
  rw [after0_12, out_writes]
  idx_vars y
  refine congrArg (writes (m ((c : Thread nD τ).loc main_arg1))) (funext fun i => Fin.ext ?_)
  fin_cases i
  · blk_simp [index_12] <;> rfl
  · blk_simp [index_12] <;> rfl
theorem final_meets (c : Dev nD) : (dats m 0 c).arrAt 13 cfg0.N = meets (m ((c : Thread nD τ).loc main_arg0)) (m ((c : Thread nD τ).loc main_arg2)) (m ((c : Thread nD τ).loc main_arg3)) := by
  refine (dats m 0 c).arrAt_eq_of_covers 13 _ (by decide +kernel) fun t hf y => ?_
  blk_simp
  rw [after0_13, out_meets]
  idx_vars y
  refine congrArg (meets (m ((c : Thread nD τ).loc main_arg0)) (m ((c : Thread nD τ).loc main_arg2)) (m ((c : Thread nD τ).loc main_arg3))) (funext fun i => Fin.ext ?_)
  fin_cases i
  · blk_simp [index_13] <;> rfl
  · blk_simp [index_13] <;> rfl

/-- The run, its results named. -/
theorem run : θ_run defs (onTc (τ := τ) (main (F := Ideal))) ⟨m, fun _ => 0, ρ⟩ fun r => ∀ c : Dev nD,
    r.2.mem ((c : Thread nD τ).loc main_v5_0) = queries (m ((c : Thread nD τ).loc main_arg0)) (m ((c : Thread nD τ).loc main_arg2)) (m ((c : Thread nD τ).loc main_arg3))
      ∧ r.2.mem ((c : Thread nD τ).loc main_v5_1) = keys (m ((c : Thread nD τ).loc main_arg0)) (m ((c : Thread nD τ).loc main_arg2)) (m ((c : Thread nD τ).loc main_arg3))
      ∧ r.2.mem ((c : Thread nD τ).loc main_v5_2) = values (m ((c : Thread nD τ).loc main_arg0)) (m ((c : Thread nD τ).loc main_arg2)) (m ((c : Thread nD τ).loc main_arg3))
      ∧ r.2.mem ((c : Thread nD τ).loc main_v5_3) = decays (m ((c : Thread nD τ).loc main_arg1)) (m ((c : Thread nD τ).loc main_arg4)) (m ((c : Thread nD τ).loc main_arg5))
      ∧ r.2.mem ((c : Thread nD τ).loc main_v5_4) = writes (m ((c : Thread nD τ).loc main_arg1))
      ∧ r.2.mem ((c : Thread nD τ).loc main_v5_5) = meets (m ((c : Thread nD τ).loc main_arg0)) (m ((c : Thread nD τ).loc main_arg2)) (m ((c : Thread nD τ).loc main_arg3)) :=
  (θ_run defs _ _).mono (fun _ h c => ⟨(h c).1.trans (final_queries m c), (h c).2.1.trans (final_keys m c), (h c).2.2.1.trans (final_values m c), (h c).2.2.2.1.trans (final_decays m c), (h c).2.2.2.2.1.trans (final_writes m c), (h c).2.2.2.2.2.1.trans (final_meets m c)⟩) (Value.run_blocks m ρ)

end Cert.Proof.Prep

end
-- ==== Proof.Prep.Reference.lean ====
/-
  The plain preparation's six results, read at an index, are the kernel's.
-/
module

public import proofs.«01_k».proof.Proof.Prep.Formula
public import proofs.«01_k».proof.Proof.Gen.RefPrepIdeal.Run
public import Idealize.ShloMosaic.Lib.ValueLayout

@[expose] public section

set_option maxRecDepth 16384

noncomputable section

namespace Cert.Proof.PrepRef

open Cert.RefPrepIdeal Cert.RefPrepIdeal.Gen Cert.Proof.Layer Cert.Proof.Delta
open Idealize.ShloMosaic Idealize.ShloMosaic.TcCoe Idealize.ShloMosaic.Tactic
open Idealize.SL Idealize.SL.Sem

variable (u : S128x13312.Idx → Elt Ideal .f32) (s : S1x128x3x6144.Idx → Elt Ideal .f32) (w : S1x4x6144.Idx → Elt Ideal .f32)
  (x : S128x128.Idx → Elt Ideal .f32) (a b : S1x16.Idx → Elt Ideal .f32)

/-! ## The convolution -/

/-- The three rows before, then the new one. -/
def four : FVec Ideal S128x4x6144 .f32 :=
  concatenate S128x4x6144 1 [⟨S128x3x6144, shapeCast _ s shapeCasts_S1x128x3x6144_S128x3x6144⟩,
    ⟨S128x1x6144, broadcastInDim S128x1x6144 ![0, 2] bcast_S128x6144_S128x1x6144_0_2 (extractStridedSlice S128x6144 ![0, 0] u slices_S128x13312_S128x6144_0_0)⟩]
    concatenates_S128x3x6144_S128x1x6144_S128x4x6144_d1
theorem four_0 (r : Fin 128) (n : Fin 6144) : four u s (ix3 r 0 n) = s (ix4 0 r 0 n) := by
  unfold four
  pointwise
theorem four_1 (r : Fin 128) (n : Fin 6144) : four u s (ix3 r 1 n) = s (ix4 0 r 1 n) := by
  unfold four
  pointwise
theorem four_2 (r : Fin 128) (n : Fin 6144) : four u s (ix3 r 2 n) = s (ix4 0 r 2 n) := by
  unfold four
  pointwise
theorem four_3 (r : Fin 128) (n : Fin 6144) : four u s (ix3 r 3 n) = u (ix2 r ⟨n.val, by omega⟩) := by
  unfold four
  pointwise

/-- Row 0 times its tap. -/
def term_0 : FVec Ideal S128x1x6144 .f32 :=
  mulf (extractStridedSlice S128x1x6144 ![0, 0, 0] (four u s) slices_S128x4x6144_S128x1x6144_0_0_0)
    (broadcastInDim S128x1x6144 ![0, 1, 2] bcast_S1x1x6144_S128x1x6144_0_1_2 (broadcastInDim S1x1x6144 ![2] bcast_S6144_S1x1x6144_2
      (shapeCast _ (extractStridedSlice S1x6144 ![0, 0] (shapeCast _ w shapeCasts_S1x4x6144_S4x6144) slices_S4x6144_S1x6144_0_0) shapeCasts_S1x6144_S6144)))
theorem term_0_apply (r : Fin 128) (n : Fin 6144) : term_0 u s w (ix3 r 0 n) = (four u s (ix3 r 0 n) * w (ix3 0 0 n) : EReal) := by
  unfold term_0
  pointwise
/-- Row 1 times its tap. -/
def term_1 : FVec Ideal S128x1x6144 .f32 :=
  mulf (extractStridedSlice S128x1x6144 ![0, 1, 0] (four u s) slices_S128x4x6144_S128x1x6144_0_1_0)
    (broadcastInDim S128x1x6144 ![0, 1, 2] bcast_S1x1x6144_S128x1x6144_0_1_2 (broadcastInDim S1x1x6144 ![2] bcast_S6144_S1x1x6144_2
      (shapeCast _ (extractStridedSlice S1x6144 ![1, 0] (shapeCast _ w shapeCasts_S1x4x6144_S4x6144) slices_S4x6144_S1x6144_1_0) shapeCasts_S1x6144_S6144)))
theorem term_1_apply (r : Fin 128) (n : Fin 6144) : term_1 u s w (ix3 r 0 n) = (four u s (ix3 r 1 n) * w (ix3 0 1 n) : EReal) := by
  unfold term_1
  pointwise
/-- Row 2 times its tap. -/
def term_2 : FVec Ideal S128x1x6144 .f32 :=
  mulf (extractStridedSlice S128x1x6144 ![0, 2, 0] (four u s) slices_S128x4x6144_S128x1x6144_0_2_0)
    (broadcastInDim S128x1x6144 ![0, 1, 2] bcast_S1x1x6144_S128x1x6144_0_1_2 (broadcastInDim S1x1x6144 ![2] bcast_S6144_S1x1x6144_2
      (shapeCast _ (extractStridedSlice S1x6144 ![2, 0] (shapeCast _ w shapeCasts_S1x4x6144_S4x6144) slices_S4x6144_S1x6144_2_0) shapeCasts_S1x6144_S6144)))
theorem term_2_apply (r : Fin 128) (n : Fin 6144) : term_2 u s w (ix3 r 0 n) = (four u s (ix3 r 2 n) * w (ix3 0 2 n) : EReal) := by
  unfold term_2
  pointwise
/-- Row 3 times its tap. -/
def term_3 : FVec Ideal S128x1x6144 .f32 :=
  mulf (extractStridedSlice S128x1x6144 ![0, 3, 0] (four u s) slices_S128x4x6144_S128x1x6144_0_3_0)
    (broadcastInDim S128x1x6144 ![0, 1, 2] bcast_S1x1x6144_S128x1x6144_0_1_2 (broadcastInDim S1x1x6144 ![2] bcast_S6144_S1x1x6144_2
      (shapeCast _ (extractStridedSlice S1x6144 ![3, 0] (shapeCast _ w shapeCasts_S1x4x6144_S4x6144) slices_S4x6144_S1x6144_3_0) shapeCasts_S1x6144_S6144)))
theorem term_3_apply (r : Fin 128) (n : Fin 6144) : term_3 u s w (ix3 r 0 n) = (four u s (ix3 r 3 n) * w (ix3 0 3 n) : EReal) := by
  unfold term_3
  pointwise

/-- The four products summed. -/
def summed : FVec Ideal S128x1x6144 .f32 := addf (addf (addf (term_0 u s w) (term_1 u s w)) (term_2 u s w)) (term_3 u s w)
/-- Their `silu`. -/
def siluT (y : FVec Ideal S128x1x6144 .f32) : FVec Ideal S128x1x6144 .f32 :=
  mulf y (Host.divf (broadcastInDim S128x1x6144 ![] bcast_S_S128x1x6144 (constant S_ .f32 0x3F800000#32))
    (addf (broadcastInDim S128x1x6144 ![] bcast_S_S128x1x6144 (constant S_ .f32 0x3F800000#32)) (Host.exp (Host.negf y))))
theorem siluT_apply (y : FVec Ideal S128x1x6144 .f32) (r : Fin 128) (n : Fin 6144) : siluT y (ix3 r 0 n) = silu (y (ix3 r 0 n)) := by
  unfold siluT silu
  pointwise
  rfl
theorem summed_apply (r : Fin 128) (n : Fin 6144) : summed u s w (ix3 r 0 n)
    = (term_0 u s w (ix3 r 0 n) + term_1 u s w (ix3 r 0 n) + term_2 u s w (ix3 r 0 n) + term_3 u s w (ix3 r 0 n) : EReal) := rfl

/-- The convolution's columns by part and head. -/
def parts : FVec Ideal S128x3x16x128 .f32 := shapeCast _ (siluT (summed u s w)) shapeCasts_S128x1x6144_S128x3x16x128
theorem parts_apply (r : Fin 128) (p : Fin 3) (h : Fin 16) (e : Fin 128) : parts u s w (ix4 r p h e) = Prep.short u s w p r (lane h e) := by
  have e1 : parts u s w (ix4 r p h e) = siluT (summed u s w) (ix3 r 0 (Prep.col p (lane h e))) := by
    unfold parts Prep.col lane
    pointwise
    exact congrArg _ (congrArg (ix3 r 0) (Fin.ext (Nat.add_assoc _ _ _)))
  rw [e1, siluT_apply, summed_apply, term_0_apply, term_1_apply, term_2_apply, term_3_apply, four_0, four_1, four_2, four_3]
  rfl
def part_0 : FVec Ideal S128x16x128 .f32 :=
  shapeCast _ (extractStridedSlice S128x1x16x128 ![0, 0, 0, 0] (parts u s w) slices_S128x3x16x128_S128x1x16x128_0_0_0_0) shapeCasts_S128x1x16x128_S128x16x128
theorem part_0_apply (r : Fin 128) (h : Fin 16) (e : Fin 128) : part_0 u s w (ix3 r h e) = Prep.short u s w 0 r (lane h e) := by
  rw [← parts_apply]
  unfold part_0
  pointwise
def part_1 : FVec Ideal S128x16x128 .f32 :=
  shapeCast _ (extractStridedSlice S128x1x16x128 ![0, 1, 0, 0] (parts u s w) slices_S128x3x16x128_S128x1x16x128_0_1_0_0) shapeCasts_S128x1x16x128_S128x16x128
theorem part_1_apply (r : Fin 128) (h : Fin 16) (e : Fin 128) : part_1 u s w (ix3 r h e) = Prep.short u s w 1 r (lane h e) := by
  rw [← parts_apply]
  unfold part_1
  pointwise
def part_2 : FVec Ideal S128x16x128 .f32 :=
  shapeCast _ (extractStridedSlice S128x1x16x128 ![0, 2, 0, 0] (parts u s w) slices_S128x3x16x128_S128x1x16x128_0_2_0_0) shapeCasts_S128x1x16x128_S128x16x128
theorem part_2_apply (r : Fin 128) (h : Fin 16) (e : Fin 128) : part_2 u s w (ix3 r h e) = Prep.short u s w 2 r (lane h e) := by
  rw [← parts_apply]
  unfold part_2
  pointwise

/-! ## Queries, keys, gates -/

/-- Every head divided by its length, and that scaled. -/
def unitT (y : FVec Ideal S128x16x128 .f32) : FVec Ideal S128x16x128 .f32 :=
  mulf y (broadcastInDim S128x16x128 ![0, 1, 2] bcast_S128x16x1_S128x16x128_0_1_2 (Host.rsqrt (addf (broadcastInDim S128x16x1 ![0, 1] bcast_S128x16_S128x16x1_0_1
    (Host.reduceAdd (mulf y y) (constant (F := Ideal) S_ .f32 0x00000000#32) reducesTo_S128x16x128_S128x16_d2 h_S_))
    (broadcastInDim S128x16x1 ![] bcast_S_S128x16x1 (constant (F := Ideal) S_ .f32 0x358637BD#32)))))
def queryT (y : FVec Ideal S128x16x128 .f32) : FVec Ideal S128x16x128 .f32 :=
  mulf (unitT y) (broadcastInDim S128x16x128 ![] bcast_S_S128x16x128 (constant (F := Ideal) S_ .f32 0x3DB504F3#32))
theorem unitT_apply (y : FVec Ideal S128x16x128 .f32) (r : Fin 128) (h : Fin 16) (e : Fin 128) : unitT y (ix3 r h e) = Prep.unit (fun d => y (ix3 r h d)) e := by
  unfold unitT Prep.unit
  pointwise
theorem queryT_apply (y : FVec Ideal S128x16x128 .f32) (r : Fin 128) (h : Fin 16) (e : Fin 128) : queryT y (ix3 r h e) = Prep.query (fun d => y (ix3 r h d)) e := by
  rw [Prep.query, ← unitT_apply]
  unfold queryT
  pointwise

/-- Rows from heads, and from a number per head. -/
def rows (y : FVec Ideal S128x16x128 .f32) : FVec Ideal S128x2048 .f32 := shapeCast _ y shapeCasts_S128x16x128_S128x2048
def spread (y : FVec Ideal S128x16 .f32) : FVec Ideal S128x2048 .f32 :=
  rows (broadcastInDim S128x16x128 ![0, 1, 2] bcast_S128x16x1_S128x16x128_0_1_2 (broadcastInDim S128x16x1 ![0, 1] bcast_S128x16_S128x16x1_0_1 y))
theorem rows_apply (y : FVec Ideal S128x16x128 .f32) (r : Fin 128) (h : Fin 16) (e : Fin 128) : rows y (ix2 r (lane h e)) = y (ix3 r h e) := by
  unfold rows lane
  pointwise
theorem spread_apply (y : FVec Ideal S128x16 .f32) (r : Fin 128) (h : Fin 16) (e : Fin 128) : spread y (ix2 r (lane h e)) = y (ix2 r h) := by
  refine (rows_apply _ r h e).trans ?_
  pointwise
theorem rows_eq (y : FVec Ideal S128x16x128 .f32) (f : Fin 128 → Fin 16 → Fin 128 → EReal) (hy : ∀ r h e, y (ix3 r h e) = f r h e) : rows y = Prep.heads f := by
  funext i
  obtain ⟨r, h, e, rfl⟩ := Prep.eq_lane i
  rw [rows_apply, hy, Prep.heads_apply]
theorem spread_eq (y : FVec Ideal S128x16 .f32) (f : Fin 128 → Fin 16 → EReal) (hy : ∀ r h, y (ix2 r h) = f r h) : spread y = Prep.heads fun r h _ => f r h := by
  funext i
  obtain ⟨r, h, e, rfl⟩ := Prep.eq_lane i
  rw [spread_apply, hy, Prep.heads_apply (fun r h _ => f r h)]

/-- The new rates, biased; their softplus; the decays. -/
def biased : FVec Ideal S128x16 .f32 :=
  addf (extractStridedSlice S128x16 ![0, 0] x slices_S128x128_S128x16_0_0)
    (broadcastInDim S128x16 ![0, 1] bcast_S1x16_S128x16_0_1 (broadcastInDim S1x16 ![1] bcast_S16_S1x16_1 (shapeCast _ b shapeCasts_S1x16_S16)))
def softplusT (y : FVec Ideal S128x16 .f32) : FVec Ideal S128x16 .f32 :=
  select (cmpf .une (subf y (broadcastInDim S128x16 ![] bcast_S_S128x16 (constant S_ .f32 0x00000000#32))) (subf y (broadcastInDim S128x16 ![] bcast_S_S128x16 (constant S_ .f32 0x00000000#32))))
    (addf y (broadcastInDim S128x16 ![] bcast_S_S128x16 (constant S_ .f32 0x00000000#32)))
    (addf (maximumf y (broadcastInDim S128x16 ![] bcast_S_S128x16 (constant S_ .f32 0x00000000#32)))
      (Host.log1p (Host.exp (Host.negf (Host.absf (subf y (broadcastInDim S128x16 ![] bcast_S_S128x16 (constant S_ .f32 0x00000000#32))))))))
def decayT : FVec Ideal S128x16 .f32 :=
  Host.exp (mulf (broadcastInDim S128x16 ![0, 1] bcast_S1x16_S128x16_0_1 (broadcastInDim S1x16 ![1] bcast_S16_S1x16_1
    (Host.negf (Host.exp (shapeCast _ a shapeCasts_S1x16_S16))))) (softplusT (biased x b)))
theorem biased_apply (r : Fin 128) (h : Fin 16) : biased x b (ix2 r h) = (x (ix2 r ⟨h.val, by omega⟩) + b (ix2 0 h) : EReal) := by
  unfold biased
  pointwise
/-- No number differs from itself, so the comparison always takes the second branch. -/
theorem softplusT_apply (y : FVec Ideal S128x16 .f32) (r : Fin 128) (h : Fin 16) : softplusT y (ix2 r h) = Prep.softplus (y (ix2 r h)) := by
  have e : softplusT y (ix2 r h) = if (y (ix2 r h) : EReal) ≠ y (ix2 r h) then y (ix2 r h) else Prep.softplus (y (ix2 r h)) := by
    unfold softplusT
    pointwise
    rfl
  exact e.trans (if_neg fun n => n rfl)
theorem decayT_apply (r : Fin 128) (h : Fin 16) : decayT x a b (ix2 r h) = Prep.decay (a (ix2 0 h)) (b (ix2 0 h)) (x (ix2 r ⟨h.val, by omega⟩)) := by
  rw [Prep.decay, ← biased_apply, ← softplusT_apply]
  unfold decayT
  pointwise

/-- The writing rates. -/
def writeT : FVec Ideal S128x16 .f32 :=
  Host.divf (broadcastInDim S128x16 ![] bcast_S_S128x16 (constant S_ .f32 0x3F800000#32)) (addf (broadcastInDim S128x16 ![] bcast_S_S128x16 (constant S_ .f32 0x3F800000#32))
    (Host.exp (Host.negf (extractStridedSlice S128x16 ![0, 16] x slices_S128x128_S128x16_0_16))))
theorem writeT_apply (r : Fin 128) (h : Fin 16) : writeT x (ix2 r h) = Ideal.logistic (x (ix2 r ⟨16 + h.val, by omega⟩)) := by
  unfold writeT
  pointwise
  rfl

/-- Queries against keys. -/
def meetT (q k : FVec Ideal S128x16x128 .f32) : FVec Ideal S128x16 .f32 :=
  Host.dotGeneral (F := Ideal) (φ₁ := .f32) (φ₂ := .f32) dot_S128x16x128_S128x16x128_S128x16_2_2_n_n_01_01 none q k
theorem meetT_apply (q k : FVec Ideal S128x16x128 .f32) (r : Fin 128) (h : Fin 16) : meetT q k (ix2 r h) = dot (fun d => q (ix3 r h d)) fun d => k (ix3 r h d) := by
  unfold meetT dot
  pointwise

/-! ## The six results -/

theorem queries_eq : rows (queryT (part_0 u s w)) = Prep.queries u s w :=
  rows_eq _ _ fun r h e => by simp only [queryT_apply, part_0_apply]
theorem keys_eq : rows (unitT (part_1 u s w)) = Prep.keys u s w :=
  rows_eq _ _ fun r h e => by simp only [unitT_apply, part_1_apply]
theorem values_eq : rows (part_2 u s w) = Prep.values u s w := rows_eq _ _ fun r h e => part_2_apply u s w r h e
theorem decays_eq : spread (decayT x a b) = Prep.decays x a b := spread_eq _ _ fun r h => decayT_apply x a b r h
theorem writes_eq : spread (writeT x) = Prep.writes x := spread_eq _ _ fun r h => writeT_apply x r h
theorem meets_eq : spread (meetT (queryT (part_0 u s w)) (unitT (part_1 u s w))) = Prep.meets u s w :=
  spread_eq _ (fun r h => dot (Prep.query fun d => Prep.short u s w 0 r (lane h d)) (Prep.unit fun d => Prep.short u s w 1 r (lane h d)))
    fun r h => by simp only [meetT_apply, queryT_apply, unitT_apply, part_0_apply, part_1_apply]

/-- The reference's run, its results named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78) = Prep.queries (m ((c.tc : Thread nD τ).loc main_arg0)) (m ((c.tc : Thread nD τ).loc main_arg2)) (m ((c.tc : Thread nD τ).loc main_arg3))
      ∧ r.2.mem ((c.tc : Thread nD τ).loc main_v79) = Prep.keys (m ((c.tc : Thread nD τ).loc main_arg0)) (m ((c.tc : Thread nD τ).loc main_arg2)) (m ((c.tc : Thread nD τ).loc main_arg3))
      ∧ r.2.mem ((c.tc : Thread nD τ).loc main_v80) = Prep.values (m ((c.tc : Thread nD τ).loc main_arg0)) (m ((c.tc : Thread nD τ).loc main_arg2)) (m ((c.tc : Thread nD τ).loc main_arg3))
      ∧ r.2.mem ((c.tc : Thread nD τ).loc main_v84) = Prep.decays (m ((c.tc : Thread nD τ).loc main_arg1)) (m ((c.tc : Thread nD τ).loc main_arg4)) (m ((c.tc : Thread nD τ).loc main_arg5))
      ∧ r.2.mem ((c.tc : Thread nD τ).loc main_v87) = Prep.writes (m ((c.tc : Thread nD τ).loc main_arg1))
      ∧ r.2.mem ((c.tc : Thread nD τ).loc main_v90) = Prep.meets (m ((c.tc : Thread nD τ).loc main_arg0)) (m ((c.tc : Thread nD τ).loc main_arg2)) (m ((c.tc : Thread nD τ).loc main_arg3)) :=
  (θ_run defs _ _).mono (fun _ h c =>
    ⟨(h c).1.trans (Eq.trans (by unfold Value.res_main_v78 rows queryT unitT part_0 parts siluT summed term_0 term_1 term_2 term_3 four; rfl) (queries_eq _ _ _)),
      (h c).2.1.trans (Eq.trans (by unfold Value.res_main_v79 rows unitT part_1 parts siluT summed term_0 term_1 term_2 term_3 four; rfl) (keys_eq _ _ _)),
      (h c).2.2.1.trans (Eq.trans (by unfold Value.res_main_v80 rows part_2 parts siluT summed term_0 term_1 term_2 term_3 four; rfl) (values_eq _ _ _)),
      (h c).2.2.2.1.trans (Eq.trans (by unfold spread rows decayT softplusT biased; rfl) (decays_eq _ _ _)),
      (h c).2.2.2.2.1.trans (Eq.trans (by unfold spread rows writeT; rfl) (writes_eq _)),
      (h c).2.2.2.2.2.1.trans (Eq.trans (by unfold Value.res_main_v90 spread rows meetT queryT unitT part_0 part_1 parts siluT summed term_0 term_1 term_2 term_3 four; rfl) (meets_eq _ _ _))⟩) (Value.run m ρ)

end Cert.Proof.PrepRef

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Inproj.Reference
public import proofs.«01_k».proof.Proof.Gen.Ffn.Frame
public import proofs.«01_k».proof.Proof.Gen.FfnIdeal.Frame
public import proofs.«01_k».proof.Proof.Gen.Final.Frame
public import proofs.«01_k».proof.Proof.Gen.FinalIdeal.Frame
public import proofs.«01_k».proof.Proof.Gen.FinalS.Frame
public import proofs.«01_k».proof.Proof.Gen.FinalSIdeal.Frame
public import proofs.«01_k».proof.Proof.Ffn.Value
public import proofs.«01_k».proof.Proof.Ffn.Reference
public import proofs.«01_k».proof.Proof.Final.Value
public import proofs.«01_k».proof.Proof.Final.Reference
public import proofs.«01_k».proof.Proof.FinalS.Value
public import proofs.«01_k».proof.Proof.FinalS.Reference
public import proofs.«01_k».proof.Proof.Gen.Step.Frame
public import proofs.«01_k».proof.Proof.Step.Value
public import proofs.«01_k».proof.Proof.Step.Reference
public import proofs.«01_k».proof.Proof.Gen.Outproj.Frame
public import proofs.«01_k».proof.Proof.Outproj.Value
public import proofs.«01_k».proof.Proof.Outproj.Reference
public import proofs.«01_k».proof.Proof.Gen.OutprojS.Frame
public import proofs.«01_k».proof.Proof.OutprojS.Value
public import proofs.«01_k».proof.Proof.OutprojS.Reference
public import proofs.«01_k».proof.Proof.Gen.Merge.Frame
public import proofs.«01_k».proof.Proof.Merge.Value
public import proofs.«01_k».proof.Proof.Merge.Reference
public import proofs.«01_k».proof.Proof.Gen.MergeS.Frame
public import proofs.«01_k».proof.Proof.MergeS.Value
public import proofs.«01_k».proof.Proof.MergeS.Reference
public import proofs.«01_k».proof.Proof.Gen.NormIn.Frame
public import proofs.«01_k».proof.Proof.NormIn.Value
public import proofs.«01_k».proof.Proof.NormIn.Reference
public import proofs.«01_k».proof.Proof.Gen.NormInS.Frame
public import proofs.«01_k».proof.Proof.NormInS.Value
public import proofs.«01_k».proof.Proof.NormInS.Reference
public import proofs.«01_k».proof.Proof.Gen.FfnS.Frame
public import proofs.«01_k».proof.Proof.FfnS.Value
public import proofs.«01_k».proof.Proof.FfnS.Reference
public import proofs.«01_k».proof.Proof.Gen.Prep.Frame
public import proofs.«01_k».proof.Proof.Gen.PoolS.Frame
public import proofs.«01_k».proof.Proof.PoolS.Value
public import proofs.«01_k».proof.Proof.PoolS.Reference
public import proofs.«01_k».proof.Proof.Gen.Pool.Frame
public import proofs.«01_k».proof.Proof.Pool.Value
public import proofs.«01_k».proof.Proof.Pool.Reference
public import proofs.«01_k».proof.Proof.Prep.Value
public import proofs.«01_k».proof.Proof.Prep.Reference
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The input projection: both sides are the activations' rows against the weights' columns. -/
theorem algebraic_inproj : Cert.algebraic_KernelIdeal_ReferenceIdeal := fun m ρ m' ρ' _ hag =>
  ⟨fun c => Inproj.prompt m c, fun c => Inproj.sample m c, fun c => Inproj.poolPrompt (Inproj.prompt m c),
    fun c => Inproj.convPrompt (Inproj.prompt m c), fun c => Inproj.poolSample (m (c.tc.loc Cert.KernelIdeal.main_arg3)) (Inproj.sample m c),
    fun c => Inproj.convSample (m (c.tc.loc Cert.KernelIdeal.main_arg4)) (Inproj.sample m c),
    (θ_run _ _ _).mono (fun _ h c => ⟨(h.1 c).1, (h.1 c).2.1, (h.1 c).2.2.1, (h.1 c).2.2.2.1, (h.1 c).2.2.2.2.1, (h.1 c).2.2.2.2.2, h.2.1 c⟩)
      (θ_run_and (Inproj.run m ρ) (Inproj.frame m ρ)),
    (θ_run _ _ _).mono (fun _ h c => by
        obtain ⟨h0, h1, h2, h3, h4, h5⟩ := h.1 c
        obtain ⟨e0, e1, e2, e3, e4⟩ := hag c
        rw [e0, e2] at h0 h2 h3
        rw [e1, e2] at h1
        rw [e3, e1, e2] at h4
        rw [e4, e1, e2] at h5
        exact ⟨h0, h1, h2, h3, h4, h5, (h.2 c).2.2.2.2.2.2⟩)
      (θ_run_and (InprojRef.run m' ρ') (Cert.ReferenceIdeal.Value.run m' ρ'))⟩

/-- The kernel's two readings have one body, -/
theorem bodies_eq : Cert.Kernel.defs₀ (F := Bits) = Cert.KernelIdeal.defs₀ := by
  unfold Cert.Kernel.defs₀ Cert.KernelIdeal.defs₀
  refine congrArg Defs.onTc (funext fun l => funext fun ts => ?_)
  revert ts
  refine Fin.cases (fun _ => ?_) (fun i => i.elim0) l
  rfl
/-- so one table. -/
theorem defs_eq : Cert.Kernel.defs (F := Bits) = Cert.KernelIdeal.defs :=
  congrArg (Pipeline.defs (Cert.KernelIdeal.pcfgs (F := Bits))) bodies_eq

/-- The kernel as compiled and as read exactly is one text: one run gives both frames. -/
theorem frame_kernel : Cert.quiescent_Kernel := fun m ρ _ => by
  rw [defs_eq]
  exact (θ_run Cert.KernelIdeal.defs _ _).mono (fun _ h => h) (Inproj.frame (F := Bits) m ρ)

/-- The reference runs on the host alone: no counter ever moves. -/
theorem frame_reference : Cert.quiescent_ReferenceIdeal := fun m ρ _ =>
  (θ_run _ _ _).mono (fun r h => ⟨fun c => (h c).2.2.2.2.2.2, sem_eq_zero_of_no_sems rfl r.2⟩) (Cert.ReferenceIdeal.Value.run m ρ)

/-- The channel mixer: both sides are the activations plus the gated rows against the down weights. -/
theorem algebraic_Ffn : Cert.algebraic_FfnIdeal_RefFfnIdeal := fun m ρ m' ρ' _ hag =>
  ⟨fun c => Layer.ffn (M := 8192) (m (c.tc.loc Cert.FfnIdeal.main_arg0)) (m (c.tc.loc Cert.FfnIdeal.main_arg1)) (m (c.tc.loc Cert.FfnIdeal.main_arg2)) (m (c.tc.loc Cert.FfnIdeal.main_arg3)),
    (θ_run _ _ _).mono (fun _ h c => ⟨h.1 c, h.2.1 c⟩) (θ_run_and (Ffn.run m ρ) (Cert.FfnIdeal.Gen.frame m ρ)),
    (θ_run _ _ _).mono (fun _ h c => by
        have h0 := h.1 c
        obtain ⟨e0, e1, e2, e3⟩ := hag c
        rw [e0, e1, e2, e3] at h0
        exact ⟨h0, (h.2 c).2⟩)
      (θ_run_and (FfnRef.run m' ρ') (Cert.RefFfnIdeal.Value.run m' ρ'))⟩

theorem frame_FfnRef : Cert.quiescent_RefFfnIdeal := fun m ρ _ =>
  (θ_run _ _ _).mono (fun r h => ⟨fun c => (h c).2, sem_eq_zero_of_no_sems rfl r.2⟩) (Cert.RefFfnIdeal.Value.run m ρ)

/-- The last step on the prompt: the embedding added behind its gate, then the norm. -/
theorem algebraic_Final : Cert.algebraic_FinalIdeal_RefFinalIdeal := fun m ρ m' ρ' _ hag =>
  ⟨fun c => Layer.last (M := 8192) (m (c.tc.loc Cert.FinalIdeal.main_arg0)) (Final.input (m (c.tc.loc Cert.FinalIdeal.main_arg1))) (m (c.tc.loc Cert.FinalIdeal.main_arg2)) (m (c.tc.loc Cert.FinalIdeal.main_arg3)) (m (c.tc.loc Cert.FinalIdeal.main_arg4)),
    (θ_run _ _ _).mono (fun _ h c => ⟨h.1 c, h.2.1 c⟩) (θ_run_and (Final.run m ρ) (Cert.FinalIdeal.Gen.frame m ρ)),
    (θ_run _ _ _).mono (fun _ h c => by
        have h0 := h.1 c
        obtain ⟨e0, e1, e2, e3, e4⟩ := hag c
        rw [e0, e1, e2, e3, e4] at h0
        exact ⟨h0, (h.2 c).2⟩)
      (θ_run_and (FinalRef.run m' ρ') (Cert.RefFinalIdeal.Value.run m' ρ'))⟩

theorem frame_FinalRef : Cert.quiescent_RefFinalIdeal := fun m ρ _ =>
  (θ_run _ _ _).mono (fun r h => ⟨fun c => (h c).2, sem_eq_zero_of_no_sems rfl r.2⟩) (Cert.RefFinalIdeal.Value.run m ρ)

/-- The last step on the samples. -/
theorem algebraic_FinalS : Cert.algebraic_FinalSIdeal_RefFinalSIdeal := fun m ρ m' ρ' _ hag =>
  ⟨fun c => Layer.last (M := 128) (m (c.tc.loc Cert.FinalSIdeal.main_arg0)) (FinalS.input (m (c.tc.loc Cert.FinalSIdeal.main_arg1))) (m (c.tc.loc Cert.FinalSIdeal.main_arg2)) (m (c.tc.loc Cert.FinalSIdeal.main_arg3)) (m (c.tc.loc Cert.FinalSIdeal.main_arg4)),
    (θ_run _ _ _).mono (fun _ h c => ⟨h.1 c, h.2.1 c⟩) (θ_run_and (FinalS.run m ρ) (Cert.FinalSIdeal.Gen.frame m ρ)),
    (θ_run _ _ _).mono (fun _ h c => by
        have h0 := h.1 c
        obtain ⟨e0, e1, e2, e3, e4⟩ := hag c
        rw [e0, e1, e2, e3, e4] at h0
        exact ⟨h0, (h.2 c).2⟩)
      (θ_run_and (FinalSRef.run m' ρ') (Cert.RefFinalSIdeal.Value.run m' ρ'))⟩

theorem frame_FinalSRef : Cert.quiescent_RefFinalSIdeal := fun m ρ _ =>
  (θ_run _ _ _).mono (fun r h => ⟨fun c => (h c).2, sem_eq_zero_of_no_sems rfl r.2⟩) (Cert.RefFinalSIdeal.Value.run m ρ)

/-- One new token's delta rule: what the heads hand on, and their states. -/
theorem algebraic_Step : Cert.algebraic_StepIdeal_RefStepIdeal := fun m ρ m' ρ' _ hag =>
  ⟨fun c => Delta.out (m (c.tc.loc Cert.StepIdeal.main_arg0)) (m (c.tc.loc Cert.StepIdeal.main_arg1)) (m (c.tc.loc Cert.StepIdeal.main_arg2)) (m (c.tc.loc Cert.StepIdeal.main_arg3)) (m (c.tc.loc Cert.StepIdeal.main_arg4)) (m (c.tc.loc Cert.StepIdeal.main_arg5)) (m (c.tc.loc Cert.StepIdeal.main_arg6)) (m (c.tc.loc Cert.StepIdeal.main_arg7)) (m (c.tc.loc Cert.StepIdeal.main_arg8)),
    fun c => Delta.after (m (c.tc.loc Cert.StepIdeal.main_arg1)) (m (c.tc.loc Cert.StepIdeal.main_arg2)) (m (c.tc.loc Cert.StepIdeal.main_arg3)) (m (c.tc.loc Cert.StepIdeal.main_arg4)) (m (c.tc.loc Cert.StepIdeal.main_arg8)),
    (θ_run _ _ _).mono (fun _ h c => ⟨(h.1 c).1, (h.1 c).2, h.2.1 c⟩) (θ_run_and (Step.run m ρ) (Cert.StepIdeal.Gen.frame m ρ)),
    (θ_run _ _ _).mono (fun _ h c => by
        obtain ⟨h0, h1⟩ := h.1 c
        obtain ⟨e0, e1, e2, e3, e4, e5, e6, e7, e8⟩ := hag c
        rw [e0, e1, e2, e3, e4, e5, e6, e7, e8] at h0
        rw [e1, e2, e3, e4, e8] at h1
        exact ⟨h0, h1, (h.2 c).2.2⟩)
      (θ_run_and (StepRef.run m' ρ') (Cert.RefStepIdeal.Value.run m' ρ'))⟩

theorem frame_StepRef : Cert.quiescent_RefStepIdeal := fun m ρ _ =>
  (θ_run _ _ _).mono (fun r h => ⟨fun c => (h c).2.2, sem_eq_zero_of_no_sems rfl r.2⟩) (Cert.RefStepIdeal.Value.run m ρ)

/-- The output projection and the residual. -/
theorem algebraic_Outproj : Cert.algebraic_OutprojIdeal_RefOutprojIdeal := fun m ρ m' ρ' _ hag =>
  ⟨fun c => Layer.outproj (M := 8192) (m (c.tc.loc Cert.OutprojIdeal.main_arg0)) (m (c.tc.loc Cert.OutprojIdeal.main_arg1)) (m (c.tc.loc Cert.OutprojIdeal.main_arg2)),
    (θ_run _ _ _).mono (fun _ h c => ⟨h.1 c, h.2.1 c⟩) (θ_run_and (Outproj.run m ρ) (Cert.OutprojIdeal.Gen.frame m ρ)),
    (θ_run _ _ _).mono (fun _ h c => by
        have h0 := h.1 c
        obtain ⟨e0, e1, e2⟩ := hag c
        rw [e0, e1, e2] at h0
        exact ⟨h0, (h.2 c).2⟩)
      (θ_run_and (OutprojRef.run m' ρ') (Cert.RefOutprojIdeal.Value.run m' ρ'))⟩

theorem frame_OutprojRef : Cert.quiescent_RefOutprojIdeal := fun m ρ _ =>
  (θ_run _ _ _).mono (fun r h => ⟨fun c => (h c).2, sem_eq_zero_of_no_sems rfl r.2⟩) (Cert.RefOutprojIdeal.Value.run m ρ)

/-- The output projection and the residual, on the samples. -/
theorem algebraic_OutprojS : Cert.algebraic_OutprojSIdeal_RefOutprojSIdeal := fun m ρ m' ρ' _ hag =>
  ⟨fun c => Layer.outproj (M := 128) (m (c.tc.loc Cert.OutprojSIdeal.main_arg0)) (m (c.tc.loc Cert.OutprojSIdeal.main_arg1)) (m (c.tc.loc Cert.OutprojSIdeal.main_arg2)),
    (θ_run _ _ _).mono (fun _ h c => ⟨h.1 c, h.2.1 c⟩) (θ_run_and (OutprojS.run m ρ) (Cert.OutprojSIdeal.Gen.frame m ρ)),
    (θ_run _ _ _).mono (fun _ h c => by
        have h0 := h.1 c
        obtain ⟨e0, e1, e2⟩ := hag c
        rw [e0, e1, e2] at h0
        exact ⟨h0, (h.2 c).2⟩)
      (θ_run_and (OutprojSRef.run m' ρ') (Cert.RefOutprojSIdeal.Value.run m' ρ'))⟩

theorem frame_OutprojSRef : Cert.quiescent_RefOutprojSIdeal := fun m ρ _ =>
  (θ_run _ _ _).mono (fun r h => ⟨fun c => (h c).2, sem_eq_zero_of_no_sems rfl r.2⟩) (Cert.RefOutprojSIdeal.Value.run m ρ)

/-- The two mixers' results merged behind their gates. -/
theorem algebraic_Merge : Cert.algebraic_MergeIdeal_RefMergeIdeal := fun m ρ m' ρ' _ hag =>
  ⟨fun c => Layer.merge (M := 8192) (m (c.tc.loc Cert.MergeIdeal.main_arg0)) (m (c.tc.loc Cert.MergeIdeal.main_arg1)) (m (c.tc.loc Cert.MergeIdeal.main_arg2)) (m (c.tc.loc Cert.MergeIdeal.main_arg3)) (m (c.tc.loc Cert.MergeIdeal.main_arg4)),
    (θ_run _ _ _).mono (fun _ h c => ⟨h.1 c, h.2.1 c⟩) (θ_run_and (Merge.run m ρ) (Cert.MergeIdeal.Gen.frame m ρ)),
    (θ_run _ _ _).mono (fun _ h c => by
        have h0 := h.1 c
        obtain ⟨e0, e1, e2, e3, e4⟩ := hag c
        rw [e0, e1, e2, e3, e4] at h0
        exact ⟨h0, (h.2 c).2⟩)
      (θ_run_and (MergeRef.run m' ρ') (Cert.RefMergeIdeal.Value.run m' ρ'))⟩

theorem frame_MergeRef : Cert.quiescent_RefMergeIdeal := fun m ρ _ =>
  (θ_run _ _ _).mono (fun r h => ⟨fun c => (h c).2, sem_eq_zero_of_no_sems rfl r.2⟩) (Cert.RefMergeIdeal.Value.run m ρ)

/-- The two mixers' results merged behind their gates, on the samples. -/
theorem algebraic_MergeS : Cert.algebraic_MergeSIdeal_RefMergeSIdeal := fun m ρ m' ρ' _ hag =>
  ⟨fun c => Layer.merge (M := 128) (m (c.tc.loc Cert.MergeSIdeal.main_arg0)) (m (c.tc.loc Cert.MergeSIdeal.main_arg1)) (m (c.tc.loc Cert.MergeSIdeal.main_arg2)) (m (c.tc.loc Cert.MergeSIdeal.main_arg3)) (m (c.tc.loc Cert.MergeSIdeal.main_arg4)),
    (θ_run _ _ _).mono (fun _ h c => ⟨h.1 c, h.2.1 c⟩) (θ_run_and (MergeS.run m ρ) (Cert.MergeSIdeal.Gen.frame m ρ)),
    (θ_run _ _ _).mono (fun _ h c => by
        have h0 := h.1 c
        obtain ⟨e0, e1, e2, e3, e4⟩ := hag c
        rw [e0, e1, e2, e3, e4] at h0
        exact ⟨h0, (h.2 c).2⟩)
      (θ_run_and (MergeSRef.run m' ρ') (Cert.RefMergeSIdeal.Value.run m' ρ'))⟩

theorem frame_MergeSRef : Cert.quiescent_RefMergeSIdeal := fun m ρ _ =>
  (θ_run _ _ _).mono (fun r h => ⟨fun c => (h c).2, sem_eq_zero_of_no_sems rfl r.2⟩) (Cert.RefMergeSIdeal.Value.run m ρ)

/-- The first norm and the delta rule's rates. -/
theorem algebraic_NormIn : Cert.algebraic_NormInIdeal_RefNormInIdeal := fun m ρ m' ρ' _ hag =>
  ⟨fun c => Layer.normed (M := 8192) (m (c.tc.loc Cert.NormInIdeal.main_arg0)) (m (c.tc.loc Cert.NormInIdeal.main_arg1)),
    fun c => Layer.rates (M := 8192) (m (c.tc.loc Cert.NormInIdeal.main_arg0)) (m (c.tc.loc Cert.NormInIdeal.main_arg1)) (m (c.tc.loc Cert.NormInIdeal.main_arg2)),
    (θ_run _ _ _).mono (fun _ h c => ⟨(h.1 c).1, (h.1 c).2, h.2.1 c⟩) (θ_run_and (NormIn.run m ρ) (Cert.NormInIdeal.Gen.frame m ρ)),
    (θ_run _ _ _).mono (fun _ h c => by
        obtain ⟨h0, h1⟩ := h.1 c
        obtain ⟨e0, e1, e2⟩ := hag c
        rw [e0, e1] at h0
        rw [e0, e1, e2] at h1
        exact ⟨h0, h1, (h.2 c).2.2⟩)
      (θ_run_and (NormInRef.run m' ρ') (Cert.RefNormInIdeal.Value.run m' ρ'))⟩

theorem frame_NormInRef : Cert.quiescent_RefNormInIdeal := fun m ρ _ =>
  (θ_run _ _ _).mono (fun r h => ⟨fun c => (h c).2.2, sem_eq_zero_of_no_sems rfl r.2⟩) (Cert.RefNormInIdeal.Value.run m ρ)

/-- The first norm and the delta rule's rates, on the samples. -/
theorem algebraic_NormInS : Cert.algebraic_NormInSIdeal_RefNormInSIdeal := fun m ρ m' ρ' _ hag =>
  ⟨fun c => Layer.normed (M := 128) (m (c.tc.loc Cert.NormInSIdeal.main_arg0)) (m (c.tc.loc Cert.NormInSIdeal.main_arg1)),
    fun c => Layer.rates (M := 128) (m (c.tc.loc Cert.NormInSIdeal.main_arg0)) (m (c.tc.loc Cert.NormInSIdeal.main_arg1)) (m (c.tc.loc Cert.NormInSIdeal.main_arg2)),
    (θ_run _ _ _).mono (fun _ h c => ⟨(h.1 c).1, (h.1 c).2, h.2.1 c⟩) (θ_run_and (NormInS.run m ρ) (Cert.NormInSIdeal.Gen.frame m ρ)),
    (θ_run _ _ _).mono (fun _ h c => by
        obtain ⟨h0, h1⟩ := h.1 c
        obtain ⟨e0, e1, e2⟩ := hag c
        rw [e0, e1] at h0
        rw [e0, e1, e2] at h1
        exact ⟨h0, h1, (h.2 c).2.2⟩)
      (θ_run_and (NormInSRef.run m' ρ') (Cert.RefNormInSIdeal.Value.run m' ρ'))⟩

theorem frame_NormInSRef : Cert.quiescent_RefNormInSIdeal := fun m ρ _ =>
  (θ_run _ _ _).mono (fun r h => ⟨fun c => (h c).2.2, sem_eq_zero_of_no_sems rfl r.2⟩) (Cert.RefNormInSIdeal.Value.run m ρ)

/-- The channel mixer on the samples. -/
theorem algebraic_FfnS : Cert.algebraic_FfnSIdeal_RefFfnSIdeal := fun m ρ m' ρ' _ hag =>
  ⟨fun c => Layer.ffn (M := 128) (m (c.tc.loc Cert.FfnSIdeal.main_arg0)) (m (c.tc.loc Cert.FfnSIdeal.main_arg1)) (m (c.tc.loc Cert.FfnSIdeal.main_arg2)) (m (c.tc.loc Cert.FfnSIdeal.main_arg3)),
    (θ_run _ _ _).mono (fun _ h c => ⟨h.1 c, h.2.1 c⟩) (θ_run_and (FfnS.run m ρ) (Cert.FfnSIdeal.Gen.frame m ρ)),
    (θ_run _ _ _).mono (fun _ h c => by
        have h0 := h.1 c
        obtain ⟨e0, e1, e2, e3⟩ := hag c
        rw [e0, e1, e2, e3] at h0
        exact ⟨h0, (h.2 c).2⟩)
      (θ_run_and (FfnSRef.run m' ρ') (Cert.RefFfnSIdeal.Value.run m' ρ'))⟩

theorem frame_FfnSRef : Cert.quiescent_RefFfnSIdeal := fun m ρ _ =>
  (θ_run _ _ _).mono (fun r h => ⟨fun c => (h c).2, sem_eq_zero_of_no_sems rfl r.2⟩) (Cert.RefFfnSIdeal.Value.run m ρ)

/-- What the samples' tokens bring to the delta rule. -/
theorem algebraic_Prep : Cert.algebraic_PrepIdeal_RefPrepIdeal := fun m ρ m' ρ' _ hag =>
  ⟨fun c => Prep.queries (m (c.tc.loc Cert.PrepIdeal.main_arg0)) (m (c.tc.loc Cert.PrepIdeal.main_arg2)) (m (c.tc.loc Cert.PrepIdeal.main_arg3)),
    fun c => Prep.keys (m (c.tc.loc Cert.PrepIdeal.main_arg0)) (m (c.tc.loc Cert.PrepIdeal.main_arg2)) (m (c.tc.loc Cert.PrepIdeal.main_arg3)),
    fun c => Prep.values (m (c.tc.loc Cert.PrepIdeal.main_arg0)) (m (c.tc.loc Cert.PrepIdeal.main_arg2)) (m (c.tc.loc Cert.PrepIdeal.main_arg3)),
    fun c => Prep.decays (m (c.tc.loc Cert.PrepIdeal.main_arg1)) (m (c.tc.loc Cert.PrepIdeal.main_arg4)) (m (c.tc.loc Cert.PrepIdeal.main_arg5)),
    fun c => Prep.writes (m (c.tc.loc Cert.PrepIdeal.main_arg1)),
    fun c => Prep.meets (m (c.tc.loc Cert.PrepIdeal.main_arg0)) (m (c.tc.loc Cert.PrepIdeal.main_arg2)) (m (c.tc.loc Cert.PrepIdeal.main_arg3)),
    (θ_run _ _ _).mono (fun _ h c => ⟨(h.1 c).1, (h.1 c).2.1, (h.1 c).2.2.1, (h.1 c).2.2.2.1, (h.1 c).2.2.2.2.1, (h.1 c).2.2.2.2.2, h.2.1 c⟩) (θ_run_and (Prep.run m ρ) (Cert.PrepIdeal.Gen.frame m ρ)),
    (θ_run _ _ _).mono (fun _ h c => by
        obtain ⟨h0, h1, h2, h3, h4, h5⟩ := h.1 c
        obtain ⟨e0, e1, e2, e3, e4, e5⟩ := hag c
        rw [e0, e2, e3] at h0
        rw [e0, e2, e3] at h1
        rw [e0, e2, e3] at h2
        rw [e1, e4, e5] at h3
        rw [e1] at h4
        rw [e0, e2, e3] at h5
        exact ⟨h0, h1, h2, h3, h4, h5, (h.2 c).2.2.2.2.2.2⟩)
      (θ_run_and (PrepRef.run m' ρ') (Cert.RefPrepIdeal.Value.run m' ρ'))⟩

theorem frame_PrepRef : Cert.quiescent_RefPrepIdeal := fun m ρ _ =>
  (θ_run _ _ _).mono (fun r h => ⟨fun c => (h c).2.2.2.2.2.2, sem_eq_zero_of_no_sems rfl r.2⟩) (Cert.RefPrepIdeal.Value.run m ρ)

/-- The pool mixer on the samples, over finite rows. -/
theorem algebraic_PoolS : Cert.algebraic_PoolSIdeal_RefPoolSIdeal_pre_pool_sample_finite := fun m ρ m' ρ' hp hag =>
  ⟨fun c => Pool.sample (m (c.tc.loc Cert.PoolSIdeal.main_arg0)) (m (c.tc.loc Cert.PoolSIdeal.main_arg1)) (m (c.tc.loc Cert.PoolSIdeal.main_arg2)) (m (c.tc.loc Cert.PoolSIdeal.main_arg3)),
    (θ_run _ _ _).mono (fun _ h c => ⟨h.1 c, h.2.1 c⟩) (θ_run_and (PoolS.run m ρ) (Cert.PoolSIdeal.Gen.frame m ρ)),
    (θ_run _ _ _).mono (fun _ h c => by
        have h0 := h.1 c
        obtain ⟨e0, e1, e2, e3⟩ := hag c
        rw [e0, e1, e2, e3] at h0
        exact ⟨h0, (h.2 c).2⟩)
      (θ_run_and (PoolSRef.run m' ρ' fun c => by
        obtain ⟨e0, e1, e2, e3⟩ := hag c
        rw [e0, e1]
        exact PoolSRef.finite_of_pre _ _ _ _ (hp c)) (Cert.RefPoolSIdeal.Value.run m' ρ'))⟩

theorem frame_PoolSRef : Cert.quiescent_RefPoolSIdeal := fun m ρ _ =>
  (θ_run _ _ _).mono (fun r h => ⟨fun c => (h c).2, sem_eq_zero_of_no_sems rfl r.2⟩) (Cert.RefPoolSIdeal.Value.run m ρ)

/-- The pool mixer on the prompt, over finite rows. -/
theorem algebraic_Pool : Cert.algebraic_PoolIdeal_RefPoolIdeal_pre_pool_finite := fun m ρ m' ρ' hp hag =>
  ⟨fun c => Pool.prompt (m (c.tc.loc Cert.PoolIdeal.main_arg0)) (m (c.tc.loc Cert.PoolIdeal.main_arg1)) (m (c.tc.loc Cert.PoolIdeal.main_arg2)),
    (θ_run _ _ _).mono (fun _ h c => ⟨h.1 c, h.2.1 c⟩) (θ_run_and (Pool.run m ρ) (Cert.PoolIdeal.Gen.frame m ρ)),
    (θ_run _ _ _).mono (fun _ h c => by
        have h0 := h.1 c
        obtain ⟨e0, e1, e2⟩ := hag c
        rw [e0, e1, e2] at h0
        exact ⟨h0, (h.2 c).2⟩)
      (θ_run_and (PoolRef.run m' ρ' fun c => by
        obtain ⟨e0, e1, e2⟩ := hag c
        rw [e0]
        exact PoolRef.finite_of_pre _ _ _ (hp c)) (Cert.RefPoolIdeal.Value.run m' ρ'))⟩

theorem frame_PoolRef : Cert.quiescent_RefPoolIdeal := fun m ρ _ =>
  (θ_run _ _ _).mono (fun r h => ⟨fun c => (h c).2, sem_eq_zero_of_no_sems rfl r.2⟩) (Cert.RefPoolIdeal.Value.run m ρ)

theorem claim : Cert.Claim := ⟨Cert.Kernel.Gen.facts, Cert.KernelIdeal.Gen.facts, Cert.ReferenceIdeal.Gen.facts,
  Cert.Ffn.Gen.facts, Cert.FfnIdeal.Gen.facts, Cert.RefFfnIdeal.Gen.facts, Cert.Final.Gen.facts, Cert.FinalIdeal.Gen.facts, Cert.RefFinalIdeal.Gen.facts, Cert.FinalS.Gen.facts, Cert.FinalSIdeal.Gen.facts, Cert.RefFinalSIdeal.Gen.facts,
  Cert.Step.Gen.facts, Cert.StepIdeal.Gen.facts, Cert.RefStepIdeal.Gen.facts,
  Cert.Outproj.Gen.facts, Cert.OutprojIdeal.Gen.facts, Cert.RefOutprojIdeal.Gen.facts,
  Cert.OutprojS.Gen.facts, Cert.OutprojSIdeal.Gen.facts, Cert.RefOutprojSIdeal.Gen.facts,
  Cert.Merge.Gen.facts, Cert.MergeIdeal.Gen.facts, Cert.RefMergeIdeal.Gen.facts,
  Cert.MergeS.Gen.facts, Cert.MergeSIdeal.Gen.facts, Cert.RefMergeSIdeal.Gen.facts,
  Cert.NormIn.Gen.facts, Cert.NormInIdeal.Gen.facts, Cert.RefNormInIdeal.Gen.facts,
  Cert.NormInS.Gen.facts, Cert.NormInSIdeal.Gen.facts, Cert.RefNormInSIdeal.Gen.facts,
  Cert.FfnS.Gen.facts, Cert.FfnSIdeal.Gen.facts, Cert.RefFfnSIdeal.Gen.facts,
  Cert.Prep.Gen.facts, Cert.PrepIdeal.Gen.facts, Cert.RefPrepIdeal.Gen.facts,
  Cert.PoolS.Gen.facts, Cert.PoolSIdeal.Gen.facts, Cert.RefPoolSIdeal.Gen.facts,
  Cert.Pool.Gen.facts, Cert.PoolIdeal.Gen.facts, Cert.RefPoolIdeal.Gen.facts,
  Cert.Pre_pool_sample_finite.Gen.facts, Cert.Pre_pool_finite.Gen.facts,
  frame_kernel, fun m ρ _ => Inproj.frame m ρ, frame_reference,
  fun m ρ _ => Cert.Ffn.Gen.frame m ρ, fun m ρ _ => Cert.FfnIdeal.Gen.frame m ρ, frame_FfnRef,
  fun m ρ _ => Cert.Final.Gen.frame m ρ, fun m ρ _ => Cert.FinalIdeal.Gen.frame m ρ, frame_FinalRef,
  fun m ρ _ => Cert.FinalS.Gen.frame m ρ, fun m ρ _ => Cert.FinalSIdeal.Gen.frame m ρ, frame_FinalSRef,
  fun m ρ _ => Cert.Step.Gen.frame m ρ, fun m ρ _ => Cert.StepIdeal.Gen.frame m ρ, frame_StepRef,
  fun m ρ _ => Cert.Outproj.Gen.frame m ρ, fun m ρ _ => Cert.OutprojIdeal.Gen.frame m ρ, frame_OutprojRef,
  fun m ρ _ => Cert.OutprojS.Gen.frame m ρ, fun m ρ _ => Cert.OutprojSIdeal.Gen.frame m ρ, frame_OutprojSRef,
  fun m ρ _ => Cert.Merge.Gen.frame m ρ, fun m ρ _ => Cert.MergeIdeal.Gen.frame m ρ, frame_MergeRef,
  fun m ρ _ => Cert.MergeS.Gen.frame m ρ, fun m ρ _ => Cert.MergeSIdeal.Gen.frame m ρ, frame_MergeSRef,
  fun m ρ _ => Cert.NormIn.Gen.frame m ρ, fun m ρ _ => Cert.NormInIdeal.Gen.frame m ρ, frame_NormInRef,
  fun m ρ _ => Cert.NormInS.Gen.frame m ρ, fun m ρ _ => Cert.NormInSIdeal.Gen.frame m ρ, frame_NormInSRef,
  fun m ρ _ => Cert.FfnS.Gen.frame m ρ, fun m ρ _ => Cert.FfnSIdeal.Gen.frame m ρ, frame_FfnSRef,
  fun m ρ _ => Cert.Prep.Gen.frame m ρ, fun m ρ _ => Cert.PrepIdeal.Gen.frame m ρ, frame_PrepRef,
  fun m ρ _ => Cert.PoolS.Gen.frame m ρ, fun m ρ _ => Cert.PoolSIdeal.Gen.frame m ρ, fun m ρ _ => Cert.PoolSIdeal.Gen.frame m ρ, frame_PoolSRef, fun m ρ _ => frame_PoolSRef m ρ trivial,
  fun m ρ _ => Cert.Pool.Gen.frame m ρ, fun m ρ _ => Cert.PoolIdeal.Gen.frame m ρ, fun m ρ _ => Cert.PoolIdeal.Gen.frame m ρ, frame_PoolRef, fun m ρ _ => frame_PoolRef m ρ trivial,
  trivial, algebraic_inproj, trivial, algebraic_Ffn, trivial, algebraic_Final, trivial, algebraic_FinalS, trivial, algebraic_Step,
  trivial, algebraic_Outproj, trivial, algebraic_OutprojS, trivial, algebraic_Merge, trivial, algebraic_MergeS, trivial, algebraic_NormIn, trivial, algebraic_NormInS, trivial, algebraic_FfnS, trivial, algebraic_Prep, trivial, algebraic_PoolS, trivial, algebraic_Pool⟩

end Cert.Proof

end
